-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_OutU (m : (ℓ : Loc Cert.OutU.nD Cert.OutU.τ Cert.OutU.sig) → Buf (Elt Bits) ℓ) : Prop :=
  True

def Pre_OutUIdeal (m : (ℓ : Loc Cert.OutUIdeal.nD Cert.OutUIdeal.τ Cert.OutUIdeal.sig) → Buf (Elt Ideal) ℓ) : Prop :=
  True

def Pre_OutURefIdeal (m : (ℓ : Loc Cert.OutURefIdeal.nD Cert.OutURefIdeal.τ Cert.OutURefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_AInH (m : (ℓ : Loc Cert.AInH.nD Cert.AInH.τ Cert.AInH.sig) → Buf (Elt Bits) ℓ) : Prop :=
  True

def Pre_AInHIdeal (m : (ℓ : Loc Cert.AInHIdeal.nD Cert.AInHIdeal.τ Cert.AInHIdeal.sig) → Buf (Elt Ideal) ℓ) : Prop :=
  True

def Pre_AInHRefIdeal (m : (ℓ : Loc Cert.AInHRefIdeal.nD Cert.AInHRefIdeal.τ Cert.AInHRefIdeal.sig) → Buf (Elt Ideal) ℓ) : Prop :=
  True

def Pre_AInW (m : (ℓ : Loc Cert.AInW.nD Cert.AInW.τ Cert.AInW.sig) → Buf (Elt Bits) ℓ) : Prop :=
  True

def Pre_AInWIdeal (m : (ℓ : Loc Cert.AInWIdeal.nD Cert.AInWIdeal.τ Cert.AInWIdeal.sig) → Buf (Elt Ideal) ℓ) : Prop :=
  True

def Pre_AInWRefIdeal (m : (ℓ : Loc Cert.AInWRefIdeal.nD Cert.AInWRefIdeal.τ Cert.AInWRefIdeal.sig) → Buf (Elt Ideal) ℓ) : Prop :=
  True

def Pre_BInH (m : (ℓ : Loc Cert.BInH.nD Cert.BInH.τ Cert.BInH.sig) → Buf (Elt Bits) ℓ) : Prop :=
  True

def Pre_BInHIdeal (m : (ℓ : Loc Cert.BInHIdeal.nD Cert.BInHIdeal.τ Cert.BInHIdeal.sig) → Buf (Elt Ideal) ℓ) : Prop :=
  True

def Pre_BInHRefIdeal (m : (ℓ : Loc Cert.BInHRefIdeal.nD Cert.BInHRefIdeal.τ Cert.BInHRefIdeal.sig) → Buf (Elt Ideal) ℓ) : Prop :=
  True

def Pre_BInW (m : (ℓ : Loc Cert.BInW.nD Cert.BInW.τ Cert.BInW.sig) → Buf (Elt Bits) ℓ) : Prop :=
  True

def Pre_BInWIdeal (m : (ℓ : Loc Cert.BInWIdeal.nD Cert.BInWIdeal.τ Cert.BInWIdeal.sig) → Buf (Elt Ideal) ℓ) : Prop :=
  True

def Pre_BInWRefIdeal (m : (ℓ : Loc Cert.BInWRefIdeal.nD Cert.BInWRefIdeal.τ Cert.BInWRefIdeal.sig) → Buf (Elt Ideal) ℓ) : Prop :=
  True

def Pre_CInH (m : (ℓ : Loc Cert.CInH.nD Cert.CInH.τ Cert.CInH.sig) → Buf (Elt Bits) ℓ) : Prop :=
  True

def Pre_CInHIdeal (m : (ℓ : Loc Cert.CInHIdeal.nD Cert.CInHIdeal.τ Cert.CInHIdeal.sig) → Buf (Elt Ideal) ℓ) : Prop :=
  True

def Pre_CInHRefIdeal (m : (ℓ : Loc Cert.CInHRefIdeal.nD Cert.CInHRefIdeal.τ Cert.CInHRefIdeal.sig) → Buf (Elt Ideal) ℓ) : Prop :=
  True

def Pre_CInW (m : (ℓ : Loc Cert.CInW.nD Cert.CInW.τ Cert.CInW.sig) → Buf (Elt Bits) ℓ) : Prop :=
  True

def Pre_CInWIdeal (m : (ℓ : Loc Cert.CInWIdeal.nD Cert.CInWIdeal.τ Cert.CInWIdeal.sig) → Buf (Elt Ideal) ℓ) : Prop :=
  True

def Pre_CInWRefIdeal (m : (ℓ : Loc Cert.CInWRefIdeal.nD Cert.CInWRefIdeal.τ Cert.CInWRefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_ForgetH (m : (ℓ : Loc Cert.ForgetH.nD Cert.ForgetH.τ Cert.ForgetH.sig) → Buf (Elt Bits) ℓ) : Prop :=
  True

def Pre_ForgetHIdeal (m : (ℓ : Loc Cert.ForgetHIdeal.nD Cert.ForgetHIdeal.τ Cert.ForgetHIdeal.sig) → Buf (Elt Ideal) ℓ) : Prop :=
  True

def Pre_ForgetHRefIdeal (m : (ℓ : Loc Cert.ForgetHRefIdeal.nD Cert.ForgetHRefIdeal.τ Cert.ForgetHRefIdeal.sig) → Buf (Elt Ideal) ℓ) : Prop :=
  True

def Pre_ForgetW (m : (ℓ : Loc Cert.ForgetW.nD Cert.ForgetW.τ Cert.ForgetW.sig) → Buf (Elt Bits) ℓ) : Prop :=
  True

def Pre_ForgetWIdeal (m : (ℓ : Loc Cert.ForgetWIdeal.nD Cert.ForgetWIdeal.τ Cert.ForgetWIdeal.sig) → Buf (Elt Ideal) ℓ) : Prop :=
  True

def Pre_ForgetWRefIdeal (m : (ℓ : Loc Cert.ForgetWRefIdeal.nD Cert.ForgetWRefIdeal.τ Cert.ForgetWRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_NormBTwo (m : (ℓ : Loc Cert.NormBTwo.nD Cert.NormBTwo.τ Cert.NormBTwo.sig) → Buf (Elt Bits) ℓ) : Prop :=
  True

def Pre_NormBTwoIdeal (m : (ℓ : Loc Cert.NormBTwoIdeal.nD Cert.NormBTwoIdeal.τ Cert.NormBTwoIdeal.sig) → Buf (Elt Ideal) ℓ) : Prop :=
  True

def Pre_NormBTwoRefIdeal (m : (ℓ : Loc Cert.NormBTwoRefIdeal.nD Cert.NormBTwoRefIdeal.τ Cert.NormBTwoRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBIdeal_finite_gate [hPre_finite_gate : Cert.Pre_finite_gate.Facts] (m : (ℓ : Loc Cert.GateBIdeal.nD Cert.GateBIdeal.τ Cert.GateBIdeal.sig) → Buf (Elt Ideal) ℓ) : Prop :=
  ∀ c : Dev Cert.GateBIdeal.nD,
    (Cert.Pre_finite_gate.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3))).1 = (fun _ => 1#1)
    ∧ (Cert.Pre_finite_gate.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3))).2 = (fun _ => 1#1)

def Pre_GateBRefIdeal (m : (ℓ : Loc Cert.GateBRefIdeal.nD Cert.GateBRefIdeal.τ Cert.GateBRefIdeal.sig) → Buf (Elt Ideal) ℓ) : Prop :=
  True

def Pre_GateBRefIdeal_finite_gate [hPre_finite_gate : Cert.Pre_finite_gate.Facts] (m : (ℓ : Loc Cert.GateBRefIdeal.nD Cert.GateBRefIdeal.τ Cert.GateBRefIdeal.sig) → Buf (Elt Ideal) ℓ) : Prop :=
  ∀ c : Dev Cert.GateBRefIdeal.nD,
    (Cert.Pre_finite_gate.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3))).1 = (fun _ => 1#1)
    ∧ (Cert.Pre_finite_gate.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutU [hOutU : Cert.OutU.Facts] : Prop :=
  ∀ (m : (ℓ : Loc Cert.OutU.nD Cert.OutU.τ Cert.OutU.sig) → Buf (Elt Bits) ℓ) (g : Dev Cert.OutU.nD → PrngReg), Pre_OutU m →
    θ_run (Cert.OutU.defs (F := Bits)) (onTc (τ := Cert.OutU.τ) (Cert.OutU.main (F := Bits))) ⟨m, fun _ => 0, g⟩ (fun r => (∀ c : Dev Cert.OutU.nD,
      r.2.mem ((c.tc : Thread Cert.OutU.nD Cert.OutU.τ).loc Cert.OutU.main_arg0) = m ((c.tc : Thread Cert.OutU.nD Cert.OutU.τ).loc Cert.OutU.main_arg0)
      ∧ r.2.mem ((c.tc : Thread Cert.OutU.nD Cert.OutU.τ).loc Cert.OutU.main_arg1) = m ((c.tc : Thread Cert.OutU.nD Cert.OutU.τ).loc Cert.OutU.main_arg1))
      ∧ r.2.sem = fun _ => 0)

def quiescent_OutUIdeal [hOutUIdeal : Cert.OutUIdeal.Facts] : Prop :=
  ∀ (m : (ℓ : Loc Cert.OutUIdeal.nD Cert.OutUIdeal.τ Cert.OutUIdeal.sig) → Buf (Elt Ideal) ℓ) (g : Dev Cert.OutUIdeal.nD → PrngReg), Pre_OutUIdeal m →
    θ_run (Cert.OutUIdeal.defs (F := Ideal)) (onTc (τ := Cert.OutUIdeal.τ) (Cert.OutUIdeal.main (F := Ideal))) ⟨m, fun _ => 0, g⟩ (fun r => (∀ c : Dev Cert.OutUIdeal.nD,
      r.2.mem ((c.tc : Thread Cert.OutUIdeal.nD Cert.OutUIdeal.τ).loc Cert.OutUIdeal.main_arg0) = m ((c.tc : Thread Cert.OutUIdeal.nD Cert.OutUIdeal.τ).loc Cert.OutUIdeal.main_arg0)
      ∧ r.2.mem ((c.tc : Thread Cert.OutUIdeal.nD Cert.OutUIdeal.τ).loc Cert.OutUIdeal.main_arg1) = m ((c.tc : Thread Cert.OutUIdeal.nD Cert.OutUIdeal.τ).loc Cert.OutUIdeal.main_arg1))
      ∧ r.2.sem = fun _ => 0)

def quiescent_OutURefIdeal [hOutURefIdeal : Cert.OutURefIdeal.Facts] : Prop :=
  ∀ (m : (ℓ : Loc Cert.OutURefIdeal.nD Cert.OutURefIdeal.τ Cert.OutURefIdeal.sig) → Buf (Elt Ideal) ℓ) (g : Dev Cert.OutURefIdeal.nD → PrngReg), Pre_OutURefIdeal m →
    θ_run (Cert.OutURefIdeal.defs (F := Ideal)) (onTc (τ := Cert.OutURefIdeal.τ) (Cert.OutURefIdeal.main (F := Ideal))) ⟨m, fun _ => 0, g⟩ (fun r => (∀ c : Dev Cert.OutURefIdeal.nD,
      r.2.mem ((c.tc : Thread Cert.OutURefIdeal.nD Cert.OutURefIdeal.τ).loc Cert.OutURefIdeal.main_arg0) = m ((c.tc : Thread Cert.OutURefIdeal.nD Cert.OutURefIdeal.τ).loc Cert.OutURefIdeal.main_arg0)
      ∧ r.2.mem ((c.tc : Thread Cert.OutURefIdeal.nD Cert.OutURefIdeal.τ).loc Cert.OutURefIdeal.main_arg1) = m ((c.tc : Thread Cert.OutURefIdeal.nD Cert.OutURefIdeal.τ).loc Cert.OutURefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_AInH [hAInH : Cert.AInH.Facts] : Prop :=
  ∀ (m : (ℓ : Loc Cert.AInH.nD Cert.AInH.τ Cert.AInH.sig) → Buf (Elt Bits) ℓ) (g : Dev Cert.AInH.nD → PrngReg), Pre_AInH m →
    θ_run (Cert.AInH.defs (F := Bits)) (onTc (τ := Cert.AInH.τ) (Cert.AInH.main (F := Bits))) ⟨m, fun _ => 0, g⟩ (fun r => (∀ c : Dev Cert.AInH.nD,
      r.2.mem ((c.tc : Thread Cert.AInH.nD Cert.AInH.τ).loc Cert.AInH.main_arg0) = m ((c.tc : Thread Cert.AInH.nD Cert.AInH.τ).loc Cert.AInH.main_arg0)
      ∧ r.2.mem ((c.tc : Thread Cert.AInH.nD Cert.AInH.τ).loc Cert.AInH.main_arg1) = m ((c.tc : Thread Cert.AInH.nD Cert.AInH.τ).loc Cert.AInH.main_arg1))
      ∧ r.2.sem = fun _ => 0)

def quiescent_AInHIdeal [hAInHIdeal : Cert.AInHIdeal.Facts] : Prop :=
  ∀ (m : (ℓ : Loc Cert.AInHIdeal.nD Cert.AInHIdeal.τ Cert.AInHIdeal.sig) → Buf (Elt Ideal) ℓ) (g : Dev Cert.AInHIdeal.nD → PrngReg), Pre_AInHIdeal m →
    θ_run (Cert.AInHIdeal.defs (F := Ideal)) (onTc (τ := Cert.AInHIdeal.τ) (Cert.AInHIdeal.main (F := Ideal))) ⟨m, fun _ => 0, g⟩ (fun r => (∀ c : Dev Cert.AInHIdeal.nD,
      r.2.mem ((c.tc : Thread Cert.AInHIdeal.nD Cert.AInHIdeal.τ).loc Cert.AInHIdeal.main_arg0) = m ((c.tc : Thread Cert.AInHIdeal.nD Cert.AInHIdeal.τ).loc Cert.AInHIdeal.main_arg0)
      ∧ r.2.mem ((c.tc : Thread Cert.AInHIdeal.nD Cert.AInHIdeal.τ).loc Cert.AInHIdeal.main_arg1) = m ((c.tc : Thread Cert.AInHIdeal.nD Cert.AInHIdeal.τ).loc Cert.AInHIdeal.main_arg1))
      ∧ r.2.sem = fun _ => 0)

def quiescent_AInHRefIdeal [hAInHRefIdeal : Cert.AInHRefIdeal.Facts] : Prop :=
  ∀ (m : (ℓ : Loc Cert.AInHRefIdeal.nD Cert.AInHRefIdeal.τ Cert.AInHRefIdeal.sig) → Buf (Elt Ideal) ℓ) (g : Dev Cert.AInHRefIdeal.nD → PrngReg), Pre_AInHRefIdeal m →
    θ_run (Cert.AInHRefIdeal.defs (F := Ideal)) (onTc (τ := Cert.AInHRefIdeal.τ) (Cert.AInHRefIdeal.main (F := Ideal))) ⟨m, fun _ => 0, g⟩ (fun r => (∀ c : Dev Cert.AInHRefIdeal.nD,
      r.2.mem ((c.tc : Thread Cert.AInHRefIdeal.nD Cert.AInHRefIdeal.τ).loc Cert.AInHRefIdeal.main_arg0) = m ((c.tc : Thread Cert.AInHRefIdeal.nD Cert.AInHRefIdeal.τ).loc Cert.AInHRefIdeal.main_arg0)
      ∧ r.2.mem ((c.tc : Thread Cert.AInHRefIdeal.nD Cert.AInHRefIdeal.τ).loc Cert.AInHRefIdeal.main_arg1) = m ((c.tc : Thread Cert.AInHRefIdeal.nD Cert.AInHRefIdeal.τ).loc Cert.AInHRefIdeal.main_arg1))
      ∧ r.2.sem = fun _ => 0)

def quiescent_AInW [hAInW : Cert.AInW.Facts] : Prop :=
  ∀ (m : (ℓ : Loc Cert.AInW.nD Cert.AInW.τ Cert.AInW.sig) → Buf (Elt Bits) ℓ) (g : Dev Cert.AInW.nD → PrngReg), Pre_AInW m →
    θ_run (Cert.AInW.defs (F := Bits)) (onTc (τ := Cert.AInW.τ) (Cert.AInW.main (F := Bits))) ⟨m, fun _ => 0, g⟩ (fun r => (∀ c : Dev Cert.AInW.nD,
      r.2.mem ((c.tc : Thread Cert.AInW.nD Cert.AInW.τ).loc Cert.AInW.main_arg0) = m ((c.tc : Thread Cert.AInW.nD Cert.AInW.τ).loc Cert.AInW.main_arg0)
      ∧ r.2.mem ((c.tc : Thread Cert.AInW.nD Cert.AInW.τ).loc Cert.AInW.main_arg1) = m ((c.tc : Thread Cert.AInW.nD Cert.AInW.τ).loc Cert.AInW.main_arg1))
      ∧ r.2.sem = fun _ => 0)

def quiescent_AInWIdeal [hAInWIdeal : Cert.AInWIdeal.Facts] : Prop :=
  ∀ (m : (ℓ : Loc Cert.AInWIdeal.nD Cert.AInWIdeal.τ Cert.AInWIdeal.sig) → Buf (Elt Ideal) ℓ) (g : Dev Cert.AInWIdeal.nD → PrngReg), Pre_AInWIdeal m →
    θ_run (Cert.AInWIdeal.defs (F := Ideal)) (onTc (τ := Cert.AInWIdeal.τ) (Cert.AInWIdeal.main (F := Ideal))) ⟨m, fun _ => 0, g⟩ (fun r => (∀ c : Dev Cert.AInWIdeal.nD,
      r.2.mem ((c.tc : Thread Cert.AInWIdeal.nD Cert.AInWIdeal.τ).loc Cert.AInWIdeal.main_arg0) = m ((c.tc : Thread Cert.AInWIdeal.nD Cert.AInWIdeal.τ).loc Cert.AInWIdeal.main_arg0)
      ∧ r.2.mem ((c.tc : Thread Cert.AInWIdeal.nD Cert.AInWIdeal.τ).loc Cert.AInWIdeal.main_arg1) = m ((c.tc : Thread Cert.AInWIdeal.nD Cert.AInWIdeal.τ).loc Cert.AInWIdeal.main_arg1))
      ∧ r.2.sem = fun _ => 0)

def quiescent_AInWRefIdeal [hAInWRefIdeal : Cert.AInWRefIdeal.Facts] : Prop :=
  ∀ (m : (ℓ : Loc Cert.AInWRefIdeal.nD Cert.AInWRefIdeal.τ Cert.AInWRefIdeal.sig) → Buf (Elt Ideal) ℓ) (g : Dev Cert.AInWRefIdeal.nD → PrngReg), Pre_AInWRefIdeal m →
    θ_run (Cert.AInWRefIdeal.defs (F := Ideal)) (onTc (τ := Cert.AInWRefIdeal.τ) (Cert.AInWRefIdeal.main (F := Ideal))) ⟨m, fun _ => 0, g⟩ (fun r => (∀ c : Dev Cert.AInWRefIdeal.nD,
      r.2.mem ((c.tc : Thread Cert.AInWRefIdeal.nD Cert.AInWRefIdeal.τ).loc Cert.AInWRefIdeal.main_arg0) = m ((c.tc : Thread Cert.AInWRefIdeal.nD Cert.AInWRefIdeal.τ).loc Cert.AInWRefIdeal.main_arg0)
      ∧ r.2.mem ((c.tc : Thread Cert.AInWRefIdeal.nD Cert.AInWRefIdeal.τ).loc Cert.AInWRefIdeal.main_arg1) = m ((c.tc : Thread Cert.AInWRefIdeal.nD Cert.AInWRefIdeal.τ).loc Cert.AInWRefIdeal.main_arg1))
      ∧ r.2.sem = fun _ => 0)

def quiescent_BInH [hBInH : Cert.BInH.Facts] : Prop :=
  ∀ (m : (ℓ : Loc Cert.BInH.nD Cert.BInH.τ Cert.BInH.sig) → Buf (Elt Bits) ℓ) (g : Dev Cert.BInH.nD → PrngReg), Pre_BInH m →
    θ_run (Cert.BInH.defs (F := Bits)) (onTc (τ := Cert.BInH.τ) (Cert.BInH.main (F := Bits))) ⟨m, fun _ => 0, g⟩ (fun r => (∀ c : Dev Cert.BInH.nD,
      r.2.mem ((c.tc : Thread Cert.BInH.nD Cert.BInH.τ).loc Cert.BInH.main_arg0) = m ((c.tc : Thread Cert.BInH.nD Cert.BInH.τ).loc Cert.BInH.main_arg0)
      ∧ r.2.mem ((c.tc : Thread Cert.BInH.nD Cert.BInH.τ).loc Cert.BInH.main_arg1) = m ((c.tc : Thread Cert.BInH.nD Cert.BInH.τ).loc Cert.BInH.main_arg1))
      ∧ r.2.sem = fun _ => 0)

def quiescent_BInHIdeal [hBInHIdeal : Cert.BInHIdeal.Facts] : Prop :=
  ∀ (m : (ℓ : Loc Cert.BInHIdeal.nD Cert.BInHIdeal.τ Cert.BInHIdeal.sig) → Buf (Elt Ideal) ℓ) (g : Dev Cert.BInHIdeal.nD → PrngReg), Pre_BInHIdeal m →
    θ_run (Cert.BInHIdeal.defs (F := Ideal)) (onTc (τ := Cert.BInHIdeal.τ) (Cert.BInHIdeal.main (F := Ideal))) ⟨m, fun _ => 0, g⟩ (fun r => (∀ c : Dev Cert.BInHIdeal.nD,
      r.2.mem ((c.tc : Thread Cert.BInHIdeal.nD Cert.BInHIdeal.τ).loc Cert.BInHIdeal.main_arg0) = m ((c.tc : Thread Cert.BInHIdeal.nD Cert.BInHIdeal.τ).loc Cert.BInHIdeal.main_arg0)
      ∧ r.2.mem ((c.tc : Thread Cert.BInHIdeal.nD Cert.BInHIdeal.τ).loc Cert.BInHIdeal.main_arg1) = m ((c.tc : Thread Cert.BInHIdeal.nD Cert.BInHIdeal.τ).loc Cert.BInHIdeal.main_arg1))
      ∧ r.2.sem = fun _ => 0)

def quiescent_BInHRefIdeal [hBInHRefIdeal : Cert.BInHRefIdeal.Facts] : Prop :=
  ∀ (m : (ℓ : Loc Cert.BInHRefIdeal.nD Cert.BInHRefIdeal.τ Cert.BInHRefIdeal.sig) → Buf (Elt Ideal) ℓ) (g : Dev Cert.BInHRefIdeal.nD → PrngReg), Pre_BInHRefIdeal m →
    θ_run (Cert.BInHRefIdeal.defs (F := Ideal)) (onTc (τ := Cert.BInHRefIdeal.τ) (Cert.BInHRefIdeal.main (F := Ideal))) ⟨m, fun _ => 0, g⟩ (fun r => (∀ c : Dev Cert.BInHRefIdeal.nD,
      r.2.mem ((c.tc : Thread Cert.BInHRefIdeal.nD Cert.BInHRefIdeal.τ).loc Cert.BInHRefIdeal.main_arg0) = m ((c.tc : Thread Cert.BInHRefIdeal.nD Cert.BInHRefIdeal.τ).loc Cert.BInHRefIdeal.main_arg0)
      ∧ r.2.mem ((c.tc : Thread Cert.BInHRefIdeal.nD Cert.BInHRefIdeal.τ).loc Cert.BInHRefIdeal.main_arg1) = m ((c.tc : Thread Cert.BInHRefIdeal.nD Cert.BInHRefIdeal.τ).loc Cert.BInHRefIdeal.main_arg1))
      ∧ r.2.sem = fun _ => 0)

def quiescent_BInW [hBInW : Cert.BInW.Facts] : Prop :=
  ∀ (m : (ℓ : Loc Cert.BInW.nD Cert.BInW.τ Cert.BInW.sig) → Buf (Elt Bits) ℓ) (g : Dev Cert.BInW.nD → PrngReg), Pre_BInW m →
    θ_run (Cert.BInW.defs (F := Bits)) (onTc (τ := Cert.BInW.τ) (Cert.BInW.main (F := Bits))) ⟨m, fun _ => 0, g⟩ (fun r => (∀ c : Dev Cert.BInW.nD,
      r.2.mem ((c.tc : Thread Cert.BInW.nD Cert.BInW.τ).loc Cert.BInW.main_arg0) = m ((c.tc : Thread Cert.BInW.nD Cert.BInW.τ).loc Cert.BInW.main_arg0)
      ∧ r.2.mem ((c.tc : Thread Cert.BInW.nD Cert.BInW.τ).loc Cert.BInW.main_arg1) = m ((c.tc : Thread Cert.BInW.nD Cert.BInW.τ).loc Cert.BInW.main_arg1))
      ∧ r.2.sem = fun _ => 0)

def quiescent_BInWIdeal [hBInWIdeal : Cert.BInWIdeal.Facts] : Prop :=
  ∀ (m : (ℓ : Loc Cert.BInWIdeal.nD Cert.BInWIdeal.τ Cert.BInWIdeal.sig) → Buf (Elt Ideal) ℓ) (g : Dev Cert.BInWIdeal.nD → PrngReg), Pre_BInWIdeal m →
    θ_run (Cert.BInWIdeal.defs (F := Ideal)) (onTc (τ := Cert.BInWIdeal.τ) (Cert.BInWIdeal.main (F := Ideal))) ⟨m, fun _ => 0, g⟩ (fun r => (∀ c : Dev Cert.BInWIdeal.nD,
      r.2.mem ((c.tc : Thread Cert.BInWIdeal.nD Cert.BInWIdeal.τ).loc Cert.BInWIdeal.main_arg0) = m ((c.tc : Thread Cert.BInWIdeal.nD Cert.BInWIdeal.τ).loc Cert.BInWIdeal.main_arg0)
      ∧ r.2.mem ((c.tc : Thread Cert.BInWIdeal.nD Cert.BInWIdeal.τ).loc Cert.BInWIdeal.main_arg1) = m ((c.tc : Thread Cert.BInWIdeal.nD Cert.BInWIdeal.τ).loc Cert.BInWIdeal.main_arg1))
      ∧ r.2.sem = fun _ => 0)

def quiescent_BInWRefIdeal [hBInWRefIdeal : Cert.BInWRefIdeal.Facts] : Prop :=
  ∀ (m : (ℓ : Loc Cert.BInWRefIdeal.nD Cert.BInWRefIdeal.τ Cert.BInWRefIdeal.sig) → Buf (Elt Ideal) ℓ) (g : Dev Cert.BInWRefIdeal.nD → PrngReg), Pre_BInWRefIdeal m →
    θ_run (Cert.BInWRefIdeal.defs (F := Ideal)) (onTc (τ := Cert.BInWRefIdeal.τ) (Cert.BInWRefIdeal.main (F := Ideal))) ⟨m, fun _ => 0, g⟩ (fun r => (∀ c : Dev Cert.BInWRefIdeal.nD,
      r.2.mem ((c.tc : Thread Cert.BInWRefIdeal.nD Cert.BInWRefIdeal.τ).loc Cert.BInWRefIdeal.main_arg0) = m ((c.tc : Thread Cert.BInWRefIdeal.nD Cert.BInWRefIdeal.τ).loc Cert.BInWRefIdeal.main_arg0)
      ∧ r.2.mem ((c.tc : Thread Cert.BInWRefIdeal.nD Cert.BInWRefIdeal.τ).loc Cert.BInWRefIdeal.main_arg1) = m ((c.tc : Thread Cert.BInWRefIdeal.nD Cert.BInWRefIdeal.τ).loc Cert.BInWRefIdeal.main_arg1))
      ∧ r.2.sem = fun _ => 0)

def quiescent_CInH [hCInH : Cert.CInH.Facts] : Prop :=
  ∀ (m : (ℓ : Loc Cert.CInH.nD Cert.CInH.τ Cert.CInH.sig) → Buf (Elt Bits) ℓ) (g : Dev Cert.CInH.nD → PrngReg), Pre_CInH m →
    θ_run (Cert.CInH.defs (F := Bits)) (onTc (τ := Cert.CInH.τ) (Cert.CInH.main (F := Bits))) ⟨m, fun _ => 0, g⟩ (fun r => (∀ c : Dev Cert.CInH.nD,
      r.2.mem ((c.tc : Thread Cert.CInH.nD Cert.CInH.τ).loc Cert.CInH.main_arg0) = m ((c.tc : Thread Cert.CInH.nD Cert.CInH.τ).loc Cert.CInH.main_arg0)
      ∧ r.2.mem ((c.tc : Thread Cert.CInH.nD Cert.CInH.τ).loc Cert.CInH.main_arg1) = m ((c.tc : Thread Cert.CInH.nD Cert.CInH.τ).loc Cert.CInH.main_arg1))
      ∧ r.2.sem = fun _ => 0)

def quiescent_CInHIdeal [hCInHIdeal : Cert.CInHIdeal.Facts] : Prop :=
  ∀ (m : (ℓ : Loc Cert.CInHIdeal.nD Cert.CInHIdeal.τ Cert.CInHIdeal.sig) → Buf (Elt Ideal) ℓ) (g : Dev Cert.CInHIdeal.nD → PrngReg), Pre_CInHIdeal m →
    θ_run (Cert.CInHIdeal.defs (F := Ideal)) (onTc (τ := Cert.CInHIdeal.τ) (Cert.CInHIdeal.main (F := Ideal))) ⟨m, fun _ => 0, g⟩ (fun r => (∀ c : Dev Cert.CInHIdeal.nD,
      r.2.mem ((c.tc : Thread Cert.CInHIdeal.nD Cert.CInHIdeal.τ).loc Cert.CInHIdeal.main_arg0) = m ((c.tc : Thread Cert.CInHIdeal.nD Cert.CInHIdeal.τ).loc Cert.CInHIdeal.main_arg0)
      ∧ r.2.mem ((c.tc : Thread Cert.CInHIdeal.nD Cert.CInHIdeal.τ).loc Cert.CInHIdeal.main_arg1) = m ((c.tc : Thread Cert.CInHIdeal.nD Cert.CInHIdeal.τ).loc Cert.CInHIdeal.main_arg1))
      ∧ r.2.sem = fun _ => 0)

def quiescent_CInHRefIdeal [hCInHRefIdeal : Cert.CInHRefIdeal.Facts] : Prop :=
  ∀ (m : (ℓ : Loc Cert.CInHRefIdeal.nD Cert.CInHRefIdeal.τ Cert.CInHRefIdeal.sig) → Buf (Elt Ideal) ℓ) (g : Dev Cert.CInHRefIdeal.nD → PrngReg), Pre_CInHRefIdeal m →
    θ_run (Cert.CInHRefIdeal.defs (F := Ideal)) (onTc (τ := Cert.CInHRefIdeal.τ) (Cert.CInHRefIdeal.main (F := Ideal))) ⟨m, fun _ => 0, g⟩ (fun r => (∀ c : Dev Cert.CInHRefIdeal.nD,
      r.2.mem ((c.tc : Thread Cert.CInHRefIdeal.nD Cert.CInHRefIdeal.τ).loc Cert.CInHRefIdeal.main_arg0) = m ((c.tc : Thread Cert.CInHRefIdeal.nD Cert.CInHRefIdeal.τ).loc Cert.CInHRefIdeal.main_arg0)
      ∧ r.2.mem ((c.tc : Thread Cert.CInHRefIdeal.nD Cert.CInHRefIdeal.τ).loc Cert.CInHRefIdeal.main_arg1) = m ((c.tc : Thread Cert.CInHRefIdeal.nD Cert.CInHRefIdeal.τ).loc Cert.CInHRefIdeal.main_arg1))
      ∧ r.2.sem = fun _ => 0)

def quiescent_CInW [hCInW : Cert.CInW.Facts] : Prop :=
  ∀ (m : (ℓ : Loc Cert.CInW.nD Cert.CInW.τ Cert.CInW.sig) → Buf (Elt Bits) ℓ) (g : Dev Cert.CInW.nD → PrngReg), Pre_CInW m →
    θ_run (Cert.CInW.defs (F := Bits)) (onTc (τ := Cert.CInW.τ) (Cert.CInW.main (F := Bits))) ⟨m, fun _ => 0, g⟩ (fun r => (∀ c : Dev Cert.CInW.nD,
      r.2.mem ((c.tc : Thread Cert.CInW.nD Cert.CInW.τ).loc Cert.CInW.main_arg0) = m ((c.tc : Thread Cert.CInW.nD Cert.CInW.τ).loc Cert.CInW.main_arg0)
      ∧ r.2.mem ((c.tc : Thread Cert.CInW.nD Cert.CInW.τ).loc Cert.CInW.main_arg1) = m ((c.tc : Thread Cert.CInW.nD Cert.CInW.τ).loc Cert.CInW.main_arg1))
      ∧ r.2.sem = fun _ => 0)

def quiescent_CInWIdeal [hCInWIdeal : Cert.CInWIdeal.Facts] : Prop :=
  ∀ (m : (ℓ : Loc Cert.CInWIdeal.nD Cert.CInWIdeal.τ Cert.CInWIdeal.sig) → Buf (Elt Ideal) ℓ) (g : Dev Cert.CInWIdeal.nD → PrngReg), Pre_CInWIdeal m →
    θ_run (Cert.CInWIdeal.defs (F := Ideal)) (onTc (τ := Cert.CInWIdeal.τ) (Cert.CInWIdeal.main (F := Ideal))) ⟨m, fun _ => 0, g⟩ (fun r => (∀ c : Dev Cert.CInWIdeal.nD,
      r.2.mem ((c.tc : Thread Cert.CInWIdeal.nD Cert.CInWIdeal.τ).loc Cert.CInWIdeal.main_arg0) = m ((c.tc : Thread Cert.CInWIdeal.nD Cert.CInWIdeal.τ).loc Cert.CInWIdeal.main_arg0)
      ∧ r.2.mem ((c.tc : Thread Cert.CInWIdeal.nD Cert.CInWIdeal.τ).loc Cert.CInWIdeal.main_arg1) = m ((c.tc : Thread Cert.CInWIdeal.nD Cert.CInWIdeal.τ).loc Cert.CInWIdeal.main_arg1))
      ∧ r.2.sem = fun _ => 0)

def quiescent_CInWRefIdeal [hCInWRefIdeal : Cert.CInWRefIdeal.Facts] : Prop :=
  ∀ (m : (ℓ : Loc Cert.CInWRefIdeal.nD Cert.CInWRefIdeal.τ Cert.CInWRefIdeal.sig) → Buf (Elt Ideal) ℓ) (g : Dev Cert.CInWRefIdeal.nD → PrngReg), Pre_CInWRefIdeal m →
    θ_run (Cert.CInWRefIdeal.defs (F := Ideal)) (onTc (τ := Cert.CInWRefIdeal.τ) (Cert.CInWRefIdeal.main (F := Ideal))) ⟨m, fun _ => 0, g⟩ (fun r => (∀ c : Dev Cert.CInWRefIdeal.nD,
      r.2.mem ((c.tc : Thread Cert.CInWRefIdeal.nD Cert.CInWRefIdeal.τ).loc Cert.CInWRefIdeal.main_arg0) = m ((c.tc : Thread Cert.CInWRefIdeal.nD Cert.CInWRefIdeal.τ).loc Cert.CInWRefIdeal.main_arg0)
      ∧ r.2.mem ((c.tc : Thread Cert.CInWRefIdeal.nD Cert.CInWRefIdeal.τ).loc Cert.CInWRefIdeal.main_arg1) = m ((c.tc : Thread Cert.CInWRefIdeal.nD Cert.CInWRefIdeal.τ).loc Cert.CInWRefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1))
      ∧ r.2.sem = fun _ => 0)

def quiescent_ForgetH [hForgetH : Cert.ForgetH.Facts] : Prop :=
  ∀ (m : (ℓ : Loc Cert.ForgetH.nD Cert.ForgetH.τ Cert.ForgetH.sig) → Buf (Elt Bits) ℓ) (g : Dev Cert.ForgetH.nD → PrngReg), Pre_ForgetH m →
    θ_run (Cert.ForgetH.defs (F := Bits)) (onTc (τ := Cert.ForgetH.τ) (Cert.ForgetH.main (F := Bits))) ⟨m, fun _ => 0, g⟩ (fun r => (∀ c : Dev Cert.ForgetH.nD,
      r.2.mem ((c.tc : Thread Cert.ForgetH.nD Cert.ForgetH.τ).loc Cert.ForgetH.main_arg0) = m ((c.tc : Thread Cert.ForgetH.nD Cert.ForgetH.τ).loc Cert.ForgetH.main_arg0)
      ∧ r.2.mem ((c.tc : Thread Cert.ForgetH.nD Cert.ForgetH.τ).loc Cert.ForgetH.main_arg1) = m ((c.tc : Thread Cert.ForgetH.nD Cert.ForgetH.τ).loc Cert.ForgetH.main_arg1))
      ∧ r.2.sem = fun _ => 0)

def quiescent_ForgetHIdeal [hForgetHIdeal : Cert.ForgetHIdeal.Facts] : Prop :=
  ∀ (m : (ℓ : Loc Cert.ForgetHIdeal.nD Cert.ForgetHIdeal.τ Cert.ForgetHIdeal.sig) → Buf (Elt Ideal) ℓ) (g : Dev Cert.ForgetHIdeal.nD → PrngReg), Pre_ForgetHIdeal m →
    θ_run (Cert.ForgetHIdeal.defs (F := Ideal)) (onTc (τ := Cert.ForgetHIdeal.τ) (Cert.ForgetHIdeal.main (F := Ideal))) ⟨m, fun _ => 0, g⟩ (fun r => (∀ c : Dev Cert.ForgetHIdeal.nD,
      r.2.mem ((c.tc : Thread Cert.ForgetHIdeal.nD Cert.ForgetHIdeal.τ).loc Cert.ForgetHIdeal.main_arg0) = m ((c.tc : Thread Cert.ForgetHIdeal.nD Cert.ForgetHIdeal.τ).loc Cert.ForgetHIdeal.main_arg0)
      ∧ r.2.mem ((c.tc : Thread Cert.ForgetHIdeal.nD Cert.ForgetHIdeal.τ).loc Cert.ForgetHIdeal.main_arg1) = m ((c.tc : Thread Cert.ForgetHIdeal.nD Cert.ForgetHIdeal.τ).loc Cert.ForgetHIdeal.main_arg1))
      ∧ r.2.sem = fun _ => 0)

def quiescent_ForgetHRefIdeal [hForgetHRefIdeal : Cert.ForgetHRefIdeal.Facts] : Prop :=
  ∀ (m : (ℓ : Loc Cert.ForgetHRefIdeal.nD Cert.ForgetHRefIdeal.τ Cert.ForgetHRefIdeal.sig) → Buf (Elt Ideal) ℓ) (g : Dev Cert.ForgetHRefIdeal.nD → PrngReg), Pre_ForgetHRefIdeal m →
    θ_run (Cert.ForgetHRefIdeal.defs (F := Ideal)) (onTc (τ := Cert.ForgetHRefIdeal.τ) (Cert.ForgetHRefIdeal.main (F := Ideal))) ⟨m, fun _ => 0, g⟩ (fun r => (∀ c : Dev Cert.ForgetHRefIdeal.nD,
      r.2.mem ((c.tc : Thread Cert.ForgetHRefIdeal.nD Cert.ForgetHRefIdeal.τ).loc Cert.ForgetHRefIdeal.main_arg0) = m ((c.tc : Thread Cert.ForgetHRefIdeal.nD Cert.ForgetHRefIdeal.τ).loc Cert.ForgetHRefIdeal.main_arg0)
      ∧ r.2.mem ((c.tc : Thread Cert.ForgetHRefIdeal.nD Cert.ForgetHRefIdeal.τ).loc Cert.ForgetHRefIdeal.main_arg1) = m ((c.tc : Thread Cert.ForgetHRefIdeal.nD Cert.ForgetHRefIdeal.τ).loc Cert.ForgetHRefIdeal.main_arg1))
      ∧ r.2.sem = fun _ => 0)

def quiescent_ForgetW [hForgetW : Cert.ForgetW.Facts] : Prop :=
  ∀ (m : (ℓ : Loc Cert.ForgetW.nD Cert.ForgetW.τ Cert.ForgetW.sig) → Buf (Elt Bits) ℓ) (g : Dev Cert.ForgetW.nD → PrngReg), Pre_ForgetW m →
    θ_run (Cert.ForgetW.defs (F := Bits)) (onTc (τ := Cert.ForgetW.τ) (Cert.ForgetW.main (F := Bits))) ⟨m, fun _ => 0, g⟩ (fun r => (∀ c : Dev Cert.ForgetW.nD,
      r.2.mem ((c.tc : Thread Cert.ForgetW.nD Cert.ForgetW.τ).loc Cert.ForgetW.main_arg0) = m ((c.tc : Thread Cert.ForgetW.nD Cert.ForgetW.τ).loc Cert.ForgetW.main_arg0)
      ∧ r.2.mem ((c.tc : Thread Cert.ForgetW.nD Cert.ForgetW.τ).loc Cert.ForgetW.main_arg1) = m ((c.tc : Thread Cert.ForgetW.nD Cert.ForgetW.τ).loc Cert.ForgetW.main_arg1))
      ∧ r.2.sem = fun _ => 0)

def quiescent_ForgetWIdeal [hForgetWIdeal : Cert.ForgetWIdeal.Facts] : Prop :=
  ∀ (m : (ℓ : Loc Cert.ForgetWIdeal.nD Cert.ForgetWIdeal.τ Cert.ForgetWIdeal.sig) → Buf (Elt Ideal) ℓ) (g : Dev Cert.ForgetWIdeal.nD → PrngReg), Pre_ForgetWIdeal m →
    θ_run (Cert.ForgetWIdeal.defs (F := Ideal)) (onTc (τ := Cert.ForgetWIdeal.τ) (Cert.ForgetWIdeal.main (F := Ideal))) ⟨m, fun _ => 0, g⟩ (fun r => (∀ c : Dev Cert.ForgetWIdeal.nD,
      r.2.mem ((c.tc : Thread Cert.ForgetWIdeal.nD Cert.ForgetWIdeal.τ).loc Cert.ForgetWIdeal.main_arg0) = m ((c.tc : Thread Cert.ForgetWIdeal.nD Cert.ForgetWIdeal.τ).loc Cert.ForgetWIdeal.main_arg0)
      ∧ r.2.mem ((c.tc : Thread Cert.ForgetWIdeal.nD Cert.ForgetWIdeal.τ).loc Cert.ForgetWIdeal.main_arg1) = m ((c.tc : Thread Cert.ForgetWIdeal.nD Cert.ForgetWIdeal.τ).loc Cert.ForgetWIdeal.main_arg1))
      ∧ r.2.sem = fun _ => 0)

def quiescent_ForgetWRefIdeal [hForgetWRefIdeal : Cert.ForgetWRefIdeal.Facts] : Prop :=
  ∀ (m : (ℓ : Loc Cert.ForgetWRefIdeal.nD Cert.ForgetWRefIdeal.τ Cert.ForgetWRefIdeal.sig) → Buf (Elt Ideal) ℓ) (g : Dev Cert.ForgetWRefIdeal.nD → PrngReg), Pre_ForgetWRefIdeal m →
    θ_run (Cert.ForgetWRefIdeal.defs (F := Ideal)) (onTc (τ := Cert.ForgetWRefIdeal.τ) (Cert.ForgetWRefIdeal.main (F := Ideal))) ⟨m, fun _ => 0, g⟩ (fun r => (∀ c : Dev Cert.ForgetWRefIdeal.nD,
      r.2.mem ((c.tc : Thread Cert.ForgetWRefIdeal.nD Cert.ForgetWRefIdeal.τ).loc Cert.ForgetWRefIdeal.main_arg0) = m ((c.tc : Thread Cert.ForgetWRefIdeal.nD Cert.ForgetWRefIdeal.τ).loc Cert.ForgetWRefIdeal.main_arg0)
      ∧ r.2.mem ((c.tc : Thread Cert.ForgetWRefIdeal.nD Cert.ForgetWRefIdeal.τ).loc Cert.ForgetWRefIdeal.main_arg1) = m ((c.tc : Thread Cert.ForgetWRefIdeal.nD Cert.ForgetWRefIdeal.τ).loc Cert.ForgetWRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_NormBTwo [hNormBTwo : Cert.NormBTwo.Facts] : Prop :=
  ∀ (m : (ℓ : Loc Cert.NormBTwo.nD Cert.NormBTwo.τ Cert.NormBTwo.sig) → Buf (Elt Bits) ℓ) (g : Dev Cert.NormBTwo.nD → PrngReg), Pre_NormBTwo m →
    θ_run (Cert.NormBTwo.defs (F := Bits)) (onTc (τ := Cert.NormBTwo.τ) (Cert.NormBTwo.main (F := Bits))) ⟨m, fun _ => 0, g⟩ (fun r => (∀ c : Dev Cert.NormBTwo.nD,
      r.2.mem ((c.tc : Thread Cert.NormBTwo.nD Cert.NormBTwo.τ).loc Cert.NormBTwo.main_arg0) = m ((c.tc : Thread Cert.NormBTwo.nD Cert.NormBTwo.τ).loc Cert.NormBTwo.main_arg0)
      ∧ r.2.mem ((c.tc : Thread Cert.NormBTwo.nD Cert.NormBTwo.τ).loc Cert.NormBTwo.main_arg1) = m ((c.tc : Thread Cert.NormBTwo.nD Cert.NormBTwo.τ).loc Cert.NormBTwo.main_arg1)
      ∧ r.2.mem ((c.tc : Thread Cert.NormBTwo.nD Cert.NormBTwo.τ).loc Cert.NormBTwo.main_arg2) = m ((c.tc : Thread Cert.NormBTwo.nD Cert.NormBTwo.τ).loc Cert.NormBTwo.main_arg2)
      ∧ r.2.mem ((c.tc : Thread Cert.NormBTwo.nD Cert.NormBTwo.τ).loc Cert.NormBTwo.main_arg3) = m ((c.tc : Thread Cert.NormBTwo.nD Cert.NormBTwo.τ).loc Cert.NormBTwo.main_arg3)
      ∧ r.2.mem ((c.tc : Thread Cert.NormBTwo.nD Cert.NormBTwo.τ).loc Cert.NormBTwo.main_arg4) = m ((c.tc : Thread Cert.NormBTwo.nD Cert.NormBTwo.τ).loc Cert.NormBTwo.main_arg4))
      ∧ r.2.sem = fun _ => 0)

def quiescent_NormBTwoIdeal [hNormBTwoIdeal : Cert.NormBTwoIdeal.Facts] : Prop :=
  ∀ (m : (ℓ : Loc Cert.NormBTwoIdeal.nD Cert.NormBTwoIdeal.τ Cert.NormBTwoIdeal.sig) → Buf (Elt Ideal) ℓ) (g : Dev Cert.NormBTwoIdeal.nD → PrngReg), Pre_NormBTwoIdeal m →
    θ_run (Cert.NormBTwoIdeal.defs (F := Ideal)) (onTc (τ := Cert.NormBTwoIdeal.τ) (Cert.NormBTwoIdeal.main (F := Ideal))) ⟨m, fun _ => 0, g⟩ (fun r => (∀ c : Dev Cert.NormBTwoIdeal.nD,
      r.2.mem ((c.tc : Thread Cert.NormBTwoIdeal.nD Cert.NormBTwoIdeal.τ).loc Cert.NormBTwoIdeal.main_arg0) = m ((c.tc : Thread Cert.NormBTwoIdeal.nD Cert.NormBTwoIdeal.τ).loc Cert.NormBTwoIdeal.main_arg0)
      ∧ r.2.mem ((c.tc : Thread Cert.NormBTwoIdeal.nD Cert.NormBTwoIdeal.τ).loc Cert.NormBTwoIdeal.main_arg1) = m ((c.tc : Thread Cert.NormBTwoIdeal.nD Cert.NormBTwoIdeal.τ).loc Cert.NormBTwoIdeal.main_arg1)
      ∧ r.2.mem ((c.tc : Thread Cert.NormBTwoIdeal.nD Cert.NormBTwoIdeal.τ).loc Cert.NormBTwoIdeal.main_arg2) = m ((c.tc : Thread Cert.NormBTwoIdeal.nD Cert.NormBTwoIdeal.τ).loc Cert.NormBTwoIdeal.main_arg2)
      ∧ r.2.mem ((c.tc : Thread Cert.NormBTwoIdeal.nD Cert.NormBTwoIdeal.τ).loc Cert.NormBTwoIdeal.main_arg3) = m ((c.tc : Thread Cert.NormBTwoIdeal.nD Cert.NormBTwoIdeal.τ).loc Cert.NormBTwoIdeal.main_arg3)
      ∧ r.2.mem ((c.tc : Thread Cert.NormBTwoIdeal.nD Cert.NormBTwoIdeal.τ).loc Cert.NormBTwoIdeal.main_arg4) = m ((c.tc : Thread Cert.NormBTwoIdeal.nD Cert.NormBTwoIdeal.τ).loc Cert.NormBTwoIdeal.main_arg4))
      ∧ r.2.sem = fun _ => 0)

def quiescent_NormBTwoRefIdeal [hNormBTwoRefIdeal : Cert.NormBTwoRefIdeal.Facts] : Prop :=
  ∀ (m : (ℓ : Loc Cert.NormBTwoRefIdeal.nD Cert.NormBTwoRefIdeal.τ Cert.NormBTwoRefIdeal.sig) → Buf (Elt Ideal) ℓ) (g : Dev Cert.NormBTwoRefIdeal.nD → PrngReg), Pre_NormBTwoRefIdeal m →
    θ_run (Cert.NormBTwoRefIdeal.defs (F := Ideal)) (onTc (τ := Cert.NormBTwoRefIdeal.τ) (Cert.NormBTwoRefIdeal.main (F := Ideal))) ⟨m, fun _ => 0, g⟩ (fun r => (∀ c : Dev Cert.NormBTwoRefIdeal.nD,
      r.2.mem ((c.tc : Thread Cert.NormBTwoRefIdeal.nD Cert.NormBTwoRefIdeal.τ).loc Cert.NormBTwoRefIdeal.main_arg0) = m ((c.tc : Thread Cert.NormBTwoRefIdeal.nD Cert.NormBTwoRefIdeal.τ).loc Cert.NormBTwoRefIdeal.main_arg0)
      ∧ r.2.mem ((c.tc : Thread Cert.NormBTwoRefIdeal.nD Cert.NormBTwoRefIdeal.τ).loc Cert.NormBTwoRefIdeal.main_arg1) = m ((c.tc : Thread Cert.NormBTwoRefIdeal.nD Cert.NormBTwoRefIdeal.τ).loc Cert.NormBTwoRefIdeal.main_arg1)
      ∧ r.2.mem ((c.tc : Thread Cert.NormBTwoRefIdeal.nD Cert.NormBTwoRefIdeal.τ).loc Cert.NormBTwoRefIdeal.main_arg2) = m ((c.tc : Thread Cert.NormBTwoRefIdeal.nD Cert.NormBTwoRefIdeal.τ).loc Cert.NormBTwoRefIdeal.main_arg2)
      ∧ r.2.mem ((c.tc : Thread Cert.NormBTwoRefIdeal.nD Cert.NormBTwoRefIdeal.τ).loc Cert.NormBTwoRefIdeal.main_arg3) = m ((c.tc : Thread Cert.NormBTwoRefIdeal.nD Cert.NormBTwoRefIdeal.τ).loc Cert.NormBTwoRefIdeal.main_arg3)
      ∧ r.2.mem ((c.tc : Thread Cert.NormBTwoRefIdeal.nD Cert.NormBTwoRefIdeal.τ).loc Cert.NormBTwoRefIdeal.main_arg4) = m ((c.tc : Thread Cert.NormBTwoRefIdeal.nD Cert.NormBTwoRefIdeal.τ).loc Cert.NormBTwoRefIdeal.main_arg4))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ r.2.sem = fun _ => 0)

def quiescent_GateBIdeal_pre_finite_gate [hGateBIdeal : Cert.GateBIdeal.Facts] [hPre_finite_gate : Cert.Pre_finite_gate.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal_finite_gate m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3))
      ∧ r.2.sem = fun _ => 0)

def quiescent_GateBRefIdeal_pre_finite_gate [hGateBRefIdeal : Cert.GateBRefIdeal.Facts] [hPre_finite_gate : Cert.Pre_finite_gate.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal_finite_gate m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutU_OutUIdeal : Prop :=
  True

def algebraic_OutUIdeal_OutURefIdeal [hOutUIdeal : Cert.OutUIdeal.Facts] [hOutURefIdeal : Cert.OutURefIdeal.Facts] : Prop :=
  ∀ (m : (ℓ : Loc Cert.OutUIdeal.nD Cert.OutUIdeal.τ Cert.OutUIdeal.sig) → Buf (Elt Ideal) ℓ) (g : Dev Cert.OutUIdeal.nD → PrngReg)
    (m' : (ℓ : Loc Cert.OutURefIdeal.nD Cert.OutURefIdeal.τ Cert.OutURefIdeal.sig) → Buf (Elt Ideal) ℓ) (g' : Dev Cert.OutURefIdeal.nD → PrngReg), Pre_OutUIdeal m →
    (∀ c : Dev Cert.OutUIdeal.nD,
      m' ((c.tc : Thread Cert.OutURefIdeal.nD Cert.OutURefIdeal.τ).loc Cert.OutURefIdeal.main_arg0) = m ((c.tc : Thread Cert.OutUIdeal.nD Cert.OutUIdeal.τ).loc Cert.OutUIdeal.main_arg0)
      ∧ m' ((c.tc : Thread Cert.OutURefIdeal.nD Cert.OutURefIdeal.τ).loc Cert.OutURefIdeal.main_arg1) = m ((c.tc : Thread Cert.OutUIdeal.nD Cert.OutUIdeal.τ).loc Cert.OutUIdeal.main_arg1)) →
    ∃ (v0 : (c : Dev Cert.OutUIdeal.nD) → Buf (Elt Ideal) ((c.tc : Thread Cert.OutUIdeal.nD Cert.OutUIdeal.τ).loc Cert.OutUIdeal.main_v0)),
      θ_run (Cert.OutUIdeal.defs (F := Ideal)) (onTc (τ := Cert.OutUIdeal.τ) (Cert.OutUIdeal.main (F := Ideal))) ⟨m, fun _ => 0, g⟩ (fun r => ∀ c : Dev Cert.OutUIdeal.nD,
          r.2.mem ((c.tc : Thread Cert.OutUIdeal.nD Cert.OutUIdeal.τ).loc Cert.OutUIdeal.main_v0) = v0 c
          ∧ r.2.mem ((c.tc : Thread Cert.OutUIdeal.nD Cert.OutUIdeal.τ).loc Cert.OutUIdeal.main_arg0) = m ((c.tc : Thread Cert.OutUIdeal.nD Cert.OutUIdeal.τ).loc Cert.OutUIdeal.main_arg0)
          ∧ r.2.mem ((c.tc : Thread Cert.OutUIdeal.nD Cert.OutUIdeal.τ).loc Cert.OutUIdeal.main_arg1) = m ((c.tc : Thread Cert.OutUIdeal.nD Cert.OutUIdeal.τ).loc Cert.OutUIdeal.main_arg1))
      ∧ θ_run (Cert.OutURefIdeal.defs (F := Ideal)) (onTc (τ := Cert.OutURefIdeal.τ) (Cert.OutURefIdeal.main (F := Ideal))) ⟨m', fun _ => 0, g'⟩ (fun r => ∀ c : Dev Cert.OutURefIdeal.nD,
          r.2.mem ((c.tc : Thread Cert.OutURefIdeal.nD Cert.OutURefIdeal.τ).loc Cert.OutURefIdeal.main_v3) = v0 c
          ∧ r.2.mem ((c.tc : Thread Cert.OutURefIdeal.nD Cert.OutURefIdeal.τ).loc Cert.OutURefIdeal.main_arg0) = m' ((c.tc : Thread Cert.OutURefIdeal.nD Cert.OutURefIdeal.τ).loc Cert.OutURefIdeal.main_arg0)
          ∧ r.2.mem ((c.tc : Thread Cert.OutURefIdeal.nD Cert.OutURefIdeal.τ).loc Cert.OutURefIdeal.main_arg1) = m' ((c.tc : Thread Cert.OutURefIdeal.nD Cert.OutURefIdeal.τ).loc Cert.OutURefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v5) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_AInH_AInHIdeal : Prop :=
  True

def algebraic_AInHIdeal_AInHRefIdeal [hAInHIdeal : Cert.AInHIdeal.Facts] [hAInHRefIdeal : Cert.AInHRefIdeal.Facts] : Prop :=
  ∀ (m : (ℓ : Loc Cert.AInHIdeal.nD Cert.AInHIdeal.τ Cert.AInHIdeal.sig) → Buf (Elt Ideal) ℓ) (g : Dev Cert.AInHIdeal.nD → PrngReg)
    (m' : (ℓ : Loc Cert.AInHRefIdeal.nD Cert.AInHRefIdeal.τ Cert.AInHRefIdeal.sig) → Buf (Elt Ideal) ℓ) (g' : Dev Cert.AInHRefIdeal.nD → PrngReg), Pre_AInHIdeal m →
    (∀ c : Dev Cert.AInHIdeal.nD,
      m' ((c.tc : Thread Cert.AInHRefIdeal.nD Cert.AInHRefIdeal.τ).loc Cert.AInHRefIdeal.main_arg0) = m ((c.tc : Thread Cert.AInHIdeal.nD Cert.AInHIdeal.τ).loc Cert.AInHIdeal.main_arg0)
      ∧ m' ((c.tc : Thread Cert.AInHRefIdeal.nD Cert.AInHRefIdeal.τ).loc Cert.AInHRefIdeal.main_arg1) = m ((c.tc : Thread Cert.AInHIdeal.nD Cert.AInHIdeal.τ).loc Cert.AInHIdeal.main_arg1)) →
    ∃ (v0 : (c : Dev Cert.AInHIdeal.nD) → Buf (Elt Ideal) ((c.tc : Thread Cert.AInHIdeal.nD Cert.AInHIdeal.τ).loc Cert.AInHIdeal.main_v0)),
      θ_run (Cert.AInHIdeal.defs (F := Ideal)) (onTc (τ := Cert.AInHIdeal.τ) (Cert.AInHIdeal.main (F := Ideal))) ⟨m, fun _ => 0, g⟩ (fun r => ∀ c : Dev Cert.AInHIdeal.nD,
          r.2.mem ((c.tc : Thread Cert.AInHIdeal.nD Cert.AInHIdeal.τ).loc Cert.AInHIdeal.main_v0) = v0 c
          ∧ r.2.mem ((c.tc : Thread Cert.AInHIdeal.nD Cert.AInHIdeal.τ).loc Cert.AInHIdeal.main_arg0) = m ((c.tc : Thread Cert.AInHIdeal.nD Cert.AInHIdeal.τ).loc Cert.AInHIdeal.main_arg0)
          ∧ r.2.mem ((c.tc : Thread Cert.AInHIdeal.nD Cert.AInHIdeal.τ).loc Cert.AInHIdeal.main_arg1) = m ((c.tc : Thread Cert.AInHIdeal.nD Cert.AInHIdeal.τ).loc Cert.AInHIdeal.main_arg1))
      ∧ θ_run (Cert.AInHRefIdeal.defs (F := Ideal)) (onTc (τ := Cert.AInHRefIdeal.τ) (Cert.AInHRefIdeal.main (F := Ideal))) ⟨m', fun _ => 0, g'⟩ (fun r => ∀ c : Dev Cert.AInHRefIdeal.nD,
          r.2.mem ((c.tc : Thread Cert.AInHRefIdeal.nD Cert.AInHRefIdeal.τ).loc Cert.AInHRefIdeal.main_v12) = v0 c
          ∧ r.2.mem ((c.tc : Thread Cert.AInHRefIdeal.nD Cert.AInHRefIdeal.τ).loc Cert.AInHRefIdeal.main_arg0) = m' ((c.tc : Thread Cert.AInHRefIdeal.nD Cert.AInHRefIdeal.τ).loc Cert.AInHRefIdeal.main_arg0)
          ∧ r.2.mem ((c.tc : Thread Cert.AInHRefIdeal.nD Cert.AInHRefIdeal.τ).loc Cert.AInHRefIdeal.main_arg1) = m' ((c.tc : Thread Cert.AInHRefIdeal.nD Cert.AInHRefIdeal.τ).loc Cert.AInHRefIdeal.main_arg1))

def preserves_AInW_AInWIdeal : Prop :=
  True

def algebraic_AInWIdeal_AInWRefIdeal [hAInWIdeal : Cert.AInWIdeal.Facts] [hAInWRefIdeal : Cert.AInWRefIdeal.Facts] : Prop :=
  ∀ (m : (ℓ : Loc Cert.AInWIdeal.nD Cert.AInWIdeal.τ Cert.AInWIdeal.sig) → Buf (Elt Ideal) ℓ) (g : Dev Cert.AInWIdeal.nD → PrngReg)
    (m' : (ℓ : Loc Cert.AInWRefIdeal.nD Cert.AInWRefIdeal.τ Cert.AInWRefIdeal.sig) → Buf (Elt Ideal) ℓ) (g' : Dev Cert.AInWRefIdeal.nD → PrngReg), Pre_AInWIdeal m →
    (∀ c : Dev Cert.AInWIdeal.nD,
      m' ((c.tc : Thread Cert.AInWRefIdeal.nD Cert.AInWRefIdeal.τ).loc Cert.AInWRefIdeal.main_arg0) = m ((c.tc : Thread Cert.AInWIdeal.nD Cert.AInWIdeal.τ).loc Cert.AInWIdeal.main_arg0)
      ∧ m' ((c.tc : Thread Cert.AInWRefIdeal.nD Cert.AInWRefIdeal.τ).loc Cert.AInWRefIdeal.main_arg1) = m ((c.tc : Thread Cert.AInWIdeal.nD Cert.AInWIdeal.τ).loc Cert.AInWIdeal.main_arg1)) →
    ∃ (v0 : (c : Dev Cert.AInWIdeal.nD) → Buf (Elt Ideal) ((c.tc : Thread Cert.AInWIdeal.nD Cert.AInWIdeal.τ).loc Cert.AInWIdeal.main_v0)),
      θ_run (Cert.AInWIdeal.defs (F := Ideal)) (onTc (τ := Cert.AInWIdeal.τ) (Cert.AInWIdeal.main (F := Ideal))) ⟨m, fun _ => 0, g⟩ (fun r => ∀ c : Dev Cert.AInWIdeal.nD,
          r.2.mem ((c.tc : Thread Cert.AInWIdeal.nD Cert.AInWIdeal.τ).loc Cert.AInWIdeal.main_v0) = v0 c
          ∧ r.2.mem ((c.tc : Thread Cert.AInWIdeal.nD Cert.AInWIdeal.τ).loc Cert.AInWIdeal.main_arg0) = m ((c.tc : Thread Cert.AInWIdeal.nD Cert.AInWIdeal.τ).loc Cert.AInWIdeal.main_arg0)
          ∧ r.2.mem ((c.tc : Thread Cert.AInWIdeal.nD Cert.AInWIdeal.τ).loc Cert.AInWIdeal.main_arg1) = m ((c.tc : Thread Cert.AInWIdeal.nD Cert.AInWIdeal.τ).loc Cert.AInWIdeal.main_arg1))
      ∧ θ_run (Cert.AInWRefIdeal.defs (F := Ideal)) (onTc (τ := Cert.AInWRefIdeal.τ) (Cert.AInWRefIdeal.main (F := Ideal))) ⟨m', fun _ => 0, g'⟩ (fun r => ∀ c : Dev Cert.AInWRefIdeal.nD,
          r.2.mem ((c.tc : Thread Cert.AInWRefIdeal.nD Cert.AInWRefIdeal.τ).loc Cert.AInWRefIdeal.main_v14) = v0 c
          ∧ r.2.mem ((c.tc : Thread Cert.AInWRefIdeal.nD Cert.AInWRefIdeal.τ).loc Cert.AInWRefIdeal.main_arg0) = m' ((c.tc : Thread Cert.AInWRefIdeal.nD Cert.AInWRefIdeal.τ).loc Cert.AInWRefIdeal.main_arg0)
          ∧ r.2.mem ((c.tc : Thread Cert.AInWRefIdeal.nD Cert.AInWRefIdeal.τ).loc Cert.AInWRefIdeal.main_arg1) = m' ((c.tc : Thread Cert.AInWRefIdeal.nD Cert.AInWRefIdeal.τ).loc Cert.AInWRefIdeal.main_arg1))

def preserves_BInH_BInHIdeal : Prop :=
  True

def algebraic_BInHIdeal_BInHRefIdeal [hBInHIdeal : Cert.BInHIdeal.Facts] [hBInHRefIdeal : Cert.BInHRefIdeal.Facts] : Prop :=
  ∀ (m : (ℓ : Loc Cert.BInHIdeal.nD Cert.BInHIdeal.τ Cert.BInHIdeal.sig) → Buf (Elt Ideal) ℓ) (g : Dev Cert.BInHIdeal.nD → PrngReg)
    (m' : (ℓ : Loc Cert.BInHRefIdeal.nD Cert.BInHRefIdeal.τ Cert.BInHRefIdeal.sig) → Buf (Elt Ideal) ℓ) (g' : Dev Cert.BInHRefIdeal.nD → PrngReg), Pre_BInHIdeal m →
    (∀ c : Dev Cert.BInHIdeal.nD,
      m' ((c.tc : Thread Cert.BInHRefIdeal.nD Cert.BInHRefIdeal.τ).loc Cert.BInHRefIdeal.main_arg0) = m ((c.tc : Thread Cert.BInHIdeal.nD Cert.BInHIdeal.τ).loc Cert.BInHIdeal.main_arg0)
      ∧ m' ((c.tc : Thread Cert.BInHRefIdeal.nD Cert.BInHRefIdeal.τ).loc Cert.BInHRefIdeal.main_arg1) = m ((c.tc : Thread Cert.BInHIdeal.nD Cert.BInHIdeal.τ).loc Cert.BInHIdeal.main_arg1)) →
    ∃ (v0 : (c : Dev Cert.BInHIdeal.nD) → Buf (Elt Ideal) ((c.tc : Thread Cert.BInHIdeal.nD Cert.BInHIdeal.τ).loc Cert.BInHIdeal.main_v0)),
      θ_run (Cert.BInHIdeal.defs (F := Ideal)) (onTc (τ := Cert.BInHIdeal.τ) (Cert.BInHIdeal.main (F := Ideal))) ⟨m, fun _ => 0, g⟩ (fun r => ∀ c : Dev Cert.BInHIdeal.nD,
          r.2.mem ((c.tc : Thread Cert.BInHIdeal.nD Cert.BInHIdeal.τ).loc Cert.BInHIdeal.main_v0) = v0 c
          ∧ r.2.mem ((c.tc : Thread Cert.BInHIdeal.nD Cert.BInHIdeal.τ).loc Cert.BInHIdeal.main_arg0) = m ((c.tc : Thread Cert.BInHIdeal.nD Cert.BInHIdeal.τ).loc Cert.BInHIdeal.main_arg0)
          ∧ r.2.mem ((c.tc : Thread Cert.BInHIdeal.nD Cert.BInHIdeal.τ).loc Cert.BInHIdeal.main_arg1) = m ((c.tc : Thread Cert.BInHIdeal.nD Cert.BInHIdeal.τ).loc Cert.BInHIdeal.main_arg1))
      ∧ θ_run (Cert.BInHRefIdeal.defs (F := Ideal)) (onTc (τ := Cert.BInHRefIdeal.τ) (Cert.BInHRefIdeal.main (F := Ideal))) ⟨m', fun _ => 0, g'⟩ (fun r => ∀ c : Dev Cert.BInHRefIdeal.nD,
          r.2.mem ((c.tc : Thread Cert.BInHRefIdeal.nD Cert.BInHRefIdeal.τ).loc Cert.BInHRefIdeal.main_v8) = v0 c
          ∧ r.2.mem ((c.tc : Thread Cert.BInHRefIdeal.nD Cert.BInHRefIdeal.τ).loc Cert.BInHRefIdeal.main_arg0) = m' ((c.tc : Thread Cert.BInHRefIdeal.nD Cert.BInHRefIdeal.τ).loc Cert.BInHRefIdeal.main_arg0)
          ∧ r.2.mem ((c.tc : Thread Cert.BInHRefIdeal.nD Cert.BInHRefIdeal.τ).loc Cert.BInHRefIdeal.main_arg1) = m' ((c.tc : Thread Cert.BInHRefIdeal.nD Cert.BInHRefIdeal.τ).loc Cert.BInHRefIdeal.main_arg1))

def preserves_BInW_BInWIdeal : Prop :=
  True

def algebraic_BInWIdeal_BInWRefIdeal [hBInWIdeal : Cert.BInWIdeal.Facts] [hBInWRefIdeal : Cert.BInWRefIdeal.Facts] : Prop :=
  ∀ (m : (ℓ : Loc Cert.BInWIdeal.nD Cert.BInWIdeal.τ Cert.BInWIdeal.sig) → Buf (Elt Ideal) ℓ) (g : Dev Cert.BInWIdeal.nD → PrngReg)
    (m' : (ℓ : Loc Cert.BInWRefIdeal.nD Cert.BInWRefIdeal.τ Cert.BInWRefIdeal.sig) → Buf (Elt Ideal) ℓ) (g' : Dev Cert.BInWRefIdeal.nD → PrngReg), Pre_BInWIdeal m →
    (∀ c : Dev Cert.BInWIdeal.nD,
      m' ((c.tc : Thread Cert.BInWRefIdeal.nD Cert.BInWRefIdeal.τ).loc Cert.BInWRefIdeal.main_arg0) = m ((c.tc : Thread Cert.BInWIdeal.nD Cert.BInWIdeal.τ).loc Cert.BInWIdeal.main_arg0)
      ∧ m' ((c.tc : Thread Cert.BInWRefIdeal.nD Cert.BInWRefIdeal.τ).loc Cert.BInWRefIdeal.main_arg1) = m ((c.tc : Thread Cert.BInWIdeal.nD Cert.BInWIdeal.τ).loc Cert.BInWIdeal.main_arg1)) →
    ∃ (v0 : (c : Dev Cert.BInWIdeal.nD) → Buf (Elt Ideal) ((c.tc : Thread Cert.BInWIdeal.nD Cert.BInWIdeal.τ).loc Cert.BInWIdeal.main_v0)),
      θ_run (Cert.BInWIdeal.defs (F := Ideal)) (onTc (τ := Cert.BInWIdeal.τ) (Cert.BInWIdeal.main (F := Ideal))) ⟨m, fun _ => 0, g⟩ (fun r => ∀ c : Dev Cert.BInWIdeal.nD,
          r.2.mem ((c.tc : Thread Cert.BInWIdeal.nD Cert.BInWIdeal.τ).loc Cert.BInWIdeal.main_v0) = v0 c
          ∧ r.2.mem ((c.tc : Thread Cert.BInWIdeal.nD Cert.BInWIdeal.τ).loc Cert.BInWIdeal.main_arg0) = m ((c.tc : Thread Cert.BInWIdeal.nD Cert.BInWIdeal.τ).loc Cert.BInWIdeal.main_arg0)
          ∧ r.2.mem ((c.tc : Thread Cert.BInWIdeal.nD Cert.BInWIdeal.τ).loc Cert.BInWIdeal.main_arg1) = m ((c.tc : Thread Cert.BInWIdeal.nD Cert.BInWIdeal.τ).loc Cert.BInWIdeal.main_arg1))
      ∧ θ_run (Cert.BInWRefIdeal.defs (F := Ideal)) (onTc (τ := Cert.BInWRefIdeal.τ) (Cert.BInWRefIdeal.main (F := Ideal))) ⟨m', fun _ => 0, g'⟩ (fun r => ∀ c : Dev Cert.BInWRefIdeal.nD,
          r.2.mem ((c.tc : Thread Cert.BInWRefIdeal.nD Cert.BInWRefIdeal.τ).loc Cert.BInWRefIdeal.main_v10) = v0 c
          ∧ r.2.mem ((c.tc : Thread Cert.BInWRefIdeal.nD Cert.BInWRefIdeal.τ).loc Cert.BInWRefIdeal.main_arg0) = m' ((c.tc : Thread Cert.BInWRefIdeal.nD Cert.BInWRefIdeal.τ).loc Cert.BInWRefIdeal.main_arg0)
          ∧ r.2.mem ((c.tc : Thread Cert.BInWRefIdeal.nD Cert.BInWRefIdeal.τ).loc Cert.BInWRefIdeal.main_arg1) = m' ((c.tc : Thread Cert.BInWRefIdeal.nD Cert.BInWRefIdeal.τ).loc Cert.BInWRefIdeal.main_arg1))

def preserves_CInH_CInHIdeal : Prop :=
  True

def algebraic_CInHIdeal_CInHRefIdeal [hCInHIdeal : Cert.CInHIdeal.Facts] [hCInHRefIdeal : Cert.CInHRefIdeal.Facts] : Prop :=
  ∀ (m : (ℓ : Loc Cert.CInHIdeal.nD Cert.CInHIdeal.τ Cert.CInHIdeal.sig) → Buf (Elt Ideal) ℓ) (g : Dev Cert.CInHIdeal.nD → PrngReg)
    (m' : (ℓ : Loc Cert.CInHRefIdeal.nD Cert.CInHRefIdeal.τ Cert.CInHRefIdeal.sig) → Buf (Elt Ideal) ℓ) (g' : Dev Cert.CInHRefIdeal.nD → PrngReg), Pre_CInHIdeal m →
    (∀ c : Dev Cert.CInHIdeal.nD,
      m' ((c.tc : Thread Cert.CInHRefIdeal.nD Cert.CInHRefIdeal.τ).loc Cert.CInHRefIdeal.main_arg0) = m ((c.tc : Thread Cert.CInHIdeal.nD Cert.CInHIdeal.τ).loc Cert.CInHIdeal.main_arg0)
      ∧ m' ((c.tc : Thread Cert.CInHRefIdeal.nD Cert.CInHRefIdeal.τ).loc Cert.CInHRefIdeal.main_arg1) = m ((c.tc : Thread Cert.CInHIdeal.nD Cert.CInHIdeal.τ).loc Cert.CInHIdeal.main_arg1)) →
    ∃ (v0 : (c : Dev Cert.CInHIdeal.nD) → Buf (Elt Ideal) ((c.tc : Thread Cert.CInHIdeal.nD Cert.CInHIdeal.τ).loc Cert.CInHIdeal.main_v0)),
      θ_run (Cert.CInHIdeal.defs (F := Ideal)) (onTc (τ := Cert.CInHIdeal.τ) (Cert.CInHIdeal.main (F := Ideal))) ⟨m, fun _ => 0, g⟩ (fun r => ∀ c : Dev Cert.CInHIdeal.nD,
          r.2.mem ((c.tc : Thread Cert.CInHIdeal.nD Cert.CInHIdeal.τ).loc Cert.CInHIdeal.main_v0) = v0 c
          ∧ r.2.mem ((c.tc : Thread Cert.CInHIdeal.nD Cert.CInHIdeal.τ).loc Cert.CInHIdeal.main_arg0) = m ((c.tc : Thread Cert.CInHIdeal.nD Cert.CInHIdeal.τ).loc Cert.CInHIdeal.main_arg0)
          ∧ r.2.mem ((c.tc : Thread Cert.CInHIdeal.nD Cert.CInHIdeal.τ).loc Cert.CInHIdeal.main_arg1) = m ((c.tc : Thread Cert.CInHIdeal.nD Cert.CInHIdeal.τ).loc Cert.CInHIdeal.main_arg1))
      ∧ θ_run (Cert.CInHRefIdeal.defs (F := Ideal)) (onTc (τ := Cert.CInHRefIdeal.τ) (Cert.CInHRefIdeal.main (F := Ideal))) ⟨m', fun _ => 0, g'⟩ (fun r => ∀ c : Dev Cert.CInHRefIdeal.nD,
          r.2.mem ((c.tc : Thread Cert.CInHRefIdeal.nD Cert.CInHRefIdeal.τ).loc Cert.CInHRefIdeal.main_v12) = v0 c
          ∧ r.2.mem ((c.tc : Thread Cert.CInHRefIdeal.nD Cert.CInHRefIdeal.τ).loc Cert.CInHRefIdeal.main_arg0) = m' ((c.tc : Thread Cert.CInHRefIdeal.nD Cert.CInHRefIdeal.τ).loc Cert.CInHRefIdeal.main_arg0)
          ∧ r.2.mem ((c.tc : Thread Cert.CInHRefIdeal.nD Cert.CInHRefIdeal.τ).loc Cert.CInHRefIdeal.main_arg1) = m' ((c.tc : Thread Cert.CInHRefIdeal.nD Cert.CInHRefIdeal.τ).loc Cert.CInHRefIdeal.main_arg1))

def preserves_CInW_CInWIdeal : Prop :=
  True

def algebraic_CInWIdeal_CInWRefIdeal [hCInWIdeal : Cert.CInWIdeal.Facts] [hCInWRefIdeal : Cert.CInWRefIdeal.Facts] : Prop :=
  ∀ (m : (ℓ : Loc Cert.CInWIdeal.nD Cert.CInWIdeal.τ Cert.CInWIdeal.sig) → Buf (Elt Ideal) ℓ) (g : Dev Cert.CInWIdeal.nD → PrngReg)
    (m' : (ℓ : Loc Cert.CInWRefIdeal.nD Cert.CInWRefIdeal.τ Cert.CInWRefIdeal.sig) → Buf (Elt Ideal) ℓ) (g' : Dev Cert.CInWRefIdeal.nD → PrngReg), Pre_CInWIdeal m →
    (∀ c : Dev Cert.CInWIdeal.nD,
      m' ((c.tc : Thread Cert.CInWRefIdeal.nD Cert.CInWRefIdeal.τ).loc Cert.CInWRefIdeal.main_arg0) = m ((c.tc : Thread Cert.CInWIdeal.nD Cert.CInWIdeal.τ).loc Cert.CInWIdeal.main_arg0)
      ∧ m' ((c.tc : Thread Cert.CInWRefIdeal.nD Cert.CInWRefIdeal.τ).loc Cert.CInWRefIdeal.main_arg1) = m ((c.tc : Thread Cert.CInWIdeal.nD Cert.CInWIdeal.τ).loc Cert.CInWIdeal.main_arg1)) →
    ∃ (v0 : (c : Dev Cert.CInWIdeal.nD) → Buf (Elt Ideal) ((c.tc : Thread Cert.CInWIdeal.nD Cert.CInWIdeal.τ).loc Cert.CInWIdeal.main_v0)),
      θ_run (Cert.CInWIdeal.defs (F := Ideal)) (onTc (τ := Cert.CInWIdeal.τ) (Cert.CInWIdeal.main (F := Ideal))) ⟨m, fun _ => 0, g⟩ (fun r => ∀ c : Dev Cert.CInWIdeal.nD,
          r.2.mem ((c.tc : Thread Cert.CInWIdeal.nD Cert.CInWIdeal.τ).loc Cert.CInWIdeal.main_v0) = v0 c
          ∧ r.2.mem ((c.tc : Thread Cert.CInWIdeal.nD Cert.CInWIdeal.τ).loc Cert.CInWIdeal.main_arg0) = m ((c.tc : Thread Cert.CInWIdeal.nD Cert.CInWIdeal.τ).loc Cert.CInWIdeal.main_arg0)
          ∧ r.2.mem ((c.tc : Thread Cert.CInWIdeal.nD Cert.CInWIdeal.τ).loc Cert.CInWIdeal.main_arg1) = m ((c.tc : Thread Cert.CInWIdeal.nD Cert.CInWIdeal.τ).loc Cert.CInWIdeal.main_arg1))
      ∧ θ_run (Cert.CInWRefIdeal.defs (F := Ideal)) (onTc (τ := Cert.CInWRefIdeal.τ) (Cert.CInWRefIdeal.main (F := Ideal))) ⟨m', fun _ => 0, g'⟩ (fun r => ∀ c : Dev Cert.CInWRefIdeal.nD,
          r.2.mem ((c.tc : Thread Cert.CInWRefIdeal.nD Cert.CInWRefIdeal.τ).loc Cert.CInWRefIdeal.main_v14) = v0 c
          ∧ r.2.mem ((c.tc : Thread Cert.CInWRefIdeal.nD Cert.CInWRefIdeal.τ).loc Cert.CInWRefIdeal.main_arg0) = m' ((c.tc : Thread Cert.CInWRefIdeal.nD Cert.CInWRefIdeal.τ).loc Cert.CInWRefIdeal.main_arg0)
          ∧ r.2.mem ((c.tc : Thread Cert.CInWRefIdeal.nD Cert.CInWRefIdeal.τ).loc Cert.CInWRefIdeal.main_arg1) = m' ((c.tc : Thread Cert.CInWRefIdeal.nD Cert.CInWRefIdeal.τ).loc Cert.CInWRefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v0)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v0) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v4) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)) →
    ∃ (v0 : (c : Dev Cert.BInIdeal.nD) → Buf (Elt Ideal) ((c.tc : Thread Cert.BInIdeal.nD Cert.BInIdeal.τ).loc Cert.BInIdeal.main_v0)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v0) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v2) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)) →
    ∃ (v0 : (c : Dev Cert.CInIdeal.nD) → Buf (Elt Ideal) ((c.tc : Thread Cert.CInIdeal.nD Cert.CInIdeal.τ).loc Cert.CInIdeal.main_v0)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v0) = v0 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v4) = v0 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)) →
    ∃ (v0 : (c : Dev Cert.ForgetIdeal.nD) → Buf (Elt Ideal) ((c.tc : Thread Cert.ForgetIdeal.nD Cert.ForgetIdeal.τ).loc Cert.ForgetIdeal.main_v0)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v0) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v2) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1))

def preserves_ForgetH_ForgetHIdeal : Prop :=
  True

def algebraic_ForgetHIdeal_ForgetHRefIdeal [hForgetHIdeal : Cert.ForgetHIdeal.Facts] [hForgetHRefIdeal : Cert.ForgetHRefIdeal.Facts] : Prop :=
  ∀ (m : (ℓ : Loc Cert.ForgetHIdeal.nD Cert.ForgetHIdeal.τ Cert.ForgetHIdeal.sig) → Buf (Elt Ideal) ℓ) (g : Dev Cert.ForgetHIdeal.nD → PrngReg)
    (m' : (ℓ : Loc Cert.ForgetHRefIdeal.nD Cert.ForgetHRefIdeal.τ Cert.ForgetHRefIdeal.sig) → Buf (Elt Ideal) ℓ) (g' : Dev Cert.ForgetHRefIdeal.nD → PrngReg), Pre_ForgetHIdeal m →
    (∀ c : Dev Cert.ForgetHIdeal.nD,
      m' ((c.tc : Thread Cert.ForgetHRefIdeal.nD Cert.ForgetHRefIdeal.τ).loc Cert.ForgetHRefIdeal.main_arg0) = m ((c.tc : Thread Cert.ForgetHIdeal.nD Cert.ForgetHIdeal.τ).loc Cert.ForgetHIdeal.main_arg0)
      ∧ m' ((c.tc : Thread Cert.ForgetHRefIdeal.nD Cert.ForgetHRefIdeal.τ).loc Cert.ForgetHRefIdeal.main_arg1) = m ((c.tc : Thread Cert.ForgetHIdeal.nD Cert.ForgetHIdeal.τ).loc Cert.ForgetHIdeal.main_arg1)) →
    ∃ (v0 : (c : Dev Cert.ForgetHIdeal.nD) → Buf (Elt Ideal) ((c.tc : Thread Cert.ForgetHIdeal.nD Cert.ForgetHIdeal.τ).loc Cert.ForgetHIdeal.main_v0)),
      θ_run (Cert.ForgetHIdeal.defs (F := Ideal)) (onTc (τ := Cert.ForgetHIdeal.τ) (Cert.ForgetHIdeal.main (F := Ideal))) ⟨m, fun _ => 0, g⟩ (fun r => ∀ c : Dev Cert.ForgetHIdeal.nD,
          r.2.mem ((c.tc : Thread Cert.ForgetHIdeal.nD Cert.ForgetHIdeal.τ).loc Cert.ForgetHIdeal.main_v0) = v0 c
          ∧ r.2.mem ((c.tc : Thread Cert.ForgetHIdeal.nD Cert.ForgetHIdeal.τ).loc Cert.ForgetHIdeal.main_arg0) = m ((c.tc : Thread Cert.ForgetHIdeal.nD Cert.ForgetHIdeal.τ).loc Cert.ForgetHIdeal.main_arg0)
          ∧ r.2.mem ((c.tc : Thread Cert.ForgetHIdeal.nD Cert.ForgetHIdeal.τ).loc Cert.ForgetHIdeal.main_arg1) = m ((c.tc : Thread Cert.ForgetHIdeal.nD Cert.ForgetHIdeal.τ).loc Cert.ForgetHIdeal.main_arg1))
      ∧ θ_run (Cert.ForgetHRefIdeal.defs (F := Ideal)) (onTc (τ := Cert.ForgetHRefIdeal.τ) (Cert.ForgetHRefIdeal.main (F := Ideal))) ⟨m', fun _ => 0, g'⟩ (fun r => ∀ c : Dev Cert.ForgetHRefIdeal.nD,
          r.2.mem ((c.tc : Thread Cert.ForgetHRefIdeal.nD Cert.ForgetHRefIdeal.τ).loc Cert.ForgetHRefIdeal.main_v3) = v0 c
          ∧ r.2.mem ((c.tc : Thread Cert.ForgetHRefIdeal.nD Cert.ForgetHRefIdeal.τ).loc Cert.ForgetHRefIdeal.main_arg0) = m' ((c.tc : Thread Cert.ForgetHRefIdeal.nD Cert.ForgetHRefIdeal.τ).loc Cert.ForgetHRefIdeal.main_arg0)
          ∧ r.2.mem ((c.tc : Thread Cert.ForgetHRefIdeal.nD Cert.ForgetHRefIdeal.τ).loc Cert.ForgetHRefIdeal.main_arg1) = m' ((c.tc : Thread Cert.ForgetHRefIdeal.nD Cert.ForgetHRefIdeal.τ).loc Cert.ForgetHRefIdeal.main_arg1))

def preserves_ForgetW_ForgetWIdeal : Prop :=
  True

def algebraic_ForgetWIdeal_ForgetWRefIdeal [hForgetWIdeal : Cert.ForgetWIdeal.Facts] [hForgetWRefIdeal : Cert.ForgetWRefIdeal.Facts] : Prop :=
  ∀ (m : (ℓ : Loc Cert.ForgetWIdeal.nD Cert.ForgetWIdeal.τ Cert.ForgetWIdeal.sig) → Buf (Elt Ideal) ℓ) (g : Dev Cert.ForgetWIdeal.nD → PrngReg)
    (m' : (ℓ : Loc Cert.ForgetWRefIdeal.nD Cert.ForgetWRefIdeal.τ Cert.ForgetWRefIdeal.sig) → Buf (Elt Ideal) ℓ) (g' : Dev Cert.ForgetWRefIdeal.nD → PrngReg), Pre_ForgetWIdeal m →
    (∀ c : Dev Cert.ForgetWIdeal.nD,
      m' ((c.tc : Thread Cert.ForgetWRefIdeal.nD Cert.ForgetWRefIdeal.τ).loc Cert.ForgetWRefIdeal.main_arg0) = m ((c.tc : Thread Cert.ForgetWIdeal.nD Cert.ForgetWIdeal.τ).loc Cert.ForgetWIdeal.main_arg0)
      ∧ m' ((c.tc : Thread Cert.ForgetWRefIdeal.nD Cert.ForgetWRefIdeal.τ).loc Cert.ForgetWRefIdeal.main_arg1) = m ((c.tc : Thread Cert.ForgetWIdeal.nD Cert.ForgetWIdeal.τ).loc Cert.ForgetWIdeal.main_arg1)) →
    ∃ (v0 : (c : Dev Cert.ForgetWIdeal.nD) → Buf (Elt Ideal) ((c.tc : Thread Cert.ForgetWIdeal.nD Cert.ForgetWIdeal.τ).loc Cert.ForgetWIdeal.main_v0)),
      θ_run (Cert.ForgetWIdeal.defs (F := Ideal)) (onTc (τ := Cert.ForgetWIdeal.τ) (Cert.ForgetWIdeal.main (F := Ideal))) ⟨m, fun _ => 0, g⟩ (fun r => ∀ c : Dev Cert.ForgetWIdeal.nD,
          r.2.mem ((c.tc : Thread Cert.ForgetWIdeal.nD Cert.ForgetWIdeal.τ).loc Cert.ForgetWIdeal.main_v0) = v0 c
          ∧ r.2.mem ((c.tc : Thread Cert.ForgetWIdeal.nD Cert.ForgetWIdeal.τ).loc Cert.ForgetWIdeal.main_arg0) = m ((c.tc : Thread Cert.ForgetWIdeal.nD Cert.ForgetWIdeal.τ).loc Cert.ForgetWIdeal.main_arg0)
          ∧ r.2.mem ((c.tc : Thread Cert.ForgetWIdeal.nD Cert.ForgetWIdeal.τ).loc Cert.ForgetWIdeal.main_arg1) = m ((c.tc : Thread Cert.ForgetWIdeal.nD Cert.ForgetWIdeal.τ).loc Cert.ForgetWIdeal.main_arg1))
      ∧ θ_run (Cert.ForgetWRefIdeal.defs (F := Ideal)) (onTc (τ := Cert.ForgetWRefIdeal.τ) (Cert.ForgetWRefIdeal.main (F := Ideal))) ⟨m', fun _ => 0, g'⟩ (fun r => ∀ c : Dev Cert.ForgetWRefIdeal.nD,
          r.2.mem ((c.tc : Thread Cert.ForgetWRefIdeal.nD Cert.ForgetWRefIdeal.τ).loc Cert.ForgetWRefIdeal.main_v5) = v0 c
          ∧ r.2.mem ((c.tc : Thread Cert.ForgetWRefIdeal.nD Cert.ForgetWRefIdeal.τ).loc Cert.ForgetWRefIdeal.main_arg0) = m' ((c.tc : Thread Cert.ForgetWRefIdeal.nD Cert.ForgetWRefIdeal.τ).loc Cert.ForgetWRefIdeal.main_arg0)
          ∧ r.2.mem ((c.tc : Thread Cert.ForgetWRefIdeal.nD Cert.ForgetWRefIdeal.τ).loc Cert.ForgetWRefIdeal.main_arg1) = m' ((c.tc : Thread Cert.ForgetWRefIdeal.nD Cert.ForgetWRefIdeal.τ).loc Cert.ForgetWRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v34) = v0 c
          ∧ r.2.mem ((c.tc : Thread Cert.NormBRefIdeal.nD Cert.NormBRefIdeal.τ).loc Cert.NormBRefIdeal.main_v17) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_NormBTwo_NormBTwoIdeal : Prop :=
  True

def algebraic_NormBTwoIdeal_NormBTwoRefIdeal [hNormBTwoIdeal : Cert.NormBTwoIdeal.Facts] [hNormBTwoRefIdeal : Cert.NormBTwoRefIdeal.Facts] : Prop :=
  ∀ (m : (ℓ : Loc Cert.NormBTwoIdeal.nD Cert.NormBTwoIdeal.τ Cert.NormBTwoIdeal.sig) → Buf (Elt Ideal) ℓ) (g : Dev Cert.NormBTwoIdeal.nD → PrngReg)
    (m' : (ℓ : Loc Cert.NormBTwoRefIdeal.nD Cert.NormBTwoRefIdeal.τ Cert.NormBTwoRefIdeal.sig) → Buf (Elt Ideal) ℓ) (g' : Dev Cert.NormBTwoRefIdeal.nD → PrngReg), Pre_NormBTwoIdeal m →
    (∀ c : Dev Cert.NormBTwoIdeal.nD,
      m' ((c.tc : Thread Cert.NormBTwoRefIdeal.nD Cert.NormBTwoRefIdeal.τ).loc Cert.NormBTwoRefIdeal.main_arg0) = m ((c.tc : Thread Cert.NormBTwoIdeal.nD Cert.NormBTwoIdeal.τ).loc Cert.NormBTwoIdeal.main_arg0)
      ∧ m' ((c.tc : Thread Cert.NormBTwoRefIdeal.nD Cert.NormBTwoRefIdeal.τ).loc Cert.NormBTwoRefIdeal.main_arg1) = m ((c.tc : Thread Cert.NormBTwoIdeal.nD Cert.NormBTwoIdeal.τ).loc Cert.NormBTwoIdeal.main_arg1)
      ∧ m' ((c.tc : Thread Cert.NormBTwoRefIdeal.nD Cert.NormBTwoRefIdeal.τ).loc Cert.NormBTwoRefIdeal.main_arg2) = m ((c.tc : Thread Cert.NormBTwoIdeal.nD Cert.NormBTwoIdeal.τ).loc Cert.NormBTwoIdeal.main_arg2)
      ∧ m' ((c.tc : Thread Cert.NormBTwoRefIdeal.nD Cert.NormBTwoRefIdeal.τ).loc Cert.NormBTwoRefIdeal.main_arg3) = m ((c.tc : Thread Cert.NormBTwoIdeal.nD Cert.NormBTwoIdeal.τ).loc Cert.NormBTwoIdeal.main_arg3)
      ∧ m' ((c.tc : Thread Cert.NormBTwoRefIdeal.nD Cert.NormBTwoRefIdeal.τ).loc Cert.NormBTwoRefIdeal.main_arg4) = m ((c.tc : Thread Cert.NormBTwoIdeal.nD Cert.NormBTwoIdeal.τ).loc Cert.NormBTwoIdeal.main_arg4)) →
    ∃ (v0 : (c : Dev Cert.NormBTwoIdeal.nD) → Buf (Elt Ideal) ((c.tc : Thread Cert.NormBTwoIdeal.nD Cert.NormBTwoIdeal.τ).loc Cert.NormBTwoIdeal.main_v0_0)) (v1 : (c : Dev Cert.NormBTwoIdeal.nD) → Buf (Elt Ideal) ((c.tc : Thread Cert.NormBTwoIdeal.nD Cert.NormBTwoIdeal.τ).loc Cert.NormBTwoIdeal.main_v0_1)),
      θ_run (Cert.NormBTwoIdeal.defs (F := Ideal)) (onTc (τ := Cert.NormBTwoIdeal.τ) (Cert.NormBTwoIdeal.main (F := Ideal))) ⟨m, fun _ => 0, g⟩ (fun r => ∀ c : Dev Cert.NormBTwoIdeal.nD,
          r.2.mem ((c.tc : Thread Cert.NormBTwoIdeal.nD Cert.NormBTwoIdeal.τ).loc Cert.NormBTwoIdeal.main_v0_0) = v0 c
          ∧ r.2.mem ((c.tc : Thread Cert.NormBTwoIdeal.nD Cert.NormBTwoIdeal.τ).loc Cert.NormBTwoIdeal.main_v0_1) = v1 c
          ∧ r.2.mem ((c.tc : Thread Cert.NormBTwoIdeal.nD Cert.NormBTwoIdeal.τ).loc Cert.NormBTwoIdeal.main_arg0) = m ((c.tc : Thread Cert.NormBTwoIdeal.nD Cert.NormBTwoIdeal.τ).loc Cert.NormBTwoIdeal.main_arg0)
          ∧ r.2.mem ((c.tc : Thread Cert.NormBTwoIdeal.nD Cert.NormBTwoIdeal.τ).loc Cert.NormBTwoIdeal.main_arg1) = m ((c.tc : Thread Cert.NormBTwoIdeal.nD Cert.NormBTwoIdeal.τ).loc Cert.NormBTwoIdeal.main_arg1)
          ∧ r.2.mem ((c.tc : Thread Cert.NormBTwoIdeal.nD Cert.NormBTwoIdeal.τ).loc Cert.NormBTwoIdeal.main_arg2) = m ((c.tc : Thread Cert.NormBTwoIdeal.nD Cert.NormBTwoIdeal.τ).loc Cert.NormBTwoIdeal.main_arg2)
          ∧ r.2.mem ((c.tc : Thread Cert.NormBTwoIdeal.nD Cert.NormBTwoIdeal.τ).loc Cert.NormBTwoIdeal.main_arg3) = m ((c.tc : Thread Cert.NormBTwoIdeal.nD Cert.NormBTwoIdeal.τ).loc Cert.NormBTwoIdeal.main_arg3)
          ∧ r.2.mem ((c.tc : Thread Cert.NormBTwoIdeal.nD Cert.NormBTwoIdeal.τ).loc Cert.NormBTwoIdeal.main_arg4) = m ((c.tc : Thread Cert.NormBTwoIdeal.nD Cert.NormBTwoIdeal.τ).loc Cert.NormBTwoIdeal.main_arg4))
      ∧ θ_run (Cert.NormBTwoRefIdeal.defs (F := Ideal)) (onTc (τ := Cert.NormBTwoRefIdeal.τ) (Cert.NormBTwoRefIdeal.main (F := Ideal))) ⟨m', fun _ => 0, g'⟩ (fun r => ∀ c : Dev Cert.NormBTwoRefIdeal.nD,
          r.2.mem ((c.tc : Thread Cert.NormBTwoRefIdeal.nD Cert.NormBTwoRefIdeal.τ).loc Cert.NormBTwoRefIdeal.main_v35) = v0 c
          ∧ r.2.mem ((c.tc : Thread Cert.NormBTwoRefIdeal.nD Cert.NormBTwoRefIdeal.τ).loc Cert.NormBTwoRefIdeal.main_v18) = v1 c
          ∧ r.2.mem ((c.tc : Thread Cert.NormBTwoRefIdeal.nD Cert.NormBTwoRefIdeal.τ).loc Cert.NormBTwoRefIdeal.main_arg0) = m' ((c.tc : Thread Cert.NormBTwoRefIdeal.nD Cert.NormBTwoRefIdeal.τ).loc Cert.NormBTwoRefIdeal.main_arg0)
          ∧ r.2.mem ((c.tc : Thread Cert.NormBTwoRefIdeal.nD Cert.NormBTwoRefIdeal.τ).loc Cert.NormBTwoRefIdeal.main_arg1) = m' ((c.tc : Thread Cert.NormBTwoRefIdeal.nD Cert.NormBTwoRefIdeal.τ).loc Cert.NormBTwoRefIdeal.main_arg1)
          ∧ r.2.mem ((c.tc : Thread Cert.NormBTwoRefIdeal.nD Cert.NormBTwoRefIdeal.τ).loc Cert.NormBTwoRefIdeal.main_arg2) = m' ((c.tc : Thread Cert.NormBTwoRefIdeal.nD Cert.NormBTwoRefIdeal.τ).loc Cert.NormBTwoRefIdeal.main_arg2)
          ∧ r.2.mem ((c.tc : Thread Cert.NormBTwoRefIdeal.nD Cert.NormBTwoRefIdeal.τ).loc Cert.NormBTwoRefIdeal.main_arg3) = m' ((c.tc : Thread Cert.NormBTwoRefIdeal.nD Cert.NormBTwoRefIdeal.τ).loc Cert.NormBTwoRefIdeal.main_arg3)
          ∧ r.2.mem ((c.tc : Thread Cert.NormBTwoRefIdeal.nD Cert.NormBTwoRefIdeal.τ).loc Cert.NormBTwoRefIdeal.main_arg4) = m' ((c.tc : Thread Cert.NormBTwoRefIdeal.nD Cert.NormBTwoRefIdeal.τ).loc Cert.NormBTwoRefIdeal.main_arg4))

def preserves_GateB_GateBIdeal : Prop :=
  True

def algebraic_GateBIdeal_GateBRefIdeal_pre_finite_gate [hGateBIdeal : Cert.GateBIdeal.Facts] [hGateBRefIdeal : Cert.GateBRefIdeal.Facts] [hPre_finite_gate : Cert.Pre_finite_gate.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal_finite_gate m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)
      ∧ m' ((c.tc : Thread Cert.GateBRefIdeal.nD Cert.GateBRefIdeal.τ).loc Cert.GateBRefIdeal.main_arg3) = m ((c.tc : Thread Cert.GateBIdeal.nD Cert.GateBIdeal.τ).loc Cert.GateBIdeal.main_arg3)) →
    ∃ (v0 : (c : Dev Cert.GateBIdeal.nD) → Buf (Elt Ideal) ((c.tc : Thread Cert.GateBIdeal.nD Cert.GateBIdeal.τ).loc Cert.GateBIdeal.main_v0_0)) (v1 : (c : Dev Cert.GateBIdeal.nD) → Buf (Elt Ideal) ((c.tc : Thread Cert.GateBIdeal.nD Cert.GateBIdeal.τ).loc Cert.GateBIdeal.main_v0_1)) (v2 : (c : Dev Cert.GateBIdeal.nD) → Buf (Elt Ideal) ((c.tc : Thread Cert.GateBIdeal.nD Cert.GateBIdeal.τ).loc Cert.GateBIdeal.main_v0_2)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0_0) = v0 c
          ∧ r.2.mem ((c.tc : Thread Cert.GateBIdeal.nD Cert.GateBIdeal.τ).loc Cert.GateBIdeal.main_v0_1) = v1 c
          ∧ r.2.mem ((c.tc : Thread Cert.GateBIdeal.nD Cert.GateBIdeal.τ).loc Cert.GateBIdeal.main_v0_2) = v2 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v6) = v0 c
          ∧ r.2.mem ((c.tc : Thread Cert.GateBRefIdeal.nD Cert.GateBRefIdeal.τ).loc Cert.GateBRefIdeal.main_v12) = v1 c
          ∧ r.2.mem ((c.tc : Thread Cert.GateBRefIdeal.nD Cert.GateBRefIdeal.τ).loc Cert.GateBRefIdeal.main_v14) = v2 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2)
          ∧ r.2.mem ((c.tc : Thread Cert.GateBRefIdeal.nD Cert.GateBRefIdeal.τ).loc Cert.GateBRefIdeal.main_arg3) = m' ((c.tc : Thread Cert.GateBRefIdeal.nD Cert.GateBRefIdeal.τ).loc Cert.GateBRefIdeal.main_arg3))

def Claim : Prop :=
  ∃ (hKernel : Cert.Kernel.Facts) (hKernelIdeal : Cert.KernelIdeal.Facts) (hReferenceIdeal : Cert.ReferenceIdeal.Facts) (hOutU : Cert.OutU.Facts) (hOutUIdeal : Cert.OutUIdeal.Facts) (hOutURefIdeal : Cert.OutURefIdeal.Facts) (hOutW : Cert.OutW.Facts) (hOutWIdeal : Cert.OutWIdeal.Facts) (hOutWRefIdeal : Cert.OutWRefIdeal.Facts) (hAInH : Cert.AInH.Facts) (hAInHIdeal : Cert.AInHIdeal.Facts) (hAInHRefIdeal : Cert.AInHRefIdeal.Facts) (hAInW : Cert.AInW.Facts) (hAInWIdeal : Cert.AInWIdeal.Facts) (hAInWRefIdeal : Cert.AInWRefIdeal.Facts) (hBInH : Cert.BInH.Facts) (hBInHIdeal : Cert.BInHIdeal.Facts) (hBInHRefIdeal : Cert.BInHRefIdeal.Facts) (hBInW : Cert.BInW.Facts) (hBInWIdeal : Cert.BInWIdeal.Facts) (hBInWRefIdeal : Cert.BInWRefIdeal.Facts) (hCInH : Cert.CInH.Facts) (hCInHIdeal : Cert.CInHIdeal.Facts) (hCInHRefIdeal : Cert.CInHRefIdeal.Facts) (hCInW : Cert.CInW.Facts) (hCInWIdeal : Cert.CInWIdeal.Facts) (hCInWRefIdeal : Cert.CInWRefIdeal.Facts) (hAIn : Cert.AIn.Facts) (hAInIdeal : Cert.AInIdeal.Facts) (hAInRefIdeal : Cert.AInRefIdeal.Facts) (hBIn : Cert.BIn.Facts) (hBInIdeal : Cert.BInIdeal.Facts) (hBInRefIdeal : Cert.BInRefIdeal.Facts) (hCIn : Cert.CIn.Facts) (hCInIdeal : Cert.CInIdeal.Facts) (hCInRefIdeal : Cert.CInRefIdeal.Facts) (hOut : Cert.Out.Facts) (hOutIdeal : Cert.OutIdeal.Facts) (hOutRefIdeal : Cert.OutRefIdeal.Facts) (hForget : Cert.Forget.Facts) (hForgetIdeal : Cert.ForgetIdeal.Facts) (hForgetRefIdeal : Cert.ForgetRefIdeal.Facts) (hForgetH : Cert.ForgetH.Facts) (hForgetHIdeal : Cert.ForgetHIdeal.Facts) (hForgetHRefIdeal : Cert.ForgetHRefIdeal.Facts) (hForgetW : Cert.ForgetW.Facts) (hForgetWIdeal : Cert.ForgetWIdeal.Facts) (hForgetWRefIdeal : Cert.ForgetWRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hNormBTwo : Cert.NormBTwo.Facts) (hNormBTwoIdeal : Cert.NormBTwoIdeal.Facts) (hNormBTwoRefIdeal : Cert.NormBTwoRefIdeal.Facts) (hGateB : Cert.GateB.Facts) (hGateBIdeal : Cert.GateBIdeal.Facts) (hGateBRefIdeal : Cert.GateBRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutU (hOutU := hOutU)
    ∧ quiescent_OutUIdeal (hOutUIdeal := hOutUIdeal)
    ∧ quiescent_OutURefIdeal (hOutURefIdeal := hOutURefIdeal)
    ∧ quiescent_OutW (hOutW := hOutW)
    ∧ quiescent_OutWIdeal (hOutWIdeal := hOutWIdeal)
    ∧ quiescent_OutWRefIdeal (hOutWRefIdeal := hOutWRefIdeal)
    ∧ quiescent_AInH (hAInH := hAInH)
    ∧ quiescent_AInHIdeal (hAInHIdeal := hAInHIdeal)
    ∧ quiescent_AInHRefIdeal (hAInHRefIdeal := hAInHRefIdeal)
    ∧ quiescent_AInW (hAInW := hAInW)
    ∧ quiescent_AInWIdeal (hAInWIdeal := hAInWIdeal)
    ∧ quiescent_AInWRefIdeal (hAInWRefIdeal := hAInWRefIdeal)
    ∧ quiescent_BInH (hBInH := hBInH)
    ∧ quiescent_BInHIdeal (hBInHIdeal := hBInHIdeal)
    ∧ quiescent_BInHRefIdeal (hBInHRefIdeal := hBInHRefIdeal)
    ∧ quiescent_BInW (hBInW := hBInW)
    ∧ quiescent_BInWIdeal (hBInWIdeal := hBInWIdeal)
    ∧ quiescent_BInWRefIdeal (hBInWRefIdeal := hBInWRefIdeal)
    ∧ quiescent_CInH (hCInH := hCInH)
    ∧ quiescent_CInHIdeal (hCInHIdeal := hCInHIdeal)
    ∧ quiescent_CInHRefIdeal (hCInHRefIdeal := hCInHRefIdeal)
    ∧ quiescent_CInW (hCInW := hCInW)
    ∧ quiescent_CInWIdeal (hCInWIdeal := hCInWIdeal)
    ∧ quiescent_CInWRefIdeal (hCInWRefIdeal := hCInWRefIdeal)
    ∧ quiescent_AIn (hAIn := hAIn)
    ∧ quiescent_AInIdeal (hAInIdeal := hAInIdeal)
    ∧ quiescent_AInRefIdeal (hAInRefIdeal := hAInRefIdeal)
    ∧ quiescent_BIn (hBIn := hBIn)
    ∧ quiescent_BInIdeal (hBInIdeal := hBInIdeal)
    ∧ quiescent_BInRefIdeal (hBInRefIdeal := hBInRefIdeal)
    ∧ quiescent_CIn (hCIn := hCIn)
    ∧ quiescent_CInIdeal (hCInIdeal := hCInIdeal)
    ∧ quiescent_CInRefIdeal (hCInRefIdeal := hCInRefIdeal)
    ∧ quiescent_Out (hOut := hOut)
    ∧ quiescent_OutIdeal (hOutIdeal := hOutIdeal)
    ∧ quiescent_OutRefIdeal (hOutRefIdeal := hOutRefIdeal)
    ∧ quiescent_Forget (hForget := hForget)
    ∧ quiescent_ForgetIdeal (hForgetIdeal := hForgetIdeal)
    ∧ quiescent_ForgetRefIdeal (hForgetRefIdeal := hForgetRefIdeal)
    ∧ quiescent_ForgetH (hForgetH := hForgetH)
    ∧ quiescent_ForgetHIdeal (hForgetHIdeal := hForgetHIdeal)
    ∧ quiescent_ForgetHRefIdeal (hForgetHRefIdeal := hForgetHRefIdeal)
    ∧ quiescent_ForgetW (hForgetW := hForgetW)
    ∧ quiescent_ForgetWIdeal (hForgetWIdeal := hForgetWIdeal)
    ∧ quiescent_ForgetWRefIdeal (hForgetWRefIdeal := hForgetWRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_NormBTwo (hNormBTwo := hNormBTwo)
    ∧ quiescent_NormBTwoIdeal (hNormBTwoIdeal := hNormBTwoIdeal)
    ∧ quiescent_NormBTwoRefIdeal (hNormBTwoRefIdeal := hNormBTwoRefIdeal)
    ∧ quiescent_GateB (hGateB := hGateB)
    ∧ quiescent_GateBIdeal (hGateBIdeal := hGateBIdeal)
    ∧ quiescent_GateBIdeal_pre_finite_gate (hGateBIdeal := hGateBIdeal) (hPre_finite_gate := hPre_finite_gate)
    ∧ quiescent_GateBRefIdeal (hGateBRefIdeal := hGateBRefIdeal)
    ∧ quiescent_GateBRefIdeal_pre_finite_gate (hGateBRefIdeal := hGateBRefIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_OutU_OutUIdeal
    ∧ algebraic_OutUIdeal_OutURefIdeal (hOutUIdeal := hOutUIdeal) (hOutURefIdeal := hOutURefIdeal)
    ∧ preserves_OutW_OutWIdeal
    ∧ algebraic_OutWIdeal_OutWRefIdeal (hOutWIdeal := hOutWIdeal) (hOutWRefIdeal := hOutWRefIdeal)
    ∧ preserves_AInH_AInHIdeal
    ∧ algebraic_AInHIdeal_AInHRefIdeal (hAInHIdeal := hAInHIdeal) (hAInHRefIdeal := hAInHRefIdeal)
    ∧ preserves_AInW_AInWIdeal
    ∧ algebraic_AInWIdeal_AInWRefIdeal (hAInWIdeal := hAInWIdeal) (hAInWRefIdeal := hAInWRefIdeal)
    ∧ preserves_BInH_BInHIdeal
    ∧ algebraic_BInHIdeal_BInHRefIdeal (hBInHIdeal := hBInHIdeal) (hBInHRefIdeal := hBInHRefIdeal)
    ∧ preserves_BInW_BInWIdeal
    ∧ algebraic_BInWIdeal_BInWRefIdeal (hBInWIdeal := hBInWIdeal) (hBInWRefIdeal := hBInWRefIdeal)
    ∧ preserves_CInH_CInHIdeal
    ∧ algebraic_CInHIdeal_CInHRefIdeal (hCInHIdeal := hCInHIdeal) (hCInHRefIdeal := hCInHRefIdeal)
    ∧ preserves_CInW_CInWIdeal
    ∧ algebraic_CInWIdeal_CInWRefIdeal (hCInWIdeal := hCInWIdeal) (hCInWRefIdeal := hCInWRefIdeal)
    ∧ preserves_AIn_AInIdeal
    ∧ algebraic_AInIdeal_AInRefIdeal (hAInIdeal := hAInIdeal) (hAInRefIdeal := hAInRefIdeal)
    ∧ preserves_BIn_BInIdeal
    ∧ algebraic_BInIdeal_BInRefIdeal (hBInIdeal := hBInIdeal) (hBInRefIdeal := hBInRefIdeal)
    ∧ preserves_CIn_CInIdeal
    ∧ algebraic_CInIdeal_CInRefIdeal (hCInIdeal := hCInIdeal) (hCInRefIdeal := hCInRefIdeal)
    ∧ preserves_Out_OutIdeal
    ∧ algebraic_OutIdeal_OutRefIdeal (hOutIdeal := hOutIdeal) (hOutRefIdeal := hOutRefIdeal)
    ∧ preserves_Forget_ForgetIdeal
    ∧ algebraic_ForgetIdeal_ForgetRefIdeal (hForgetIdeal := hForgetIdeal) (hForgetRefIdeal := hForgetRefIdeal)
    ∧ preserves_ForgetH_ForgetHIdeal
    ∧ algebraic_ForgetHIdeal_ForgetHRefIdeal (hForgetHIdeal := hForgetHIdeal) (hForgetHRefIdeal := hForgetHRefIdeal)
    ∧ preserves_ForgetW_ForgetWIdeal
    ∧ algebraic_ForgetWIdeal_ForgetWRefIdeal (hForgetWIdeal := hForgetWIdeal) (hForgetWRefIdeal := hForgetWRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_NormBTwo_NormBTwoIdeal
    ∧ algebraic_NormBTwoIdeal_NormBTwoRefIdeal (hNormBTwoIdeal := hNormBTwoIdeal) (hNormBTwoRefIdeal := hNormBTwoRefIdeal)
    ∧ preserves_GateB_GateBIdeal
    ∧ algebraic_GateBIdeal_GateBRefIdeal_pre_finite_gate (hGateBIdeal := hGateBIdeal) (hGateBRefIdeal := hGateBRefIdeal) (hPre_finite_gate := hPre_finite_gate)
-- ==== Pre_finite.lean ====
abbrev S8192x2048 : Shape := ⟨2, ![8192, 2048]⟩
abbrev S16x8192 : Shape := ⟨2, ![16, 8192]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S16x8192 : S_.BroadcastsInDim S16x8192 (![] : Fin 0 → Fin S16x8192.rank)

variable [Facts]

def fn {F : FTy → Type} [FloatOps F] (main_arg0 : FVec F S8192x2048 .bf16) (main_arg1 : FVec F S8192x2048 .bf16) (main_arg2 : FVec F S8192x2048 .bf16) (main_arg3 : FVec F S8192x2048 .bf16) (main_arg4 : FVec F S16x8192 .f32) : IVec S8192x2048 1 × IVec S8192x2048 1 × IVec S8192x2048 1 × IVec S8192x2048 1 × IVec S16x8192 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : FVec F S8192x2048 .f32 := (extf .f32 · bitsLt_bf16_f32) main_arg3
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  let main_v16 : FVec F S16x8192 .f32 := Host.absf main_arg4
  let main_cst_3 : FVec F S_ .f32 := constant S_ .f32 0x7F800000#32
  let main_v17 : FVec F S16x8192 .f32 := broadcastInDim S16x8192 ![] bcast_S_S16x8192 main_cst_3
  let main_v18 : IVec S16x8192 1 := cmpf .olt main_v16 main_v17
  (main_v3, main_v7, main_v11, main_v15, main_v18)
-- ==== Pre_finite_gate.lean ====
abbrev S8192x2048 : Shape := ⟨2, ![8192, 2048]⟩
abbrev S8192x8192 : Shape := ⟨2, ![8192, 8192]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x2048 .f32) (main_arg3 : FVec F S8192x8192 .f32) : IVec S8192x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  (main_v2, main_v5)
-- ==== Kernel.lean ====
abbrev S8192x2048 : Shape := ⟨2, ![8192, 2048]⟩
abbrev S16x8192 : Shape := ⟨2, ![16, 8192]⟩
abbrev S136 : Shape := ⟨1, ![136]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S16x128x8192 : Shape := ⟨3, ![16, 128, 8192]⟩
abbrev S8192x16 : Shape := ⟨2, ![8192, 16]⟩
abbrev S8192x16x1 : Shape := ⟨3, ![8192, 16, 1]⟩
abbrev S512x512 : Shape := ⟨2, ![512, 512]⟩
abbrev S1 : Shape := ⟨1, ![1]⟩
abbrev S4x1x512 : Shape := ⟨3, ![4, 1, 512]⟩
abbrev S8192x512 : Shape := ⟨2, ![8192, 512]⟩
abbrev S512x128 : Shape := ⟨2, ![512, 128]⟩
abbrev S1x1x512 : Shape := ⟨3, ![1, 1, 512]⟩
abbrev S1x512 : Shape := ⟨2, ![1, 512]⟩
abbrev S8x512 : Shape := ⟨2, ![8, 512]⟩
abbrev S128x512 : Shape := ⟨2, ![128, 512]⟩
abbrev S128x128 : Shape := ⟨2, ![128, 128]⟩
abbrev S16x8x512 : Shape := ⟨3, ![16, 8, 512]⟩
abbrev S512 : Shape := ⟨1, ![512]⟩

abbrev nBuf : Space → Nat
  | .hbm => 64
  | .vmem => 29
  | .smem => 2
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S16x8192, .f32⟩
  | .hbm, ⟨5, _⟩ => ⟨S8192x2048, .f32⟩
  | .hbm, ⟨6, _⟩ => ⟨S8192x16x128, .f32⟩
  | .hbm, ⟨7, _⟩ => ⟨S8192x2048, .f32⟩
  | .hbm, ⟨8, _⟩ => ⟨S8192x16x128, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x8192, .i32⟩
  | .hbm, ⟨14, _⟩ => ⟨S16x8192x8192, .i32⟩
  | .hbm, ⟨15, _⟩ => ⟨S16x8192x8192, .i1⟩
  | .hbm, ⟨16, _⟩ => ⟨S16x8192x1, .f32⟩
  | .hbm, ⟨17, _⟩ => ⟨S16x8192x8192, .f32⟩
  | .hbm, ⟨18, _⟩ => ⟨S16x8192x8192, .f32⟩
  | .hbm, ⟨19, _⟩ => ⟨S16x1x8192, .f32⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S8192x2048, .f32⟩
  | .hbm, ⟨37, _⟩ => ⟨S8192x16x128, .f32⟩
  | .hbm, ⟨38, _⟩ => ⟨S16x128x8192, .f32⟩
  | .hbm, ⟨39, _⟩ => ⟨S8192x16x128, .f32⟩
  | .hbm, ⟨40, _⟩ => ⟨S16x8192, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S_, .f32⟩
  | .hbm, ⟨45, _⟩ => ⟨S16x8192, .f32⟩
  | .hbm, ⟨46, _⟩ => ⟨S16x8192, .f32⟩
  | .hbm, ⟨47, _⟩ => ⟨S8192x2048, .f32⟩
  | .hbm, ⟨48, _⟩ => ⟨S8192x16x128, .f32⟩
  | .hbm, ⟨49, _⟩ => ⟨S8192x16x128, .f32⟩
  | .hbm, ⟨50, _⟩ => ⟨S_, .f32⟩
  | .hbm, ⟨51, _⟩ => ⟨S8192x16, .f32⟩
  | .hbm, ⟨52, _⟩ => ⟨S8192x16, .f32⟩
  | .hbm, ⟨53, _⟩ => ⟨S8192x16x1, .f32⟩
  | .hbm, ⟨54, _⟩ => ⟨S8192x16x128, .f32⟩
  | .hbm, ⟨55, _⟩ => ⟨S8192x2048, .f32⟩
  | .hbm, ⟨56, _⟩ => ⟨S8192x16x1, .f32⟩
  | .hbm, ⟨57, _⟩ => ⟨S8192x16x128, .f32⟩
  | .hbm, ⟨58, _⟩ => ⟨S8192x2048, .f32⟩
  | .hbm, ⟨59, _⟩ => ⟨S16x1x8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S16x1x8192, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x1x512, .f32⟩
  | .local _ .vmem, ⟨13, _⟩ => ⟨S4x1x512, .f32⟩
  | .local _ .vmem, ⟨14, _⟩ => ⟨S8192x512, .f32⟩
  | .local _ .vmem, ⟨15, _⟩ => ⟨S8192x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S4x1x512, .f32⟩
  | .local _ .vmem, ⟨21, _⟩ => ⟨S4x1x512, .f32⟩
  | .local _ .vmem, ⟨22, _⟩ => ⟨S512x512, .f32⟩
  | .local _ .vmem, ⟨23, _⟩ => ⟨S512x512, .f32⟩
  | .local _ .vmem, ⟨24, _⟩ => ⟨S4x1x512, .f32⟩
  | .local _ .vmem, ⟨25, _⟩ => ⟨S512x512, .f32⟩
  | .local _ .vmem, ⟨26, _⟩ => ⟨S512x512, .f32⟩
  | .local _ .vmem, ⟨27, _⟩ => ⟨S512x512, .bf16⟩
  | .local _ .vmem, ⟨28, _⟩ => ⟨S512x512, .bf16⟩
  | .local _ .smem, ⟨0, _⟩ => ⟨S136, .i32⟩
  | .local _ .smem, ⟨1, _⟩ => ⟨S136, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev main_v49_3 : Ref sig .tc := ⟨.hbm, 63, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v19 : BitVec 32 := Scalar.muli v1 c512_i32
  v19
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c512_i32 : BitVec 32 := 512#32
  let v19 : BitVec 32 := Scalar.muli v1 c512_i32
  let v20 : BitVec 32 := v19
  let v178 : Index := Scalar.indexCast v20
  let c0_104 : Index := 0#32
  ![v178.toNat, 0]
def k0_off3 (v1 : BitVec 32) : Fin 2 → Nat :=
  let c512_i32 : BitVec 32 := 512#32
  let v19 : BitVec 32 := Scalar.muli v1 c512_i32
  let v20 : BitVec 32 := v19
  let v344 : Index := Scalar.indexCast v20
  let c128_214 : Index := 128#32
  ![v344.toNat, 128]
def k0_off4 (v1 : BitVec 32) : Fin 2 → Nat :=
  let c512_i32 : BitVec 32 := 512#32
  let v19 : BitVec 32 := Scalar.muli v1 c512_i32
  let v20 : BitVec 32 := v19
  let v510 : Index := Scalar.indexCast v20
  let c256_324 : Index := 256#32
  ![v510.toNat, 256]
def k0_off5 (v1 : BitVec 32) : Fin 2 → Nat :=
  let c512_i32 : BitVec 32 := 512#32
  let v19 : BitVec 32 := Scalar.muli v1 c512_i32
  let v20 : BitVec 32 := v19
  let v676 : Index := Scalar.indexCast v20
  let c384_434 : Index := 384#32
  ![v676.toNat, 384]
def k0_mult2 (v1 : BitVec 32) : BitVec 32 :=
  let c512_i32 : BitVec 32 := 512#32
  let v19 : BitVec 32 := Scalar.muli v1 c512_i32
  v19
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off6 (v1 : BitVec 32) : Fin 2 → Nat :=
  let c512_i32 : BitVec 32 := 512#32
  let v19 : BitVec 32 := Scalar.muli v1 c512_i32
  let v20 : BitVec 32 := v19
  let v206 : Index := Scalar.indexCast v20
  let c0_109 : Index := 0#32
  ![v206.toNat, 0]
def k0_off7 (v1 : BitVec 32) : Fin 2 → Nat :=
  let c512_i32 : BitVec 32 := 512#32
  let v19 : BitVec 32 := Scalar.muli v1 c512_i32
  let v20 : BitVec 32 := v19
  let v400 : Index := Scalar.indexCast v20
  let c128_227 : Index := 128#32
  ![v400.toNat, 128]
def k0_off8 (v1 : BitVec 32) : Fin 2 → Nat :=
  let c512_i32 : BitVec 32 := 512#32
  let v19 : BitVec 32 := Scalar.muli v1 c512_i32
  let v20 : BitVec 32 := v19
  let v594 : Index := Scalar.indexCast v20
  let c256_345 : Index := 256#32
  ![v594.toNat, 256]
def k0_off9 (v1 : BitVec 32) : Fin 2 → Nat :=
  let c512_i32 : BitVec 32 := 512#32
  let v19 : BitVec 32 := Scalar.muli v1 c512_i32
  let v20 : BitVec 32 := v19
  let v788 : Index := Scalar.indexCast v20
  let c384_463 : Index := 384#32
  ![v788.toNat, 384]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S512x128.size a ≤ S8192x512.size a) ∧
  (∀ (k0_h3 : k0_cond3 v1 v3 = 1#1), ∀ a, (k0_off3 v1) a + S512x128.size a ≤ S8192x512.size a) ∧
  (∀ (k0_h3 : k0_cond3 v1 v3 = 1#1), ∀ a, (k0_off4 v1) a + S512x128.size a ≤ S8192x512.size a) ∧
  (∀ (k0_h3 : k0_cond3 v1 v3 = 1#1), ∀ a, (k0_off5 v1) a + S512x128.size a ≤ S8192x512.size a) ∧
  (∀ (k0_h4 : k0_cond4 v1 v3 = 1#1), 512 ∣ (k0_mult2 v1).toNat) ∧
  (∀ (k0_h4 : k0_cond4 v1 v3 = 1#1), ∀ a, (k0_off6 v1) a + S512x128.size a ≤ S8192x512.size a) ∧
  (∀ (k0_h4 : k0_cond4 v1 v3 = 1#1), ∀ a, (k0_off7 v1) a + S512x128.size a ≤ S8192x512.size a) ∧
  (∀ (k0_h4 : k0_cond4 v1 v3 = 1#1), ∀ a, (k0_off8 v1) a + S512x128.size a ≤ S8192x512.size a) ∧
  (∀ (k0_h4 : k0_cond4 v1 v3 = 1#1), ∀ a, (k0_off9 v1) a + S512x128.size a ≤ S8192x512.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S512x128.size a ≤ S8192x512.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S512x128.size a ≤ S8192x512.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S8192x512.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x128.size a ≤ S8192x512.size a := fun v1 v3 k0_hw1 k0_h3 => k0_hw1.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S512x128.size a ≤ S8192x512.size a := fun v1 v3 k0_hw1 k0_h4 => k0_hw1.2.2.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S512x128.size a ≤ S8192x512.size a := fun v1 v3 k0_hw1 k0_h4 => k0_hw1.2.2.2.2.2.2.2.1 k0_h4
theorem k0_off8_inb : ∀ (v1 : BitVec 32) (v3 : BitVec 32) (k0_hw1 : k0_chk1 v1 v3), ∀ (k0_h4 : k0_cond4 v1 v3 = 1#1), ∀ a, (k0_off8 v1) a + S512x128.size a ≤ S8192x512.size a := fun v1 v3 k0_hw1 k0_h4 => k0_hw1.2.2.2.2.2.2.2.2.1 k0_h4
theorem k0_off9_inb : ∀ (v1 : BitVec 32) (v3 : BitVec 32) (k0_hw1 : k0_chk1 v1 v3), ∀ (k0_h4 : k0_cond4 v1 v3 = 1#1), ∀ a, (k0_off9 v1) a + S512x128.size a ≤ S8192x512.size a := fun v1 v3 k0_hw1 k0_h4 => k0_hw1.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c15_i32 : BitVec 32 := 15#32
  let v16 : BitVec 1 := Scalar.cmpi .eq v1 c15_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S136) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S16x128x8192 : Shape := ⟨3, ![16, 128, 8192]⟩
abbrev S16x8192x128 : Shape := ⟨3, ![16, 8192, 128]⟩

abbrev nBuf : Space → Nat
  | .hbm => 123
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S16x8192, .f32⟩
  | .hbm, ⟨5, _⟩ => ⟨S8192x16x128, .bf16⟩
  | .hbm, ⟨6, _⟩ => ⟨S8192x16x128, .bf16⟩
  | .hbm, ⟨7, _⟩ => ⟨S8192x16x128, .bf16⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192x1, .f32⟩
  | .hbm, ⟨13, _⟩ => ⟨S16x8192x8192, .f32⟩
  | .hbm, ⟨14, _⟩ => ⟨S16x8192x8192, .f32⟩
  | .hbm, ⟨15, _⟩ => ⟨S16x1x8192, .f32⟩
  | .hbm, ⟨16, _⟩ => ⟨S16x8192x8192, .f32⟩
  | .hbm, ⟨17, _⟩ => ⟨S16x8192x8192, .f32⟩
  | .hbm, ⟨18, _⟩ => ⟨S16x8192x8192, .i32⟩
  | .hbm, ⟨19, _⟩ => ⟨S16x8192x8192, .i32⟩
  | .hbm, ⟨20, _⟩ => ⟨S16x8192x8192, .i1⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S_, .f32⟩
  | .hbm, ⟨27, _⟩ => ⟨S16x8192, .f32⟩
  | .hbm, ⟨28, _⟩ => ⟨S16x8192x1, .f32⟩
  | .hbm, ⟨29, _⟩ => ⟨S16x8192x8192, .f32⟩
  | .hbm, ⟨30, _⟩ => ⟨S16x8192x8192, .i1⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S_, .f32⟩
  | .hbm, ⟨35, _⟩ => ⟨S16x8192, .f32⟩
  | .hbm, ⟨36, _⟩ => ⟨S16x8192, .f32⟩
  | .hbm, ⟨37, _⟩ => ⟨S_, .f32⟩
  | .hbm, ⟨38, _⟩ => ⟨S16x8192, .f32⟩
  | .hbm, ⟨39, _⟩ => ⟨S16x8192, .i1⟩
  | .hbm, ⟨40, _⟩ => ⟨S_, .f32⟩
  | .hbm, ⟨41, _⟩ => ⟨S16x8192, .f32⟩
  | .hbm, ⟨42, _⟩ => ⟨S16x8192, .i1⟩
  | .hbm, ⟨43, _⟩ => ⟨S_, .f32⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S16x8192, .f32⟩
  | .hbm, ⟨50, _⟩ => ⟨S16x8192, .f32⟩
  | .hbm, ⟨51, _⟩ => ⟨S16x8192x1, .f32⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S_, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x1, .f32⟩
  | .hbm, ⟨61, _⟩ => ⟨S_, .f32⟩
  | .hbm, ⟨62, _⟩ => ⟨S16x8192x1, .f32⟩
  | .hbm, ⟨63, _⟩ => ⟨S16x8192x1, .f32⟩
  | .hbm, ⟨64, _⟩ => ⟨S16x8192x8192, .bf16⟩
  | .hbm, ⟨65, _⟩ => ⟨S16x128x8192, .f32⟩
  | .hbm, ⟨66, _⟩ => ⟨S8192x16x128, .f32⟩
  | .hbm, ⟨67, _⟩ => ⟨S8192x16x128, .bf16⟩
  | .hbm, ⟨68, _⟩ => ⟨S8192x2048, .bf16⟩
  | .hbm, ⟨69, _⟩ => ⟨S8192x16x128, .bf16⟩
  | .hbm, ⟨70, _⟩ => ⟨S8192x16x128, .f32⟩
  | .hbm, ⟨71, _⟩ => ⟨S16x128x8192, .f32⟩
  | .hbm, ⟨72, _⟩ => ⟨S16x8192x8192, .f32⟩
  | .hbm, ⟨73, _⟩ => ⟨S16x8192x8192, .bf16⟩
  | .hbm, ⟨74, _⟩ => ⟨S16x128x8192, .f32⟩
  | .hbm, ⟨75, _⟩ => ⟨S8192x16x128, .f32⟩
  | .hbm, ⟨76, _⟩ => ⟨S8192x16x128, .bf16⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x1x8192, .f32⟩
  | .hbm, ⟨99, _⟩ => ⟨S_, .f32⟩
  | .hbm, ⟨100, _⟩ => ⟨S16x8192, .f32⟩
  | .hbm, ⟨101, _⟩ => ⟨S_, .f32⟩
  | .hbm, ⟨102, _⟩ => ⟨S16x8192, .f32⟩
  | .hbm, ⟨103, _⟩ => ⟨S16x8192x1, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S_, .f32⟩
  | .hbm, ⟨108, _⟩ => ⟨S16x8192x8192, .f32⟩
  | .hbm, ⟨109, _⟩ => ⟨S16x8192x8192, .f32⟩
  | .hbm, ⟨110, _⟩ => ⟨S16x8192x128, .f32⟩
  | .hbm, ⟨111, _⟩ => ⟨S8192x16x128, .f32⟩
  | .hbm, ⟨112, _⟩ => ⟨S8192x16x128, .bf16⟩
  | .hbm, ⟨113, _⟩ => ⟨S16x8192x128, .f32⟩
  | .hbm, ⟨114, _⟩ => ⟨S8192x16x128, .f32⟩
  | .hbm, ⟨115, _⟩ => ⟨S8192x16x128, .bf16⟩
  | .hbm, ⟨116, _⟩ => ⟨S8192x2048, .bf16⟩
  | .hbm, ⟨117, _⟩ => ⟨S8192x2048, .bf16⟩
  | .hbm, ⟨118, _⟩ => ⟨S8192x2048, .bf16⟩
  | .hbm, ⟨119, _⟩ => ⟨S8192x2048, .f32⟩
  | .hbm, ⟨120, _⟩ => ⟨S8192x2048, .f32⟩
  | .hbm, ⟨121, _⟩ => ⟨S8192x2048, .f32⟩
  | .hbm, ⟨122, _⟩ => ⟨S16x1x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩

abbrev nD : Nat := 1
abbrev τ : Topo := Topo.v7x

variable {F : FTy → Type} [FloatOps F]
-- ==== OutU.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutURefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AInH.lean ====
abbrev S3x8192x2048 : Shape := ⟨3, ![3, 8192, 2048]⟩
abbrev S4x1024x1536 : Shape := ⟨3, ![4, 1024, 1536]⟩
abbrev S8192x1024 : Shape := ⟨2, ![8192, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 3
  | .vmem => 18
  | .smem => 0
  | _ => 0

abbrev bufTy : (tb : Table) → Fin (tcTables nBuf tb) → BufTy
  | .hbm, ⟨0, _⟩ => ⟨S3x8192x2048, .bf16⟩
  | .hbm, ⟨1, _⟩ => ⟨S4x1024x1536, .bf16⟩
  | .hbm, ⟨2, _⟩ => ⟨S8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1024x1024, .f32⟩
  | .local _ .vmem, ⟨17, _⟩ => ⟨S1024x1024, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 1, 3], ![false, false, false]⟩

def k0_cond1 (i : grid0.Coords) : BitVec 1 :=
  let arg2 : BitVec 32 := BitVec.ofNat 32 (i 2).val
  let c0_i32 : BitVec 32 := 0#32
  let v23 : BitVec 1 := Scalar.cmpi .eq arg2 c0_i32
  let v24 : BitVec 32 := Scalar.extui v23
  let c0_i32_26 : BitVec 32 := 0#32
  let v25 : BitVec 1 := Scalar.cmpi .ne v24 c0_i32_26
  v25

def k0_cond2 (i : grid0.Coords) : BitVec 1 :=
  let arg2 : BitVec 32 := BitVec.ofNat 32 (i 2).val
  let c0_i32_27 : BitVec 32 := 0#32
  let v26 : BitVec 1 := Scalar.cmpi .sgt arg2 c0_i32_27
  let v27 : BitVec 32 := Scalar.extui v26
  let c0_i32_28 : BitVec 32 := 0#32
  let v28 : BitVec 1 := Scalar.cmpi .ne v27 c0_i32_28
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c4_i32_0 : BitVec 32 := 4#32
  let v2 : BitVec 32 := Scalar.divsi v1 c4_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c4_i32_0 c0_i32_3
  let v9 : BitVec 32 := Scalar.extui v8
  let c0_i32_4 : BitVec 32 := 0#32
  let v10 : BitVec 1 := Scalar.cmpi .slt c4_i32_0 c0_i32_4
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c4_i32_6 : BitVec 32 := 4#32
  let v19 : BitVec 32 := Scalar.muli arg2 c4_i32_6
  let c0_i32_7 : BitVec 32 := 0#32
  let v20 : BitVec 32 := Scalar.addi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let v19 : BitVec 32 := Scalar.muli arg2 c4_i32_6
  let c1_i32_7 : BitVec 32 := 1#32
  let v20 : BitVec 32 := Scalar.addi v19 c1_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli arg2 c4_i32_5
  let c2_i32_6 : BitVec 32 := 2#32
  let v20 : BitVec 32 := Scalar.addi v19 c2_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c4_i32_0 : BitVec 32 := 4#32
  let v2 : BitVec 32 := Scalar.divsi v1 c4_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32_0 c0_i32_2
  let v9 : BitVec 32 := Scalar.extui v8
  let c0_i32_3 : BitVec 32 := 0#32
  let v10 : BitVec 1 := Scalar.cmpi .slt c4_i32_0 c0_i32_3
  let v11 : BitVec 32 := Scalar.extui v10
  let v12 : BitVec 32 := Scalar.subi v9 v11
  let v13 : BitVec 1 := Scalar.cmpi .ne v7 v12
  let v14 : BitVec 32 := Scalar.remsi v1 c4_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli arg2 c4_i32_5
  let c3_i32_6 : BitVec 32 := 3#32
  let v20 : BitVec 32 := Scalar.addi v19 c3_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg0.toNat, v30.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli arg2 c4_i32_5
  let c0_i32_6 : BitVec 32 := 0#32
  let v20 : BitVec 32 := Scalar.addi v19 c0_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg2 c4_i32_5
  let c1_i32_6 : BitVec 32 := 1#32
  let v20 : BitVec 32 := Scalar.addi v19 c1_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c3_i32 : BitVec 32 := 3#32
  let v2 : BitVec 32 := Scalar.divsi v1 c3_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c3_i32 c0_i32_1
  let v9 : BitVec 32 := Scalar.extui v8
  let c0_i32_2 : BitVec 32 := 0#32
  let v10 : BitVec 1 := Scalar.cmpi .slt c3_i32 c0_i32_2
  let v11 : BitVec 32 := Scalar.extui v10
  let v12 : BitVec 32 := Scalar.subi v9 v11
  let v13 : BitVec 1 := Scalar.cmpi .ne v7 v12
  let v14 : BitVec 32 := Scalar.remsi v1 c3_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32_4 : BitVec 32 := 4#32
  let v19 : BitVec 32 := Scalar.muli arg2 c4_i32_4
  let c2_i32_5 : BitVec 32 := 2#32
  let v20 : BitVec 32 := Scalar.addi v19 c2_i32_5
  let c3_i32_6 : BitVec 32 := 3#32
  let c0_i32_7 : BitVec 32 := 0#32
  let v21 : BitVec 1 := Scalar.cmpi .eq c3_i32_6 c0_i32_7
  let c1_i32_8 : BitVec 32 := 1#32
  let v22 : BitVec 32 := Scalar.select v21 c1_i32_8 c3_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  ![v18.toNat, arg1.toNat, v30.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c3_i32_0 : BitVec 32 := 3#32
  let v2 : BitVec 32 := Scalar.divsi v1 c3_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32_0 c0_i32_2
  let v9 : BitVec 32 := Scalar.extui v8
  let c0_i32_3 : BitVec 32 := 0#32
  let v10 : BitVec 1 := Scalar.cmpi .slt c3_i32_0 c0_i32_3
  let v11 : BitVec 32 := Scalar.extui v10
  let v12 : BitVec 32 := Scalar.subi v9 v11
  let v13 : BitVec 1 := Scalar.cmpi .ne v7 v12
  let v14 : BitVec 32 := Scalar.remsi v1 c3_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c4_i32_5 : BitVec 32 := 4#32
  let v19 : BitVec 32 := Scalar.muli arg2 c4_i32_5
  let c3_i32_6 : BitVec 32 := 3#32
  let v20 : BitVec 32 := Scalar.addi v19 c3_i32_6
  let c3_i32_7 : BitVec 32 := 3#32
  let c0_i32_8 : BitVec 32 := 0#32
  let v21 : BitVec 1 := Scalar.cmpi .eq c3_i32_7 c0_i32_8
  let c1_i32_9 : BitVec 32 := 1#32
  let v22 : BitVec 32 := Scalar.select v21 c1_i32_9 c3_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  ![v18.toNat, arg1.toNat, v30.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AInHRefIdeal.lean ====
abbrev S3x8192x2048 : Shape := ⟨3, ![3, 8192, 2048]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S_ : Shape := ⟨0, ![]⟩
abbrev S8192x1024 : Shape := ⟨2, ![8192, 1024]⟩
abbrev S8192x6144 : Shape := ⟨2, ![8192, 6144]⟩
abbrev S8192x3x2048 : Shape := ⟨3, ![8192, 3, 2048]⟩

abbrev nBuf : Space → Nat
  | .hbm => 16
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S4x1024x1536, .bf16⟩
  | .hbm, ⟨2, _⟩ => ⟨S1024x4x1536, .bf16⟩
  | .hbm, ⟨3, _⟩ => ⟨S1024x6144, .bf16⟩
  | .hbm, ⟨4, _⟩ => ⟨S_, .f32⟩
  | .hbm, ⟨5, _⟩ => ⟨S8192x1024, .f32⟩
  | .hbm, ⟨6, _⟩ => ⟨S4x1024x1536, .f32⟩
  | .hbm, ⟨7, _⟩ => ⟨S1024x4x1536, .f32⟩
  | .hbm, ⟨8, _⟩ => ⟨S1024x6144, .f32⟩
  | .hbm, ⟨9, _⟩ => ⟨S8192x6144, .f32⟩
  | .hbm, ⟨10, _⟩ => ⟨S8192x3x2048, .f32⟩
  | .hbm, ⟨11, _⟩ => ⟨S3x8192x2048, .f32⟩
  | .hbm, ⟨12, _⟩ => ⟨S3x8192x2048, .f32⟩
  | .hbm, ⟨13, _⟩ => ⟨S8192x3x2048, .f32⟩
  | .hbm, ⟨14, _⟩ => ⟨S8192x6144, .f32⟩
  | .hbm, ⟨15, _⟩ => ⟨S8192x1024, .f32⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== AInW.lean ====
abbrev S8192x1024 : Shape := ⟨2, ![8192, 1024]⟩
abbrev S3x8192x2048 : Shape := ⟨3, ![3, 8192, 2048]⟩
abbrev S4x1024x1536 : Shape := ⟨3, ![4, 1024, 1536]⟩
abbrev S2048x1024 : Shape := ⟨2, ![2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInWRefIdeal.lean ====
abbrev S8192x1024 : Shape := ⟨2, ![8192, 1024]⟩
abbrev S3x8192x2048 : Shape := ⟨3, ![3, 8192, 2048]⟩
abbrev S_ : Shape := ⟨0, ![]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S8192x6144 : Shape := ⟨2, ![8192, 6144]⟩
abbrev S8192x3x2048 : Shape := ⟨3, ![8192, 3, 2048]⟩
abbrev S6144x1024 : Shape := ⟨2, ![6144, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x2048, .bf16⟩
  | .hbm, ⟨2, _⟩ => ⟨S_, .f32⟩
  | .hbm, ⟨3, _⟩ => ⟨S4x1024x1536, .f32⟩
  | .hbm, ⟨4, _⟩ => ⟨S8192x1024, .f32⟩
  | .hbm, ⟨5, _⟩ => ⟨S1024x4x1536, .f32⟩
  | .hbm, ⟨6, _⟩ => ⟨S1024x6144, .f32⟩
  | .hbm, ⟨7, _⟩ => ⟨S8192x6144, .f32⟩
  | .hbm, ⟨8, _⟩ => ⟨S8192x3x2048, .f32⟩
  | .hbm, ⟨9, _⟩ => ⟨S3x8192x2048, .f32⟩
  | .hbm, ⟨10, _⟩ => ⟨S3x8192x2048, .f32⟩
  | .hbm, ⟨11, _⟩ => ⟨S8192x3x2048, .f32⟩
  | .hbm, ⟨12, _⟩ => ⟨S8192x6144, .f32⟩
  | .hbm, ⟨13, _⟩ => ⟨S6144x1024, .f32⟩
  | .hbm, ⟨14, _⟩ => ⟨S1024x6144, .f32⟩
  | .hbm, ⟨15, _⟩ => ⟨S1024x4x1536, .f32⟩
  | .hbm, ⟨16, _⟩ => ⟨S4x1024x1536, .f32⟩
  | .hbm, ⟨17, _⟩ => ⟨S4x1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== BInH.lean ====
abbrev S4x8192x2048 : Shape := ⟨3, ![4, 8192, 2048]⟩
abbrev S1024x8192 : Shape := ⟨2, ![1024, 8192]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x8192x2048, .bf16⟩
  | .hbm, ⟨1, _⟩ => ⟨S1024x8192, .bf16⟩
  | .hbm, ⟨2, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_10 : BitVec 32 := 0#32
  let v11 : BitVec 1 := Scalar.cmpi .ne v10 c0_i32_10
  v11

def k0_cond2 (i : grid0.Coords) : BitVec 1 :=
  let arg2 : BitVec 32 := BitVec.ofNat 32 (i 2).val
  let c0_i32_11 : BitVec 32 := 0#32
  let v12 : BitVec 1 := Scalar.cmpi .sgt arg2 c0_i32_11
  let v13 : BitVec 32 := Scalar.extui v12
  let c0_i32_12 : BitVec 32 := 0#32
  let v14 : BitVec 1 := Scalar.cmpi .ne v13 c0_i32_12
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli arg2 c2_i32_6
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli arg2 c2_i32_6
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== BInHRefIdeal.lean ====
abbrev S4x8192x2048 : Shape := ⟨3, ![4, 8192, 2048]⟩
abbrev S1024x8192 : Shape := ⟨2, ![1024, 8192]⟩
abbrev S_ : Shape := ⟨0, ![]⟩
abbrev S8192x1024 : Shape := ⟨2, ![8192, 1024]⟩
abbrev S8192x8192 : Shape := ⟨2, ![8192, 8192]⟩
abbrev S8192x4x2048 : Shape := ⟨3, ![8192, 4, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S1024x8192, .bf16⟩
  | .hbm, ⟨2, _⟩ => ⟨S_, .f32⟩
  | .hbm, ⟨3, _⟩ => ⟨S8192x1024, .f32⟩
  | .hbm, ⟨4, _⟩ => ⟨S1024x8192, .f32⟩
  | .hbm, ⟨5, _⟩ => ⟨S8192x8192, .f32⟩
  | .hbm, ⟨6, _⟩ => ⟨S8192x4x2048, .f32⟩
  | .hbm, ⟨7, _⟩ => ⟨S4x8192x2048, .f32⟩
  | .hbm, ⟨8, _⟩ => ⟨S4x8192x2048, .f32⟩
  | .hbm, ⟨9, _⟩ => ⟨S8192x4x2048, .f32⟩
  | .hbm, ⟨10, _⟩ => ⟨S8192x8192, .f32⟩
  | .hbm, ⟨11, _⟩ => ⟨S8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BInW.lean ====
abbrev S8192x1024 : Shape := ⟨2, ![8192, 1024]⟩
abbrev S4x8192x2048 : Shape := ⟨3, ![4, 8192, 2048]⟩
abbrev S1024x8192 : Shape := ⟨2, ![1024, 8192]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x2048, .bf16⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInWRefIdeal.lean ====
abbrev S8192x1024 : Shape := ⟨2, ![8192, 1024]⟩
abbrev S4x8192x2048 : Shape := ⟨3, ![4, 8192, 2048]⟩
abbrev S_ : Shape := ⟨0, ![]⟩
abbrev S1024x8192 : Shape := ⟨2, ![1024, 8192]⟩
abbrev S8192x8192 : Shape := ⟨2, ![8192, 8192]⟩
abbrev S8192x4x2048 : Shape := ⟨3, ![8192, 4, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x2048, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x4x2048, .f32⟩
  | .hbm, ⟨7, _⟩ => ⟨S4x8192x2048, .f32⟩
  | .hbm, ⟨8, _⟩ => ⟨S4x8192x2048, .f32⟩
  | .hbm, ⟨9, _⟩ => ⟨S8192x4x2048, .f32⟩
  | .hbm, ⟨10, _⟩ => ⟨S8192x8192, .f32⟩
  | .hbm, ⟨11, _⟩ => ⟨S8192x1024, .f32⟩
  | .hbm, ⟨12, _⟩ => ⟨S1024x8192, .f32⟩
  | .hbm, ⟨13, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== CInH.lean ====
abbrev S4x8192x2048 : Shape := ⟨3, ![4, 8192, 2048]⟩
abbrev S4x1024x2048 : Shape := ⟨3, ![4, 1024, 2048]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4x8192x2048, .bf16⟩
  | .hbm, ⟨1, _⟩ => ⟨S4x1024x2048, .bf16⟩
  | .hbm, ⟨2, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg2 : BitVec 32 := BitVec.ofNat 32 (i 2).val
  let c0_i32_13 : BitVec 32 := 0#32
  let v14 : BitVec 1 := Scalar.cmpi .sgt arg2 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli arg2 c2_i32_6
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli arg2 c2_i32_6
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg0.toNat, v30.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c2_i32_6 : BitVec 32 := 2#32
  let v19 : BitVec 32 := Scalar.muli arg2 c2_i32_6
  let c0_i32_7 : BitVec 32 := 0#32
  let v20 : BitVec 32 := Scalar.addi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32_6 : BitVec 32 := 2#32
  let v19 : BitVec 32 := Scalar.muli arg2 c2_i32_6
  let c1_i32_7 : BitVec 32 := 1#32
  let v20 : BitVec 32 := Scalar.addi v19 c1_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, arg1.toNat, v30.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== CInHRefIdeal.lean ====
abbrev S4x8192x2048 : Shape := ⟨3, ![4, 8192, 2048]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S_ : Shape := ⟨0, ![]⟩
abbrev S8192x1024 : Shape := ⟨2, ![8192, 1024]⟩
abbrev S8192x8192 : Shape := ⟨2, ![8192, 8192]⟩
abbrev S8192x4x2048 : Shape := ⟨3, ![8192, 4, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x1024x2048, .bf16⟩
  | .hbm, ⟨2, _⟩ => ⟨S1024x4x2048, .bf16⟩
  | .hbm, ⟨3, _⟩ => ⟨S1024x8192, .bf16⟩
  | .hbm, ⟨4, _⟩ => ⟨S_, .f32⟩
  | .hbm, ⟨5, _⟩ => ⟨S8192x1024, .f32⟩
  | .hbm, ⟨6, _⟩ => ⟨S4x1024x2048, .f32⟩
  | .hbm, ⟨7, _⟩ => ⟨S1024x4x2048, .f32⟩
  | .hbm, ⟨8, _⟩ => ⟨S1024x8192, .f32⟩
  | .hbm, ⟨9, _⟩ => ⟨S8192x8192, .f32⟩
  | .hbm, ⟨10, _⟩ => ⟨S8192x4x2048, .f32⟩
  | .hbm, ⟨11, _⟩ => ⟨S4x8192x2048, .f32⟩
  | .hbm, ⟨12, _⟩ => ⟨S4x8192x2048, .f32⟩
  | .hbm, ⟨13, _⟩ => ⟨S8192x4x2048, .f32⟩
  | .hbm, ⟨14, _⟩ => ⟨S8192x8192, .f32⟩
  | .hbm, ⟨15, _⟩ => ⟨S8192x1024, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== CInW.lean ====
abbrev S8192x1024 : Shape := ⟨2, ![8192, 1024]⟩
abbrev S4x8192x2048 : Shape := ⟨3, ![4, 8192, 2048]⟩
abbrev S4x1024x2048 : Shape := ⟨3, ![4, 1024, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x2048, .bf16⟩
  | .hbm, ⟨2, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CInWRefIdeal.lean ====
abbrev S8192x1024 : Shape := ⟨2, ![8192, 1024]⟩
abbrev S4x8192x2048 : Shape := ⟨3, ![4, 8192, 2048]⟩
abbrev S_ : Shape := ⟨0, ![]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S8192x8192 : Shape := ⟨2, ![8192, 8192]⟩
abbrev S8192x4x2048 : Shape := ⟨3, ![8192, 4, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x2048, .bf16⟩
  | .hbm, ⟨2, _⟩ => ⟨S_, .f32⟩
  | .hbm, ⟨3, _⟩ => ⟨S4x1024x2048, .f32⟩
  | .hbm, ⟨4, _⟩ => ⟨S8192x1024, .f32⟩
  | .hbm, ⟨5, _⟩ => ⟨S1024x4x2048, .f32⟩
  | .hbm, ⟨6, _⟩ => ⟨S1024x8192, .f32⟩
  | .hbm, ⟨7, _⟩ => ⟨S8192x8192, .f32⟩
  | .hbm, ⟨8, _⟩ => ⟨S8192x4x2048, .f32⟩
  | .hbm, ⟨9, _⟩ => ⟨S4x8192x2048, .f32⟩
  | .hbm, ⟨10, _⟩ => ⟨S4x8192x2048, .f32⟩
  | .hbm, ⟨11, _⟩ => ⟨S8192x4x2048, .f32⟩
  | .hbm, ⟨12, _⟩ => ⟨S8192x8192, .f32⟩
  | .hbm, ⟨13, _⟩ => ⟨S8192x1024, .f32⟩
  | .hbm, ⟨14, _⟩ => ⟨S1024x8192, .f32⟩
  | .hbm, ⟨15, _⟩ => ⟨S1024x4x2048, .f32⟩
  | .hbm, ⟨16, _⟩ => ⟨S4x1024x2048, .f32⟩
  | .hbm, ⟨17, _⟩ => ⟨S4x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== AIn.lean ====
abbrev S8192x1024 : Shape := ⟨2, ![8192, 1024]⟩
abbrev S4x1024x1536 : Shape := ⟨3, ![4, 1024, 1536]⟩
abbrev S8192x6144 : Shape := ⟨2, ![8192, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AInRefIdeal.lean ====
abbrev S8192x1024 : Shape := ⟨2, ![8192, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x1024, .f32⟩
  | .hbm, ⟨3, _⟩ => ⟨S4x1024x1536, .f32⟩
  | .hbm, ⟨4, _⟩ => ⟨S1024x4x1536, .f32⟩
  | .hbm, ⟨5, _⟩ => ⟨S1024x6144, .f32⟩
  | .hbm, ⟨6, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BIn.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BInRefIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CIn.lean ====
abbrev S8192x1024 : Shape := ⟨2, ![8192, 1024]⟩
abbrev S4x1024x2048 : Shape := ⟨3, ![4, 1024, 2048]⟩
abbrev S8192x8192 : Shape := ⟨2, ![8192, 8192]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x2048, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CInRefIdeal.lean ====
abbrev S8192x1024 : Shape := ⟨2, ![8192, 1024]⟩
abbrev S4x1024x2048 : Shape := ⟨3, ![4, 1024, 2048]⟩
abbrev S1024x4x2048 : Shape := ⟨3, ![1024, 4, 2048]⟩
abbrev S1024x8192 : Shape := ⟨2, ![1024, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x2048, .bf16⟩
  | .hbm, ⟨2, _⟩ => ⟨S8192x1024, .f32⟩
  | .hbm, ⟨3, _⟩ => ⟨S4x1024x2048, .f32⟩
  | .hbm, ⟨4, _⟩ => ⟨S1024x4x2048, .f32⟩
  | .hbm, ⟨5, _⟩ => ⟨S1024x8192, .f32⟩
  | .hbm, ⟨6, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Forget.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ForgetRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ForgetH.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetHRefIdeal.lean ====
abbrev S8192x128 : Shape := ⟨2, ![8192, 128]⟩
abbrev S1024x128 : Shape := ⟨2, ![1024, 128]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .bf16⟩
  | .hbm, ⟨2, _⟩ => ⟨S_, .f32⟩
  | .hbm, ⟨3, _⟩ => ⟨S8192x1024, .f32⟩
  | .hbm, ⟨4, _⟩ => ⟨S1024x128, .f32⟩
  | .hbm, ⟨5, _⟩ => ⟨S8192x128, .f32⟩
  | .hbm, ⟨6, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ForgetW.lean ====
abbrev S8192x1024 : Shape := ⟨2, ![8192, 1024]⟩
abbrev S8192x128 : Shape := ⟨2, ![8192, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetWRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormB.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormBTwo.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBTwoRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== GateB.lean ====
abbrev S8192x2048 : Shape := ⟨2, ![8192, 2048]⟩
abbrev S8192x8192 : Shape := ⟨2, ![8192, 8192]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x2048, .bf16⟩
  | .hbm, ⟨5, _⟩ => ⟨S8192x2048, .bf16⟩
  | .hbm, ⟨6, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateBRefIdeal.lean ====
abbrev S8192x2048 : Shape := ⟨2, ![8192, 2048]⟩
abbrev S8192x8192 : Shape := ⟨2, ![8192, 8192]⟩
abbrev S_ : Shape := ⟨0, ![]⟩
abbrev S8192x16x128 : Shape := ⟨3, ![8192, 16, 128]⟩
abbrev S8192x16 : Shape := ⟨2, ![8192, 16]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x16x128, .f32⟩
  | .hbm, ⟨30, _⟩ => ⟨S_, .f32⟩
  | .hbm, ⟨31, _⟩ => ⟨S8192x16, .f32⟩
  | .hbm, ⟨32, _⟩ => ⟨S8192x2048, .bf16⟩
  | .hbm, ⟨33, _⟩ => ⟨S8192x16x128, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Proof.Rules.lean ====
/- Loads and stores of a buffer known by the values it holds: a load reads a window of them, a store leaves them with its
   payload put over a window. -/
module

public import Idealize.ShloMosaic.Lib.VecWindow
public import Idealize.ShloMosaic.Lib.Memref
public import Idealize.ShloMosaic.Lib.Tactic
public import Idealize.ShloMosaic.Lib.Pointwise.Index

@[expose] public section

noncomputable section

namespace Cert.Fox

open Idealize.ShloMosaic
open Idealize.SL
open Idealize.SL.RA Idealize.SL.Sem Idealize.SL.ProofMode
open Idealize.SL.BI (sProp)
open scoped Idealize.SL.BI
open Idealize.SL.BI.BIBase Idealize.SL.BI.Laws
open Idealize.ShloMosaic.VecWindow (window put)

section Steps

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load reads a window of what the buffer holds. -/
theorem load_owns {cs : CoreSpace} {m : Memref sig c.2.kind cs s e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} {q : PosShare TreeShare}
    {d : s.Idx → Val e} :
    owns c m q d
      ⊢ iprop((owns c m q d -∗ wp frame (wpE defs 𝒱 c bd) E (k (window d off size inb)) Q)
        -∗ wp frame (wpE defs 𝒱 c bd) E (.op (.load m (Rect.unit off size inb).toLoadRect hl) k) Q) := by
  unfold owns
  iintro ⟨%f, %hf, H⟩ Hk
  subst hf
  iapply (wp_load_rect 𝒱 c bd E (m := m) (r := Rect.unit off size inb) (S := m.view.set)
    (View.set_slice_subset _ _)) $$ H
  iintro H
  iapply Hk
  iexists f
  isplitr
  · ipureintro; rfl
  · iexact H

/-- An unmasked store puts its payload over a window of what the buffer holds. -/
theorem store_owns {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {d : s.Idx → Val e} :
    owns c m fullShare d
      ⊢ iprop((owns c m fullShare (put d off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store_writes₀ 𝒱 c bd E (m := m) (r := Rect.unit off size inb) (w := w) (hx := hx) (hm := hm) (k := k) (f := f)
    (S := m.view.set) (View.set_slice_subset _ _)) $$ H
  iintro H
  iapply Hk
  iexists (m.view.writes Val f [⟨Rect.unit off size inb, w⟩])
  isplitr
  · ipureintro
    rw [View.read_writes_cons_put m.view f inb w [] rfl, View.writes_nil]
  · iexact H

end Steps

section Windows

variable {α : Type} {s : Shape}

/-- The whole window is what is held. -/
theorem window_full (d : s.Idx → α) (off : Fin s.rank → ℕ) (inb : ∀ a, off a + s.size a ≤ s.size a) :
    window d off s.size inb = d := by
  funext y
  exact congrArg d (Rect.emb_unit_full inb y)

/-- A put over everything leaves the payload. -/
theorem put_full (d : s.Idx → α) (off : Fin s.rank → ℕ) (inb : ∀ a, off a + s.size a ≤ s.size a) (w : s.Idx → α) :
    put d off s.size w = w := by
  have h : ∀ a, off a = 0 := fun a => by have := inb a; omega
  funext y
  unfold put
  rw [dif_pos (fun a => ⟨by rw [h a]; exact Nat.zero_le _, by rw [h a, Nat.zero_add]; exact (y a).isLt⟩)]
  exact congrArg w (funext fun a => Fin.ext (by
    show (y a).val - off a = (y a).val
    rw [h a, Nat.sub_zero]))

/-- Four chunks of rows, one above the other. -/
def glue {β : Type} (f0 f1 f2 f3 : (⟨2, ![128, 512]⟩ : Shape).Idx → β) (y : (⟨2, ![512, 512]⟩ : Shape).Idx) : β :=
  if h0 : (y 0).val < 128 then f0 (ix2 ⟨(y 0).val, h0⟩ (y 1))
  else if h1 : (y 0).val < 256 then f1 (ix2 ⟨(y 0).val - 128, by omega⟩ (y 1))
  else if h2 : (y 0).val < 384 then f2 (ix2 ⟨(y 0).val - 256, by omega⟩ (y 1))
  else f3 (ix2 ⟨(y 0).val - 384, by have h : (y 0).val < 512 := (y 0).isLt; omega⟩ (y 1))

/-- Putting a chunk of rows, read at an index. -/
theorem put_rows {β : Type} (r : ℕ) (x : (⟨2, ![512, 512]⟩ : Shape).Idx → β)
    (f : (⟨2, ![128, 512]⟩ : Shape).Idx → β) (y : (⟨2, ![512, 512]⟩ : Shape).Idx) :
    put x ![r, 0] ![128, 512] f y
      = if h : r ≤ (y 0).val ∧ (y 0).val < r + 128 then f (ix2 ⟨(y 0).val - r, by omega⟩ (y 1)) else x y := by
  unfold put
  have h1 : (y 1).val < 512 := (y 1).isLt
  by_cases h : r ≤ (y 0).val ∧ (y 0).val < r + 128
  · rw [dif_pos h, dif_pos (Fin.forall_fin_two.mpr ⟨h, Nat.zero_le _, by show (y 1).val < 0 + 512; omega⟩)]
    congr 1
    funext a
    refine Fin.cases ?_ (fun a => ?_) a
    · rfl
    · obtain rfl : a = 0 := Subsingleton.elim _ _
      rfl
  · rw [dif_neg h, dif_neg (fun h' => h (h' 0))]

/-- Four chunks put over a square leave nothing of what was there. -/
theorem put_glue {β : Type} (x : (⟨2, ![512, 512]⟩ : Shape).Idx → β)
    (f0 f1 f2 f3 : (⟨2, ![128, 512]⟩ : Shape).Idx → β) :
    put (put (put (put x ![0, 0] ![128, 512] f0) ![128, 0] ![128, 512] f1) ![256, 0] ![128, 512] f2) ![384, 0]
      ![128, 512] f3 = glue f0 f1 f2 f3 := by
  funext y
  rw [put_rows, put_rows, put_rows, put_rows]
  have h : (y 0).val < 512 := (y 0).isLt
  unfold glue
  by_cases h0 : (y 0).val < 128
  · rw [dif_neg (by omega), dif_neg (by omega), dif_neg (by omega), dif_pos (by omega), dif_pos h0]; rfl
  · by_cases h1 : (y 0).val < 256
    · rw [dif_neg (by omega), dif_neg (by omega), dif_pos (by omega), dif_neg h0, dif_pos h1]
    · by_cases h2 : (y 0).val < 384
      · rw [dif_neg (by omega), dif_pos (by omega), dif_neg h0, dif_neg h1, dif_pos h2]
      · rw [dif_pos (by omega), dif_neg h0, dif_neg h1, dif_neg h2]

end Windows

end Cert.Fox
-- ==== Proof.KI.Step.lean ====
/- One step of the gradient's grid, written once for both kinds of tile: the pure values of a head and of a chunk of its
   rows, the head's memory operations over them, and the printed bodies as four such heads. -/
module

public import proofs.«01_k».proof.Proof.Gen.KernelIdeal.Skeleton

@[expose] public section

set_option synthInstance.maxSize 4096

noncomputable section

namespace Cert.KernelIdeal

open Idealize.ShloMosaic Idealize.SL.Sem
open Cert.KernelIdeal.Gen

variable {F : FTy → Type} [FloatOps F] [Named F]

/-! ## The values -/

/-- The product of two blocks over the head's features. -/
def pRaw (a b : Vec F S512x128 .bf16) : FVec F S512x512 .f32 :=
  shapeCast S512x512 (matmul dot_S512x128_S512x128_S512x512_1_1_0_0_n_n none a b (constant S512x512 .f32 0x00000000#32))
    shapeCasts_S512x512_S512x512

/-- The column's gate in base two. -/
def pCr (x : Vec F S1x1x512 .f32) : FVec F S1x512 .f32 :=
  mulf (shapeCast S1x512 x shapeCasts_S1x1x512_S1x512) (broadcast S1x512 (Named.named κ "log2e" 0x3FB8AA3B#32))

/-- The logits of a chunk, without the tile's mask. -/
def pFree (cr : FVec F S1x512 .f32) (s : Vec F S128x512 .f32) : FVec F S128x512 .f32 :=
  subf (mulf s (broadcast S128x512 (Named.named κ "scale_log2e" 0x3E0293EE#32)))
    (broadcastTo S128x512 cr broadcasts_S1x512_S128x512)

/-- The logits of a chunk: masked in a tile on the diagonal, whose rows start at `w`. -/
def pLog (diag : Bool) (w : BitVec 32) (cr : FVec F S1x512 .f32) (s : Vec F S128x512 .f32) : FVec F S128x512 .f32 :=
  match diag with
  | false => pFree cr s
  | true =>
    select (cmpi .sle (iota .tc S128x512 32 [1] iota_S128x512_d1_w32)
        (addi (iota .tc S128x512 32 [0] iota_S128x512_d0_w32) (broadcast S128x512 w)))
      (pFree cr s) (broadcast S128x512 (Scalar.ofBits .f32 0xFF800000#32 : F .f32))

/-- A row's number, repeated along the row. -/
def wide (x : Vec F S128x128 .f32) : FVec F S128x512 .f32 :=
  concatenate S128x512 1 [⟨S128x128, shapeCast S128x128 x shapeCasts_S128x128_S128x128⟩,
    ⟨S128x128, shapeCast S128x128 x shapeCasts_S128x128_S128x128⟩,
    ⟨S128x128, shapeCast S128x128 x shapeCasts_S128x128_S128x128⟩,
    ⟨S128x128, shapeCast S128x128 x shapeCasts_S128x128_S128x128⟩]
    concatenates_S128x128_S128x128_S128x128_S128x128_S128x512_d1

/-- The probabilities of a chunk. -/
def pP (diag : Bool) (w : BitVec 32) (cr : FVec F S1x512 .f32) (s : Vec F S128x512 .f32) (l : Vec F S128x128 .f32) :
    FVec F S128x512 .f32 :=
  exp2 (subf (pLog diag w cr s) (wide l))

/-- The gradient of the logits of a chunk. -/
def pDs (diag : Bool) (w : BitVec 32) (cr : FVec F S1x512 .f32) (s : Vec F S128x512 .f32) (l : Vec F S128x128 .f32)
    (dp : Vec F S128x512 .f32) (dl : Vec F S128x128 .f32) : FVec F S128x512 .f32 :=
  mulf (pP diag w cr s l) (subf dp (wide dl))

/-- The column sums, in eight rows, with a chunk added. -/
def pCol (acc : FVec F S8x512 .f32) (ds : FVec F S128x512 .f32) : FVec F S8x512 .f32 :=
  addf acc (multiReduction .add [0] S8x512 (shapeCast S16x8x512 ds shapeCasts_S128x512_S16x8x512) 0x00000000#32
    reduces_S16x8x512_S8x512 (.inl rfl) rfl)

/-- The probabilities as they are kept. -/
def pPb (p : FVec F S128x512 .f32) : FVec F S128x512 .bf16 :=
  shapeCast S128x512 (truncf .bf16 p bitsLt_bf16_f32) shapeCasts_S128x512_S128x512

/-- The gradient of the logits as it is kept. -/
def pDsb (ds : FVec F S128x512 .f32) : FVec F S128x512 .bf16 :=
  shapeCast S128x512 (truncf .bf16 (mulf ds (broadcast S128x512 (Scalar.ofBits .f32 0x3DB504F3#32 : F .f32))) bitsLt_bf16_f32)
    shapeCasts_S128x512_S128x512

/-- No column sum yet. -/
def pCol0 : FVec F S8x512 .f32 := broadcast S8x512 (Scalar.ofBits .f32 0x00000000#32 : F .f32)

/-- The gate's gradient with a tile's column sums subtracted. -/
def pDc (acc : FVec F S8x512 .f32) (x : Vec F S1x1x512 .f32) : FVec F S1x1x512 .f32 :=
  shapeCast S1x1x512 (subf (shapeCast S1x512 x shapeCasts_S1x1x512_S1x512)
    (shapeCast S1x512 (multiReduction .add [0] S512 acc 0x00000000#32 reduces_S8x512_S512 (.inl rfl) rfl)
      shapeCasts_S512_S1x512)) shapeCasts_S1x512_S1x1x512

/-- A key's or value's gradient with a tile's rows added. -/
def pT (x : Vec F S512x128 .f32) (a : Vec F S512x512 .bf16) (b : Vec F S512x128 .bf16) : FVec F S512x128 .f32 :=
  shapeCast S512x128 (addf x (matmul dot_S512x512_S512x128_S512x128_0_0_1_1_n_n none a b
    (constant S512x128 .f32 0x00000000#32))) shapeCasts_S512x128_S512x128

/-- A query's gradient with a tile's columns added. -/
def pN (x : Vec F S512x128 .f32) (a : Vec F S512x512 .bf16) (b : Vec F S512x128 .bf16) : FVec F S512x128 .f32 :=
  addf (shapeCast S512x128 x shapeCasts_S512x128_S512x128)
    (matmul dot_S512x512_S512x128_S512x128_1_0_0_1_n_n none a b (constant S512x128 .f32 0x00000000#32))

/-! ## The buffers and the operations -/

/-- The buffers a step reads and writes. -/
structure Bufs where
  q : Memref sig .tc .vmem S512x512 .bf16
  k : Memref sig .tc .vmem S512x512 .bf16
  v : Memref sig .tc .vmem S512x512 .bf16
  g : Memref sig .tc .vmem S512x512 .bf16
  lse : Memref sig .tc .vmem S512x512 .f32
  dl : Memref sig .tc .vmem S512x512 .f32
  cr : Memref sig .tc .vmem S4x1x512 .f32
  dq : Memref sig .tc .vmem S8192x512 .f32
  dk : Memref sig .tc .vmem S512x512 .f32
  dv : Memref sig .tc .vmem S512x512 .f32
  dc : Memref sig .tc .vmem S4x1x512 .f32
  s : Memref sig .tc .vmem S512x512 .f32
  dp : Memref sig .tc .vmem S512x512 .f32
  p : Memref sig .tc .vmem S512x512 .bf16
  hp : p.IsWhole
  ds : Memref sig .tc .vmem S512x512 .bf16
  hds : ds.IsWhole

/-- The inequalities that keep a chunk of rows inside its buffers. -/
structure RowOk (r cs : ℕ) : Prop where
  row : ∀ a, (![r, 0] : Fin 2 → ℕ) a + S128x512.size a ≤ S512x512.size a
  col : ∀ a, (![r, cs] : Fin 2 → ℕ) a + S128x128.size a ≤ S512x512.size a
  packed : (Rect.unit (s := S512x512) ![r, 0] S128x512.size row).PackedRows (EltTy.packing .bf16)

/-- The inequalities that keep a head inside its buffers. -/
structure HeadOk (hh cs : ℕ) (off : Fin 2 → ℕ) : Prop where
  col : ∀ a, (![0, cs] : Fin 2 → ℕ) a + S512x128.size a ≤ S512x512.size a
  head : ∀ a, (![hh, 0, 0] : Fin 3 → ℕ) a + S1x1x512.size a ≤ S4x1x512.size a
  dq : ∀ a, off a + S512x128.size a ≤ S8192x512.size a
  row0 : RowOk 0 cs
  row1 : RowOk 128 cs
  row2 : RowOk 256 cs
  row3 : RowOk 384 cs

/-- A chunk of 128 rows of a head. -/
def rowProg (b : Bufs) (diag : Bool) (r cs : ℕ) (w : BitVec 32) (ok : RowOk r cs) (cr : FVec F S1x512 .f32)
    (acc : FVec F S8x512 .f32) : Prog (TpuEff nD τ sig (Elt F) Λ₀ .tc) (FVec F S8x512 .f32) := do
  let s : Vec F S128x512 .f32 ← Prog.lift (.load b.s (Rect.unit (s := S512x512) ![r, 0] S128x512.size ok.row).toLoadRect (View.loadsAt_vmem h_S128x512))
  let l : Vec F S128x128 .f32 ← Prog.lift (.load b.lse (Rect.unit (s := S512x512) ![r, cs] S128x128.size ok.col).toLoadRect (View.loadsAt_vmem h_S128x128))
  let dp : Vec F S128x512 .f32 ← Prog.lift (.load b.dp (Rect.unit (s := S512x512) ![r, 0] S128x512.size ok.row).toLoadRect (View.loadsAt_vmem h_S128x512))
  let dl : Vec F S128x128 .f32 ← Prog.lift (.load b.dl (Rect.unit (s := S512x512) ![r, cs] S128x128.size ok.col).toLoadRect (View.loadsAt_vmem h_S128x128))
  let _ : Vec F S128x512 .bf16 ← Prog.lift (.load b.p (Rect.unit (s := S512x512) ![r, 0] S128x512.size ok.row).toLoadRect (View.loadsAt_vmem h_S128x512))
  Prog.lift (.store b.p (Rect.unit (s := S512x512) ![r, 0] S128x512.size ok.row) (pPb (pP diag w cr s l)) Finset.univ
    (View.stores_vmem h_S128x512 (b.hp.storeExact_slice rfl _ ok.packed) (fun _ => rfl)) (.inl rfl))
  let _ : Vec F S128x512 .bf16 ← Prog.lift (.load b.ds (Rect.unit (s := S512x512) ![r, 0] S128x512.size ok.row).toLoadRect (View.loadsAt_vmem h_S128x512))
  Prog.lift (.store b.ds (Rect.unit (s := S512x512) ![r, 0] S128x512.size ok.row) (pDsb (pDs diag w cr s l dp dl)) Finset.univ
    (View.stores_vmem h_S128x512 (b.hds.storeExact_slice rfl _ ok.packed) (fun _ => rfl)) (.inl rfl))
  pure (pCol acc (pDs diag w cr s l dp dl))

/-- A head of a step. -/
def headProg (b : Bufs) (diag : Bool) (hh cs : ℕ) (off : Fin 2 → ℕ) (ok : HeadOk hh cs off) :
    Prog (TpuEff nD τ sig (Elt F) Λ₀ .tc) PUnit := do
  let q : Vec F S512x128 .bf16 ← Prog.lift (.load b.q (Rect.unit (s := S512x512) ![0, cs] S512x128.size ok.col).toLoadRect (View.loadsAt_vmem h_S512x128))
  let k : Vec F S512x128 .bf16 ← Prog.lift (.load b.k (Rect.unit (s := S512x512) ![0, cs] S512x128.size ok.col).toLoadRect (View.loadsAt_vmem h_S512x128))
  let _ : Vec F S512x512 .f32 ← Prog.lift (.load b.s (Rect.unit (s := S512x512) ![0, 0] S512x512.size inb_S512x512_S512x512_0_0).toLoadRect (View.loadsAt_vmem h_S512x512))
  Prog.lift (.store b.s (Rect.unit (s := S512x512) ![0, 0] S512x512.size inb_S512x512_S512x512_0_0) (pRaw q k) Finset.univ (View.stores_vmem_bits_univ h_S512x512 rfl) (.inl rfl))
  let g : Vec F S512x128 .bf16 ← Prog.lift (.load b.g (Rect.unit (s := S512x512) ![0, cs] S512x128.size ok.col).toLoadRect (View.loadsAt_vmem h_S512x128))
  let v : Vec F S512x128 .bf16 ← Prog.lift (.load b.v (Rect.unit (s := S512x512) ![0, cs] S512x128.size ok.col).toLoadRect (View.loadsAt_vmem h_S512x128))
  let _ : Vec F S512x512 .f32 ← Prog.lift (.load b.dp (Rect.unit (s := S512x512) ![0, 0] S512x512.size inb_S512x512_S512x512_0_0).toLoadRect (View.loadsAt_vmem h_S512x512))
  Prog.lift (.store b.dp (Rect.unit (s := S512x512) ![0, 0] S512x512.size inb_S512x512_S512x512_0_0) (pRaw g v) Finset.univ (View.stores_vmem_bits_univ h_S512x512 rfl) (.inl rfl))
  let c : Vec F S1x1x512 .f32 ← Prog.lift (.load b.cr (Rect.unit (s := S4x1x512) ![hh, 0, 0] S1x1x512.size ok.head).toLoadRect (View.loadsAt_vmem h_S1x1x512))
  let a0 ← rowProg b diag 0 cs 0#32 ok.row0 (pCr c) pCol0
  let a1 ← rowProg b diag 128 cs 128#32 ok.row1 (pCr c) a0
  let a2 ← rowProg b diag 256 cs 256#32 ok.row2 (pCr c) a1
  let a3 ← rowProg b diag 384 cs 384#32 ok.row3 (pCr c) a2
  let x : Vec F S1x1x512 .f32 ← Prog.lift (.load b.dc (Rect.unit (s := S4x1x512) ![hh, 0, 0] S1x1x512.size ok.head).toLoadRect (View.loadsAt_vmem h_S1x1x512))
  let _ : Vec F S1x1x512 .f32 ← Prog.lift (.load b.dc (Rect.unit (s := S4x1x512) ![hh, 0, 0] S1x1x512.size ok.head).toLoadRect (View.loadsAt_vmem h_S1x1x512))
  Prog.lift (.store b.dc (Rect.unit (s := S4x1x512) ![hh, 0, 0] S1x1x512.size ok.head) (pDc a3 x) Finset.univ (View.stores_vmem_bits_univ h_S1x1x512 rfl) (.inl rfl))
  let x : Vec F S512x128 .f32 ← Prog.lift (.load b.dv (Rect.unit (s := S512x512) ![0, cs] S512x128.size ok.col).toLoadRect (View.loadsAt_vmem h_S512x128))
  let p : Vec F S512x512 .bf16 ← Prog.lift (.load b.p (Rect.unit (s := S512x512) ![0, 0] S512x512.size inb_S512x512_S512x512_0_0).toLoadRect (View.loadsAt_vmem h_S512x512))
  let g : Vec F S512x128 .bf16 ← Prog.lift (.load b.g (Rect.unit (s := S512x512) ![0, cs] S512x128.size ok.col).toLoadRect (View.loadsAt_vmem h_S512x128))
  let _ : Vec F S512x128 .f32 ← Prog.lift (.load b.dv (Rect.unit (s := S512x512) ![0, cs] S512x128.size ok.col).toLoadRect (View.loadsAt_vmem h_S512x128))
  Prog.lift (.store b.dv (Rect.unit (s := S512x512) ![0, cs] S512x128.size ok.col) (pT x p g) Finset.univ (View.stores_vmem_bits_univ h_S512x128 rfl) (.inl rfl))
  let x : Vec F S512x128 .f32 ← Prog.lift (.load b.dk (Rect.unit (s := S512x512) ![0, cs] S512x128.size ok.col).toLoadRect (View.loadsAt_vmem h_S512x128))
  let ds : Vec F S512x512 .bf16 ← Prog.lift (.load b.ds (Rect.unit (s := S512x512) ![0, 0] S512x512.size inb_S512x512_S512x512_0_0).toLoadRect (View.loadsAt_vmem h_S512x512))
  let q : Vec F S512x128 .bf16 ← Prog.lift (.load b.q (Rect.unit (s := S512x512) ![0, cs] S512x128.size ok.col).toLoadRect (View.loadsAt_vmem h_S512x128))
  let _ : Vec F S512x128 .f32 ← Prog.lift (.load b.dk (Rect.unit (s := S512x512) ![0, cs] S512x128.size ok.col).toLoadRect (View.loadsAt_vmem h_S512x128))
  Prog.lift (.store b.dk (Rect.unit (s := S512x512) ![0, cs] S512x128.size ok.col) (pT x ds q) Finset.univ (View.stores_vmem_bits_univ h_S512x128 rfl) (.inl rfl))
  let x : Vec F S512x128 .f32 ← Prog.lift (.load b.dq (Rect.unit (s := S8192x512) off S512x128.size ok.dq).toLoadRect (View.loadsAt_vmem h_S512x128))
  let ds : Vec F S512x512 .bf16 ← Prog.lift (.load b.ds (Rect.unit (s := S512x512) ![0, 0] S512x512.size inb_S512x512_S512x512_0_0).toLoadRect (View.loadsAt_vmem h_S512x512))
  let k : Vec F S512x128 .bf16 ← Prog.lift (.load b.k (Rect.unit (s := S512x512) ![0, cs] S512x128.size ok.col).toLoadRect (View.loadsAt_vmem h_S512x128))
  let _ : Vec F S512x128 .f32 ← Prog.lift (.load b.dq (Rect.unit (s := S8192x512) off S512x128.size ok.dq).toLoadRect (View.loadsAt_vmem h_S512x128))
  Prog.lift (.store b.dq (Rect.unit (s := S8192x512) off S512x128.size ok.dq) (pN x ds k) Finset.univ (View.stores_vmem_bits_univ h_S512x128 rfl) (.inl rfl))

/-- The inequalities of the four heads. -/
structure StepOk (o0 o1 o2 o3 : Fin 2 → ℕ) : Prop where
  h0 : HeadOk 0 0 o0
  h1 : HeadOk 1 128 o1
  h2 : HeadOk 2 256 o2
  h3 : HeadOk 3 384 o3

/-- The four heads of a step. -/
def stepProg (b : Bufs) (diag : Bool) (o0 o1 o2 o3 : Fin 2 → ℕ) (ok : StepOk o0 o1 o2 o3) :
    Prog (TpuEff nD τ sig (Elt F) Λ₀ .tc) PUnit := do
  headProg b diag 0 0 o0 ok.h0
  headProg b diag 1 128 o1 ok.h1
  headProg b diag 2 256 o2 ok.h2
  headProg b diag 3 384 o3 ok.h3

end Cert.KernelIdeal
-- ==== Proof.KI.Head.lean ====
/- What a head of a step computes, as a function of the tile it is given, and that the head's operations leave it. -/
module

public import proofs.«01_k».proof.Proof.KI.Step
public import proofs.«01_k».proof.Proof.Rules
public import Idealize.ShloMosaic.Lib.Pipeline.Frame

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Cert.KernelIdeal.Gen Cert.Fox

variable {F : FTy → Type} [FloatOps F] [Named F]

local notation "𝕄" => MT nD τ sig Unit (Elt F) ℕ (UR sig nD τ) ℕ

/-! ## The values of a head -/

/-- The blocks a step reads. -/
structure Ins (F : FTy → Type) where
  q : Vec F S512x512 .bf16
  k : Vec F S512x512 .bf16
  v : Vec F S512x512 .bf16
  g : Vec F S512x512 .bf16
  lse : Vec F S512x512 .f32
  dl : Vec F S512x512 .f32
  cr : Vec F S4x1x512 .f32

/-- The gradients a step adds to. -/
structure Outs (F : FTy → Type) where
  dq : Vec F S8192x512 .f32
  dk : Vec F S512x512 .f32
  dv : Vec F S512x512 .f32
  dc : Vec F S4x1x512 .f32

/-- A chunk's probabilities. -/
def chP (diag : Bool) (r cs : ℕ) (w : BitVec 32) (ok : RowOk r cs) (cr : FVec F S1x512 .f32) (S lse : Vec F S512x512 .f32) :
    FVec F S128x512 .f32 :=
  pP diag w cr (window S ![r, 0] S128x512.size ok.row) (window lse ![r, cs] S128x128.size ok.col)

/-- A chunk's gradient of the logits. -/
def chDs (diag : Bool) (r cs : ℕ) (w : BitVec 32) (ok : RowOk r cs) (cr : FVec F S1x512 .f32)
    (S lse Dp dl : Vec F S512x512 .f32) : FVec F S128x512 .f32 :=
  pDs diag w cr (window S ![r, 0] S128x512.size ok.row) (window lse ![r, cs] S128x128.size ok.col)
    (window Dp ![r, 0] S128x512.size ok.row) (window dl ![r, cs] S128x128.size ok.col)

section Head

variable (diag : Bool) (hh cs : ℕ) (off : Fin 2 → ℕ) (ok : HeadOk hh cs off) (I : Ins F)

/-- The head's logits before scaling. -/
def hS : FVec F S512x512 .f32 :=
  pRaw (window I.q ![0, cs] S512x128.size ok.col) (window I.k ![0, cs] S512x128.size ok.col)
/-- The head's products of the output's gradient and the values. -/
def hDp : FVec F S512x512 .f32 :=
  pRaw (window I.g ![0, cs] S512x128.size ok.col) (window I.v ![0, cs] S512x128.size ok.col)
/-- The head's gate. -/
def hCr : FVec F S1x512 .f32 := pCr (window I.cr ![hh, 0, 0] S1x1x512.size ok.head)
/-- The head's gradient of the logits, by chunk. -/
def hD0 : FVec F S128x512 .f32 := chDs diag 0 cs 0#32 ok.row0 (hCr hh cs off ok I) (hS hh cs off ok I) I.lse (hDp hh cs off ok I) I.dl
def hD1 : FVec F S128x512 .f32 := chDs diag 128 cs 128#32 ok.row1 (hCr hh cs off ok I) (hS hh cs off ok I) I.lse (hDp hh cs off ok I) I.dl
def hD2 : FVec F S128x512 .f32 := chDs diag 256 cs 256#32 ok.row2 (hCr hh cs off ok I) (hS hh cs off ok I) I.lse (hDp hh cs off ok I) I.dl
def hD3 : FVec F S128x512 .f32 := chDs diag 384 cs 384#32 ok.row3 (hCr hh cs off ok I) (hS hh cs off ok I) I.lse (hDp hh cs off ok I) I.dl
/-- The head's probabilities, by chunk. -/
def hP0 : FVec F S128x512 .f32 := chP diag 0 cs 0#32 ok.row0 (hCr hh cs off ok I) (hS hh cs off ok I) I.lse
def hP1 : FVec F S128x512 .f32 := chP diag 128 cs 128#32 ok.row1 (hCr hh cs off ok I) (hS hh cs off ok I) I.lse
def hP2 : FVec F S128x512 .f32 := chP diag 256 cs 256#32 ok.row2 (hCr hh cs off ok I) (hS hh cs off ok I) I.lse
def hP3 : FVec F S128x512 .f32 := chP diag 384 cs 384#32 ok.row3 (hCr hh cs off ok I) (hS hh cs off ok I) I.lse
/-- The head's probabilities. -/
def hP : Vec F S512x512 .bf16 :=
  glue (pPb (hP0 diag hh cs off ok I)) (pPb (hP1 diag hh cs off ok I)) (pPb (hP2 diag hh cs off ok I))
    (pPb (hP3 diag hh cs off ok I))
/-- The head's gradient of the logits. -/
def hD : Vec F S512x512 .bf16 :=
  glue (pDsb (hD0 diag hh cs off ok I)) (pDsb (hD1 diag hh cs off ok I)) (pDsb (hD2 diag hh cs off ok I))
    (pDsb (hD3 diag hh cs off ok I))
/-- The head's column sums, in eight rows. -/
def hCol : FVec F S8x512 .f32 :=
  pCol (pCol (pCol (pCol pCol0 (hD0 diag hh cs off ok I)) (hD1 diag hh cs off ok I)) (hD2 diag hh cs off ok I))
    (hD3 diag hh cs off ok I)

/-- The gradients after the head. -/
def headOut (O : Outs F) : Outs F where
  dq := put O.dq off S512x128.size (pN (window O.dq off S512x128.size ok.dq) (hD diag hh cs off ok I)
    (window I.k ![0, cs] S512x128.size ok.col))
  dk := put O.dk ![0, cs] S512x128.size (pT (window O.dk ![0, cs] S512x128.size ok.col) (hD diag hh cs off ok I)
    (window I.q ![0, cs] S512x128.size ok.col))
  dv := put O.dv ![0, cs] S512x128.size (pT (window O.dv ![0, cs] S512x128.size ok.col) (hP diag hh cs off ok I)
    (window I.g ![0, cs] S512x128.size ok.col))
  dc := put O.dc ![hh, 0, 0] S1x1x512.size (pDc (hCol diag hh cs off ok I)
    (window O.dc ![hh, 0, 0] S1x1x512.size ok.head))

end Head

/-! ## The operations leave the values -/

/-- The blocks read, held. -/
def heldIn (c : Dev nD) (b : Bufs) (I : Ins F) : sProp 𝕄 :=
  iprop(owns (c : Thread nD τ) b.q fullShare I.q ∗ owns (c : Thread nD τ) b.k fullShare I.k
    ∗ owns (c : Thread nD τ) b.v fullShare I.v ∗ owns (c : Thread nD τ) b.g fullShare I.g
    ∗ owns (c : Thread nD τ) b.lse fullShare I.lse ∗ owns (c : Thread nD τ) b.dl fullShare I.dl
    ∗ owns (c : Thread nD τ) b.cr fullShare I.cr)

/-- The gradients added to, held. -/
def heldOut (c : Dev nD) (b : Bufs) (O : Outs F) : sProp 𝕄 :=
  iprop(owns (c : Thread nD τ) b.dq fullShare O.dq ∗ owns (c : Thread nD τ) b.dk fullShare O.dk
    ∗ owns (c : Thread nD τ) b.dv fullShare O.dv ∗ owns (c : Thread nD τ) b.dc fullShare O.dc)

/-- The working buffers, at anything. -/
def heldScr (c : Dev nD) (b : Bufs) : sProp 𝕄 :=
  iprop((∃ d, owns (c : Thread nD τ) b.s fullShare d) ∗ (∃ d, owns (c : Thread nD τ) b.dp fullShare d)
    ∗ (∃ d, owns (c : Thread nD τ) b.p fullShare d) ∗ (∃ d, owns (c : Thread nD τ) b.ds fullShare d))

/-- A chunk of rows. -/
theorem row_wp (c : Dev nD) (b : Bufs) (diag : Bool) (r cs : ℕ) (w : BitVec 32) (ok : RowOk r cs) (cr : FVec F S1x512 .f32)
    (acc : FVec F S8x512 .f32) (S lse Dp dl : Vec F S512x512 .f32) (P D : Vec F S512x512 .bf16)
    (K : FVec F S8x512 .f32 → sProp 𝕄) :
    iprop(owns (c : Thread nD τ) b.s fullShare S ∗ owns (c : Thread nD τ) b.lse fullShare lse
        ∗ owns (c : Thread nD τ) b.dp fullShare Dp ∗ owns (c : Thread nD τ) b.dl fullShare dl
        ∗ owns (c : Thread nD τ) b.p fullShare P ∗ owns (c : Thread nD τ) b.ds fullShare D
        ∗ (iprop(owns (c : Thread nD τ) b.s fullShare S ∗ owns (c : Thread nD τ) b.lse fullShare lse
            ∗ owns (c : Thread nD τ) b.dp fullShare Dp ∗ owns (c : Thread nD τ) b.dl fullShare dl
            ∗ owns (c : Thread nD τ) b.p fullShare (put P ![r, 0] ![128, 512] (pPb (chP diag r cs w ok cr S lse)))
            ∗ owns (c : Thread nD τ) b.ds fullShare (put D ![r, 0] ![128, 512] (pDsb (chDs diag r cs w ok cr S lse Dp dl))))
          -∗ K (pCol acc (chDs diag r cs w ok cr S lse Dp dl))))
      ⊢ wp frame (wpE (defs₀ (F := F)) Variants.none c none) Set.univ (rowProg b diag r cs w ok cr acc) K := by
  unfold rowProg chP chDs
  iintro ⟨Hs, Hl, Hdp, Hdl, Hp, Hds, Hk⟩
  iapply (load_owns Variants.none (c : Thread nD τ) none Set.univ (m := b.s)) $$ Hs
  iintro Hs
  iapply (load_owns Variants.none (c : Thread nD τ) none Set.univ (m := b.lse)) $$ Hl
  iintro Hl
  iapply (load_owns Variants.none (c : Thread nD τ) none Set.univ (m := b.dp)) $$ Hdp
  iintro Hdp
  iapply (load_owns Variants.none (c : Thread nD τ) none Set.univ (m := b.dl)) $$ Hdl
  iintro Hdl
  iapply (load_owns Variants.none (c : Thread nD τ) none Set.univ (m := b.p)) $$ Hp
  iintro Hp
  iapply (store_owns Variants.none (c : Thread nD τ) none Set.univ (m := b.p)) $$ Hp
  iintro Hp
  iapply (load_owns Variants.none (c : Thread nD τ) none Set.univ (m := b.ds)) $$ Hds
  iintro Hds
  iapply (store_owns Variants.none (c : Thread nD τ) none Set.univ (m := b.ds)) $$ Hds
  iintro Hds
  iapply (le_wp_ret frame (wpE (defs₀ (F := F)) Variants.none (c : Thread nD τ) none) Set.univ)
  iapply Hk
  isplitl [Hs]; · iexact Hs
  isplitl [Hl]; · iexact Hl
  isplitl [Hdp]; · iexact Hdp
  isplitl [Hdl]; · iexact Hdl
  isplitl [Hp]; · iexact Hp
  iexact Hds

/-- A chunk of rows, in front of what follows it. -/
theorem row_bind (c : Dev nD) (b : Bufs) (diag : Bool) (r cs : ℕ) (w : BitVec 32) (ok : RowOk r cs) (cr : FVec F S1x512 .f32)
    (acc : FVec F S8x512 .f32) (S lse Dp dl : Vec F S512x512 .f32) (P D : Vec F S512x512 .bf16)
    (f : FVec F S8x512 .f32 → Prog (TpuEff nD τ sig (Elt F) Λ₀ .tc) PUnit) (K : PUnit → sProp 𝕄) :
    iprop((owns (c : Thread nD τ) b.s fullShare S ∗ owns (c : Thread nD τ) b.lse fullShare lse
        ∗ owns (c : Thread nD τ) b.dp fullShare Dp ∗ owns (c : Thread nD τ) b.dl fullShare dl
        ∗ owns (c : Thread nD τ) b.p fullShare P ∗ owns (c : Thread nD τ) b.ds fullShare D)
        ∗ (iprop(owns (c : Thread nD τ) b.s fullShare S ∗ owns (c : Thread nD τ) b.lse fullShare lse
            ∗ owns (c : Thread nD τ) b.dp fullShare Dp ∗ owns (c : Thread nD τ) b.dl fullShare dl
            ∗ owns (c : Thread nD τ) b.p fullShare (put P ![r, 0] ![128, 512] (pPb (chP diag r cs w ok cr S lse)))
            ∗ owns (c : Thread nD τ) b.ds fullShare (put D ![r, 0] ![128, 512] (pDsb (chDs diag r cs w ok cr S lse Dp dl))))
          -∗ wp frame (wpE (defs₀ (F := F)) Variants.none c none) Set.univ (f (pCol acc (chDs diag r cs w ok cr S lse Dp dl))) K))
      ⊢ wp frame (wpE (defs₀ (F := F)) Variants.none c none) Set.univ (rowProg b diag r cs w ok cr acc >>= f) K := by
  rw [wp_bind]
  iintro ⟨⟨Hs, Hl, Hdp, Hdl, Hp, Hds⟩, Hk⟩
  iapply (row_wp c b diag r cs w ok cr acc S lse Dp dl P D _)
  isplitl [Hs]; · iexact Hs
  isplitl [Hl]; · iexact Hl
  isplitl [Hdp]; · iexact Hdp
  isplitl [Hdl]; · iexact Hdl
  isplitl [Hp]; · iexact Hp
  isplitl [Hds]; · iexact Hds
  iexact Hk

/-- A head of a step: its operations leave the blocks read as they were and the gradients at `headOut`. -/
theorem head_wp (c : Dev nD) (b : Bufs) (diag : Bool) (hh cs : ℕ) (off : Fin 2 → ℕ) (ok : HeadOk hh cs off) (I : Ins F)
    (O : Outs F) (K : PUnit → sProp 𝕄) :
    iprop(heldIn c b I ∗ heldOut c b O ∗ heldScr (F := F) c b
        ∗ (iprop(heldIn c b I ∗ heldOut c b (headOut diag hh cs off ok I O) ∗ heldScr (F := F) c b) -∗ K ⟨⟩))
      ⊢ wp frame (wpE (defs₀ (F := F)) Variants.none c none) Set.univ (headProg b diag hh cs off ok) K := by
  unfold headProg heldIn heldOut heldScr
  iintro ⟨⟨Hq, Hkk, Hv, Hg, Hl, Hdl, Hcr⟩, ⟨Hdq, Hdk, Hdv, Hdc⟩, ⟨⟨%s0, Hs⟩, ⟨%dp0, Hdp⟩, ⟨%p0, Hp⟩, ⟨%ds0, Hds⟩⟩, Hk⟩
  iapply (load_owns Variants.none (c : Thread nD τ) none Set.univ (m := b.q)) $$ Hq
  iintro Hq
  iapply (load_owns Variants.none (c : Thread nD τ) none Set.univ (m := b.k)) $$ Hkk
  iintro Hkk
  iapply (load_owns Variants.none (c : Thread nD τ) none Set.univ (m := b.s)) $$ Hs
  iintro Hs
  iapply (store_owns Variants.none (c : Thread nD τ) none Set.univ (m := b.s)) $$ Hs
  iintro Hs
  iapply (load_owns Variants.none (c : Thread nD τ) none Set.univ (m := b.g)) $$ Hg
  iintro Hg
  iapply (load_owns Variants.none (c : Thread nD τ) none Set.univ (m := b.v)) $$ Hv
  iintro Hv
  iapply (load_owns Variants.none (c : Thread nD τ) none Set.univ (m := b.dp)) $$ Hdp
  iintro Hdp
  iapply (store_owns Variants.none (c : Thread nD τ) none Set.univ (m := b.dp)) $$ Hdp
  iintro Hdp
  iapply (load_owns Variants.none (c : Thread nD τ) none Set.univ (m := b.cr)) $$ Hcr
  iintro Hcr
  rw [put_full _ _ inb_S512x512_S512x512_0_0, put_full _ _ inb_S512x512_S512x512_0_0]
  iapply (row_bind c b diag 0 cs 0#32 ok.row0 (hCr hh cs off ok I) pCol0 (hS hh cs off ok I) I.lse (hDp hh cs off ok I) I.dl _ _ _ K)
  isplitl [Hs Hl Hdp Hdl Hp Hds]
  · isplitl [Hs]; · iexact Hs
    isplitl [Hl]; · iexact Hl
    isplitl [Hdp]; · iexact Hdp
    isplitl [Hdl]; · iexact Hdl
    isplitl [Hp]; · iexact Hp
    iexact Hds
  iintro ⟨Hs, Hl, Hdp, Hdl, Hp, Hds⟩
  iapply (row_bind c b diag 128 cs 128#32 ok.row1 (hCr hh cs off ok I) (pCol pCol0 (hD0 diag hh cs off ok I)) (hS hh cs off ok I) I.lse (hDp hh cs off ok I) I.dl _ _ _ K)
  isplitl [Hs Hl Hdp Hdl Hp Hds]
  · isplitl [Hs]; · iexact Hs
    isplitl [Hl]; · iexact Hl
    isplitl [Hdp]; · iexact Hdp
    isplitl [Hdl]; · iexact Hdl
    isplitl [Hp]; · iexact Hp
    iexact Hds
  iintro ⟨Hs, Hl, Hdp, Hdl, Hp, Hds⟩
  iapply (row_bind c b diag 256 cs 256#32 ok.row2 (hCr hh cs off ok I) (pCol (pCol pCol0 (hD0 diag hh cs off ok I)) (hD1 diag hh cs off ok I)) (hS hh cs off ok I) I.lse (hDp hh cs off ok I) I.dl _ _ _ K)
  isplitl [Hs Hl Hdp Hdl Hp Hds]
  · isplitl [Hs]; · iexact Hs
    isplitl [Hl]; · iexact Hl
    isplitl [Hdp]; · iexact Hdp
    isplitl [Hdl]; · iexact Hdl
    isplitl [Hp]; · iexact Hp
    iexact Hds
  iintro ⟨Hs, Hl, Hdp, Hdl, Hp, Hds⟩
  iapply (row_bind c b diag 384 cs 384#32 ok.row3 (hCr hh cs off ok I) (pCol (pCol (pCol pCol0 (hD0 diag hh cs off ok I)) (hD1 diag hh cs off ok I)) (hD2 diag hh cs off ok I)) (hS hh cs off ok I) I.lse (hDp hh cs off ok I) I.dl _ _ _ K)
  isplitl [Hs Hl Hdp Hdl Hp Hds]
  · isplitl [Hs]; · iexact Hs
    isplitl [Hl]; · iexact Hl
    isplitl [Hdp]; · iexact Hdp
    isplitl [Hdl]; · iexact Hdl
    isplitl [Hp]; · iexact Hp
    iexact Hds
  iintro ⟨Hs, Hl, Hdp, Hdl, Hp, Hds⟩
  iapply (load_owns Variants.none (c : Thread nD τ) none Set.univ (m := b.dc)) $$ Hdc
  iintro Hdc
  iapply (load_owns Variants.none (c : Thread nD τ) none Set.univ (m := b.dc)) $$ Hdc
  iintro Hdc
  iapply (store_owns Variants.none (c : Thread nD τ) none Set.univ (m := b.dc)) $$ Hdc
  iintro Hdc
  iapply (load_owns Variants.none (c : Thread nD τ) none Set.univ (m := b.dv)) $$ Hdv
  iintro Hdv
  iapply (load_owns Variants.none (c : Thread nD τ) none Set.univ (m := b.p)) $$ Hp
  iintro Hp
  iapply (load_owns Variants.none (c : Thread nD τ) none Set.univ (m := b.g)) $$ Hg
  iintro Hg
  iapply (load_owns Variants.none (c : Thread nD τ) none Set.univ (m := b.dv)) $$ Hdv
  iintro Hdv
  iapply (store_owns Variants.none (c : Thread nD τ) none Set.univ (m := b.dv)) $$ Hdv
  iintro Hdv
  iapply (load_owns Variants.none (c : Thread nD τ) none Set.univ (m := b.dk)) $$ Hdk
  iintro Hdk
  iapply (load_owns Variants.none (c : Thread nD τ) none Set.univ (m := b.ds)) $$ Hds
  iintro Hds
  iapply (load_owns Variants.none (c : Thread nD τ) none Set.univ (m := b.q)) $$ Hq
  iintro Hq
  iapply (load_owns Variants.none (c : Thread nD τ) none Set.univ (m := b.dk)) $$ Hdk
  iintro Hdk
  iapply (store_owns Variants.none (c : Thread nD τ) none Set.univ (m := b.dk)) $$ Hdk
  iintro Hdk
  iapply (load_owns Variants.none (c : Thread nD τ) none Set.univ (m := b.dq)) $$ Hdq
  iintro Hdq
  iapply (load_owns Variants.none (c : Thread nD τ) none Set.univ (m := b.ds)) $$ Hds
  iintro Hds
  iapply (load_owns Variants.none (c : Thread nD τ) none Set.univ (m := b.k)) $$ Hkk
  iintro Hkk
  iapply (load_owns Variants.none (c : Thread nD τ) none Set.univ (m := b.dq)) $$ Hdq
  iintro Hdq
  iapply (store_owns Variants.none (c : Thread nD τ) none Set.univ (m := b.dq)) $$ Hdq
  iintro Hdq
  iapply (le_wp_ret frame (wpE (defs₀ (F := F)) Variants.none (c : Thread nD τ) none) Set.univ)
  iapply Hk
  rw [put_glue, put_glue, window_full, window_full]
  isplitl [Hq Hkk Hv Hg Hl Hdl Hcr]
  · isplitl [Hq]; · iexact Hq
    isplitl [Hkk]; · iexact Hkk
    isplitl [Hv]; · iexact Hv
    isplitl [Hg]; · iexact Hg
    isplitl [Hl]; · iexact Hl
    isplitl [Hdl]; · iexact Hdl
    iexact Hcr
  isplitl [Hdq Hdk Hdv Hdc]
  · isplitl [Hdq]; · iexact Hdq
    isplitl [Hdk]; · iexact Hdk
    isplitl [Hdv]; · iexact Hdv
    iexact Hdc
  isplitl [Hs]; · iexists _; iexact Hs
  isplitl [Hdp]; · iexists _; iexact Hdp
  isplitl [Hp]; · iexists _; iexact Hp
  iexists _; iexact Hds

end Cert.KernelIdeal
-- ==== Proof.KI.Printed.lean ====
/- The printed body of the gradient's call is four heads in the tile's own kind, between the clearing of its accumulators
   and the copy out of them. -/
module

public import proofs.«01_k».proof.Proof.KI.Step
public import Mathlib.Tactic.IntervalCases

@[expose] public section

set_option synthInstance.maxSize 4096

noncomputable section

namespace Cert.KernelIdeal

open Idealize.ShloMosaic Idealize.SL.Sem
open Cert.KernelIdeal.Gen

variable {F : FTy → Type} [FloatOps F] [Named F]

/-- The inequalities of a chunk of rows, at the four chunks of each of the four heads. -/
theorem rowOk (r cs : ℕ) (hr : r = 0 ∨ r = 128 ∨ r = 256 ∨ r = 384) (hc : cs = 0 ∨ cs = 128 ∨ cs = 256 ∨ cs = 384) :
    RowOk r cs := by
  rcases hr with rfl | rfl | rfl | rfl <;> rcases hc with rfl | rfl | rfl | rfl <;>
    exact ⟨by decide, by decide, by decide⟩

/-- The inequalities of a head, given those of the query rows it adds to. -/
theorem headOk (hh cs : ℕ) (off : Fin 2 → ℕ) (h : cs = 128 * hh) (hh4 : hh < 4)
    (dq : ∀ a, off a + S512x128.size a ≤ S8192x512.size a) : HeadOk hh cs off := by
  subst h
  interval_cases hh <;>
    exact ⟨by decide, by decide, dq, rowOk _ _ (by decide) (by decide), rowOk _ _ (by decide) (by decide),
      rowOk _ _ (by decide) (by decide), rowOk _ _ (by decide) (by decide)⟩

/-- The inequalities of a step. -/
theorem stepOk {o0 o1 o2 o3 : Fin 2 → ℕ} (h0 : ∀ a, o0 a + S512x128.size a ≤ S8192x512.size a)
    (h1 : ∀ a, o1 a + S512x128.size a ≤ S8192x512.size a) (h2 : ∀ a, o2 a + S512x128.size a ≤ S8192x512.size a)
    (h3 : ∀ a, o3 a + S512x128.size a ≤ S8192x512.size a) : StepOk o0 o1 o2 o3 :=
  ⟨headOk 0 0 o0 rfl (by decide) h0, headOk 1 128 o1 rfl (by decide) h1, headOk 2 256 o2 rfl (by decide) h2,
    headOk 3 384 o3 rfl (by decide) h3⟩

/-- What follows a conditional that may do nothing stands in both its branches. -/
theorem seq_dite.{v} {E : Type → Type v} {α : Type} (c : Prop) [Decidable c] (A : c → Prog E PUnit) (rest : PUnit → Prog E α) :
    (dite c A fun _ => pure ⟨⟩) >>= rest = dite c (fun h => A h >>= rest) (fun _ => rest ⟨⟩) := by
  split <;> rfl

/-- The same of a conditional that does not use its condition. -/
theorem seq_ite.{v} {E : Type → Type v} {α : Type} (c : Prop) [Decidable c] (A : Prog E PUnit) (rest : PUnit → Prog E α) :
    (ite c A (pure ⟨⟩)) >>= rest = ite c (A >>= rest) (rest ⟨⟩) := by
  split <;> rfl

/-- The windows a column's gradients are copied out to. -/
structure Wins where
  dk : Memref sig .tc .vmem S512x512 .f32
  dv : Memref sig .tc .vmem S512x512 .f32
  dc : Memref sig .tc .vmem S4x1x512 .f32

/-- The queries' gradient is cleared at a row of the grid's first point. -/
def clearQ (b : Bufs) (i : grid0.Coords) : Prog (TpuEff nD τ sig (Elt F) Λ₀ .tc) PUnit := do
  if k0_h1 : k0_cond1 i = 1#1 then do
    let v20 : Vec F S8192x512 .f32 ← Prog.lift (.load b.dq (Rect.unit (s := S8192x512) ![0, 0] S8192x512.size inb_S8192x512_S8192x512_0_0).toLoadRect (View.loadsAt_vmem h_S8192x512))
    Prog.lift (.store b.dq (Rect.unit (s := S8192x512) ![0, 0] S8192x512.size inb_S8192x512_S8192x512_0_0) (k0_pay1 (F := F)) Finset.univ (View.stores_vmem_bits_univ h_S8192x512 rfl) (.inl rfl))
    pure ⟨⟩
  else do
    pure ⟨⟩

/-- A column's gradients are cleared at its first tile. -/
def clearC (b : Bufs) (v1 v3 : BitVec 32) : Prog (TpuEff nD τ sig (Elt F) Λ₀ .tc) PUnit := do
  if Scalar.cmpi .ne (Scalar.extui (Scalar.cmpi .eq v1 v3) : BitVec 32) 0#32 = 1#1 then do
    let v20 : Vec F S512x512 .f32 ← Prog.lift (.load b.dk (Rect.unit (s := S512x512) ![0, 0] S512x512.size inb_S512x512_S512x512_0_0).toLoadRect (View.loadsAt_vmem h_S512x512))
    Prog.lift (.store b.dk (Rect.unit (s := S512x512) ![0, 0] S512x512.size inb_S512x512_S512x512_0_0) (k0_pay2 (F := F)) Finset.univ (View.stores_vmem_bits_univ h_S512x512 rfl) (.inl rfl))
    let v24 : Vec F S512x512 .f32 ← Prog.lift (.load b.dv (Rect.unit (s := S512x512) ![0, 0] S512x512.size inb_S512x512_S512x512_0_0).toLoadRect (View.loadsAt_vmem h_S512x512))
    Prog.lift (.store b.dv (Rect.unit (s := S512x512) ![0, 0] S512x512.size inb_S512x512_S512x512_0_0) (k0_pay3 (F := F)) Finset.univ (View.stores_vmem_bits_univ h_S512x512 rfl) (.inl rfl))
    let v28 : Vec F S4x1x512 .f32 ← Prog.lift (.load b.dc (Rect.unit (s := S4x1x512) ![0, 0, 0] S4x1x512.size inb_S4x1x512_S4x1x512_0_0_0).toLoadRect (View.loadsAt_vmem h_S4x1x512))
    Prog.lift (.store b.dc (Rect.unit (s := S4x1x512) ![0, 0, 0] S4x1x512.size inb_S4x1x512_S4x1x512_0_0_0) (k0_pay4 (F := F)) Finset.univ (View.stores_vmem_bits_univ h_S4x1x512 rfl) (.inl rfl))
    pure ⟨⟩
  else do
    pure ⟨⟩

/-- A tile below the diagonal. -/
def stepBelow (b : Bufs) (v1 v3 : BitVec 32) (k0_hw1 : k0_chk1 v1 v3) : Prog (TpuEff nD τ sig (Elt F) Λ₀ .tc) PUnit := do
  if k0_h3 : k0_cond3 v1 v3 = 1#1 then do
    stepProg b false (k0_off2 v1) (k0_off3 v1) (k0_off4 v1) (k0_off5 v1)
      (stepOk (k0_off2_inb v1 v3 k0_hw1 k0_h3) (k0_off3_inb v1 v3 k0_hw1 k0_h3) (k0_off4_inb v1 v3 k0_hw1 k0_h3)
        (k0_off5_inb v1 v3 k0_hw1 k0_h3))
    pure ⟨⟩
  else do
    pure ⟨⟩

/-- A tile on the diagonal. -/
def stepDiag (b : Bufs) (v1 v3 : BitVec 32) (k0_hw1 : k0_chk1 v1 v3) : Prog (TpuEff nD τ sig (Elt F) Λ₀ .tc) PUnit := do
  if k0_h4 : k0_cond4 v1 v3 = 1#1 then do
    stepProg b true (k0_off6 v1) (k0_off7 v1) (k0_off8 v1) (k0_off9 v1)
      (stepOk (k0_off6_inb v1 v3 k0_hw1 k0_h4) (k0_off7_inb v1 v3 k0_hw1 k0_h4) (k0_off8_inb v1 v3 k0_hw1 k0_h4)
        (k0_off9_inb v1 v3 k0_hw1 k0_h4))
    pure ⟨⟩
  else do
    pure ⟨⟩

/-- A column's gradients are copied out at its last tile. -/
def copyOut (b : Bufs) (w : Wins) (v1 : BitVec 32) : Prog (TpuEff nD τ sig (Elt F) Λ₀ .tc) PUnit := do
  if k0_h5 : k0_cond5 v1 = 1#1 then do
    let v19 : Vec F S512x512 .f32 ← Prog.lift (.load b.dk (Rect.unit (s := S512x512) ![0, 0] S512x512.size inb_S512x512_S512x512_0_0).toLoadRect (View.loadsAt_vmem h_S512x512))
    let v20 : Vec F S512x512 .f32 ← Prog.lift (.load w.dk (Rect.unit (s := S512x512) ![0, 0] S512x512.size inb_S512x512_S512x512_0_0).toLoadRect (View.loadsAt_vmem h_S512x512))
    Prog.lift (.store w.dk (Rect.unit (s := S512x512) ![0, 0] S512x512.size inb_S512x512_S512x512_0_0) v19 Finset.univ (View.stores_vmem_bits_univ h_S512x512 rfl) (.inl rfl))
    let v21 : Vec F S512x512 .f32 ← Prog.lift (.load b.dv (Rect.unit (s := S512x512) ![0, 0] S512x512.size inb_S512x512_S512x512_0_0).toLoadRect (View.loadsAt_vmem h_S512x512))
    let v22 : Vec F S512x512 .f32 ← Prog.lift (.load w.dv (Rect.unit (s := S512x512) ![0, 0] S512x512.size inb_S512x512_S512x512_0_0).toLoadRect (View.loadsAt_vmem h_S512x512))
    Prog.lift (.store w.dv (Rect.unit (s := S512x512) ![0, 0] S512x512.size inb_S512x512_S512x512_0_0) v21 Finset.univ (View.stores_vmem_bits_univ h_S512x512 rfl) (.inl rfl))
    let v23 : Vec F S4x1x512 .f32 ← Prog.lift (.load b.dc (Rect.unit (s := S4x1x512) ![0, 0, 0] S4x1x512.size inb_S4x1x512_S4x1x512_0_0_0).toLoadRect (View.loadsAt_vmem h_S4x1x512))
    let v24 : Vec F S4x1x512 .f32 ← Prog.lift (.load w.dc (Rect.unit (s := S4x1x512) ![0, 0, 0] S4x1x512.size inb_S4x1x512_S4x1x512_0_0_0).toLoadRect (View.loadsAt_vmem h_S4x1x512))
    Prog.lift (.store w.dc (Rect.unit (s := S4x1x512) ![0, 0, 0] S4x1x512.size inb_S4x1x512_S4x1x512_0_0_0) v23 Finset.univ (View.stores_vmem_bits_univ h_S4x1x512 rfl) (.inl rfl))
    pure ⟨⟩
  else do
    pure ⟨⟩

/-- The body, over its buffers and the two words it reads off its tables. -/
def bodyProg (i : grid0.Coords) (t1 t2 : Memref sig .tc .smem S136 .i32) (b : Bufs) (w : Wins) : Prog (TpuEff nD τ sig (Elt F) Λ₀ .tc) PUnit := do
  let v1 : Elt F .i32 ← smemLoad t1 (Rect.unit (s := S136) (k0_off1 i) S1.size (k0_off1_inb i)) numel1_S1 rfl
  let v3 : Elt F .i32 ← smemLoad t2 (Rect.unit (s := S136) (k0_off1 i) S1.size (k0_off1_inb i)) numel1_S1 rfl
  have k0_hw1 : k0_chk1 v1 v3 := (← Prog.lift (TpuEff.assume (k0_chk1 v1 v3) (k0_chk1.dec v1 v3))).down
  clearQ b i
  clearC b v1 v3
  stepBelow b v1 v3 k0_hw1
  stepDiag b v1 v3 k0_hw1
  copyOut b w v1
  pure ⟨⟩

set_option maxRecDepth 65536 in
set_option maxHeartbeats 4000000 in
/-- The printed body is this one. -/
theorem body_eq
    (i : grid0.Coords) (arg2 : Memref sig .tc .smem S136 .i32) (harg2 : arg2.IsWhole)
    (arg3 : Memref sig .tc .smem S136 .i32) (harg3 : arg3.IsWhole) (arg4 : Memref sig .tc .vmem S512x512 .bf16)
    (harg4 : arg4.IsWhole) (arg5 : Memref sig .tc .vmem S512x512 .bf16) (harg5 : arg5.IsWhole)
    (arg6 : Memref sig .tc .vmem S512x512 .bf16) (harg6 : arg6.IsWhole) (arg7 : Memref sig .tc .vmem S512x512 .bf16)
    (harg7 : arg7.IsWhole) (arg8 : Memref sig .tc .vmem S512x512 .f32) (harg8 : arg8.IsWhole)
    (arg9 : Memref sig .tc .vmem S512x512 .f32) (harg9 : arg9.IsWhole) (arg10 : Memref sig .tc .vmem S4x1x512 .f32)
    (harg10 : arg10.IsWhole) (arg11 : Memref sig .tc .vmem S8192x512 .f32) (harg11 : arg11.IsWhole)
    (arg12 : Memref sig .tc .vmem S512x512 .f32) (harg12 : arg12.IsWhole) (arg13 : Memref sig .tc .vmem S512x512 .f32)
    (harg13 : arg13.IsWhole) (arg14 : Memref sig .tc .vmem S4x1x512 .f32) (harg14 : arg14.IsWhole)
    (arg15 : Memref sig .tc .vmem S512x512 .f32) (harg15 : arg15.IsWhole) (arg16 : Memref sig .tc .vmem S512x512 .f32)
    (harg16 : arg16.IsWhole) (arg17 : Memref sig .tc .vmem S4x1x512 .f32) (harg17 : arg17.IsWhole)
    (arg18 : Memref sig .tc .vmem S512x512 .f32) (harg18 : arg18.IsWhole) (arg19 : Memref sig .tc .vmem S512x512 .f32)
    (harg19 : arg19.IsWhole) (arg20 : Memref sig .tc .vmem S512x512 .bf16) (harg20 : arg20.IsWhole)
    (arg21 : Memref sig .tc .vmem S512x512 .bf16) (harg21 : arg21.IsWhole) :
    cc0_b0_dattn (F := F) i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17
      arg18 harg18 arg19 harg19 arg20 harg20 arg21 harg21
    = bodyProg i arg2 arg3
        ⟨arg4, arg5, arg6, arg7, arg8, arg9, arg10, arg11, arg15, arg16, arg17, arg18, arg19, arg20, harg20, arg21, harg21⟩
        ⟨arg12, arg13, arg14⟩ := by
  unfold bodyProg clearQ clearC stepBelow stepDiag copyOut
  simp only [seq_dite, seq_ite]
  rfl

end Cert.KernelIdeal
-- ==== Proof.KI.Body.lean ====
/- What the body computes at a grid point, as a function of the words of its tables and the blocks it is given, and that
   its operations leave it. -/
module

public import proofs.«01_k».proof.Proof.KI.Head
public import proofs.«01_k».proof.Proof.KI.Printed

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Cert.KernelIdeal.Gen Cert.Fox

variable {F : FTy → Type} [FloatOps F] [Named F]

local notation "𝕄" => MT nD τ sig Unit (Elt F) ℕ (UR sig nD τ) ℕ

/-! ## The values -/

/-- The blocks a column's gradients leave the call by. -/
structure Cols (F : FTy → Type) where
  dk : Vec F S512x512 .f32
  dv : Vec F S512x512 .f32
  dc : Vec F S4x1x512 .f32

/-- The gradients after the four heads of a step. -/
def stepOut (diag : Bool) (o0 o1 o2 o3 : Fin 2 → ℕ) (ok : StepOk o0 o1 o2 o3) (I : Ins F) (O : Outs F) : Outs F :=
  headOut diag 3 384 o3 ok.h3 I (headOut diag 2 256 o2 ok.h2 I (headOut diag 1 128 o1 ok.h1 I (headOut diag 0 0 o0 ok.h0 I O)))

/-- The gradients, the queries' cleared at a row's first point. -/
def clearQOut (i : grid0.Coords) (O : Outs F) : Outs F :=
  if k0_cond1 i = 1#1 then { O with dq := k0_pay1 (F := F) } else O

/-- The gradients, a column's cleared at its first tile. -/
def clearCOut (v1 v3 : BitVec 32) (O : Outs F) : Outs F :=
  if Scalar.cmpi .ne (Scalar.extui (Scalar.cmpi .eq v1 v3) : BitVec 32) 0#32 = 1#1 then
    { O with dk := k0_pay2 (F := F), dv := k0_pay3 (F := F), dc := k0_pay4 (F := F) }
  else O

/-- The gradients after a tile below the diagonal. -/
def belowOut (v1 v3 : BitVec 32) (hw : k0_chk1 v1 v3) (I : Ins F) (O : Outs F) : Outs F :=
  if h : k0_cond3 v1 v3 = 1#1 then
    stepOut false (k0_off2 v1) (k0_off3 v1) (k0_off4 v1) (k0_off5 v1)
      (stepOk (k0_off2_inb v1 v3 hw h) (k0_off3_inb v1 v3 hw h) (k0_off4_inb v1 v3 hw h) (k0_off5_inb v1 v3 hw h)) I O
  else O

/-- The gradients after a tile on the diagonal. -/
def diagOut (v1 v3 : BitVec 32) (hw : k0_chk1 v1 v3) (I : Ins F) (O : Outs F) : Outs F :=
  if h : k0_cond4 v1 v3 = 1#1 then
    stepOut true (k0_off6 v1) (k0_off7 v1) (k0_off8 v1) (k0_off9 v1)
      (stepOk (k0_off6_inb v1 v3 hw h) (k0_off7_inb v1 v3 hw h) (k0_off8_inb v1 v3 hw h) (k0_off9_inb v1 v3 hw h)) I O
  else O

/-- The gradients after a point. -/
def bodyOut (i : grid0.Coords) (v1 v3 : BitVec 32) (hw : k0_chk1 v1 v3) (I : Ins F) (O : Outs F) : Outs F :=
  diagOut v1 v3 hw I (belowOut v1 v3 hw I (clearCOut v1 v3 (clearQOut i O)))

/-- The blocks that leave the call after a point: the column's gradients at its last tile. -/
def colsOut (v1 : BitVec 32) (O : Outs F) (W : Cols F) : Cols F :=
  if k0_cond5 v1 = 1#1 then ⟨O.dk, O.dv, O.dc⟩ else W

/-- The word of a table at a point. -/
def word (f : S136.Idx → BitVec 32) (i : grid0.Coords) : BitVec 32 :=
  window f (k0_off1 i) S1.size (k0_off1_inb i) (Shape.Idx.first (s := (Rect.unit (s := S136) (k0_off1 i) S1.size (k0_off1_inb i)).shape) (numel1_S1.symm ▸ Nat.one_pos))

/-! ## The operations leave them -/

/-- The blocks that leave the call, held. -/
def heldCols (c : Dev nD) (w : Wins) (W : Cols F) : sProp 𝕄 :=
  iprop(owns (c : Thread nD τ) w.dk fullShare W.dk ∗ owns (c : Thread nD τ) w.dv fullShare W.dv
    ∗ owns (c : Thread nD τ) w.dc fullShare W.dc)

/-- All the body's buffers, held. -/
def held (c : Dev nD) (b : Bufs) (w : Wins) (I : Ins F) (O : Outs F) (W : Cols F) : sProp 𝕄 :=
  iprop(heldIn c b I ∗ heldOut c b O ∗ heldScr (F := F) c b ∗ heldCols c w W)

/-- A program takes one assertion to another. -/
def Does (c : Dev nD) (p : Prog (TpuEff nD τ sig (Elt F) Λ₀ .tc) PUnit) (P R : sProp 𝕄) : Prop :=
  ∀ K : PUnit → sProp 𝕄, iprop(P ∗ (R -∗ K ⟨⟩)) ⊢ wp frame (wpE (defs₀ (F := F)) Variants.none c none) Set.univ p K

/-- One program and then another. -/
theorem Does.seq {c : Dev nD} {p : Prog (TpuEff nD τ sig (Elt F) Λ₀ .tc) PUnit}
    {f : PUnit → Prog (TpuEff nD τ sig (Elt F) Λ₀ .tc) PUnit} {P R T : sProp 𝕄} (h : Does c p P R) (h' : Does c (f ⟨⟩) R T) :
    Does c (p >>= f) P T := by
  intro K
  rw [wp_bind]
  iintro ⟨HP, HK⟩
  iapply (h (fun a => wp frame (wpE (defs₀ (F := F)) Variants.none (c : Thread nD τ) none) Set.univ (f a) K))
  isplitl [HP]
  · iexact HP
  iintro HR
  iapply (h' K)
  isplitl [HR]
  · iexact HR
  iexact HK

/-- Nothing to do. -/
theorem Does.pure (c : Dev nD) (P : sProp 𝕄) : Does c (Pure.pure ⟨⟩ : Prog (TpuEff nD τ sig (Elt F) Λ₀ .tc) PUnit) P P := by
  intro K
  iintro ⟨HP, HK⟩
  iapply (le_wp_ret frame (wpE (defs₀ (F := F)) Variants.none (c : Thread nD τ) none) Set.univ)
  iapply HK
  iexact HP

/-- A head, among all the buffers. -/
theorem head_does (c : Dev nD) (b : Bufs) (w : Wins) (diag : Bool) (hh cs : ℕ) (off : Fin 2 → ℕ) (ok : HeadOk hh cs off)
    (I : Ins F) (O : Outs F) (W : Cols F) :
    Does c (headProg b diag hh cs off ok) (held c b w I O W) (held c b w I (headOut diag hh cs off ok I O) W) := by
  intro K
  unfold held
  iintro ⟨⟨HI, HO, HS, HW⟩, HK⟩
  iapply (head_wp c b diag hh cs off ok I O K)
  isplitl [HI]; · iexact HI
  isplitl [HO]; · iexact HO
  isplitl [HS]; · iexact HS
  iintro ⟨HI, HO, HS⟩
  iapply HK
  isplitl [HI]; · iexact HI
  isplitl [HO]; · iexact HO
  isplitl [HS]; · iexact HS
  iexact HW

/-- The four heads of a step. -/
theorem step_does (c : Dev nD) (b : Bufs) (w : Wins) (diag : Bool) (o0 o1 o2 o3 : Fin 2 → ℕ) (ok : StepOk o0 o1 o2 o3)
    (I : Ins F) (O : Outs F) (W : Cols F) :
    Does c (stepProg b diag o0 o1 o2 o3 ok) (held c b w I O W) (held c b w I (stepOut diag o0 o1 o2 o3 ok I O) W) :=
  (head_does c b w diag 0 0 o0 ok.h0 I O W).seq <| (head_does c b w diag 1 128 o1 ok.h1 I _ W).seq <|
    (head_does c b w diag 2 256 o2 ok.h2 I _ W).seq (head_does c b w diag 3 384 o3 ok.h3 I _ W)

/-- The queries' gradient is cleared. -/
theorem clearQ_does (c : Dev nD) (b : Bufs) (w : Wins) (i : grid0.Coords) (I : Ins F) (O : Outs F) (W : Cols F) :
    Does c (clearQ b i) (held c b w I O W) (held c b w I (clearQOut i O) W) := by
  unfold clearQ clearQOut
  by_cases h : k0_cond1 i = 1#1
  · rw [dif_pos h, if_pos h]
    intro K
    unfold held heldOut
    iintro ⟨⟨HI, ⟨Hdq, Hdk, Hdv, Hdc⟩, HS, HW⟩, HK⟩
    iapply (load_owns Variants.none (c : Thread nD τ) none Set.univ (m := b.dq)) $$ Hdq
    iintro Hdq
    iapply (store_owns Variants.none (c : Thread nD τ) none Set.univ (m := b.dq)) $$ Hdq
    iintro Hdq
    iapply (le_wp_ret frame (wpE (defs₀ (F := F)) Variants.none (c : Thread nD τ) none) Set.univ)
    iapply HK
    rw [put_full _ _ inb_S8192x512_S8192x512_0_0]
    isplitl [HI]; · iexact HI
    isplitl [Hdq Hdk Hdv Hdc]
    · isplitl [Hdq]; · iexact Hdq
      isplitl [Hdk]; · iexact Hdk
      isplitl [Hdv]; · iexact Hdv
      iexact Hdc
    isplitl [HS]; · iexact HS
    iexact HW
  · rw [dif_neg h, if_neg h]
    exact Does.pure c _

/-- A column's gradients are cleared. -/
theorem clearC_does (c : Dev nD) (b : Bufs) (w : Wins) (v1 v3 : BitVec 32) (I : Ins F) (O : Outs F) (W : Cols F) :
    Does c (clearC b v1 v3) (held c b w I O W) (held c b w I (clearCOut v1 v3 O) W) := by
  unfold clearC clearCOut
  split
  · intro K
    unfold held heldOut
    iintro ⟨⟨HI, ⟨Hdq, Hdk, Hdv, Hdc⟩, HS, HW⟩, HK⟩
    iapply (load_owns Variants.none (c : Thread nD τ) none Set.univ (m := b.dk)) $$ Hdk
    iintro Hdk
    iapply (store_owns Variants.none (c : Thread nD τ) none Set.univ (m := b.dk)) $$ Hdk
    iintro Hdk
    iapply (load_owns Variants.none (c : Thread nD τ) none Set.univ (m := b.dv)) $$ Hdv
    iintro Hdv
    iapply (store_owns Variants.none (c : Thread nD τ) none Set.univ (m := b.dv)) $$ Hdv
    iintro Hdv
    iapply (load_owns Variants.none (c : Thread nD τ) none Set.univ (m := b.dc)) $$ Hdc
    iintro Hdc
    iapply (store_owns Variants.none (c : Thread nD τ) none Set.univ (m := b.dc)) $$ Hdc
    iintro Hdc
    iapply (le_wp_ret frame (wpE (defs₀ (F := F)) Variants.none (c : Thread nD τ) none) Set.univ)
    iapply HK
    rw [put_full _ _ inb_S512x512_S512x512_0_0, put_full _ _ inb_S512x512_S512x512_0_0,
      put_full _ _ inb_S4x1x512_S4x1x512_0_0_0]
    isplitl [HI]; · iexact HI
    isplitl [Hdq Hdk Hdv Hdc]
    · isplitl [Hdq]; · iexact Hdq
      isplitl [Hdk]; · iexact Hdk
      isplitl [Hdv]; · iexact Hdv
      iexact Hdc
    isplitl [HS]; · iexact HS
    iexact HW
  · exact Does.pure c _

/-- A tile below the diagonal. -/
theorem below_does (c : Dev nD) (b : Bufs) (w : Wins) (v1 v3 : BitVec 32) (hw : k0_chk1 v1 v3) (I : Ins F) (O : Outs F)
    (W : Cols F) : Does c (stepBelow b v1 v3 hw) (held c b w I O W) (held c b w I (belowOut v1 v3 hw I O) W) := by
  unfold stepBelow belowOut
  by_cases h : k0_cond3 v1 v3 = 1#1
  · rw [dif_pos h, dif_pos h]
    exact (step_does c b w false _ _ _ _ _ I O W).seq (Does.pure c _)
  · rw [dif_neg h, dif_neg h]
    exact Does.pure c _

/-- A tile on the diagonal. -/
theorem diag_does (c : Dev nD) (b : Bufs) (w : Wins) (v1 v3 : BitVec 32) (hw : k0_chk1 v1 v3) (I : Ins F) (O : Outs F)
    (W : Cols F) : Does c (stepDiag b v1 v3 hw) (held c b w I O W) (held c b w I (diagOut v1 v3 hw I O) W) := by
  unfold stepDiag diagOut
  by_cases h : k0_cond4 v1 v3 = 1#1
  · rw [dif_pos h, dif_pos h]
    exact (step_does c b w true _ _ _ _ _ I O W).seq (Does.pure c _)
  · rw [dif_neg h, dif_neg h]
    exact Does.pure c _

/-- A column's gradients are copied out. -/
theorem copy_does (c : Dev nD) (b : Bufs) (w : Wins) (v1 : BitVec 32) (I : Ins F) (O : Outs F) (W : Cols F) :
    Does c (copyOut b w v1) (held c b w I O W) (held c b w I O (colsOut v1 O W)) := by
  unfold copyOut colsOut
  by_cases h : k0_cond5 v1 = 1#1
  · rw [dif_pos h, if_pos h]
    intro K
    unfold held heldOut heldCols
    iintro ⟨⟨HI, ⟨Hdq, Hdk, Hdv, Hdc⟩, HS, ⟨Hwk, Hwv, Hwc⟩⟩, HK⟩
    iapply (load_owns Variants.none (c : Thread nD τ) none Set.univ (m := b.dk)) $$ Hdk
    iintro Hdk
    iapply (load_owns Variants.none (c : Thread nD τ) none Set.univ (m := w.dk)) $$ Hwk
    iintro Hwk
    iapply (store_owns Variants.none (c : Thread nD τ) none Set.univ (m := w.dk)) $$ Hwk
    iintro Hwk
    iapply (load_owns Variants.none (c : Thread nD τ) none Set.univ (m := b.dv)) $$ Hdv
    iintro Hdv
    iapply (load_owns Variants.none (c : Thread nD τ) none Set.univ (m := w.dv)) $$ Hwv
    iintro Hwv
    iapply (store_owns Variants.none (c : Thread nD τ) none Set.univ (m := w.dv)) $$ Hwv
    iintro Hwv
    iapply (load_owns Variants.none (c : Thread nD τ) none Set.univ (m := b.dc)) $$ Hdc
    iintro Hdc
    iapply (load_owns Variants.none (c : Thread nD τ) none Set.univ (m := w.dc)) $$ Hwc
    iintro Hwc
    iapply (store_owns Variants.none (c : Thread nD τ) none Set.univ (m := w.dc)) $$ Hwc
    iintro Hwc
    iapply (le_wp_ret frame (wpE (defs₀ (F := F)) Variants.none (c : Thread nD τ) none) Set.univ)
    iapply HK
    rw [put_full _ _ inb_S512x512_S512x512_0_0, put_full _ _ inb_S512x512_S512x512_0_0,
      put_full _ _ inb_S4x1x512_S4x1x512_0_0_0, window_full _ _ inb_S512x512_S512x512_0_0,
      window_full _ _ inb_S512x512_S512x512_0_0, window_full _ _ inb_S4x1x512_S4x1x512_0_0_0]
    isplitl [HI]; · iexact HI
    isplitl [Hdq Hdk Hdv Hdc]
    · isplitl [Hdq]; · iexact Hdq
      isplitl [Hdk]; · iexact Hdk
      isplitl [Hdv]; · iexact Hdv
      iexact Hdc
    isplitl [HS]; · iexact HS
    isplitl [Hwk]; · iexact Hwk
    isplitl [Hwv]; · iexact Hwv
    iexact Hwc
  · rw [dif_neg h, if_neg h]
    exact Does.pure c _

/-- The body after its words are read. -/
theorem tail_does (c : Dev nD) (b : Bufs) (w : Wins) (i : grid0.Coords) (v1 v3 : BitVec 32) (hw : k0_chk1 v1 v3)
    (I : Ins F) (O : Outs F) (W : Cols F) :
    Does c (do clearQ b i; clearC b v1 v3; stepBelow b v1 v3 hw; stepDiag b v1 v3 hw; copyOut b w v1; pure ⟨⟩)
      (held c b w I O W) (held c b w I (bodyOut i v1 v3 hw I O) (colsOut v1 (bodyOut i v1 v3 hw I O) W)) :=
  (clearQ_does c b w i I O W).seq <| (clearC_does c b w v1 v3 I _ W).seq <| (below_does c b w v1 v3 hw I _ W).seq <|
    (diag_does c b w v1 v3 hw I _ W).seq <| (copy_does c b w v1 I _ W).seq (Does.pure c _)

/-- The body at a point whose words are known. -/
theorem body_does (c : Dev nD) (i : grid0.Coords) (t1 t2 : Memref sig .tc .smem S136 .i32) (q : PosShare TreeShare)
    (f1 f2 : S136.Idx → BitVec 32) (b : Bufs) (w : Wins) (I : Ins F) (O : Outs F) (W : Cols F)
    (hw : k0_chk1 (word f1 i) (word f2 i)) :
    Does c (bodyProg (F := F) i t1 t2 b w)
      iprop(owns (c : Thread nD τ) t1 q f1 ∗ owns (c : Thread nD τ) t2 q f2 ∗ held c b w I O W)
      iprop(owns (c : Thread nD τ) t1 q f1 ∗ owns (c : Thread nD τ) t2 q f2
        ∗ held c b w I (bodyOut i (word f1 i) (word f2 i) hw I O)
            (colsOut (word f1 i) (bodyOut i (word f1 i) (word f2 i) hw I O) W)) := by
  intro K
  unfold bodyProg smemLoad smemLoadElt
  iintro ⟨⟨H1, H2, H⟩, HK⟩
  iapply (load_owns Variants.none (c : Thread nD τ) none Set.univ (m := t1)) $$ H1
  iintro H1
  iapply (load_owns Variants.none (c : Thread nD τ) none Set.univ (m := t2)) $$ H2
  iintro H2
  iapply (wp_assume Variants.none (c : Thread nD τ) none Set.univ hw)
  iapply (tail_does c b w i (word f1 i) (word f2 i) hw I O W K)
  isplitl [H]; · iexact H
  iintro H
  iapply HK
  isplitl [H1]; · iexact H1
  isplitl [H2]; · iexact H2
  iexact H

end Cert.KernelIdeal
-- ==== Proof.KI.Tables.lean ====
/- The tables of the call: the tile rows and columns that its grid visits, and the pipeline at them. -/
module

public import proofs.«01_k».proof.Proof.KI.Body
public import proofs.«01_k».proof.Proof.Gen.KernelIdeal.Launch
public import Idealize.ShloMosaic.Lib.Affine

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Cert.KernelIdeal.Gen Cert.Fox

variable {F : FTy → Type} [FloatOps F] [Named F]

/-- The tables as the body reads them. -/
def rows : S136.Idx → BitVec 32 := fun i => lit0 (S136.rowMajor i)
def cols : S136.Idx → BitVec 32 := fun i => lit1 (S136.rowMajor i)

/-- The tables' place of a grid point. -/
def place (i : grid0.Coords) : Fin 136 := ⟨(i 1).val, (i 1).isLt⟩

theorem word_eq (f : Fin 136 → BitVec 32) (i : grid0.Coords) : word (fun x => f (S136.rowMajor x)) i = f (place i) := by
  unfold word window place
  refine congrArg f (Fin.ext ?_)
  erw [Shape.rowMajor_val_one]
  show (k0_off1 i) 0 + 1 * 0 = _
  rw [k0_off1_eq]
  rfl

/-- Every pair of the tables is a tile on or below the diagonal, within the arrays. -/
theorem lits_le : ∀ p : Fin 136, (lit0 p).toNat < 16 ∧ (lit1 p).toNat ≤ (lit0 p).toNat := by decide

theorem lits_chk : ∀ p : Fin 136, k0_chk1 (lit0 p) (lit1 p) := by decide

set_option backward.proofsInPublic true in
/-- The contents of the tables that the pipeline runs at. -/
def tabs : pre0.Contents (Elt F) := fun
  | ⟨0, _⟩ => rows
  | ⟨1, _⟩ => cols
  | ⟨_ + 2, h⟩ => absurd h (by simp)

theorem at_zero (i : grid0.Coords) : (tabs (F := F)).at 0 (Rect.unit (s := S136) ![(Scalar.indexCast (BitVec.ofNat 32 (i 1).val)).toNat] S1.size (k0_off1_inb i)) numel1_S1 = lit0 (place i) := by
  exact word_eq lit0 i

theorem at_one (i : grid0.Coords) : (tabs (F := F)).at 1 (Rect.unit (s := S136) ![(Scalar.indexCast (BitVec.ofNat 32 (i 1).val)).toNat] S1.size (k0_off1_inb i)) numel1_S1 = lit1 (place i) := by
  exact word_eq lit1 i

theorem ix_zero (i : grid0.Coords) : (lit0 (place i)).toNat < 16 := (lits_le _).1
theorem ix_one (i : grid0.Coords) : (lit1 (place i)).toNat < 16 := (lits_le _).2.trans_lt (lits_le _).1
theorem ix_head (i : grid0.Coords) : (BitVec.ofNat 32 (i 0).val).toNat = (i 0).val := by
  have h : (i 0).val < 4 := (i 0).isLt
  rw [BitVec.toNat_ofNat]; omega

theorem block_le {a b : Nat} (ha : a < 16) (hb : b < 4) : ∀ x, ((![a, b] : Fin 2 → Nat) x + 1) * S512x512.size x ≤ S8192x2048.size x := by
  intro x; fin_cases x
  · show (a + 1) * 512 ≤ 8192; omega
  · show (b + 1) * 512 ≤ 2048; omega

theorem tr0 (i : grid0.Coords) : cc0_transform_0 k0_off1_inb numel1_S1 (tabs (F := F)) i = ![(lit0 (place i)).toNat, (i 0).val] := by
  exact congrArg₂ (fun a b : Nat => ![a, b]) (congrArg BitVec.toNat (at_zero (F := F) i)) (ix_head i)
theorem tr1 (i : grid0.Coords) : cc0_transform_1 k0_off1_inb numel1_S1 (tabs (F := F)) i = ![(lit1 (place i)).toNat, (i 0).val] := by
  exact congrArg₂ (fun a b : Nat => ![a, b]) (congrArg BitVec.toNat (at_one (F := F) i)) (ix_head i)
theorem tr2 (i : grid0.Coords) : cc0_transform_2 k0_off1_inb numel1_S1 (tabs (F := F)) i = ![(lit1 (place i)).toNat, (i 0).val] := by
  exact congrArg₂ (fun a b : Nat => ![a, b]) (congrArg BitVec.toNat (at_one (F := F) i)) (ix_head i)
theorem tr3 (i : grid0.Coords) : cc0_transform_3 k0_off1_inb numel1_S1 (tabs (F := F)) i = ![(lit0 (place i)).toNat, (i 0).val] := by
  exact congrArg₂ (fun a b : Nat => ![a, b]) (congrArg BitVec.toNat (at_zero (F := F) i)) (ix_head i)
theorem tr4 (i : grid0.Coords) : cc0_transform_4 k0_off1_inb numel1_S1 (tabs (F := F)) i = ![(lit0 (place i)).toNat, (i 0).val] := by
  exact congrArg₂ (fun a b : Nat => ![a, b]) (congrArg BitVec.toNat (at_zero (F := F) i)) (ix_head i)
theorem tr5 (i : grid0.Coords) : cc0_transform_5 k0_off1_inb numel1_S1 (tabs (F := F)) i = ![(lit0 (place i)).toNat, (i 0).val] := by
  exact congrArg₂ (fun a b : Nat => ![a, b]) (congrArg BitVec.toNat (at_zero (F := F) i)) (ix_head i)
theorem tr8 (i : grid0.Coords) : cc0_transform_8 k0_off1_inb numel1_S1 (tabs (F := F)) i = ![(lit1 (place i)).toNat, (i 0).val] := by
  exact congrArg₂ (fun a b : Nat => ![a, b]) (congrArg BitVec.toNat (at_one (F := F) i)) (ix_head i)
theorem tr9 (i : grid0.Coords) : cc0_transform_9 k0_off1_inb numel1_S1 (tabs (F := F)) i = ![(lit1 (place i)).toNat, (i 0).val] := by
  exact congrArg₂ (fun a b : Nat => ![a, b]) (congrArg BitVec.toNat (at_one (F := F) i)) (ix_head i)
theorem tr6 (i : grid0.Coords) : cc0_transform_6 k0_off1_inb numel1_S1 (tabs (F := F)) i = ![(i 0).val, 0, (lit1 (place i)).toNat] := by
  exact congrArg₂ (fun a b : Nat => ![b, 0, a]) (congrArg BitVec.toNat (at_one (F := F) i)) (ix_head i)
theorem tr10 (i : grid0.Coords) : cc0_transform_10 k0_off1_inb numel1_S1 (tabs (F := F)) i = ![(i 0).val, 0, (lit1 (place i)).toNat] := by
  exact congrArg₂ (fun a b : Nat => ![b, 0, a]) (congrArg BitVec.toNat (at_one (F := F) i)) (ix_head i)
theorem tr7 (i : grid0.Coords) : cc0_transform_7 i = ![0, (i 0).val] := by
  exact congrArg (fun a : Nat => ![0, a]) (ix_head i)

theorem row_le {a b : Nat} (ha : a < 16) (hb : b < 4) : ∀ x, ((![b, 0, a] : Fin 3 → Nat) x + 1) * S4x1x512.size x ≤ S16x1x8192.size x := by
  intro x; fin_cases x
  · show (b + 1) * 4 ≤ 16; omega
  · show (0 + 1) * 1 ≤ 1; omega
  · show (a + 1) * 512 ≤ 8192; omega

theorem words {ix : Fin 2 → Nat} {h : ∀ a, (ix a + 1) * S512x512.size a ≤ S8192x2048.size a} : (Rect.block (s := S8192x2048) S512x512.size ix h).WholeWords (EltTy.packing .bf16) :=
  Affine.block_words_dvd (by decide) (by decide)

/-- The pipeline is launched inside its arrays at these contents: every block of every window lies in its array, and
    its transfers are whole words. -/
theorem ok_tabs : ok0 (tabs (F := F)) := by
  unfold ok0
  refine ⟨fun i => ⟨?_, .inr words⟩, fun i => ⟨?_, .inr words⟩, fun i => ⟨?_, .inr words⟩, fun i => ⟨?_, .inr words⟩,
    fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [tr0]; exact block_le (ix_zero i) (i 0).isLt
  · rw [tr1]; exact block_le (ix_one i) (i 0).isLt
  · rw [tr2]; exact block_le (ix_one i) (i 0).isLt
  · rw [tr3]; exact block_le (ix_zero i) (i 0).isLt
  · rw [tr4]; exact block_le (ix_zero i) (i 0).isLt
  · rw [tr5]; exact block_le (ix_zero i) (i 0).isLt
  · rw [tr6]; exact row_le (ix_one i) (i 0).isLt
  · rw [tr8]; exact block_le (ix_one i) (i 0).isLt
  · rw [tr9]; exact block_le (ix_one i) (i 0).isLt
  · rw [tr10]; exact row_le (ix_one i) (i 0).isLt

/-- The admissible contents, -/
def adm : (pcfg0 (F := F)).Adm := ⟨tabs, ok_tabs⟩

/-- the pipeline at them, -/
abbrev cfgA (F : FTy → Type) [FloatOps F] [Named F] : Pipeline.Cfg sig Λ₀ := cfg0 (adm (F := F))

/-- and as the one pipeline of @main. -/
abbrev pcs (F : FTy → Type) [FloatOps F] [Named F] : Fin 1 → Pipeline.Cfg sig Λ₀ := Pipeline.pin (pcfgs (F := F)) fun _ => adm

theorem cfg_N : (cfgA F).N = 544 := N_0

/-- What the body's conditions say of a place of the tables. -/
theorem below_iff : ∀ p : Fin 136, k0_cond3 (lit0 p) (lit1 p) = 1#1 ↔ (lit1 p).toNat < (lit0 p).toNat := by decide
theorem diag_iff : ∀ p : Fin 136, k0_cond4 (lit0 p) (lit1 p) = 1#1 ↔ (lit0 p).toNat = (lit1 p).toNat := by decide
theorem clear_iff : ∀ p : Fin 136, Scalar.cmpi .ne (Scalar.extui (Scalar.cmpi .eq (lit0 p) (lit1 p)) : BitVec 32) 0#32 = 1#1 ↔ (lit0 p).toNat = (lit1 p).toNat := by decide
theorem last_iff : ∀ p : Fin 136, k0_cond5 (lit0 p) = 1#1 ↔ (lit0 p).toNat = 15 := by decide

theorem first_iff (i : grid0.Coords) : k0_cond1 i = 1#1 ↔ (i 1).val = 0 := by
  have : ∀ p : Fin 136, Scalar.cmpi .ne (Scalar.extui (Scalar.cmpi .eq (BitVec.ofNat 32 p.val) 0#32) : BitVec 32) 0#32 = 1#1 ↔ p.val = 0 := by decide
  exact this (place i)

end Cert.KernelIdeal
-- ==== Proof.KI.Data.lean ====
/- What the call holds at each point of its grid: the blocks it reads, and the gradients gathered so far. -/
module

public import proofs.«01_k».proof.Proof.KI.Tables
public import Idealize.ShloMosaic.Lib.Pipeline.Frame
public import Idealize.ShloMosaic.Lib.Pipeline.FrameBody
public import Idealize.ShloMosaic.Lib.Pipeline.ArrRel

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Idealize.ShloMosaic.Pipeline (RDat)
open Cert.KernelIdeal.Gen Cert.Fox

variable {F : FTy → Type} [FloatOps F] [Named F]

local notation "𝕄" => MT nD τ sig Unit (Elt F) ℕ (UR sig nD τ) ℕ

/-- The contents of every buffer of a core. -/
abbrev Vals (F : FTy → Type) [FloatOps F] [Named F] := (c : Dev nD) → (b : Ref sig .tc) → Buf (Elt F) ((c.tc : Thread nD τ).loc b)

/-- The tile of a matrix at a tile row and a group of heads. -/
def tile {α : Type} (A : S8192x2048.Idx → α) (a b : ℕ) (ha : a < 16) (hb : b < 4) : S512x512.Idx → α :=
  window A (fun x => (![a, b] : Fin 2 → ℕ) x * S512x512.size x) S512x512.size (fun x => by
    have h := block_le ha hb x
    rwa [Nat.succ_mul] at h)

/-- The tile of the heads' rows at a tile column and a group of heads. -/
def tileRow {α : Type} (A : S16x1x8192.Idx → α) (a b : ℕ) (ha : a < 16) (hb : b < 4) : S4x1x512.Idx → α :=
  window A (fun x => (![b, 0, a] : Fin 3 → ℕ) x * S4x1x512.size x) S4x1x512.size (fun x => by
    have h := row_le ha hb x
    rwa [Nat.succ_mul] at h)

/-- The blocks read at a point. -/
def ins (V : Vals F) (c : Dev nD) (i : grid0.Coords) : Ins F where
  q := tile (V c main_arg0) (lit0 (place i)).toNat (i 0).val (ix_zero i) (i 0).isLt
  k := tile (V c main_arg1) (lit1 (place i)).toNat (i 0).val (ix_one i) (i 0).isLt
  v := tile (V c main_arg2) (lit1 (place i)).toNat (i 0).val (ix_one i) (i 0).isLt
  g := tile (V c main_arg3) (lit0 (place i)).toNat (i 0).val (ix_zero i) (i 0).isLt
  lse := tile (V c main_v44) (lit0 (place i)).toNat (i 0).val (ix_zero i) (i 0).isLt
  dl := tile (V c main_v47) (lit0 (place i)).toNat (i 0).val (ix_zero i) (i 0).isLt
  cr := tileRow (V c main_v48) (lit1 (place i)).toNat (i 0).val (ix_one i) (i 0).isLt

/-- A point's step. -/
def pointOut (V : Vals F) (c : Dev nD) (i : grid0.Coords) (O : Outs F) : Outs F :=
  bodyOut i (lit0 (place i)) (lit1 (place i)) (lits_chk (place i)) (ins V c i) O

/-- The gradients gathered before a point. -/
def st (V : Vals F) (c : Dev nD) : ℕ → Outs F
  | 0 => ⟨k0_pay1 (F := F), k0_pay2 (F := F), k0_pay3 (F := F), k0_pay4 (F := F)⟩
  | n + 1 => if h : n < grid0.N then pointOut V c (grid0.coords ⟨n, h⟩) (st V c n) else st V c n

theorem st_succ (V : Vals F) (c : Dev nD) (t : Fin grid0.N) : st V c (t.val + 1) = pointOut V c (grid0.coords t) (st V c t.val) := by
  rw [st, dif_pos t.isLt]

/-- What a point leaves does not depend on what it clears. -/
theorem pointOut_congr (V : Vals F) (c : Dev nD) (i : grid0.Coords) (O O' : Outs F)
    (hq : (i 1).val = 0 ∨ O.dq = O'.dq)
    (hc : (lit0 (place i)).toNat = (lit1 (place i)).toNat ∨ O.dk = O'.dk ∧ O.dv = O'.dv ∧ O.dc = O'.dc) :
    pointOut V c i O = pointOut V c i O' := by
  have h : clearCOut (lit0 (place i)) (lit1 (place i)) (clearQOut i O) = clearCOut (lit0 (place i)) (lit1 (place i)) (clearQOut i O') := by
    unfold clearCOut clearQOut
    simp only [clear_iff, first_iff]
    obtain ⟨dq, dk, dv, dc⟩ := O
    obtain ⟨dq', dk', dv', dc'⟩ := O'
    dsimp only at hq hc
    split_ifs with h1 h2 h2
    · rfl
    · obtain rfl := hq.resolve_left h2; rfl
    · obtain ⟨rfl, rfl, rfl⟩ := hc.resolve_left h1; rfl
    · obtain ⟨rfl, rfl, rfl⟩ := hc.resolve_left h1; obtain rfl := hq.resolve_left h2; rfl
  unfold pointOut bodyOut
  rw [h]

theorem coords_zero (t : Fin grid0.N) : (grid0.coords t 0).val = t.val / 136 % 4 :=
  Pipeline.Grid.coords_val t 0 (by decide) (by decide)
theorem coords_one (t : Fin grid0.N) : (grid0.coords t 1).val = t.val % 136 := by
  rw [Pipeline.Grid.coords_val t 1 (S := 1) (B := 136) (by decide) (by decide), Nat.div_one]

/-- The kernel's buffers at a point. -/
def bufs (t : Fin (cfgA F).N) : Bufs where
  q := spec0_0.stage ((cfgA F).slots t 0)
  k := spec0_1.stage ((cfgA F).slots t 1)
  v := spec0_2.stage ((cfgA F).slots t 2)
  g := spec0_3.stage ((cfgA F).slots t 3)
  lse := spec0_4.stage ((cfgA F).slots t 4)
  dl := spec0_5.stage ((cfgA F).slots t 5)
  cr := spec0_6.stage ((cfgA F).slots t 6)
  dq := spec0_7.stage ((cfgA F).slots t 7)
  dk := Memref.whole cc0_scratch0
  dv := Memref.whole cc0_scratch1
  dc := Memref.whole cc0_scratch2
  s := Memref.whole cc0_scratch3
  dp := Memref.whole cc0_scratch4
  p := Memref.whole cc0_scratch5
  hp := Memref.isWhole_whole _
  ds := Memref.whole cc0_scratch6
  hds := Memref.isWhole_whole _

def wins (t : Fin (cfgA F).N) : Wins where
  dk := spec0_8.stage ((cfgA F).slots t 8)
  dv := spec0_9.stage ((cfgA F).slots t 9)
  dc := spec0_10.stage ((cfgA F).slots t 10)

/-- What the body leaves in each window's buffer: an input as found; the queries' gradient gathered so far; a column's
    gradients at its last tile. -/
def leaves (V : Vals F) (c : Dev nD) : (w : Fin 11) → (t : Fin grid0.N) →
    (Y X : (((cfgA F).win w).block.Idx → Elt F ((cfgA F).win w).elt)) → Prop := fun
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => X = (st V c (t.val + 1)).dq
  | 8 => fun t _ X => (lit0 (place (grid0.coords t))).toNat = 15 → X = (st V c (t.val + 1)).dk
  | 9 => fun t _ X => (lit0 (place (grid0.coords t))).toNat = 15 → X = (st V c (t.val + 1)).dv
  | 10 => fun t _ X => (lit0 (place (grid0.coords t))).toNat = 15 → X = (st V c (t.val + 1)).dc
  | ⟨_ + 11, h⟩ => absurd h (Nat.not_lt.2 (Nat.le_add_left _ _))

/-- The column's gradients gathered so far, and the working buffers. -/
def gathered (V : Vals F) (c : Dev nD) (n : ℕ) : sProp 𝕄 :=
  iprop(∃ O : Outs F, ⌜n ≠ 0 → O.dk = (st V c n).dk ∧ O.dv = (st V c n).dv ∧ O.dc = (st V c n).dc⌝
    ∗ owns (c : Thread nD τ) (Memref.whole cc0_scratch0) fullShare O.dk
    ∗ owns (c : Thread nD τ) (Memref.whole cc0_scratch1) fullShare O.dv
    ∗ owns (c : Thread nD τ) (Memref.whole cc0_scratch2) fullShare O.dc
    ∗ (∃ d, owns (c : Thread nD τ) (Memref.whole cc0_scratch3) fullShare d)
    ∗ (∃ d, owns (c : Thread nD τ) (Memref.whole cc0_scratch4) fullShare d)
    ∗ (∃ d, owns (c : Thread nD τ) (Memref.whole cc0_scratch5) fullShare d)
    ∗ (∃ d, owns (c : Thread nD τ) (Memref.whole cc0_scratch6) fullShare d))

/-- The tables, held to be read. -/
def tables (c : Dev nD) : sProp 𝕄 :=
  iprop(owns (c : Thread nD τ) (Memref.whole main_c) fullShare.right (rows : S136.Idx → BitVec 32)
    ∗ owns (c : Thread nD τ) (Memref.whole main_c_0) fullShare.right (cols : S136.Idx → BitVec 32))

/-- The proof's data on a core. -/
def rdat (V : Vals F) (c : Dev nD) : RDat τ (Elt F) Unit ℕ (UR sig nD τ) ℕ (cfgA F) c where
  A w := V c (Pipeline.arrRef spec0 w)
  after := leaves V c
  Φ t := iprop(tables c ∗ (∃ r, prngReg c r) ∗ gathered V c t.val)
  q _ := fullShare
  owed _ := 0

end Cert.KernelIdeal
-- ==== Proof.KI.Frame.lean ====
/- The call runs: the body at every point of the grid, and the launch. -/
module

public import proofs.«01_k».proof.Proof.KI.Data

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Idealize.ShloMosaic.Pipeline (RDat)
open Cert.KernelIdeal.Gen Cert.Fox

variable {F : FTy → Type} [FloatOps F] [Named F]

local notation "𝕄" => MT nD τ sig Unit (Elt F) ℕ (UR sig nD τ) ℕ

/-! ## What the body finds -/

section Finds

variable (V : Vals F) (c : Dev nD) (t : Fin grid0.N)

theorem fetched0 (d) : (rdat V c).fetched 0 t d = (ins V c (grid0.coords t)).q := by
  unfold RDat.fetched Pipeline.Window.fill
  funext j
  rw [dif_pos (((cfgA F).win 0).moved_iff _ j |>.mpr fun a => (j a).isLt)]
  refine congrArg (V c main_arg0) (funext fun a => Fin.ext ?_)
  show cc0_transform_0 k0_off1_inb numel1_S1 (tabs (F := F)) (grid0.coords t) a * S512x512.size a + 1 * (j a).val = _
  rw [tr0]; rfl

theorem fetched1 (d) : (rdat V c).fetched 1 t d = (ins V c (grid0.coords t)).k := by
  unfold RDat.fetched Pipeline.Window.fill
  funext j
  rw [dif_pos (((cfgA F).win 1).moved_iff _ j |>.mpr fun a => (j a).isLt)]
  refine congrArg (V c main_arg1) (funext fun a => Fin.ext ?_)
  show cc0_transform_1 k0_off1_inb numel1_S1 (tabs (F := F)) (grid0.coords t) a * S512x512.size a + 1 * (j a).val = _
  rw [tr1]; rfl

theorem fetched2 (d) : (rdat V c).fetched 2 t d = (ins V c (grid0.coords t)).v := by
  unfold RDat.fetched Pipeline.Window.fill
  funext j
  rw [dif_pos (((cfgA F).win 2).moved_iff _ j |>.mpr fun a => (j a).isLt)]
  refine congrArg (V c main_arg2) (funext fun a => Fin.ext ?_)
  show cc0_transform_2 k0_off1_inb numel1_S1 (tabs (F := F)) (grid0.coords t) a * S512x512.size a + 1 * (j a).val = _
  rw [tr2]; rfl

theorem fetched3 (d) : (rdat V c).fetched 3 t d = (ins V c (grid0.coords t)).g := by
  unfold RDat.fetched Pipeline.Window.fill
  funext j
  rw [dif_pos (((cfgA F).win 3).moved_iff _ j |>.mpr fun a => (j a).isLt)]
  refine congrArg (V c main_arg3) (funext fun a => Fin.ext ?_)
  show cc0_transform_3 k0_off1_inb numel1_S1 (tabs (F := F)) (grid0.coords t) a * S512x512.size a + 1 * (j a).val = _
  rw [tr3]; rfl

theorem fetched4 (d) : (rdat V c).fetched 4 t d = (ins V c (grid0.coords t)).lse := by
  unfold RDat.fetched Pipeline.Window.fill
  funext j
  rw [dif_pos (((cfgA F).win 4).moved_iff _ j |>.mpr fun a => (j a).isLt)]
  refine congrArg (V c main_v44) (funext fun a => Fin.ext ?_)
  show cc0_transform_4 k0_off1_inb numel1_S1 (tabs (F := F)) (grid0.coords t) a * S512x512.size a + 1 * (j a).val = _
  rw [tr4]; rfl

theorem fetched5 (d) : (rdat V c).fetched 5 t d = (ins V c (grid0.coords t)).dl := by
  unfold RDat.fetched Pipeline.Window.fill
  funext j
  rw [dif_pos (((cfgA F).win 5).moved_iff _ j |>.mpr fun a => (j a).isLt)]
  refine congrArg (V c main_v47) (funext fun a => Fin.ext ?_)
  show cc0_transform_5 k0_off1_inb numel1_S1 (tabs (F := F)) (grid0.coords t) a * S512x512.size a + 1 * (j a).val = _
  rw [tr5]; rfl

theorem fetched6 (d) : (rdat V c).fetched 6 t d = (ins V c (grid0.coords t)).cr := by
  unfold RDat.fetched Pipeline.Window.fill
  funext j
  rw [dif_pos (((cfgA F).win 6).moved_iff _ j |>.mpr fun a => (j a).isLt)]
  refine congrArg (V c main_v48) (funext fun a => Fin.ext ?_)
  show cc0_transform_6 k0_off1_inb numel1_S1 (tabs (F := F)) (grid0.coords t) a * S4x1x512.size a + 1 * (j a).val = _
  rw [tr6]; rfl

theorem finds0 (Y) (h : (rdat V c).Finds 0 t Y) : Y = (ins V c (grid0.coords t)).q := by
  obtain ⟨d, hd⟩ := (rdat V c).finds_in_eq_fetched 0 rfl (fun _ _ _ => rfl) (fun _ _ _ h => h) t Y h
  exact hd.trans (fetched0 V c t d)

theorem finds1 (Y) (h : (rdat V c).Finds 1 t Y) : Y = (ins V c (grid0.coords t)).k := by
  obtain ⟨d, hd⟩ := (rdat V c).finds_in_eq_fetched 1 rfl (fun _ _ _ => rfl) (fun _ _ _ h => h) t Y h
  exact hd.trans (fetched1 V c t d)

theorem finds2 (Y) (h : (rdat V c).Finds 2 t Y) : Y = (ins V c (grid0.coords t)).v := by
  obtain ⟨d, hd⟩ := (rdat V c).finds_in_eq_fetched 2 rfl (fun _ _ _ => rfl) (fun _ _ _ h => h) t Y h
  exact hd.trans (fetched2 V c t d)

theorem finds3 (Y) (h : (rdat V c).Finds 3 t Y) : Y = (ins V c (grid0.coords t)).g := by
  obtain ⟨d, hd⟩ := (rdat V c).finds_in_eq_fetched 3 rfl (fun _ _ _ => rfl) (fun _ _ _ h => h) t Y h
  exact hd.trans (fetched3 V c t d)

theorem finds4 (Y) (h : (rdat V c).Finds 4 t Y) : Y = (ins V c (grid0.coords t)).lse := by
  obtain ⟨d, hd⟩ := (rdat V c).finds_in_eq_fetched 4 rfl (fun _ _ _ => rfl) (fun _ _ _ h => h) t Y h
  exact hd.trans (fetched4 V c t d)

theorem finds5 (Y) (h : (rdat V c).Finds 5 t Y) : Y = (ins V c (grid0.coords t)).dl := by
  obtain ⟨d, hd⟩ := (rdat V c).finds_in_eq_fetched 5 rfl (fun _ _ _ => rfl) (fun _ _ _ h => h) t Y h
  exact hd.trans (fetched5 V c t d)

theorem finds6 (Y) (h : (rdat V c).Finds 6 t Y) : Y = (ins V c (grid0.coords t)).cr := by
  obtain ⟨d, hd⟩ := (rdat V c).finds_in_eq_fetched 6 rfl (fun _ _ _ => rfl) (fun _ _ _ h => h) t Y h
  exact hd.trans (fetched6 V c t d)

/-- After a row's first point the queries' gradient is what was gathered. -/
theorem finds7 (Y) (h : (rdat V c).Finds 7 t Y) : (grid0.coords t 1).val = 0 ∨ Y = (st V c t.val).dq := by
  by_cases h1 : (grid0.coords t 1).val = 0
  · exact .inl h1
  refine .inr ?_
  have hN : t.val < 544 := N_0 ▸ t.isLt
  have h0 : t.val ≠ 0 := by
    intro h0; rw [coords_one, h0] at h1; exact h1 rfl
  rw [coords_one] at h1
  rcases ((rdat V c).finds_of_pos (((cfgA F).win 7).fetch_out rfl t) h0 Y).mp h with hf | ⟨Z, _, hZ⟩
  · exfalso
    rcases (((cfgA F).win 7).flush_out rfl _).mp hf with hl | ⟨hl, hne⟩
    · have : t.val - 1 + 1 = 544 := hl.trans N_0
      omega
    · refine hne ?_
      show cc0_transform_7 (grid0.coords _) = cc0_transform_7 (grid0.coords _)
      rw [tr7, tr7, coords_zero, coords_zero]
      have : (t.val - 1 + 1) / 136 = (t.val - 1) / 136 := by omega
      show (![0, (t.val - 1 + 1) / 136 % 4] : Fin 2 → ℕ) = ![0, (t.val - 1) / 136 % 4]
      rw [this]
  · have e : Y = (st V c (t.val - 1 + 1)).dq := hZ
    rwa [Nat.sub_add_cancel (Nat.one_le_iff_ne_zero.mpr h0)] at e

end Finds

/-! ## The body at a point -/

/-- The body, at the words that the tables hold. -/
theorem point_does (c : Dev nD) (i : grid0.Coords) (t1 t2 : Memref sig .tc .smem S136 .i32) (q : PosShare TreeShare)
    (f1 f2 : S136.Idx → BitVec 32) (b : Bufs) (w : Wins) (I : Ins F) (O : Outs F) (W : Cols F) (v1 v3 : BitVec 32)
    (e1 : word f1 i = v1) (e2 : word f2 i = v3) (hw : k0_chk1 v1 v3) :
    Does c (bodyProg (F := F) i t1 t2 b w)
      iprop(owns (c : Thread nD τ) t1 q f1 ∗ owns (c : Thread nD τ) t2 q f2 ∗ held c b w I O W)
      iprop(owns (c : Thread nD τ) t1 q f1 ∗ owns (c : Thread nD τ) t2 q f2
        ∗ held c b w I (bodyOut i v1 v3 hw I O) (colsOut v1 (bodyOut i v1 v3 hw I O) W)) := by
  subst e1; subst e2
  exact body_does c i t1 t2 q f1 f2 b w I O W hw

theorem defs₀_row (t : Fin (cfgA F).N) : defs₀ (F := F) .tc (cfgA F).body ((cfgA F).bodyArgs t ((cfgA F).slots t))
    = bodyProg (grid0.coords t) (Memref.whole main_c) (Memref.whole main_c_0) (bufs (F := F) t) (wins (F := F) t) := by
  unfold defs₀
  rw [Defs.onTc_tc]
  exact body_eq ..

/-- What the points before have gathered makes no difference but for what was gathered since the last clearing. -/
theorem gathered_step (V : Vals F) (c : Dev nD) (t : Fin grid0.N) (O : Outs F) (Y7 : Vec F S8192x512 .f32)
    (hO : t.val ≠ 0 → O.dk = (st V c t.val).dk ∧ O.dv = (st V c t.val).dv ∧ O.dc = (st V c t.val).dc)
    (h7 : (grid0.coords t 1).val = 0 ∨ Y7 = (st V c t.val).dq) :
    pointOut V c (grid0.coords t) ⟨Y7, O.dk, O.dv, O.dc⟩ = st V c (t.val + 1) := by
  rw [st_succ]
  refine pointOut_congr V c _ _ _ h7 ?_
  by_cases h0 : t.val = 0
  · refine .inl ?_
    have : place (grid0.coords t) = 0 := Fin.ext (by show (grid0.coords t 1).val = 0; rw [coords_one, h0])
    rw [this]; decide
  · exact .inr (hO h0)

/-- A point of the grid. -/
theorem grid_does (V : Vals F) (c : Dev nD) (t : Fin grid0.N) (b : Bufs) (w : Wins) (Y7 : Vec F S8192x512 .f32) (W : Cols F)
    (h0 : b.dk = Memref.whole cc0_scratch0) (h1 : b.dv = Memref.whole cc0_scratch1) (h2 : b.dc = Memref.whole cc0_scratch2)
    (h3 : b.s = Memref.whole cc0_scratch3) (h4 : b.dp = Memref.whole cc0_scratch4) (h5 : b.p = Memref.whole cc0_scratch5)
    (h6 : b.ds = Memref.whole cc0_scratch6)
    (h7 : (grid0.coords t 1).val = 0 ∨ Y7 = (st V c t.val).dq) :
    Does c (bodyProg (F := F) (grid0.coords t) (Memref.whole main_c) (Memref.whole main_c_0) b w)
      iprop((tables c ∗ gathered V c t.val) ∗ heldIn c b (ins V c (grid0.coords t)) ∗ owns (c : Thread nD τ) b.dq fullShare Y7
        ∗ heldCols c w W)
      iprop((tables c ∗ gathered V c (t.val + 1)) ∗ heldIn c b (ins V c (grid0.coords t))
        ∗ owns (c : Thread nD τ) b.dq fullShare (st V c (t.val + 1)).dq
        ∗ heldCols c w (colsOut (lit0 (place (grid0.coords t))) (st V c (t.val + 1)) W)) := by
  intro K
  unfold tables
  rw [show gathered V c t.val = iprop(∃ O : Outs F, ⌜t.val ≠ 0 → O.dk = (st V c t.val).dk ∧ O.dv = (st V c t.val).dv ∧ O.dc = (st V c t.val).dc⌝
    ∗ owns (c : Thread nD τ) b.dk fullShare O.dk ∗ owns (c : Thread nD τ) b.dv fullShare O.dv
    ∗ owns (c : Thread nD τ) b.dc fullShare O.dc ∗ heldScr (F := F) c b) by
      unfold gathered heldScr; rw [h0, h1, h2, h3, h4, h5, h6]; rfl]
  iintro ⟨⟨⟨⟨T1, T2⟩, ⟨%O, %hO, Hk, Hv, Hc, Hs⟩⟩, HI, Hq, HW⟩, HK⟩
  have hstep := gathered_step V c t O Y7 hO h7
  iapply (point_does c (grid0.coords t) (Memref.whole main_c) (Memref.whole main_c_0) fullShare.right rows cols b w
    (ins V c (grid0.coords t)) ⟨Y7, O.dk, O.dv, O.dc⟩ W _ _ (word_eq lit0 _) (word_eq lit1 _) (lits_chk _) K)
  rw [show bodyOut (grid0.coords t) (lit0 (place (grid0.coords t))) (lit1 (place (grid0.coords t))) (lits_chk _)
    (ins V c (grid0.coords t)) ⟨Y7, O.dk, O.dv, O.dc⟩ = st V c (t.val + 1) from hstep]
  unfold held heldOut
  isplitl [T1 T2 Hk Hv Hc Hs HI Hq HW]
  · isplitl [T1]; · iexact T1
    isplitl [T2]; · iexact T2
    isplitl [HI]; · iexact HI
    isplitl [Hq Hk Hv Hc]
    · isplitl [Hq]; · iexact Hq
      isplitl [Hk]; · iexact Hk
      isplitl [Hv]; · iexact Hv
      iexact Hc
    isplitl [Hs]; · iexact Hs
    iexact HW
  iintro ⟨T1, T2, HI, ⟨Hq, Hk, Hv, Hc⟩, Hs, HW⟩
  iapply HK
  isplitl [T1 T2 Hk Hv Hc Hs]
  · isplitl [T1 T2]
    · isplitl [T1]; · iexact T1
      iexact T2
    unfold gathered heldScr
    rw [h0, h1, h2, h3, h4, h5, h6]
    iexists (st V c (t.val + 1))
    isplitr
    · ipureintro; exact fun _ => ⟨rfl, rfl, rfl⟩
    isplitl [Hk]; · iexact Hk
    isplitl [Hv]; · iexact Hv
    isplitl [Hc]; · iexact Hc
    iexact Hs
  isplitl [HI]; · iexact HI
  isplitl [Hq]; · iexact Hq
  iexact HW

/-- What the body is handed at a point, and what it hands back. -/
def handed (V : Vals F) (c : Dev nD) (t : Fin (cfgA F).N) (Y7 : Vec F S8192x512 .f32) (W : Cols F) : sProp 𝕄 :=
  iprop((tables c ∗ (∃ r, prngReg c r) ∗ gathered V c t.val) ∗ Pipeline.owesWithin c 0 ((rdat V c).bound () t.castSucc)
    ∗ heldIn c (bufs (F := F) t) (ins V c (grid0.coords t)) ∗ owns (c : Thread nD τ) (bufs (F := F) t).dq fullShare Y7
    ∗ heldCols c (wins (F := F) t) W)
def handedBack (V : Vals F) (c : Dev nD) (t : Fin (cfgA F).N) (W : Cols F) : sProp 𝕄 :=
  iprop((tables c ∗ (∃ r, prngReg c r) ∗ gathered V c (t.val + 1)) ∗ Pipeline.owesWithin c 0 ((rdat V c).bound () t.succ)
    ∗ heldIn c (bufs (F := F) t) (ins V c (grid0.coords t)) ∗ owns (c : Thread nD τ) (bufs (F := F) t).dq fullShare (st V c (t.val + 1)).dq
    ∗ heldCols c (wins (F := F) t) (colsOut (lit0 (place (grid0.coords t))) (st V c (t.val + 1)) W))

theorem handed_does (V : Vals F) (c : Dev nD) (t : Fin (cfgA F).N) (Y7 : Vec F S8192x512 .f32) (W : Cols F)
    (h7 : (grid0.coords t 1).val = 0 ∨ Y7 = (st V c t.val).dq) :
    handed V c t Y7 W ⊢ wp frame (wpE (defs₀ (F := F)) Variants.none (c : Thread nD τ) none) Set.univ
      (bodyProg (grid0.coords t) (Memref.whole main_c) (Memref.whole main_c_0) (bufs (F := F) t) (wins (F := F) t))
      fun _ => handedBack V c t W := by
  unfold handed handedBack Pipeline.owesWithin
  iintro ⟨⟨HT, Hr, HG⟩, ⟨%W', %hW, HO⟩, HI, Hq, HW⟩
  iapply (grid_does V c t (bufs (F := F) t) (wins (F := F) t) Y7 W rfl rfl rfl rfl rfl rfl rfl h7 _)
  isplitl [HT HG HI Hq HW]
  · isplitl [HT HG]
    · isplitl [HT]; · iexact HT
      iexact HG
    isplitl [HI]; · iexact HI
    isplitl [Hq]; · iexact Hq
    iexact HW
  iintro ⟨⟨HT, HG⟩, HI, Hq, HW⟩
  isplitl [HT Hr HG]
  · isplitl [HT]; · iexact HT
    isplitl [Hr]; · iexact Hr
    iexact HG
  isplitl [HO]
  · iexists W'
    isplitr
    · ipureintro; exact fun _ _ => Or.inl trivial
    iexact HO
  isplitl [HI]; · iexact HI
  isplitl [Hq]; · iexact Hq
  iexact HW

theorem own0 (c : Dev nD) (t : Fin (cfgA F).N) (X : Vec F S512x512 .bf16) :
    (owns (c : Thread nD τ) (((cfgA F).win 0).stage ((cfgA F).slots t 0)) fullShare X : sProp 𝕄)
      = owns (c : Thread nD τ) (bufs t).q fullShare X := rfl
theorem own1 (c : Dev nD) (t : Fin (cfgA F).N) (X : Vec F S512x512 .bf16) :
    (owns (c : Thread nD τ) (((cfgA F).win 1).stage ((cfgA F).slots t 1)) fullShare X : sProp 𝕄)
      = owns (c : Thread nD τ) (bufs t).k fullShare X := rfl
theorem own2 (c : Dev nD) (t : Fin (cfgA F).N) (X : Vec F S512x512 .bf16) :
    (owns (c : Thread nD τ) (((cfgA F).win 2).stage ((cfgA F).slots t 2)) fullShare X : sProp 𝕄)
      = owns (c : Thread nD τ) (bufs t).v fullShare X := rfl
theorem own3 (c : Dev nD) (t : Fin (cfgA F).N) (X : Vec F S512x512 .bf16) :
    (owns (c : Thread nD τ) (((cfgA F).win 3).stage ((cfgA F).slots t 3)) fullShare X : sProp 𝕄)
      = owns (c : Thread nD τ) (bufs t).g fullShare X := rfl
theorem own4 (c : Dev nD) (t : Fin (cfgA F).N) (X : Vec F S512x512 .f32) :
    (owns (c : Thread nD τ) (((cfgA F).win 4).stage ((cfgA F).slots t 4)) fullShare X : sProp 𝕄)
      = owns (c : Thread nD τ) (bufs t).lse fullShare X := rfl
theorem own5 (c : Dev nD) (t : Fin (cfgA F).N) (X : Vec F S512x512 .f32) :
    (owns (c : Thread nD τ) (((cfgA F).win 5).stage ((cfgA F).slots t 5)) fullShare X : sProp 𝕄)
      = owns (c : Thread nD τ) (bufs t).dl fullShare X := rfl
theorem own6 (c : Dev nD) (t : Fin (cfgA F).N) (X : Vec F S4x1x512 .f32) :
    (owns (c : Thread nD τ) (((cfgA F).win 6).stage ((cfgA F).slots t 6)) fullShare X : sProp 𝕄)
      = owns (c : Thread nD τ) (bufs t).cr fullShare X := rfl
theorem own7 (c : Dev nD) (t : Fin (cfgA F).N) (X : Vec F S8192x512 .f32) :
    (owns (c : Thread nD τ) (((cfgA F).win 7).stage ((cfgA F).slots t 7)) fullShare X : sProp 𝕄)
      = owns (c : Thread nD τ) (bufs t).dq fullShare X := rfl
theorem own8 (c : Dev nD) (t : Fin (cfgA F).N) (X : Vec F S512x512 .f32) :
    (owns (c : Thread nD τ) (((cfgA F).win 8).stage ((cfgA F).slots t 8)) fullShare X : sProp 𝕄)
      = owns (c : Thread nD τ) (wins t).dk fullShare X := rfl
theorem own9 (c : Dev nD) (t : Fin (cfgA F).N) (X : Vec F S512x512 .f32) :
    (owns (c : Thread nD τ) (((cfgA F).win 9).stage ((cfgA F).slots t 9)) fullShare X : sProp 𝕄)
      = owns (c : Thread nD τ) (wins t).dv fullShare X := rfl
theorem own10 (c : Dev nD) (t : Fin (cfgA F).N) (X : Vec F S4x1x512 .f32) :
    (owns (c : Thread nD τ) (((cfgA F).win 10).stage ((cfgA F).slots t 10)) fullShare X : sProp 𝕄)
      = owns (c : Thread nD τ) (wins t).dc fullShare X := rfl

theorem inv_before (V : Vals F) (c : Dev nD) (t : Fin (cfgA F).N) :
    (rdat V c).Φ t.castSucc = iprop(tables c ∗ (∃ r, prngReg c r) ∗ gathered V c t.val) := by
  dsimp only [rdat, Fin.val_castSucc]

theorem inv_after (V : Vals F) (c : Dev nD) (t : Fin (cfgA F).N) :
    (rdat V c).Φ t.succ = iprop(tables c ∗ (∃ r, prngReg c r) ∗ gathered V c (t.val + 1)) := by
  dsimp only [rdat, Fin.val_succ]

theorem regroup {M : Type} [URA M] {P O a0 a1 a2 a3 a4 a5 a6 a7 a8 a9 a10 P' O' b0 b1 b2 b3 b4 b5 b6 b7 b8 b9 b10 : sProp M}
    (hP : P ⊢ P') (hO : O ⊢ O') (h0 : a0 ⊢ b0) (h1 : a1 ⊢ b1) (h2 : a2 ⊢ b2) (h3 : a3 ⊢ b3) (h4 : a4 ⊢ b4) (h5 : a5 ⊢ b5)
    (h6 : a6 ⊢ b6) (h7 : a7 ⊢ b7) (h8 : a8 ⊢ b8) (h9 : a9 ⊢ b9) (h10 : a10 ⊢ b10) :
    iprop(P ∗ O ∗ a0 ∗ a1 ∗ a2 ∗ a3 ∗ a4 ∗ a5 ∗ a6 ∗ a7 ∗ a8 ∗ a9 ∗ a10)
      ⊢ iprop(P' ∗ O' ∗ (b0 ∗ b1 ∗ b2 ∗ b3 ∗ b4 ∗ b5 ∗ b6) ∗ b7 ∗ (b8 ∗ b9 ∗ b10)) := by
  iintro ⟨HP, HO, H0, H1, H2, H3, H4, H5, H6, H7, H8, H9, H10⟩
  isplitl [HP]; · iapply hP; iexact HP
  isplitl [HO]; · iapply hO; iexact HO
  isplitl [H0 H1 H2 H3 H4 H5 H6]
  · isplitl [H0]; · iapply h0; iexact H0
    isplitl [H1]; · iapply h1; iexact H1
    isplitl [H2]; · iapply h2; iexact H2
    isplitl [H3]; · iapply h3; iexact H3
    isplitl [H4]; · iapply h4; iexact H4
    isplitl [H5]; · iapply h5; iexact H5
    iapply h6; iexact H6
  isplitl [H7]; · iapply h7; iexact H7
  isplitl [H8]; · iapply h8; iexact H8
  isplitl [H9]; · iapply h9; iexact H9
  iapply h10; iexact H10

theorem ungroup {M : Type} [URA M] {P O a0 a1 a2 a3 a4 a5 a6 a7 a8 a9 a10 P' O' b0 b1 b2 b3 b4 b5 b6 b7 b8 b9 b10 : sProp M}
    (hP : P ⊢ P') (hO : O ⊢ O') (h0 : a0 ⊢ b0) (h1 : a1 ⊢ b1) (h2 : a2 ⊢ b2) (h3 : a3 ⊢ b3) (h4 : a4 ⊢ b4) (h5 : a5 ⊢ b5) (h6 : a6 ⊢ b6) (h7 : a7 ⊢ b7)
    (h8 : a8 ⊢ b8) (h9 : a9 ⊢ b9) (h10 : a10 ⊢ b10) :
    iprop(P ∗ O ∗ (a0 ∗ a1 ∗ a2 ∗ a3 ∗ a4 ∗ a5 ∗ a6) ∗ a7 ∗ (a8 ∗ a9 ∗ a10))
      ⊢ iprop(P' ∗ O' ∗ b0 ∗ b1 ∗ b2 ∗ b3 ∗ b4 ∗ b5 ∗ b6 ∗ b7 ∗ b8 ∗ b9 ∗ b10) := by
  iintro ⟨HP, HO, ⟨H0, H1, H2, H3, H4, H5, H6⟩, H7, ⟨H8, H9, H10⟩⟩
  isplitl [HP]; · iapply hP; iexact HP
  isplitl [HO]; · iapply hO; iexact HO
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  isplitl [H6]; · iapply h6; iexact H6
  isplitl [H7]; · iapply h7; iexact H7
  isplitl [H8]; · iapply h8; iexact H8
  isplitl [H9]; · iapply h9; iexact H9
  iapply h10; iexact H10

theorem left_at {cs : CoreSpace} {s : Shape} {e : EltTy} (c : Dev nD) (b : Memref sig .tc cs s e) (X : Vec F s e) (R : Vec F s e → Prop) (h : R X) :
    (owns (c : Thread nD τ) b fullShare X : sProp 𝕄) ⊢ iprop(∃ X, ⌜R X⌝ ∗ owns (c : Thread nD τ) b fullShare X) := by
  iintro H
  iexists X
  isplitr
  · ipureintro; exact h
  iexact H

theorem colsOut_last (V : Vals F) (c : Dev nD) (t : Fin grid0.N) (W : Cols F) (h : (lit0 (place (grid0.coords t))).toNat = 15) :
    colsOut (lit0 (place (grid0.coords t))) (st V c (t.val + 1)) W
      = ⟨(st V c (t.val + 1)).dk, (st V c (t.val + 1)).dv, (st V c (t.val + 1)).dc⟩ := by
  unfold colsOut
  rw [if_pos ((last_iff _).mpr h)]

theorem body_obligation (V : Vals F) (c : Dev nD) : (rdat V c).BodyObligation (defs₀ (F := F)) Variants.none () Set.univ := by
  intro t Y hY
  rw [bigSep_W0, bigSep_W0, defs₀_row]
  have i0 := finds0 V c t _ (hY 0)
  have i1 := finds1 V c t _ (hY 1)
  have i2 := finds2 V c t _ (hY 2)
  have i3 := finds3 V c t _ (hY 3)
  have i4 := finds4 V c t _ (hY 4)
  have i5 := finds5 V c t _ (hY 5)
  have i6 := finds6 V c t _ (hY 6)
  have i7 := finds7 V c t _ (hY 7)
  refine triple_restated (handed_does V c t (Y 7) ⟨Y 8, Y 9, Y 10⟩ i7) rfl ?_ fun _ => ?_
  · unfold handed heldIn heldCols
    refine regroup (Entails.of_eq (inv_before V c t)) .rfl ?_ ?_ ?_ ?_ ?_ ?_ ?_ ?_ ?_ ?_ ?_
    · rw [i0]; exact Entails.of_eq (own0 c t _)
    · rw [i1]; exact Entails.of_eq (own1 c t _)
    · rw [i2]; exact Entails.of_eq (own2 c t _)
    · rw [i3]; exact Entails.of_eq (own3 c t _)
    · rw [i4]; exact Entails.of_eq (own4 c t _)
    · rw [i5]; exact Entails.of_eq (own5 c t _)
    · rw [i6]; exact Entails.of_eq (own6 c t _)
    · exact Entails.of_eq (own7 c t _)
    · exact Entails.of_eq (own8 c t _)
    · exact Entails.of_eq (own9 c t _)
    · exact Entails.of_eq (own10 c t _)
  · unfold handedBack heldIn heldCols
    refine ungroup (Entails.of_eq (inv_after V c t).symm) .rfl ?_ ?_ ?_ ?_ ?_ ?_ ?_ ?_ ?_ ?_ ?_
    · exact left_at c _ _ _ i0.symm
    · exact left_at c _ _ _ i1.symm
    · exact left_at c _ _ _ i2.symm
    · exact left_at c _ _ _ i3.symm
    · exact left_at c _ _ _ i4.symm
    · exact left_at c _ _ _ i5.symm
    · exact left_at c _ _ _ i6.symm
    · exact left_at c _ _ _ rfl
    · exact left_at c _ _ _ fun h => by rw [colsOut_last V c t _ h]
    · exact left_at c _ _ _ fun h => by rw [colsOut_last V c t _ h]
    · exact left_at c _ _ _ fun h => by rw [colsOut_last V c t _ h]

/-! ## The launch -/

/-- What the buffers hold when the call is reached. -/
def V0 (m : (ℓ : Loc nD τ sig) → Buf (Elt F) ℓ) : Vals F := fun c b => StableHlo.after hostOps0 (fun b => m (c, b)) b

theorem hmain (m : (ℓ : Loc nD τ sig) → Buf (Elt F) ℓ) (𝒱₀ : Variants) :
    Pipeline.HMainP (Ix := Unit) (Name := ℕ) (U := UR sig nD τ) (Lvl := ℕ) (pcfgs (F := F)) 0 defs₀ 𝒱₀ m (main (F := F)) (V0 m) :=
  Pipeline.hmainP_prefix pcfgs 0 defs₀ 𝒱₀ m main hostOps0 hostOps0_sub (by
    unfold hostOps0
    repeat' first | exact List.Forall.nil | refine ⟨rfl, ?_⟩ | rfl) main_chain

theorem tables_eq (c : Dev nD) : (Pipeline.ΦT pre0 (tabs (F := F)) c : sProp 𝕄) = tables c := by
  unfold Pipeline.ΦT Pipeline.prefHeld tables
  rw [show (Finset.univ : Finset (Fin 2)) = insert 0 {1} from by decide, bigSep_insert (by decide), bigSep_singleton, owns_whole, owns_whole]
  rfl

end Cert.KernelIdeal
-- ==== Proof.KI.Launch.lean ====
/- The run of the whole program: the host's operations, then the call. -/
module

public import proofs.«01_k».proof.Proof.KI.Frame

@[expose] public section

set_option synthInstance.maxSize 4096

noncomputable section

namespace Cert.KernelIdeal

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.VecWindow (window put)
open Idealize.ShloMosaic.Pipeline (RDat)
open Cert.KernelIdeal.Gen Cert.Fox

variable {F : FTy → Type} [FloatOps F] [Named F]

local notation "𝕄" => MT nD τ sig Unit (Elt F) ℕ (UR sig nD τ) ℕ

/-! ## What the host leaves -/

/-- The results of the host's operations, in order. -/
def hostRefs : List (Ref sig .tc) :=
  [main_c, main_c_0, main_v0, main_v1, main_v2, main_v3, main_v4, main_cst, main_v5, main_v6, main_v7, main_v8, main_v9, main_v10,
   main_v11, main_v12, main_v13, main_v14, main_v15, main_cst_1, main_v16, main_v17, main_cst_2, main_v18, main_v19, main_v20,
   main_v21, main_v22, main_cst_3, main_v23, main_v24, main_v25, main_v26, main_v27, main_v28, main_v29, main_v30, main_v31,
   main_v32, main_v33, main_cst_4, main_v34, main_v35, main_v36, main_v37, main_v38, main_v39, main_cst_5, main_v40, main_v41,
   main_v42, main_v43, main_v44, main_v45, main_v46, main_v47, main_v48]

theorem host_writes : (hostOps0 : List (HloOp τ sig (Elt F))).map HloOp.writes = hostRefs.map fun r => {Proc.devRef (τ := τ) .tc r} := rfl

/-- A buffer that no host operation writes still holds what it held at launch. -/
theorem V0_kept (m : (ℓ : Loc nD τ sig) → Buf (Elt F) ℓ) (c : Dev nD) (b : Ref sig .tc) (h : b ∉ hostRefs) :
    V0 m c b = m ((c : Thread nD τ).loc b) :=
  StableHlo.after_of_writes_sub hostOps0 _ (StableHlo.forall_writes_sub_of_map host_writes) h

/-- The call's first table is the list of block rows. -/
theorem V_table0 (m : (ℓ : Loc nD τ sig) → Buf (Elt F) ℓ) (c : Dev nD) : V0 m c main_c = (rows : S136.Idx → BitVec 32) := by
  have h := StableHlo.after_of_writes_sub (r := main_c) (W := hostRefs.tail) (hostOps0 (F := F)).tail
    (((hostOps0 (F := F)).head (List.cons_ne_nil _ _)).result fun b => m (c, b))
    (StableHlo.forall_writes_sub_of_map rfl) (by decide)
  exact h

/-- The call's second table is the list of block columns. -/
theorem V_table1 (m : (ℓ : Loc nD τ sig) → Buf (Elt F) ℓ) (c : Dev nD) : V0 m c main_c_0 = (cols : S136.Idx → BitVec 32) := by
  have h := StableHlo.after_of_writes_sub (r := main_c_0) (W := hostRefs.tail.tail) (hostOps0 (F := F)).tail.tail
    (((hostOps0 (F := F)).tail.head (List.cons_ne_nil _ _)).result
      (((hostOps0 (F := F)).head (List.cons_ne_nil _ _)).result fun b => m (c, b)))
    (StableHlo.forall_writes_sub_of_map rfl) (by decide)
  exact h

/-- The call starts with its working buffers holding anything. -/
theorem begins (V : Vals F) (c : Dev nD) :
    iprop(Pipeline.ΦA (cfgA F).spec c ∗ Pipeline.ΦT pre0 (tabs (F := F)) c : sProp 𝕄) ⊢ (rdat V c).Φ 0 := by
  dsimp only [rdat]
  rw [tables_eq]
  unfold Pipeline.ΦA gathered
  rw [show (cfgA F).spec = spec0 from rfl, scopedRest0_eq]
  simp only [owns_whole]
  iintro ⟨⟨⟨⟨%f0, H0⟩, ⟨%f1, H1⟩, ⟨%f2, H2⟩, H3, H4, H5, H6⟩, Hr⟩, HT⟩
  isplitl [HT]
  · iexact HT
  isplitl [Hr]
  · iexact Hr
  iexists (⟨(st V c 0).dq, f0, f1, f2⟩ : Outs F)
  isplitr
  · ipureintro
    exact fun h => absurd rfl h
  isplitl [H0]
  · iexact H0
  isplitl [H1]
  · iexact H1
  isplitl [H2]
  · iexact H2
  isplitl [H3]
  · iexact H3
  isplitl [H4]
  · iexact H4
  isplitl [H5]
  · iexact H5
  iexact H6

/-- And ends with them holding anything. -/
theorem ends (V : Vals F) (c : Dev nD) : (rdat V c).Φ (Fin.last (cfgA F).N) ⊢ Pipeline.ΦA (cfgA F).spec c := by
  dsimp only [rdat]
  unfold Pipeline.ΦA gathered
  rw [show (cfgA F).spec = spec0 from rfl, scopedRest0_eq]
  simp only [owns_whole]
  iintro ⟨HT, Hr, %O, HO, H0, H1, H2, H3, H4, H5, H6⟩
  isplitr [Hr]
  · isplitl [H0]
    · iexists O.dk; iexact H0
    isplitl [H1]
    · iexists O.dv; iexact H1
    isplitl [H2]
    · iexists O.dc; iexact H2
    isplitl [H3]
    · iexact H3
    isplitl [H4]
    · iexact H4
    isplitl [H5]
    · iexact H5
    iexact H6
  iexact Hr

set_option backward.isDefEq.respectTransparency.types false in
/-- From any memory with zero counters the program runs to its end; the arrays the call writes hold its blocks as they
    were last written back, every other buffer what the host left in it, and every counter is zero again. -/
theorem run_main (m : (ℓ : Loc nD τ sig) → Buf (Elt F) ℓ) (ρ : Dev nD → PrngReg) :
    θ_run (defs (F := F)) (onTc (τ := τ) (main (F := F))) ⟨m, fun _ => 0, ρ⟩
      (fun r => RDat.FramePost (cfgA F) (rdat (V0 m)) (V0 m) r ∧ r.2.sem = fun _ => 0) :=
  RDat.θ_run_frameP_track (Q' := _) pcfgs (fun _ => adm) (0 : Fin 1) launch0 defs₀ Variants.none (rdat (V0 m)) m ρ main
    (hbody := fun c => body_obligation (V0 m) c) (hshare := fun c => (rdat (V0 m) c).share_full fun _ => rfl)
    (howed := fun _ _ => rfl) (V := V0 m) (hmain := hmain m Variants.none) (hA := fun _ _ => rfl)
    (hpf := fun c k => by
      match k with
      | 0 => exact V_table0 m c
      | 1 => exact V_table1 m c)
    (hin := begins (V0 m)) (hout := ends (V0 m))

/-- After the run the queries hold what they held at launch. -/
theorem kept0 {V : Vals F} {r : PUnit × MemSt nD τ sig (Elt F)} (h : RDat.FramePost (cfgA F) (rdat V) V r) (c : Dev nD) :
    r.2.mem ((c : Thread nD τ).loc main_arg0) = V c main_arg0 := h.arr_in c 0 rfl

/-- After the run the keys hold what they held at launch. -/
theorem kept1 {V : Vals F} {r : PUnit × MemSt nD τ sig (Elt F)} (h : RDat.FramePost (cfgA F) (rdat V) V r) (c : Dev nD) :
    r.2.mem ((c : Thread nD τ).loc main_arg1) = V c main_arg1 := h.arr_in c 1 rfl

/-- After the run the values hold what they held at launch. -/
theorem kept2 {V : Vals F} {r : PUnit × MemSt nD τ sig (Elt F)} (h : RDat.FramePost (cfgA F) (rdat V) V r) (c : Dev nD) :
    r.2.mem ((c : Thread nD τ).loc main_arg2) = V c main_arg2 := h.arr_in c 2 rfl

/-- After the run the output's gradient holds what it held at launch. -/
theorem kept3 {V : Vals F} {r : PUnit × MemSt nD τ sig (Elt F)} (h : RDat.FramePost (cfgA F) (rdat V) V r) (c : Dev nD) :
    r.2.mem ((c : Thread nD τ).loc main_arg3) = V c main_arg3 := h.arr_in c 3 rfl

/-- After the run the decays hold what they held at launch. -/
theorem kept4 {V : Vals F} {r : PUnit × MemSt nD τ sig (Elt F)} (h : RDat.FramePost (cfgA F) (rdat V) V r) (c : Dev nD) :
    r.2.mem ((c : Thread nD τ).loc main_arg4) = V c main_arg4 :=
  (h c).2 main_arg4 (Pipeline.mem_restRefs_of main_arg4 (by decide) (show ∀ w : Fin 11, (spec0 w).arr.view.ref ≠ main_arg4 by decide))

/-- The host writes none of the arguments. -/
theorem not_written : main_arg0 ∉ hostRefs ∧ main_arg1 ∉ hostRefs ∧ main_arg2 ∉ hostRefs ∧ main_arg3 ∉ hostRefs ∧ main_arg4 ∉ hostRefs := by
  decide

/-- After the run every argument holds what it held at launch. -/
theorem kept_args {m : (ℓ : Loc nD τ sig) → Buf (Elt F) ℓ} {r : PUnit × MemSt nD τ sig (Elt F)}
    (h : RDat.FramePost (cfgA F) (rdat (V0 m)) (V0 m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  obtain ⟨n0, n1, n2, n3, n4⟩ := not_written
  exact ⟨(kept0 h c).trans (V0_kept m c main_arg0 n0), (kept1 h c).trans (V0_kept m c main_arg1 n1),
    (kept2 h c).trans (V0_kept m c main_arg2 n2), (kept3 h c).trans (V0_kept m c main_arg3 n3),
    (kept4 h c).trans (V0_kept m c main_arg4 n4)⟩

/-- The run ends with the arguments unchanged and every counter at zero. -/
theorem run_kept (m : (ℓ : Loc nD τ sig) → Buf (Elt F) ℓ) (ρ : Dev nD → PrngReg) :
    θ_run (defs (F := F)) (onTc (τ := τ) (main (F := F))) ⟨m, fun _ => 0, ρ⟩
      (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.sem = fun _ => 0) :=
  (θ_run (defs (F := F)) _ _).mono (fun _ (h : _ ∧ _) => ⟨fun c => kept_args h.1 c, h.2⟩) (run_main m ρ)

end Cert.KernelIdeal
-- ==== Proof.Frames.lean ====
/- The three programs run to their ends and leave their arguments as they were, and the idealised kernel differs from the
   kernel in two named constants. -/
module

public import proofs.«01_k».proof.Proof.K.Launch
public import proofs.«01_k».proof.Proof.KI.Launch
public import proofs.«01_k».proof.Proof.Gen.ReferenceIdeal.Run
public import Idealize.ShloMosaic.Lib.Quiescent
public import Idealize.ShloMosaic.PureOps.IdealRules

@[expose] public section

noncomputable section

namespace Cert.Proof

open Idealize.ShloMosaic Idealize.SL.Sem

/-- The reference's machine has no counters. -/
theorem no_sems : Cert.ReferenceIdeal.sig.nSem + Cert.ReferenceIdeal.sig.nDmaSem = 0 := by decide

/-- The reference runs and leaves its arguments as they were. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run (Cert.ReferenceIdeal.defs (F := Ideal)) _ _).mono
    (fun _ h => ⟨fun c => (h c).2.2.2.2, sem_eq_zero_of_no_sems no_sems _⟩) (Cert.ReferenceIdeal.Value.run m g)

/-- Two constants of the kernel's body are named in its idealisation. -/
theorem names : IdealRules.named_const.Statement Cert.KernelIdeal.κ "log2e" .f32 0x3FB8AA3B#32 (((Real.log 2)⁻¹ : ℝ) : EReal)
    ∧ IdealRules.named_const.Statement Cert.KernelIdeal.κ "scale_log2e" .f32 0x3E0293EE#32
      (((11863283 / 134217728) * (Real.log 2)⁻¹ : ℝ) : EReal) :=
  ⟨IdealRules.named_const.statement _ _ _ _ _ rfl, IdealRules.named_const.statement _ _ _ _ _ rfl⟩

end Cert.Proof
-- ==== Proof.Spec.lean ====
/- The gradient of the forgetting attention over the reals: the sums both programs' results are shown to be, and the few
   facts about sums and maxima of extended reals that reading a program at them takes. -/
module

public import Idealize.ShloMosaic.PureOps.Ideal
public import Idealize.ShloMosaic.PureOps.IdealRules

@[expose] public section

noncomputable section

namespace Cert.Attn

open Idealize.ShloMosaic

/-! ## The constants -/

/-- The scale of the logits: the real number the f32 word of `1 / √128` holds. -/
def sg : ℝ := 11863283 / 134217728

/-- The word both programs multiply the logits' gradient by holds `sg`. -/
theorem ofBits_sg : Ideal.ofBits .f32 0x3DB504F3#32 = ((sg : ℝ) : EReal) := by
  unfold sg; simp [Ideal.ofBits, Ideal.ieee, -EReal.coe_mul]; norm_num

/-- The word of `-∞`. -/
theorem ofBits_bot : Ideal.ofBits .f32 0xFF800000#32 = (⊥ : EReal) := by
  simp [Ideal.ofBits, Ideal.ieee]

/-- The word of `+∞`. -/
theorem ofBits_top : Ideal.ofBits .f32 0x7F800000#32 = (⊤ : EReal) := by
  simp [Ideal.ofBits, Ideal.ieee]

/-- The word of `2`. -/
theorem ofBits_two : Ideal.ofBits .f32 0x40000000#32 = ((2 : ℝ) : EReal) := by
  simp [Ideal.ofBits, Ideal.ieee, -EReal.coe_mul]; norm_num

/-! ## Sums and maxima -/

/-- A finite sum of reals is the same sum among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The maximum, from `-∞`, of finitely many values none of which is `+∞` and one of which is real, is real. -/
theorem fold_max_real {ι : Type*} [Fintype ι] (f : ι → EReal) (h : ∀ i, f i ≠ ⊤) (i₀ : ι) (h₀ : f i₀ ≠ ⊥) :
    ∃ M : ℝ, Finset.univ.fold max ⊥ f = (M : EReal) := by
  classical
  have ht : Finset.univ.fold max ⊥ f ≠ ⊤ := by
    have : ∀ s : Finset ι, s.fold max ⊥ f ≠ ⊤ := by
      intro s
      induction s using Finset.induction_on with
      | empty => simp
      | insert a s ha ih =>
        rw [Finset.fold_insert ha]
        rcases max_choice (f a) (s.fold max ⊥ f) with e | e <;> rw [e]
        · exact h a
        · exact ih
    exact this _
  have hb : Finset.univ.fold max ⊥ f ≠ ⊥ := by
    have : f i₀ ≤ Finset.univ.fold max ⊥ f :=
      Finset.le_fold_max (f := f) (b := ⊥) (s := Finset.univ) (f i₀) |>.2 (Or.inr ⟨i₀, Finset.mem_univ _, le_rfl⟩)
    intro e
    rw [e, le_bot_iff] at this
    exact h₀ this
  exact ⟨_, (EReal.coe_toReal ht hb).symm⟩

/-! ## The gradient -/

/-- The arguments: q, k, v and the gradient of the output by row and column (head `h` in the columns from `128 h`), the
    decay's running sum by head and row. -/
structure Arg where
  (q k v g c : ℕ → ℕ → ℝ)

variable (A : Arg)

/-- The product of a query's and a key's features. -/
def att (h t s : ℕ) : ℝ := ∑ d : Fin 128, A.q t (h * 128 + d) * A.k s (h * 128 + d)

/-- The logit of key `s` at query `t`. -/
def lg (h t s : ℕ) : ℝ := att A h t s * sg + A.c h t - A.c h s

/-- The exponential of the logit; nothing from a later key. -/
def wt (h t s : ℕ) : ℝ := if s ≤ t then Real.exp (lg A h t s) else 0

/-- The sum of a query's exponentials. -/
def Z (h t : ℕ) : ℝ := ∑ s : Fin 8192, wt A h t s

/-- The attention's probabilities. -/
def P (h t s : ℕ) : ℝ := wt A h t s / Z A h t

/-- The gradient of the probabilities. -/
def dP (h t s : ℕ) : ℝ := ∑ d : Fin 128, A.g t (h * 128 + d) * A.v s (h * 128 + d)

/-- A query's sum of probabilities times their gradient. -/
def del (h t : ℕ) : ℝ := ∑ s : Fin 8192, P A h t s * dP A h t s

/-- The gradient of the logits. -/
def ds (h t s : ℕ) : ℝ := P A h t s * (dP A h t s - del A h t)

/-- The gradient of q. -/
def dq (t e : ℕ) : ℝ := ∑ s : Fin 8192, ds A (e / 128) t s * sg * A.k s e

/-- The gradient of k. -/
def dk (s e : ℕ) : ℝ := ∑ t : Fin 8192, ds A (e / 128) t s * sg * A.q t e

/-- The gradient of v. -/
def dv (s e : ℕ) : ℝ := ∑ t : Fin 8192, P A (e / 128) t s * A.g t e

/-- The gradient of the decay's running sum. -/
def dc (h s : ℕ) : ℝ := -∑ t : Fin 8192, ds A h t s

/-- A query's sum of exponentials is positive. -/
theorem Z_pos (h : ℕ) (t : Fin 8192) : 0 < Z A h t := by
  refine Finset.sum_pos' (fun s _ => ?_) ⟨t, Finset.mem_univ _, ?_⟩
  · unfold wt; split <;> positivity
  · rw [wt, if_pos le_rfl]; positivity

/-- A query's probabilities sum to one. -/
theorem sum_P (h : ℕ) (t : Fin 8192) : ∑ s : Fin 8192, P A h t s = 1 := by
  unfold P
  rw [← Finset.sum_div]
  exact div_self (Z_pos A h t).ne'

/-- A query's gradients of logits sum to zero. -/
theorem sum_ds (h : ℕ) (t : Fin 8192) : ∑ s : Fin 8192, ds A h t s = 0 := by
  unfold ds
  simp only [mul_sub, Finset.sum_sub_distrib, ← Finset.sum_mul, sum_P, one_mul]
  exact sub_self _

/-- Nothing reaches a later key. -/
theorem P_late {h t s : ℕ} (hs : t < s) : P A h t s = 0 := by
  rw [P, wt, if_neg (by omega), zero_div]

/-- Nor does its logit. -/
theorem ds_late {h t s : ℕ} (hs : t < s) : ds A h t s = 0 := by
  rw [ds, P_late A hs, zero_mul]

end Cert.Attn

end
-- ==== Proof.RefTerm.lean ====
/- The reference's results, its operations grouped: the masked logits, their exponentials, the row sums, the gradients of
   the probabilities and of the logits, and the four results. -/
module

public import proofs.«01_k».proof.Proof.Gen.ReferenceIdeal.Run
public import Idealize.ShloMosaic.PureOps.Ideal

@[expose] public section

noncomputable section

namespace Cert.ReferenceIdeal

open Idealize.ShloMosaic Idealize.SL.Sem
open Cert.ReferenceIdeal.Gen

/-- Where the key is not later than the query. -/
def tMask : IVec S16x8192x8192 1 := cmpi .sle (iotaInDim S16x8192x8192 32 2) (iotaInDim S16x8192x8192 32 1)

/-- The heads' view of an array of rows. -/
def tHead (x : FVec Ideal S8192x2048 .bf16) : FVec Ideal S8192x16x128 .bf16 := shapeCast _ x shapeCasts_S8192x2048_S8192x16x128

/-- The masked logits. -/
def tX (q k : FVec Ideal S8192x2048 .bf16) (c : FVec Ideal S16x8192 .f32) : FVec Ideal S16x8192x8192 .f32 :=
  select tMask
    (subf (addf (mulf (Host.dotGeneral dot_S8192x16x128_S8192x16x128_S16x8192x8192_2_2_0_0_1_1 none (tHead q) (tHead k))
        (broadcastInDim S16x8192x8192 ![] bcast_S_S16x8192x8192 (constant S_ .f32 0x3DB504F3#32)))
      (broadcastInDim S16x8192x8192 ![0, 1, 2] bcast_S16x8192x1_S16x8192x8192_0_1_2
        (broadcastInDim S16x8192x1 ![0, 1] bcast_S16x8192_S16x8192x1_0_1 c)))
      (broadcastInDim S16x8192x8192 ![0, 1, 2] bcast_S16x1x8192_S16x8192x8192_0_1_2
        (broadcastInDim S16x1x8192 ![0, 2] bcast_S16x8192_S16x1x8192_0_2 c)))
    (broadcastInDim S16x8192x8192 ![] bcast_S_S16x8192x8192 (constant S_ .f32 0xFF800000#32))

/-- The rows' maxima. -/
def tM (x : FVec Ideal S16x8192x8192 .f32) : FVec Ideal S16x8192 .f32 :=
  Host.reduce FloatOps.maximumf x (constant S_ .f32 0xFF800000#32) reducesTo_S16x8192x8192_S16x8192_d2 h_S_

/-- The exponentials of the logits less a row's maximum. -/
def tE (x : FVec Ideal S16x8192x8192 .f32) (m : FVec Ideal S16x8192 .f32) : FVec Ideal S16x8192x8192 .f32 :=
  Host.exp (subf x (broadcastInDim S16x8192x8192 ![0, 1, 2] bcast_S16x8192x1_S16x8192x8192_0_1_2
    (broadcastInDim S16x8192x1 ![0, 1] bcast_S16x8192_S16x8192x1_0_1
      (maximumf (broadcastInDim S16x8192 ![] bcast_S_S16x8192 (constant S_ .f32 0xFF800000#32)) m))))

/-- The rows' sums of exponentials. -/
def tL (e : FVec Ideal S16x8192x8192 .f32) : FVec Ideal S16x8192x1 .f32 :=
  broadcastInDim S16x8192x1 ![0, 1] bcast_S16x8192_S16x8192x1_0_1
    (Host.reduceAdd e (constant S_ .f32 0x00000000#32) reducesTo_S16x8192x8192_S16x8192_d2 h_S_)

/-- A row's value at every key. -/
def tRow (l : FVec Ideal S16x8192x1 .f32) : FVec Ideal S16x8192x8192 .f32 :=
  broadcastInDim S16x8192x8192 ![0, 1, 2] bcast_S16x8192x1_S16x8192x8192_0_1_2 l

/-- The output's gradient, features first. -/
def tG (g : FVec Ideal S8192x2048 .bf16) : FVec Ideal S16x128x8192 .f32 :=
  transpose S16x128x8192 [1, 2, 0] (extf .f32 (shapeCast S8192x16x128 g shapeCasts_S8192x2048_S8192x16x128) bitsLt_bf16_f32)
    transposes_S8192x16x128_S16x128x8192_1_2_0

/-- The gradient of the probabilities. -/
def tDp (g v : FVec Ideal S8192x2048 .bf16) : FVec Ideal S16x8192x8192 .f32 :=
  extf .f32 (truncf .bf16 (Host.dotGeneral dot_S16x128x8192_S8192x16x128_S16x8192x8192_1_2_2_0_0_1 none (tG g) (tHead v)
    : FVec Ideal S16x8192x8192 .f32) bitsLt_bf16_f32) bitsLt_bf16_f32

/-- The gradient's correction of a row: the row's sum, negated. -/
def tCor (e : FVec Ideal S16x8192x8192 .f32) (l : FVec Ideal S16x8192x1 .f32) (dp : FVec Ideal S16x8192x8192 .f32) :
    FVec Ideal S16x8192 .f32 :=
  Host.reduceAdd (Host.negf (shapeCast S16x8192x1
    (Host.reduceAdd (mulf (mulf dp (tRow (Host.divf (broadcastInDim S16x8192x1 ![] bcast_S_S16x8192x1
        (constant S_ .f32 0x3F800000#32)) (mulf l l)))) e) (constant S_ .f32 0x00000000#32)
      reducesTo_S16x8192x8192_S16x8192_d2 h_S_) shapeCasts_S16x8192_S16x8192x1))
    (constant S_ .f32 0x00000000#32) reducesTo_S16x8192x1_S16x8192_d2 h_S_

/-- The gradient of the logits. -/
def tDs (e : FVec Ideal S16x8192x8192 .f32) (l : FVec Ideal S16x8192x1 .f32) (dp : FVec Ideal S16x8192x8192 .f32)
    (r : FVec Ideal S16x8192 .f32) : FVec Ideal S16x8192x8192 .f32 :=
  select tMask (mulf (addf (Host.divf dp (tRow l)) (broadcastInDim S16x8192x8192 ![0, 1] bcast_S16x8192_S16x8192x8192_0_1 r)) e)
    (broadcastInDim S16x8192x8192 ![] bcast_S_S16x8192x8192 (constant S_ .f32 0x00000000#32))

/-- The gradient of the logits, scaled. -/
def tSc (d : FVec Ideal S16x8192x8192 .f32) : FVec Ideal S16x8192x8192 .f32 :=
  mulf d (broadcastInDim S16x8192x8192 ![] bcast_S_S16x8192x8192 (constant S_ .f32 0x3DB504F3#32))

/-- The gradient of q. -/
def tDq (d : FVec Ideal S16x8192x8192 .f32) (k : FVec Ideal S8192x2048 .bf16) : FVec Ideal S8192x2048 .f32 :=
  extf .f32 (shapeCast S8192x2048 (truncf .bf16 (transpose S8192x16x128 [1, 0, 2]
    (Host.dotGeneral dot_S16x8192x8192_S8192x16x128_S16x8192x128_2_0_1_2_0_1 none (tSc d) (tHead k) : FVec Ideal S16x8192x128 .f32)
    transposes_S16x8192x128_S8192x16x128_1_0_2) bitsLt_bf16_f32) shapeCasts_S8192x16x128_S8192x2048) bitsLt_bf16_f32

/-- The gradient of k. -/
def tDk (d : FVec Ideal S16x8192x8192 .f32) (q : FVec Ideal S8192x2048 .bf16) : FVec Ideal S8192x2048 .f32 :=
  extf .f32 (shapeCast S8192x2048 (truncf .bf16 (transpose S8192x16x128 [1, 0, 2]
    (Host.dotGeneral dot_S16x8192x8192_S8192x16x128_S16x8192x128_1_0_2_2_0_1 none (tSc d) (tHead q) : FVec Ideal S16x8192x128 .f32)
    transposes_S16x8192x128_S8192x16x128_1_0_2) bitsLt_bf16_f32) shapeCasts_S8192x16x128_S8192x2048) bitsLt_bf16_f32

/-- The gradient of v. -/
def tDv (e : FVec Ideal S16x8192x8192 .f32) (l : FVec Ideal S16x8192x1 .f32) (g : FVec Ideal S8192x2048 .bf16) :
    FVec Ideal S8192x2048 .f32 :=
  extf .f32 (shapeCast S8192x2048 (truncf .bf16 (transpose S8192x16x128 [2, 0, 1]
    (Host.dotGeneral dot_S16x128x8192_S16x8192x8192_S16x128x8192_2_1_1_2_0_0 none (tG g)
      (truncf .bf16 (Host.divf e (tRow l)) bitsLt_bf16_f32) : FVec Ideal S16x128x8192 .f32)
    transposes_S16x128x8192_S8192x16x128_2_0_1) bitsLt_bf16_f32) shapeCasts_S8192x16x128_S8192x2048) bitsLt_bf16_f32

/-- The gradient of the decay's running sum. -/
def tDc (d : FVec Ideal S16x8192x8192 .f32) : FVec Ideal S16x1x8192 .f32 :=
  broadcastInDim S16x1x8192 ![0, 2] bcast_S16x8192_S16x1x8192_0_2
    (addf (Host.reduceAdd (shapeCast S16x1x8192 (Host.reduceAdd (Host.negf d) (constant S_ .f32 0x00000000#32)
        reducesTo_S16x8192x8192_S16x8192_d1 h_S_) shapeCasts_S16x8192_S16x1x8192) (constant S_ .f32 0x00000000#32)
        reducesTo_S16x1x8192_S16x8192_d1 h_S_)
      (Host.reduceAdd (shapeCast S16x8192x1 (Host.reduceAdd d (constant S_ .f32 0x00000000#32)
        reducesTo_S16x8192x8192_S16x8192_d2 h_S_) shapeCasts_S16x8192_S16x8192x1) (constant S_ .f32 0x00000000#32)
        reducesTo_S16x8192x1_S16x8192_d2 h_S_))

/-- The exponentials as the arguments give them. -/
def uE (q k : FVec Ideal S8192x2048 .bf16) (c : FVec Ideal S16x8192 .f32) : FVec Ideal S16x8192x8192 .f32 :=
  tE (tX q k c) (tM (tX q k c))

/-- The gradient of the logits as the arguments give it. -/
def uDs (q k v g : FVec Ideal S8192x2048 .bf16) (c : FVec Ideal S16x8192 .f32) : FVec Ideal S16x8192x8192 .f32 :=
  tDs (uE q k c) (tL (uE q k c)) (tDp g v) (tCor (uE q k c) (tL (uE q k c)) (tDp g v))

section

variable (m : (ℓ : Loc nD τ sig) → Buf (Elt Ideal) ℓ) (c : Dev nD)

/-- The first result of the reference. -/
theorem res0 : Value.res_main_v93 m c = tDq (uDs (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)))
    (m ((c.tc : Thread nD τ).loc main_arg1)) := by
  unfold Value.res_main_v93; rfl

/-- The second. -/
theorem res1 : Value.res_main_v94 m c = tDk (uDs (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)))
    (m ((c.tc : Thread nD τ).loc main_arg0)) := by
  unfold Value.res_main_v94; rfl

/-- The third. -/
theorem res2 : Value.res_main_v95 m c = tDv (uE (m ((c.tc : Thread nD τ).loc main_arg0)) (m ((c.tc : Thread nD τ).loc main_arg1))
      (m ((c.tc : Thread nD τ).loc main_arg4)))
    (tL (uE (m ((c.tc : Thread nD τ).loc main_arg0)) (m ((c.tc : Thread nD τ).loc main_arg1)) (m ((c.tc : Thread nD τ).loc main_arg4))))
    (m ((c.tc : Thread nD τ).loc main_arg3)) := by
  unfold Value.res_main_v95; rfl

/-- The fourth. -/
theorem res3 : Value.res_main_v96 m c = tDc (uDs (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := by
  unfold Value.res_main_v96; rfl

end

end Cert.ReferenceIdeal

end
-- ==== Proof.Ref.lean ====
/- The reference's stages read at an index: each is the real number of the specification. -/
module

public import proofs.«01_k».proof.Proof.RefTerm
public import proofs.«01_k».proof.Proof.Spec
public import Idealize.ShloMosaic.Lib.Pointwise

@[expose] public section

set_option maxRecDepth 16384

noncomputable section

namespace Cert.Attn

open Idealize.ShloMosaic

/-- The comparison of two positions of a row, each below 8192, as words. -/
theorem sle_word {a b : ℕ} (ha : a < 8192) (hb : b < 8192) {α : Type} (x y : α) :
    Scalar.select (IntOp.cmpi CmpIPredicate.sle (BitVec.ofNat 32 a) (BitVec.ofNat 32 b)) x y = if a ≤ b then x else y := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp [Nat.mod_eq_of_lt (show a < 4294967296 by omega), Nat.mod_eq_of_lt (show b < 4294967296 by omega)]
  by_cases hab : a ≤ b <;> simp [Scalar.select, IntOp.cmpi, h, hab]

end Cert.Attn

namespace Cert.ReferenceIdeal

open Idealize.ShloMosaic Idealize.SL.Sem
open Cert.ReferenceIdeal.Gen Cert.Attn

variable {A : Arg} {q k v g : FVec Ideal S8192x2048 .bf16} {c : FVec Ideal S16x8192 .f32}

/-- The masked logits. -/
theorem tX_at (hq : ∀ (t : Fin 8192) (e : Fin 2048), q (ix2 t e) = ((A.q t e : ℝ) : EReal))
    (hk : ∀ (t : Fin 8192) (e : Fin 2048), k (ix2 t e) = ((A.k t e : ℝ) : EReal))
    (hc : ∀ (h : Fin 16) (t : Fin 8192), c (ix2 h t) = ((A.c h t : ℝ) : EReal)) (h : Fin 16) (t s : Fin 8192) :
    tX q k c (ix3 h t s) = if s.val ≤ t.val then ((lg A h t s : ℝ) : EReal) else ⊥ := by
  pointwise [tX, tMask, tHead, hq, hk, hc, ofBits_sg, ofBits_bot]
  rw [sle_word s.isLt t.isLt]
  simp only [lg, att, EReal.coe_add, EReal.coe_sub, EReal.coe_mul, coe_sum]

/-- A row's maximum. -/
theorem tM_at {x : FVec Ideal S16x8192x8192 .f32} (h : Fin 16) (t : Fin 8192) :
    tM x (ix2 h t) = Finset.univ.fold max ⊥ fun s => x (ix3 h t s) := by
  pointwise [tM, ofBits_bot]

/-- A row's maximum is real: its diagonal entry is. -/
theorem tM_real {x : FVec Ideal S16x8192x8192 .f32}
    (hx : ∀ (h : Fin 16) (t s : Fin 8192), x (ix3 h t s) = if s.val ≤ t.val then ((lg A h t s : ℝ) : EReal) else ⊥) :
    ∃ M : ℕ → ℕ → ℝ, ∀ (h : Fin 16) (t : Fin 8192), tM x (ix2 h t) = ((M h t : ℝ) : EReal) := by
  have : ∀ (h : Fin 16) (t : Fin 8192), ∃ M : ℝ, tM x (ix2 h t) = (M : EReal) := fun h t => by
    rw [tM_at]
    refine fold_max_real _ (fun s => ?_) t ?_
    · rw [hx]; split <;> simp
    · rw [hx, if_pos le_rfl]; simp
  choose M hM using this
  refine ⟨fun h t => if hh : h < 16 then if ht : t < 8192 then M ⟨h, hh⟩ ⟨t, ht⟩ else 0 else 0, fun h t => ?_⟩
  rw [hM]
  simp only [h.isLt, t.isLt, dif_pos]

/-- The exponentials: those of the logits, over that of the row's maximum. -/
theorem tE_at {x : FVec Ideal S16x8192x8192 .f32} {m : FVec Ideal S16x8192 .f32} {M : ℕ → ℕ → ℝ}
    (hx : ∀ (h : Fin 16) (t s : Fin 8192), x (ix3 h t s) = if s.val ≤ t.val then ((lg A h t s : ℝ) : EReal) else ⊥)
    (hm : ∀ (h : Fin 16) (t : Fin 8192), m (ix2 h t) = ((M h t : ℝ) : EReal)) (h : Fin 16) (t s : Fin 8192) :
    tE x m (ix3 h t s) = ((wt A h t s * Real.exp (-M h t) : ℝ) : EReal) := by
  pointwise [tE, ofBits_bot, hm]
  rw [hx, max_eq_right bot_le, wt]
  by_cases hs : s.val ≤ t.val
  · rw [if_pos hs, if_pos hs, ← EReal.coe_sub, Ideal.exp_coe, ← Real.exp_add, sub_eq_add_neg]
  · rw [if_neg hs, if_neg hs, EReal.bot_sub, Ideal.exp_bot, zero_mul]; rfl

/-- The rows' sums. -/
theorem tL_at {x : FVec Ideal S16x8192x8192 .f32} {κ : ℕ → ℕ → ℝ}
    (hx : ∀ (h : Fin 16) (t s : Fin 8192), x (ix3 h t s) = ((wt A h t s * κ h t : ℝ) : EReal)) (h : Fin 16) (t : Fin 8192) :
    tL x (ix3 h t 0) = ((Z A h t * κ h t : ℝ) : EReal) := by
  pointwise [tL, hx]
  rw [← coe_sum, ← Finset.sum_mul, Z]

/-- The gradient of the probabilities. -/
theorem tDp_at (hg : ∀ (t : Fin 8192) (e : Fin 2048), g (ix2 t e) = ((A.g t e : ℝ) : EReal))
    (hv : ∀ (t : Fin 8192) (e : Fin 2048), v (ix2 t e) = ((A.v t e : ℝ) : EReal)) (h : Fin 16) (t s : Fin 8192) :
    tDp g v (ix3 h t s) = ((dP A h t s : ℝ) : EReal) := by
  pointwise [tDp, tG, tHead, hg, hv]
  simp only [dP, EReal.coe_mul, coe_sum]

section

variable {e dp : FVec Ideal S16x8192x8192 .f32} {l : FVec Ideal S16x8192x1 .f32} {κ : ℕ → ℕ → ℝ}

/-- A row's correction. -/
theorem tCor_at (hκ : ∀ (h : Fin 16) (t : Fin 8192), 0 < κ h t)
    (he : ∀ (h : Fin 16) (t s : Fin 8192), e (ix3 h t s) = ((wt A h t s * κ h t : ℝ) : EReal))
    (hl : ∀ (h : Fin 16) (t : Fin 8192), l (ix3 h t 0) = ((Z A h t * κ h t : ℝ) : EReal))
    (hp : ∀ (h : Fin 16) (t s : Fin 8192), dp (ix3 h t s) = ((dP A h t s : ℝ) : EReal)) (h : Fin 16) (t : Fin 8192) :
    tCor e l dp (ix2 h t) = ((-(del A h t / (Z A h t * κ h t)) : ℝ) : EReal) := by
  have hz := (Z_pos A h t).ne'
  have hk := (hκ h t).ne'
  pointwise [tCor, tRow, he, hl, hp]
  rw [← EReal.coe_mul, Ideal.div_coe (by positivity), one_mul]
  simp only [← EReal.coe_mul, ← coe_sum, ← EReal.coe_neg, Finset.univ_unique, Finset.sum_const, Finset.card_singleton, one_smul]
  refine congrArg _ (congrArg _ ?_)
  rw [del, Finset.sum_div]
  refine Finset.sum_congr rfl fun s _ => ?_
  rw [P]
  field_simp

/-- The gradient of the logits. -/
theorem tDs_at (hκ : ∀ (h : Fin 16) (t : Fin 8192), 0 < κ h t)
    (he : ∀ (h : Fin 16) (t s : Fin 8192), e (ix3 h t s) = ((wt A h t s * κ h t : ℝ) : EReal))
    (hl : ∀ (h : Fin 16) (t : Fin 8192), l (ix3 h t 0) = ((Z A h t * κ h t : ℝ) : EReal))
    (hp : ∀ (h : Fin 16) (t s : Fin 8192), dp (ix3 h t s) = ((dP A h t s : ℝ) : EReal))
    {r : FVec Ideal S16x8192 .f32}
    (hr : ∀ (h : Fin 16) (t : Fin 8192), r (ix2 h t) = ((-(del A h t / (Z A h t * κ h t)) : ℝ) : EReal))
    (h : Fin 16) (t s : Fin 8192) :
    tDs e l dp r (ix3 h t s) = ((ds A h t s : ℝ) : EReal) := by
  have hz := (Z_pos A h t).ne'
  have hk := (hκ h t).ne'
  pointwise [tDs, tMask, tRow, he, hl, hp, hr]
  rw [sle_word s.isLt t.isLt]
  by_cases hs : s.val ≤ t.val
  · rw [if_pos hs, Ideal.div_coe (by positivity)]
    simp only [← EReal.coe_mul, ← EReal.coe_add]
    refine congrArg _ ?_
    rw [ds, P]
    field_simp
    ring
  · rw [if_neg hs, ds_late A (by omega)]; rfl

/-- The gradient of v. -/
theorem tDv_at (hκ : ∀ (h : Fin 16) (t : Fin 8192), 0 < κ h t)
    (he : ∀ (h : Fin 16) (t s : Fin 8192), e (ix3 h t s) = ((wt A h t s * κ h t : ℝ) : EReal))
    (hl : ∀ (h : Fin 16) (t : Fin 8192), l (ix3 h t 0) = ((Z A h t * κ h t : ℝ) : EReal))
    (hg : ∀ (t : Fin 8192) (e : Fin 2048), g (ix2 t e) = ((A.g t e : ℝ) : EReal)) (s : Fin 8192) (f : Fin 2048) :
    tDv e l g (ix2 s f) = ((dv A s f : ℝ) : EReal) := by
  pointwise [tDv, tG, tRow, hg, he, hl]
  rw [dv, coe_sum]
  refine Finset.sum_congr rfl fun t _ => ?_
  have hz := (Z_pos A (f.val / 128) t).ne'
  have hk : κ (f.val / 128) t ≠ 0 := (hκ ⟨f.val / 128, by omega⟩ t).ne'
  rw [Ideal.div_coe (by positivity)]
  simp only [← EReal.coe_mul]
  refine congrArg _ ?_
  rw [P]
  field_simp

end

section

variable {d : FVec Ideal S16x8192x8192 .f32}
  (hd : ∀ (h : Fin 16) (t s : Fin 8192), d (ix3 h t s) = ((ds A h t s : ℝ) : EReal))

include hd

/-- The gradient of q. -/
theorem tDq_at (hk : ∀ (t : Fin 8192) (e : Fin 2048), k (ix2 t e) = ((A.k t e : ℝ) : EReal)) (t : Fin 8192) (e : Fin 2048) :
    tDq d k (ix2 t e) = ((dq A t e : ℝ) : EReal) := by
  pointwise [tDq, tSc, tHead, hk, hd, ofBits_sg]
  simp only [dq, EReal.coe_mul, coe_sum]

/-- The gradient of k. -/
theorem tDk_at (hq : ∀ (t : Fin 8192) (e : Fin 2048), q (ix2 t e) = ((A.q t e : ℝ) : EReal)) (s : Fin 8192) (e : Fin 2048) :
    tDk d q (ix2 s e) = ((dk A s e : ℝ) : EReal) := by
  pointwise [tDk, tSc, tHead, hq, hd, ofBits_sg]
  simp only [dk, EReal.coe_mul, coe_sum]

/-- The gradient of the decay's running sum: a row's gradients of logits sum to nothing. -/
theorem tDc_at (h : Fin 16) (s : Fin 8192) : tDc d (ix3 h 0 s) = ((dc A h s : ℝ) : EReal) := by
  pointwise [tDc, hd]
  simp only [← EReal.coe_neg, ← coe_sum, ← EReal.coe_add, Finset.univ_unique, Finset.sum_const, Finset.card_singleton, one_smul]
  rw [sum_ds, add_zero, dc, Finset.sum_neg_distrib]

end

section

variable (hq : ∀ (t : Fin 8192) (e : Fin 2048), q (ix2 t e) = ((A.q t e : ℝ) : EReal))
  (hk : ∀ (t : Fin 8192) (e : Fin 2048), k (ix2 t e) = ((A.k t e : ℝ) : EReal))
  (hv : ∀ (t : Fin 8192) (e : Fin 2048), v (ix2 t e) = ((A.v t e : ℝ) : EReal))
  (hg : ∀ (t : Fin 8192) (e : Fin 2048), g (ix2 t e) = ((A.g t e : ℝ) : EReal))
  (hc : ∀ (h : Fin 16) (t : Fin 8192), c (ix2 h t) = ((A.c h t : ℝ) : EReal))

include hq hk hc

/-- The exponentials as the arguments give them. -/
theorem uE_at : ∃ κ : ℕ → ℕ → ℝ, (∀ (h : Fin 16) (t : Fin 8192), 0 < κ h t) ∧
    ∀ (h : Fin 16) (t s : Fin 8192), uE q k c (ix3 h t s) = ((wt A h t s * κ h t : ℝ) : EReal) := by
  obtain ⟨M, hM⟩ := tM_real (tX_at hq hk hc)
  exact ⟨fun h t => Real.exp (-M h t), fun h t => Real.exp_pos _, tE_at (tX_at hq hk hc) hM⟩

include hv hg

/-- The gradient of the logits as the arguments give it. -/
theorem uDs_at (h : Fin 16) (t s : Fin 8192) : uDs q k v g c (ix3 h t s) = ((ds A h t s : ℝ) : EReal) := by
  obtain ⟨κ, hκ, he⟩ := uE_at hq hk hc
  exact tDs_at hκ he (tL_at he) (tDp_at hg hv) (tCor_at hκ he (tL_at he) (tDp_at hg hv)) h t s

end

end Cert.ReferenceIdeal

end
-- ==== Proof.Chunk.lean ====
/- The values of a chunk of a tile's rows, read at an index over real arguments. -/
module

public import proofs.«01_k».proof.Proof.KI.Head
public import proofs.«01_k».proof.Proof.Spec
public import proofs.«01_k».proof.Proof.Ref
public import Idealize.ShloMosaic.Lib.Pointwise

@[expose] public section

set_option maxRecDepth 16384

noncomputable section

namespace Cert.KernelIdeal

open Idealize.ShloMosaic
open Idealize.ShloMosaic.VecWindow (window put)
open Cert.KernelIdeal.Gen Cert.Fox Cert.Attn

/-- The inverse of the logarithm of two. -/
theorem log2e_eq : Named.named (F := Ideal) (φ := .f32) κ "log2e" 0x3FB8AA3B#32 = (((Real.log 2)⁻¹ : ℝ) : EReal) :=
  IdealRules.named_const.ideal_named_scalar _ _ _ _ rfl

/-- The scale over the logarithm of two. -/
theorem scale_eq : Named.named (F := Ideal) (φ := .f32) κ "scale_log2e" 0x3E0293EE#32 = ((sg * (Real.log 2)⁻¹ : ℝ) : EReal) :=
  IdealRules.named_const.ideal_named_scalar _ _ _ _ rfl

/-- The probabilities of a tile, from its products `S`, its columns' decay `C` and its rows' numbers `L`. -/
def pw (diag : Bool) (S : ℕ → ℕ → ℝ) (C L : ℕ → ℝ) (r c : ℕ) : ℝ :=
  if diag = true → c ≤ r then Real.rpow 2 (S r c * (sg * (Real.log 2)⁻¹) - C c * (Real.log 2)⁻¹ - L r) else 0

/-- The gradient of a tile's logits. -/
def dw (diag : Bool) (S Dp : ℕ → ℕ → ℝ) (C L D : ℕ → ℝ) (r c : ℕ) : ℝ := pw diag S C L r c * (Dp r c - D r)

/-- The product of two blocks. -/
theorem pRaw_at {a b : Vec Ideal S512x128 .bf16} {f g : ℕ → ℕ → ℝ}
    (ha : ∀ (r : Fin 512) (d : Fin 128), a (ix2 r d) = ((f r d : ℝ) : EReal))
    (hb : ∀ (r : Fin 512) (d : Fin 128), b (ix2 r d) = ((g r d : ℝ) : EReal)) (r c : Fin 512) :
    pRaw a b (ix2 r c) = ((∑ d : Fin 128, f r d * g c d : ℝ) : EReal) := by
  pointwise [pRaw, ha, hb]
  simp only [EReal.coe_mul, coe_sum]

/-- The column's decay. -/
theorem pCr_at {x : Vec Ideal S1x1x512 .f32} {C : ℕ → ℝ} (hx : ∀ c : Fin 512, x (ix3 0 0 c) = ((C c : ℝ) : EReal)) (c : Fin 512) :
    pCr x (ix2 0 c) = ((C c * (Real.log 2)⁻¹ : ℝ) : EReal) := by
  pointwise [pCr, hx, log2e_eq]
  rw [EReal.coe_mul]

/-- A row's number repeated. -/
theorem wide_at {x : Vec Ideal S128x128 .f32} {L : ℕ → ℝ} (hx : ∀ (a y : Fin 128), x (ix2 a y) = ((L a : ℝ) : EReal))
    (a : Fin 128) (c : Fin 512) : wide x (ix2 a c) = ((L a : ℝ) : EReal) := by
  pointwise [wide, hx]
  split_ifs <;> rfl

/-- The probabilities of a chunk whose rows start at `r0`. -/
theorem pP_at {diag : Bool} {r0 : ℕ} (h0 : r0 < 512) {cr : FVec Ideal S1x512 .f32} {s : Vec Ideal S128x512 .f32} {l : Vec Ideal S128x128 .f32}
    {S : ℕ → ℕ → ℝ} {C L : ℕ → ℝ} (hc : ∀ c : Fin 512, cr (ix2 0 c) = ((C c * (Real.log 2)⁻¹ : ℝ) : EReal))
    (hs : ∀ (a : Fin 128) (c : Fin 512), s (ix2 a c) = ((S (r0 + a) c : ℝ) : EReal))
    (hl : ∀ (a y : Fin 128), l (ix2 a y) = ((L (r0 + a) : ℝ) : EReal)) (a : Fin 128) (c : Fin 512) :
    pP diag (BitVec.ofNat 32 r0) cr s l (ix2 a c) = ((pw diag S C L (r0 + a) c : ℝ) : EReal) := by
  have hw := wide_at (L := fun a => L (r0 + a)) hl
  cases diag
  · pointwise [pP, pLog, pFree, hc, hs, hw, scale_eq]
    simp only [pw, Bool.false_eq_true, false_implies, if_true, ← EReal.coe_mul, ← EReal.coe_sub]
    exact Ideal.exp2_coe _
  · pointwise [pP, pLog, pFree, hc, hs, hw, scale_eq]
    rw [show IntOp.addi (BitVec.ofNat 32 a) (BitVec.ofNat 32 r0) = BitVec.ofNat 32 (r0 + a) by
      rw [Nat.add_comm]; exact (BitVec.ofNat_add _ _).symm, sle_word (by omega) (by omega), ofBits_bot]
    by_cases h : c.val ≤ r0 + a.val
    · simp only [pw, h, implies_true, if_true, ← EReal.coe_mul, ← EReal.coe_sub]
      exact Ideal.exp2_coe _
    · simp only [pw, h, if_false, imp_false, not_true_eq_false, EReal.coe_zero, EReal.bot_sub]
      exact Ideal.exp2_bot

/-- The gradient of a chunk's logits. -/
theorem pDs_at {diag : Bool} {r0 : ℕ} (h0 : r0 < 512) {cr : FVec Ideal S1x512 .f32} {s dp : Vec Ideal S128x512 .f32} {l dl : Vec Ideal S128x128 .f32}
    {S Dp : ℕ → ℕ → ℝ} {C L D : ℕ → ℝ} (hc : ∀ c : Fin 512, cr (ix2 0 c) = ((C c * (Real.log 2)⁻¹ : ℝ) : EReal))
    (hs : ∀ (a : Fin 128) (c : Fin 512), s (ix2 a c) = ((S (r0 + a) c : ℝ) : EReal))
    (hp : ∀ (a : Fin 128) (c : Fin 512), dp (ix2 a c) = ((Dp (r0 + a) c : ℝ) : EReal))
    (hl : ∀ (a y : Fin 128), l (ix2 a y) = ((L (r0 + a) : ℝ) : EReal))
    (hd : ∀ (a y : Fin 128), dl (ix2 a y) = ((D (r0 + a) : ℝ) : EReal)) (a : Fin 128) (c : Fin 512) :
    pDs diag (BitVec.ofNat 32 r0) cr s l dp dl (ix2 a c) = ((dw diag S Dp C L D (r0 + a) c : ℝ) : EReal) := by
  have hw := wide_at (L := fun a => D (r0 + a)) hd
  have hp' := pP_at (diag := diag) h0 hc hs hl
  pointwise [pDs, hp', hp, hw]
  simp only [dw, EReal.coe_mul, EReal.coe_sub]

/-- A chunk's column sums, by the row's remainder. -/
theorem pCol_at {acc : FVec Ideal S8x512 .f32} {ds : FVec Ideal S128x512 .f32} {f g : ℕ → ℕ → ℝ}
    (ha : ∀ (a : Fin 8) (c : Fin 512), acc (ix2 a c) = ((f a c : ℝ) : EReal))
    (hd : ∀ (a : Fin 128) (c : Fin 512), ds (ix2 a c) = ((g a c : ℝ) : EReal)) (a : Fin 8) (c : Fin 512) :
    pCol acc ds (ix2 a c) = ((f a c + ∑ k : Fin 16, g (k * 8 + a) c : ℝ) : EReal) := by
  pointwise [pCol, ha, hd]
  simp only [EReal.coe_add, coe_sum]

/-- Rounding is the identity. -/
theorem pPb_at {p : FVec Ideal S128x512 .f32} (i : S128x512.Idx) : pPb p i = p i := by
  idx_vars i
  pointwise [pPb]

/-- The scaled gradient. -/
theorem pDsb_at {p : FVec Ideal S128x512 .f32} (i : S128x512.Idx) : pDsb p i = p i * ((sg : ℝ) : EReal) := by
  idx_vars i
  pointwise [pDsb, ofBits_sg]

/-- Nothing yet. -/
theorem pCol0_at (i : S8x512.Idx) : (pCol0 : FVec Ideal S8x512 .f32) i = 0 := by
  idx_vars i
  pointwise [pCol0]

/-- A head's column sums taken off. -/
theorem pDc_at {acc : FVec Ideal S8x512 .f32} {x : Vec Ideal S1x1x512 .f32} {f : ℕ → ℕ → ℝ} {X : ℕ → ℝ}
    (ha : ∀ (a : Fin 8) (c : Fin 512), acc (ix2 a c) = ((f a c : ℝ) : EReal))
    (hx : ∀ c : Fin 512, x (ix3 0 0 c) = ((X c : ℝ) : EReal)) (c : Fin 512) :
    pDc acc x (ix3 0 0 c) = ((X c - ∑ a : Fin 8, f a c : ℝ) : EReal) := by
  pointwise [pDc, ha, hx]
  simp only [EReal.coe_sub, coe_sum]

/-- The product with a transposed tile added. -/
theorem pT_at {x : Vec Ideal S512x128 .f32} {a : Vec Ideal S512x512 .bf16} {b : Vec Ideal S512x128 .bf16} {X f g : ℕ → ℕ → ℝ}
    (hx : ∀ (r : Fin 512) (d : Fin 128), x (ix2 r d) = ((X r d : ℝ) : EReal))
    (ha : ∀ (r c : Fin 512), a (ix2 r c) = ((f r c : ℝ) : EReal))
    (hb : ∀ (r : Fin 512) (d : Fin 128), b (ix2 r d) = ((g r d : ℝ) : EReal)) (c : Fin 512) (d : Fin 128) :
    pT x a b (ix2 c d) = ((X c d + ∑ r : Fin 512, f r c * g r d : ℝ) : EReal) := by
  pointwise [pT, hx, ha, hb]
  simp only [EReal.coe_add, EReal.coe_mul, coe_sum]

/-- The product with a tile added. -/
theorem pN_at {x : Vec Ideal S512x128 .f32} {a : Vec Ideal S512x512 .bf16} {b : Vec Ideal S512x128 .bf16} {X f g : ℕ → ℕ → ℝ}
    (hx : ∀ (r : Fin 512) (d : Fin 128), x (ix2 r d) = ((X r d : ℝ) : EReal))
    (ha : ∀ (r c : Fin 512), a (ix2 r c) = ((f r c : ℝ) : EReal))
    (hb : ∀ (r : Fin 512) (d : Fin 128), b (ix2 r d) = ((g r d : ℝ) : EReal)) (r : Fin 512) (d : Fin 128) :
    pN x a b (ix2 r d) = ((X r d + ∑ c : Fin 512, f r c * g c d : ℝ) : EReal) := by
  pointwise [pN, hx, ha, hb]
  simp only [EReal.coe_add, EReal.coe_mul, coe_sum]

/-- A window of a matrix, read at an index. -/
theorem window2_at {α : Type} {m n p q o0 o1 : ℕ} (x : (⟨2, ![m, n]⟩ : Shape).Idx → α)
    (inb : ∀ a, (![o0, o1] : Fin 2 → ℕ) a + (![p, q] : Fin 2 → ℕ) a ≤ (![m, n] : Fin 2 → ℕ) a) (a : Fin p) (b : Fin q) :
    window (s := ⟨2, ![m, n]⟩) x ![o0, o1] ![p, q] inb (ix2 a b)
      = x (ix2 ⟨o0 + a, Nat.lt_of_lt_of_le (Nat.add_lt_add_left a.isLt _) (inb 0)⟩ ⟨o1 + b, Nat.lt_of_lt_of_le (Nat.add_lt_add_left b.isLt _) (inb 1)⟩) := by
  refine congrArg x ?_
  funext i
  refine Fin.cases ?_ (fun i => ?_) i
  · exact Fin.ext (by show o0 + 1 * a.val = o0 + a.val; omega)
  · obtain rfl : i = 0 := Subsingleton.elim _ _
    exact Fin.ext (by show o1 + 1 * b.val = o1 + b.val; omega)

/-- A matrix with a window put, read at an index. -/
theorem put2_at {α : Type} {m n p q o0 o1 : ℕ} (x : (⟨2, ![m, n]⟩ : Shape).Idx → α)
    (w : (⟨2, ![p, q]⟩ : Shape).Idx → α) (a : Fin m) (b : Fin n) :
    put (s := ⟨2, ![m, n]⟩) x ![o0, o1] ![p, q] w (ix2 a b)
      = if h : (o0 ≤ a ∧ a < o0 + p) ∧ (o1 ≤ b ∧ b < o1 + q)
        then w (ix2 ⟨a - o0, by omega⟩ ⟨b - o1, by omega⟩) else x (ix2 a b) := by
  unfold put
  by_cases h : (o0 ≤ a ∧ a < o0 + p) ∧ (o1 ≤ b ∧ b < o1 + q)
  · rw [dif_pos h, dif_pos (Fin.forall_fin_two.mpr h)]
    refine congrArg w ?_
    funext i
    refine Fin.cases rfl (fun i => ?_) i
    obtain rfl : i = 0 := Subsingleton.elim _ _
    rfl
  · rw [dif_neg h, dif_neg (fun h' => h (Fin.forall_fin_two.mp h'))]

/-- A head's row among the rows of four heads. -/
theorem window3_at {α : Type} {hh : ℕ} (x : (⟨3, ![4, 1, 512]⟩ : Shape).Idx → α)
    (inb : ∀ a, (![hh, 0, 0] : Fin 3 → ℕ) a + (![1, 1, 512] : Fin 3 → ℕ) a ≤ (![4, 1, 512] : Fin 3 → ℕ) a) (c : Fin 512) :
    window (s := ⟨3, ![4, 1, 512]⟩) x ![hh, 0, 0] ![1, 1, 512] inb (ix3 0 0 c) = x (ix3 ⟨hh, inb 0⟩ 0 c) := by
  refine congrArg x ?_
  funext i
  refine Fin.cases ?_ (fun i => Fin.cases ?_ (fun i => ?_) i) i
  · exact Fin.ext (by show hh + 1 * 0 = hh; omega)
  · exact Fin.ext (by show 0 + 1 * 0 = 0; omega)
  · obtain rfl : i = 0 := Subsingleton.elim _ _
    exact Fin.ext (by show 0 + 1 * c.val = c.val; omega)

/-- The rows of four heads with a head's row put. -/
theorem put3_at {α : Type} {hh : ℕ} (x : (⟨3, ![4, 1, 512]⟩ : Shape).Idx → α)
    (w : (⟨3, ![1, 1, 512]⟩ : Shape).Idx → α) (a : Fin 4) (c : Fin 512) :
    put (s := ⟨3, ![4, 1, 512]⟩) x ![hh, 0, 0] ![1, 1, 512] w (ix3 a 0 c) = if a.val = hh then w (ix3 0 0 c) else x (ix3 a 0 c) := by
  unfold put
  by_cases h : a.val = hh
  · rw [if_pos h, dif_pos (by
      intro i
      refine Fin.cases ?_ (fun i => Fin.cases ?_ (fun i => ?_) i) i
      · show hh ≤ a.val ∧ a.val < hh + 1; omega
      · show 0 ≤ 0 ∧ 0 < 0 + 1; omega
      · obtain rfl : i = 0 := Subsingleton.elim _ _
        show 0 ≤ c.val ∧ c.val < 0 + 512; omega)]
    refine congrArg w ?_
    funext i
    refine Fin.cases ?_ (fun i => Fin.cases ?_ (fun i => ?_) i) i
    · exact Fin.ext (by show a.val - hh = 0; omega)
    · rfl
    · obtain rfl : i = 0 := Subsingleton.elim _ _
      rfl
  · rw [if_neg h, dif_neg]
    intro h'
    have h0 : hh ≤ a.val ∧ a.val < hh + 1 := h' 0
    omega

end Cert.KernelIdeal

end
-- ==== Proof.Tile.lean ====
/- A step of the call over real arguments: what the four heads of a tile add to the gradients gathered. -/
module

public import proofs.«01_k».proof.Proof.Chunk
public import proofs.«01_k».proof.Proof.KI.Body

@[expose] public section

set_option maxRecDepth 16384

noncomputable section

namespace Cert.KernelIdeal

open Idealize.ShloMosaic
open Idealize.ShloMosaic.VecWindow (window put)
open Cert.KernelIdeal.Gen Cert.Fox Cert.Attn

/-- A query's logarithm of its sum of exponentials, less its decay, in the base of two. -/
def lse (A : Arg) (h t : ℕ) : ℝ := (Real.log (Z A h t) - A.c h t) * (Real.log 2)⁻¹

/-- The blocks of a tile hold the arguments' reals. -/
structure InsAt (A : Arg) (b i j : ℕ) (I : Ins Ideal) : Prop where
  q : ∀ r e : Fin 512, I.q (ix2 r e) = ((A.q (i * 512 + r) (b * 512 + e) : ℝ) : EReal)
  k : ∀ r e : Fin 512, I.k (ix2 r e) = ((A.k (j * 512 + r) (b * 512 + e) : ℝ) : EReal)
  v : ∀ r e : Fin 512, I.v (ix2 r e) = ((A.v (j * 512 + r) (b * 512 + e) : ℝ) : EReal)
  g : ∀ r e : Fin 512, I.g (ix2 r e) = ((A.g (i * 512 + r) (b * 512 + e) : ℝ) : EReal)
  lse : ∀ r e : Fin 512, I.lse (ix2 r e) = ((lse A ((b * 512 + e) / 128) (i * 512 + r) : ℝ) : EReal)
  dl : ∀ r e : Fin 512, I.dl (ix2 r e) = ((del A ((b * 512 + e) / 128) (i * 512 + r) : ℝ) : EReal)
  cr : ∀ (a : Fin 4) (c : Fin 512), I.cr (ix3 a 0 c) = ((A.c (b * 4 + a) (j * 512 + c) : ℝ) : EReal)

/-- The gradients gathered, as reals. -/
structure Acc where
  (dq dk dv dc : ℕ → ℕ → ℝ)

/-- The queries' gradient holds these reals. -/
def HeldQ (O : Outs Ideal) (X : Acc) : Prop := ∀ (r : Fin 8192) (e : Fin 512), O.dq (ix2 r e) = ((X.dq r e : ℝ) : EReal)

/-- A column's gradients hold these reals. -/
structure HeldC (O : Outs Ideal) (X : Acc) : Prop where
  dk : ∀ r e : Fin 512, O.dk (ix2 r e) = ((X.dk r e : ℝ) : EReal)
  dv : ∀ r e : Fin 512, O.dv (ix2 r e) = ((X.dv r e : ℝ) : EReal)
  dc : ∀ (a : Fin 4) (c : Fin 512), O.dc (ix3 a 0 c) = ((X.dc a c : ℝ) : EReal)

section

variable (A : Arg) (b i j : ℕ)

/-- What a tile adds to the queries' gradient, -/
def tq (r e : ℕ) : ℝ := ∑ c : Fin 512, ds A (b * 4 + e / 128) r (j * 512 + c) * sg * A.k (j * 512 + c) (b * 512 + e)
/-- to the keys', -/
def tk (c e : ℕ) : ℝ := ∑ r : Fin 512, ds A (b * 4 + e / 128) (i * 512 + r) (j * 512 + c) * sg * A.q (i * 512 + r) (b * 512 + e)
/-- to the values', -/
def tv (c e : ℕ) : ℝ := ∑ r : Fin 512, P A (b * 4 + e / 128) (i * 512 + r) (j * 512 + c) * A.g (i * 512 + r) (b * 512 + e)
/-- and takes from the decay's. -/
def tc (a c : ℕ) : ℝ := ∑ r : Fin 512, ds A (b * 4 + a) (i * 512 + r) (j * 512 + c)

/-- The gradients after the first `n` heads of a tile. -/
def up (n : ℕ) (X : Acc) : Acc where
  dq r e := if r / 512 = i ∧ e / 128 < n then X.dq r e + tq A b j r e else X.dq r e
  dk c e := if e / 128 < n then X.dk c e + tk A b i j c e else X.dk c e
  dv c e := if e / 128 < n then X.dv c e + tv A b i j c e else X.dv c e
  dc a c := if a < n then X.dc a c - tc A b i j a c else X.dc a c

variable {A b i j}

/-- The tile's probabilities are the attention's. -/
theorem pw_eq {diag : Bool} (hi : i < 16) (hd : if diag = true then i = j else j < i) (h : ℕ) {r c : ℕ} (hr : r < 512) (hc : c < 512) :
    pw diag (fun r c => att A h (i * 512 + r) (j * 512 + c)) (fun c => A.c h (j * 512 + c)) (fun r => lse A h (i * 512 + r)) r c
      = P A h (i * 512 + r) (j * 512 + c) := by
  have hZ := Z_pos A h ⟨i * 512 + r, by omega⟩
  have hcond : (diag = true → c ≤ r) ↔ j * 512 + c ≤ i * 512 + r := by
    cases diag
    · simp only [Bool.false_eq_true, if_false] at hd
      simp only [Bool.false_eq_true, false_implies, true_iff]; omega
    · simp only [if_true] at hd
      subst hd
      simp
  have h2 : Real.log 2 ≠ 0 := (Real.log_pos one_lt_two).ne'
  unfold pw P wt
  by_cases hcr : j * 512 + c ≤ i * 512 + r
  · rw [if_pos (hcond.mpr hcr), if_pos hcr]
    rw [Real.rpow_eq_pow, Real.rpow_def_of_pos two_pos, show Real.log 2 * _ = lg A h (i * 512 + r) (j * 512 + c) - Real.log (Z A h (i * 512 + r)) by
      unfold lse lg; field_simp; ring, Real.exp_sub, Real.exp_log hZ]
  · rw [if_neg (hcond.not.mpr hcr), if_neg hcr, zero_div]

/-- So are the gradients of its logits. -/
theorem dw_eq {diag : Bool} (hi : i < 16) (hd : if diag = true then i = j else j < i) (h : ℕ) {r c : ℕ} (hr : r < 512) (hc : c < 512) :
    dw diag (fun r c => att A h (i * 512 + r) (j * 512 + c)) (fun r c => dP A h (i * 512 + r) (j * 512 + c))
        (fun c => A.c h (j * 512 + c)) (fun r => lse A h (i * 512 + r)) (fun r => del A h (i * 512 + r)) r c
      = ds A h (i * 512 + r) (j * 512 + c) := by
  rw [dw, pw_eq hi hd h hr hc, ds]

variable {I : Ins Ideal} {hh : ℕ} {off : Fin 2 → ℕ}

/-- A block's columns of a head. -/
theorem cols_at {x : S512x512.Idx → EReal} {f : ℕ → ℕ → ℝ} {i b : ℕ}
    (hx : ∀ r e : Fin 512, x (ix2 r e) = ((f (i * 512 + r) (b * 512 + e) : ℝ) : EReal))
    (inb : ∀ a, (![0, hh * 128] : Fin 2 → ℕ) a + (![512, 128] : Fin 2 → ℕ) a ≤ (![512, 512] : Fin 2 → ℕ) a) (r : Fin 512) (d : Fin 128) :
    window (s := ⟨2, ![512, 512]⟩) x ![0, hh * 128] ![512, 128] inb (ix2 r d) = ((f (i * 512 + r) ((b * 4 + hh) * 128 + d) : ℝ) : EReal) := by
  rw [window2_at]
  refine (hx _ _).trans (congrArg _ (congrArg₂ f ?_ ?_))
  · show i * 512 + (0 + r.val) = _; omega
  · show b * 512 + (hh * 128 + d.val) = _; omega

/-- The head's products of queries and keys. -/
theorem hS_at (hI : InsAt A b i j I) (ok : HeadOk hh (hh * 128) off) (r c : Fin 512) :
    hS hh (hh * 128) off ok I (ix2 r c) = ((att A (b * 4 + hh) (i * 512 + r) (j * 512 + c) : ℝ) : EReal) :=
  pRaw_at (f := fun r d => A.q (i * 512 + r) ((b * 4 + hh) * 128 + d)) (g := fun r d => A.k (j * 512 + r) ((b * 4 + hh) * 128 + d))
    (cols_at hI.q ok.col) (cols_at hI.k ok.col) r c

/-- The head's gradient of the probabilities. -/
theorem hDp_at (hI : InsAt A b i j I) (ok : HeadOk hh (hh * 128) off) (r c : Fin 512) :
    hDp hh (hh * 128) off ok I (ix2 r c) = ((dP A (b * 4 + hh) (i * 512 + r) (j * 512 + c) : ℝ) : EReal) :=
  pRaw_at (f := fun r d => A.g (i * 512 + r) ((b * 4 + hh) * 128 + d)) (g := fun r d => A.v (j * 512 + r) ((b * 4 + hh) * 128 + d))
    (cols_at hI.g ok.col) (cols_at hI.v ok.col) r c

/-- The head's decay. -/
theorem hCr_at (hI : InsAt A b i j I) (ok : HeadOk hh (hh * 128) off) (c : Fin 512) :
    hCr hh (hh * 128) off ok I (ix2 0 c) = ((A.c (b * 4 + hh) (j * 512 + c) * (Real.log 2)⁻¹ : ℝ) : EReal) :=
  pCr_at (C := fun c => A.c (b * 4 + hh) (j * 512 + c)) (fun c => (window3_at _ ok.head c).trans (hI.cr _ c)) c

/-- A chunk's rows of a tile. -/
theorem rows_at {x : S512x512.Idx → EReal} {f : ℕ → ℕ → ℝ} {r0 : ℕ}
    (hx : ∀ r e : Fin 512, x (ix2 r e) = ((f r e : ℝ) : EReal))
    (inb : ∀ a, (![r0, 0] : Fin 2 → ℕ) a + (![128, 512] : Fin 2 → ℕ) a ≤ (![512, 512] : Fin 2 → ℕ) a) (a : Fin 128) (c : Fin 512) :
    window (s := ⟨2, ![512, 512]⟩) x ![r0, 0] ![128, 512] inb (ix2 a c) = ((f (r0 + a) c : ℝ) : EReal) := by
  rw [window2_at]
  refine (hx _ _).trans (congrArg _ (congrArg₂ f rfl ?_))
  show 0 + c.val = _; omega

/-- A chunk's rows of the numbers of a head's rows. -/
theorem nums_at {x : S512x512.Idx → EReal} {f : ℕ → ℕ → ℝ} {r0 : ℕ} (h4 : hh < 4)
    (hx : ∀ r e : Fin 512, x (ix2 r e) = ((f ((b * 512 + e) / 128) (i * 512 + r) : ℝ) : EReal))
    (inb : ∀ a, (![r0, hh * 128] : Fin 2 → ℕ) a + (![128, 128] : Fin 2 → ℕ) a ≤ (![512, 512] : Fin 2 → ℕ) a) (a y : Fin 128) :
    window (s := ⟨2, ![512, 512]⟩) x ![r0, hh * 128] ![128, 128] inb (ix2 a y) = ((f (b * 4 + hh) (i * 512 + (r0 + a)) : ℝ) : EReal) := by
  rw [window2_at]
  refine (hx _ _).trans (congrArg _ (congrArg₂ f ?_ rfl))
  show (b * 512 + (hh * 128 + y.val)) / 128 = _; omega

/-- A chunk's probabilities. -/
theorem chP_at {diag : Bool} (hI : InsAt A b i j I) (ok : HeadOk hh (hh * 128) off) (hi : i < 16) (hd : if diag = true then i = j else j < i)
    (h4 : hh < 4) {r0 : ℕ} (h0 : r0 + 128 ≤ 512) (rok : RowOk r0 (hh * 128)) (a : Fin 128) (c : Fin 512) :
    chP diag r0 (hh * 128) (BitVec.ofNat 32 r0) rok (hCr hh (hh * 128) off ok I) (hS hh (hh * 128) off ok I) I.lse (ix2 a c)
      = ((P A (b * 4 + hh) (i * 512 + (r0 + a)) (j * 512 + c) : ℝ) : EReal) := by
  rw [← pw_eq hi hd (b * 4 + hh) (r := r0 + a) (c := c) (by omega) c.isLt]
  exact pP_at (by omega) (hCr_at hI ok) (rows_at (f := fun r c => att A (b * 4 + hh) (i * 512 + r) (j * 512 + c)) (hS_at hI ok) rok.row)
    (nums_at (f := lse A) h4 hI.lse rok.col) a c

/-- A chunk's gradient of the logits. -/
theorem chDs_at {diag : Bool} (hI : InsAt A b i j I) (ok : HeadOk hh (hh * 128) off) (hi : i < 16) (hd : if diag = true then i = j else j < i)
    (h4 : hh < 4) {r0 : ℕ} (h0 : r0 + 128 ≤ 512) (rok : RowOk r0 (hh * 128)) (a : Fin 128) (c : Fin 512) :
    chDs diag r0 (hh * 128) (BitVec.ofNat 32 r0) rok (hCr hh (hh * 128) off ok I) (hS hh (hh * 128) off ok I) I.lse
        (hDp hh (hh * 128) off ok I) I.dl (ix2 a c)
      = ((ds A (b * 4 + hh) (i * 512 + (r0 + a)) (j * 512 + c) : ℝ) : EReal) := by
  rw [← dw_eq hi hd (b * 4 + hh) (r := r0 + a) (c := c) (by omega) c.isLt]
  exact pDs_at (by omega) (hCr_at hI ok) (rows_at (f := fun r c => att A (b * 4 + hh) (i * 512 + r) (j * 512 + c)) (hS_at hI ok) rok.row)
    (rows_at (f := fun r c => dP A (b * 4 + hh) (i * 512 + r) (j * 512 + c)) (hDp_at hI ok) rok.row)
    (nums_at (f := lse A) h4 hI.lse rok.col) (nums_at (f := del A) h4 hI.dl rok.col) a c

/-- Four chunks glued, read at an index. -/
theorem glue_at {f0 f1 f2 f3 : (⟨2, ![128, 512]⟩ : Shape).Idx → EReal} {f : ℕ → ℕ → ℝ}
    (h0 : ∀ (a : Fin 128) (c : Fin 512), f0 (ix2 a c) = ((f (0 + a) c : ℝ) : EReal))
    (h1 : ∀ (a : Fin 128) (c : Fin 512), f1 (ix2 a c) = ((f (128 + a) c : ℝ) : EReal))
    (h2 : ∀ (a : Fin 128) (c : Fin 512), f2 (ix2 a c) = ((f (256 + a) c : ℝ) : EReal))
    (h3 : ∀ (a : Fin 128) (c : Fin 512), f3 (ix2 a c) = ((f (384 + a) c : ℝ) : EReal)) (r c : Fin 512) :
    glue f0 f1 f2 f3 (ix2 r c) = ((f r c : ℝ) : EReal) := by
  unfold glue
  have hr : ((ix2 r c : (⟨2, ![512, 512]⟩ : Shape).Idx) 0).val = r.val := rfl
  have hr' := r.isLt
  have hc : ∀ n : ℕ, n = r.val → ((f n c : ℝ) : EReal) = ((f r c : ℝ) : EReal) := fun n e => by rw [e]
  split_ifs with e0 e1 e2
  · exact (h0 _ c).trans (hc _ (by show 0 + r.val = _; omega))
  · exact (h1 _ c).trans (hc _ (by show 128 + (r.val - 128) = _; omega))
  · exact (h2 _ c).trans (hc _ (by show 256 + (r.val - 256) = _; omega))
  · exact (h3 _ c).trans (hc _ (by show 384 + (r.val - 384) = _; omega))

variable {diag : Bool} (hI : InsAt A b i j I) (ok : HeadOk hh (hh * 128) off) (hi : i < 16)
    (hd : if diag = true then i = j else j < i) (h4 : hh < 4)

include hI hi hd h4

/-- The head's probabilities. -/
theorem hP_at (r c : Fin 512) :
    hP diag hh (hh * 128) off ok I (ix2 r c) = ((P A (b * 4 + hh) (i * 512 + r) (j * 512 + c) : ℝ) : EReal) :=
  glue_at (f := fun r c => P A (b * 4 + hh) (i * 512 + r) (j * 512 + c))
    (fun a c => (pPb_at _).trans (chP_at hI ok hi hd h4 (by omega) ok.row0 a c))
    (fun a c => (pPb_at _).trans (chP_at hI ok hi hd h4 (by omega) ok.row1 a c))
    (fun a c => (pPb_at _).trans (chP_at hI ok hi hd h4 (by omega) ok.row2 a c))
    (fun a c => (pPb_at _).trans (chP_at hI ok hi hd h4 (by omega) ok.row3 a c)) r c

/-- The head's gradient of the logits, scaled. -/
theorem hD_at (r c : Fin 512) :
    hD diag hh (hh * 128) off ok I (ix2 r c) = ((ds A (b * 4 + hh) (i * 512 + r) (j * 512 + c) * sg : ℝ) : EReal) := by
  refine glue_at (f := fun r c => ds A (b * 4 + hh) (i * 512 + r) (j * 512 + c) * sg) ?_ ?_ ?_ ?_ r c <;>
    intro a c <;> rw [pDsb_at, EReal.coe_mul] <;> refine congrArg (· * ((sg : ℝ) : EReal)) ?_
  · exact chDs_at hI ok hi hd h4 (by omega) ok.row0 a c
  · exact chDs_at hI ok hi hd h4 (by omega) ok.row1 a c
  · exact chDs_at hI ok hi hd h4 (by omega) ok.row2 a c
  · exact chDs_at hI ok hi hd h4 (by omega) ok.row3 a c

omit hI hi hd h4 in
/-- A sum over a tile's rows, by the chunk and by the row's remainder. -/
theorem sum_rows (f : ℕ → ℝ) :
    ∑ a : Fin 8, (0 + ∑ k : Fin 16, f (0 + (k * 8 + a)) + ∑ k : Fin 16, f (128 + (k * 8 + a)) + ∑ k : Fin 16, f (256 + (k * 8 + a))
      + ∑ k : Fin 16, f (384 + (k * 8 + a))) = ∑ r : Fin 512, f r := by
  have hch : ∀ r0, ∑ a : Fin 8, ∑ k : Fin 16, f (r0 + (k * 8 + a)) = ∑ x : Fin 128, f (r0 + x) := fun r0 => by
    rw [Finset.sum_comm]
    exact (Fin.sum_univ_tiles 16 8 rfl fun x : Fin 128 => f (r0 + x)).symm
  simp only [zero_add, Finset.sum_add_distrib]
  have h0 := hch 0
  simp only [zero_add] at h0
  rw [h0, hch, hch, hch, Fin.sum_univ_tiles 4 128 rfl fun x : Fin 512 => f x, Fin.sum_univ_four]
  simp

/-- The head's column sums taken off. -/
theorem hDc_at {x : Vec Ideal S1x1x512 .f32} {X : ℕ → ℝ} (hx : ∀ c : Fin 512, x (ix3 0 0 c) = ((X c : ℝ) : EReal)) (c : Fin 512) :
    pDc (hCol diag hh (hh * 128) off ok I) x (ix3 0 0 c) = ((X c - tc A b i j hh c : ℝ) : EReal) := by
  have e0 : ∀ (a : Fin 8) (c : Fin 512), (pCol0 : FVec Ideal S8x512 .f32) (ix2 a c) = (((fun a c => 0 : ℕ → ℕ → ℝ) a c : ℝ) : EReal) :=
    fun a c => pCol0_at _
  have e1 := pCol_at (f := fun a c => 0)
    (g := fun a c => ds A (b * 4 + hh) (i * 512 + (0 + a)) (j * 512 + c)) e0 (chDs_at hI ok hi hd h4 (by omega) ok.row0)
  have e2 := pCol_at (f := fun a c => 0
      + ∑ k : Fin 16, ds A (b * 4 + hh) (i * 512 + (0 + (k * 8 + a))) (j * 512 + c))
    (g := fun a c => ds A (b * 4 + hh) (i * 512 + (128 + a)) (j * 512 + c)) e1 (chDs_at hI ok hi hd h4 (by omega) ok.row1)
  have e3 := pCol_at (f := fun a c => 0
      + ∑ k : Fin 16, ds A (b * 4 + hh) (i * 512 + (0 + (k * 8 + a))) (j * 512 + c)
      + ∑ k : Fin 16, ds A (b * 4 + hh) (i * 512 + (128 + (k * 8 + a))) (j * 512 + c))
    (g := fun a c => ds A (b * 4 + hh) (i * 512 + (256 + a)) (j * 512 + c)) e2 (chDs_at hI ok hi hd h4 (by omega) ok.row2)
  have e4 := pCol_at (f := fun a c => 0
      + ∑ k : Fin 16, ds A (b * 4 + hh) (i * 512 + (0 + (k * 8 + a))) (j * 512 + c)
      + ∑ k : Fin 16, ds A (b * 4 + hh) (i * 512 + (128 + (k * 8 + a))) (j * 512 + c)
      + ∑ k : Fin 16, ds A (b * 4 + hh) (i * 512 + (256 + (k * 8 + a))) (j * 512 + c))
    (g := fun a c => ds A (b * 4 + hh) (i * 512 + (384 + a)) (j * 512 + c)) e3 (chDs_at hI ok hi hd h4 (by omega) ok.row3)
  have := pDc_at (f := fun a c => 0 + ∑ k : Fin 16, ds A (b * 4 + hh) (i * 512 + (0 + (k * 8 + a))) (j * 512 + c)
      + ∑ k : Fin 16, ds A (b * 4 + hh) (i * 512 + (128 + (k * 8 + a))) (j * 512 + c)
      + ∑ k : Fin 16, ds A (b * 4 + hh) (i * 512 + (256 + (k * 8 + a))) (j * 512 + c)
      + ∑ k : Fin 16, ds A (b * 4 + hh) (i * 512 + (384 + (k * 8 + a))) (j * 512 + c)) e4 hx c
  refine this.trans (congrArg _ (congrArg (X c - ·) ?_))
  exact sum_rows fun r => ds A (b * 4 + hh) (i * 512 + r) (j * 512 + c)

/-- A head's step. -/
theorem head_at (ho : off = ![i * 512, hh * 128]) {O : Outs Ideal} {X : Acc} (hq : HeldQ O (up A b i j hh X)) (hc : HeldC O (up A b i j hh X)) :
    HeldQ (headOut diag hh (hh * 128) off ok I O) (up A b i j (hh + 1) X) ∧ HeldC (headOut diag hh (hh * 128) off ok I O) (up A b i j (hh + 1) X) := by
  subst ho
  have hDa := hD_at hI ok hi hd h4
  have hPa := hP_at hI ok hi hd h4
  refine ⟨fun r e => ?_, fun r e => ?_, fun r e => ?_, fun a c => ?_⟩
  · refine (put2_at _ _ r e).trans ?_
    by_cases h : (i * 512 ≤ r.val ∧ r.val < i * 512 + 512) ∧ (hh * 128 ≤ e.val ∧ e.val < hh * 128 + 128)
    · rw [dif_pos h]
      refine (pN_at (X := fun r d => (up A b i j hh X).dq (i * 512 + r) (hh * 128 + d))
        (f := fun r c => ds A (b * 4 + hh) (i * 512 + r) (j * 512 + c) * sg)
        (g := fun r d => A.k (j * 512 + r) ((b * 4 + hh) * 128 + d))
        (fun r d => (window2_at _ _ r d).trans (hq _ _)) hDa (cols_at hI.k ok.col) _ _).trans (congrArg _ ?_)
      have er : i * 512 + (r.val - i * 512) = r := by omega
      have ee : hh * 128 + (e.val - hh * 128) = e := by omega
      have ee' : (b * 4 + hh) * 128 + (e.val - hh * 128) = b * 512 + e := by omega
      have e1 : e.val / 128 = hh := by omega
      have e2 : r.val / 512 = i := by omega
      simp only [er, ee, ee', up, e1, e2, lt_self_iff_false, and_false, if_false, true_and, Nat.lt_succ_self, if_true, tq]
    · rw [dif_neg h, hq r e]
      refine congrArg _ ?_
      simp only [up]
      have : (r.val / 512 = i ∧ e.val / 128 < hh) ↔ (r.val / 512 = i ∧ e.val / 128 < hh + 1) := by omega
      simp only [this]
  · refine (put2_at _ _ r e).trans ?_
    by_cases h : (0 ≤ r.val ∧ r.val < 0 + 512) ∧ (hh * 128 ≤ e.val ∧ e.val < hh * 128 + 128)
    · rw [dif_pos h]
      refine (pT_at (X := fun r d => (up A b i j hh X).dk (0 + r) (hh * 128 + d))
        (f := fun r c => ds A (b * 4 + hh) (i * 512 + r) (j * 512 + c) * sg)
        (g := fun r d => A.q (i * 512 + r) ((b * 4 + hh) * 128 + d))
        (fun r d => (window2_at _ _ r d).trans (hc.dk _ _)) hDa (cols_at hI.q ok.col) _ _).trans (congrArg _ ?_)
      have ee : hh * 128 + (e.val - hh * 128) = e := by omega
      have ee' : (b * 4 + hh) * 128 + (e.val - hh * 128) = b * 512 + e := by omega
      have e1 : e.val / 128 = hh := by omega
      simp only [Nat.sub_zero, Nat.zero_add, ee, ee', up, e1, lt_self_iff_false, if_false, Nat.lt_succ_self, if_true, tk]
    · rw [dif_neg h, hc.dk r e]
      refine congrArg _ ?_
      simp only [up]
      have : (e.val / 128 < hh) ↔ (e.val / 128 < hh + 1) := by omega
      simp only [this]
  · refine (put2_at _ _ r e).trans ?_
    by_cases h : (0 ≤ r.val ∧ r.val < 0 + 512) ∧ (hh * 128 ≤ e.val ∧ e.val < hh * 128 + 128)
    · rw [dif_pos h]
      refine (pT_at (X := fun r d => (up A b i j hh X).dv (0 + r) (hh * 128 + d))
        (f := fun r c => P A (b * 4 + hh) (i * 512 + r) (j * 512 + c))
        (g := fun r d => A.g (i * 512 + r) ((b * 4 + hh) * 128 + d))
        (fun r d => (window2_at _ _ r d).trans (hc.dv _ _)) hPa (cols_at hI.g ok.col) _ _).trans (congrArg _ ?_)
      have ee : hh * 128 + (e.val - hh * 128) = e := by omega
      have ee' : (b * 4 + hh) * 128 + (e.val - hh * 128) = b * 512 + e := by omega
      have e1 : e.val / 128 = hh := by omega
      simp only [Nat.sub_zero, Nat.zero_add, ee, ee', up, e1, lt_self_iff_false, if_false, Nat.lt_succ_self, if_true, tv]
    · rw [dif_neg h, hc.dv r e]
      refine congrArg _ ?_
      simp only [up]
      have : (e.val / 128 < hh) ↔ (e.val / 128 < hh + 1) := by omega
      simp only [this]
  · refine (put3_at _ _ a c).trans ?_
    by_cases h : a.val = hh
    · rw [if_pos h]
      refine (hDc_at hI ok hi hd h4 (X := fun c => (up A b i j hh X).dc hh c)
        (fun c => (window3_at _ _ c).trans (hc.dc _ _)) c).trans (congrArg _ ?_)
      simp only [up, h, lt_self_iff_false, if_false, Nat.lt_succ_self, if_true]
    · rw [if_neg h, hc.dc a c]
      refine congrArg _ ?_
      simp only [up]
      have : (a.val < hh) ↔ (a.val < hh + 1) := by omega
      simp only [this]

end

/-- A step of the four heads. -/
theorem step_at {A : Arg} {b i j : ℕ} {I : Ins Ideal} {diag : Bool} (hI : InsAt A b i j I) (hi : i < 16)
    (hd : if diag = true then i = j else j < i) {o0 o1 o2 o3 : Fin 2 → ℕ} (ok : StepOk o0 o1 o2 o3)
    (h0 : o0 = ![i * 512, 0]) (h1 : o1 = ![i * 512, 128]) (h2 : o2 = ![i * 512, 256]) (h3 : o3 = ![i * 512, 384])
    {O : Outs Ideal} {X : Acc} (hq : HeldQ O X) (hc : HeldC O X) :
    HeldQ (stepOut diag o0 o1 o2 o3 ok I O) (up A b i j 4 X) ∧ HeldC (stepOut diag o0 o1 o2 o3 ok I O) (up A b i j 4 X) := by
  have e : up A b i j 0 X = X := by
    simp only [up, Nat.not_lt_zero, and_false, if_false]
  have s0 := head_at (hh := 0) hI ok.h0 hi hd (by omega) h0 (e.symm ▸ hq) (e.symm ▸ hc)
  have s1 := head_at (hh := 1) hI ok.h1 hi hd (by omega) h1 s0.1 s0.2
  have s2 := head_at (hh := 2) hI ok.h2 hi hd (by omega) h2 s1.1 s1.2
  exact head_at (hh := 3) hI ok.h3 hi hd (by omega) h3 s2.1 s2.2

end Cert.KernelIdeal

end
-- ==== Proof.Gather.lean ====
/- The gradients gathered after each point of the grid, as sums over the tiles visited. -/
module

public import proofs.«01_k».proof.Proof.Tile
public import proofs.«01_k».proof.Proof.KI.Data

@[expose] public section

set_option maxRecDepth 16384

noncomputable section

namespace Cert.KernelIdeal

open Idealize.ShloMosaic
open Idealize.ShloMosaic.VecWindow (window put)
open Cert.KernelIdeal.Gen Cert.Fox Cert.Attn

/-! ## A point -/

theorem pay1_at (r : Fin 8192) (e : Fin 512) : (k0_pay1 : FVec Ideal S8192x512 .f32) (ix2 r e) = 0 := by
  pointwise [k0_pay1]
theorem pay2_at (r e : Fin 512) : (k0_pay2 : FVec Ideal S512x512 .f32) (ix2 r e) = 0 := by
  pointwise [k0_pay2]
theorem pay3_at (r e : Fin 512) : (k0_pay3 : FVec Ideal S512x512 .f32) (ix2 r e) = 0 := by
  pointwise [k0_pay3]
theorem pay4_at (a : Fin 4) (c : Fin 512) : (k0_pay4 : FVec Ideal S4x1x512 .f32) (ix3 a 0 c) = 0 := by
  pointwise [k0_pay4]

/-- The offsets of a tile's rows by head. -/
theorem offs (p : Fin 136) : k0_off2 (lit0 p) = ![(lit0 p).toNat * 512, 0] ∧ k0_off3 (lit0 p) = ![(lit0 p).toNat * 512, 128]
    ∧ k0_off4 (lit0 p) = ![(lit0 p).toNat * 512, 256] ∧ k0_off5 (lit0 p) = ![(lit0 p).toNat * 512, 384]
    ∧ k0_off6 (lit0 p) = ![(lit0 p).toNat * 512, 0] ∧ k0_off7 (lit0 p) = ![(lit0 p).toNat * 512, 128]
    ∧ k0_off8 (lit0 p) = ![(lit0 p).toNat * 512, 256] ∧ k0_off9 (lit0 p) = ![(lit0 p).toNat * 512, 384] := by
  revert p; decide +kernel

section

variable {V : Vals Ideal} {c : Dev nD} {A : Arg} {b : ℕ}

/-- A point's step adds its tile. -/
theorem point_at (i : grid0.Coords) (hI : InsAt A b (lit0 (place i)).toNat (lit1 (place i)).toNat (ins V c i)) {O : Outs Ideal} {X : Acc}
    (hq : (i 1).val ≠ 0 → HeldQ O X) (hq0 : (i 1).val = 0 → ∀ r e, X.dq r e = 0)
    (hc : (lit0 (place i)).toNat ≠ (lit1 (place i)).toNat → HeldC O X)
    (hc0 : (lit0 (place i)).toNat = (lit1 (place i)).toNat → ∀ r e, X.dk r e = 0 ∧ X.dv r e = 0 ∧ X.dc r e = 0) :
    HeldQ (pointOut V c i O) (up A b (lit0 (place i)).toNat (lit1 (place i)).toNat 4 X)
      ∧ HeldC (pointOut V c i O) (up A b (lit0 (place i)).toNat (lit1 (place i)).toNat 4 X) := by
  have hle := lits_le (place i)
  obtain ⟨f2, f3, f4, f5, f6, f7, f8, f9⟩ := offs (place i)
  obtain ⟨O', hO'⟩ : ∃ O', O' = clearCOut (lit0 (place i)) (lit1 (place i)) (clearQOut i O) := ⟨_, rfl⟩
  have hQ : HeldQ O' X := by
    intro r e
    have h1 : O'.dq = (clearQOut i O).dq := by
      rw [hO', clearCOut]; split <;> rfl
    rw [h1, clearQOut]
    by_cases h : (i 1).val = 0
    · rw [if_pos ((first_iff i).mpr h), hq0 h]; exact pay1_at r e
    · rw [if_neg ((first_iff i).not.mpr h)]; exact hq h r e
  have hC : HeldC O' X := by
    by_cases h : (lit0 (place i)).toNat = (lit1 (place i)).toNat
    · rw [hO', clearCOut, if_pos ((clear_iff _).mpr h)]
      refine ⟨fun r e => ?_, fun r e => ?_, fun r e => ?_⟩
      · rw [(hc0 h r e).1]; exact pay2_at r e
      · rw [(hc0 h r e).2.1]; exact pay3_at r e
      · rw [(hc0 h r e).2.2]; exact pay4_at r e
    · rw [hO', clearCOut, if_neg ((clear_iff _).not.mpr h), clearQOut]
      have := hc h
      split
      · exact ⟨this.dk, this.dv, this.dc⟩
      · exact this
  unfold pointOut bodyOut
  rw [← hO', diagOut, belowOut]
  by_cases h : (lit0 (place i)).toNat = (lit1 (place i)).toNat
  · rw [dif_pos ((diag_iff _).mpr h), dif_neg ((below_iff _).not.mpr (by omega))]
    exact step_at (diag := true) hI hle.1 h _ f6 f7 f8 f9 hQ hC
  · rw [dif_neg ((diag_iff _).not.mpr h), dif_pos ((below_iff _).mpr (by omega))]
    exact step_at (diag := false) hI hle.1 (by show _ < _; omega) _ f2 f3 f4 f5 hQ hC

end

/-! ## The points of a group of heads -/

section

variable (A : Arg) (b : ℕ)

/-- The gradients after the tile at row `I` and column `J`. -/
def done (I J : ℕ) : Acc where
  dq r e := ∑ j ∈ Finset.range J, tq A b j r e + if r / 512 < I + 1 then tq A b J r e else 0
  dk c e := ∑ i ∈ Finset.range (I + 1), tk A b i J c e
  dv c e := ∑ i ∈ Finset.range (I + 1), tv A b i J c e
  dc a c := -∑ i ∈ Finset.range (I + 1), tc A b i J a c

/-- The gradients before it. -/
def before (I J : ℕ) : Acc where
  dq r e := ∑ j ∈ Finset.range J, tq A b j r e + if r / 512 < I then tq A b J r e else 0
  dk c e := ∑ i ∈ Finset.range I, tk A b i J c e
  dv c e := ∑ i ∈ Finset.range I, tv A b i J c e
  dc a c := -∑ i ∈ Finset.range I, tc A b i J a c

/-- Nothing above the diagonal reaches the queries' gradient, -/
theorem tq_late {j r e : ℕ} (h : r / 512 < j) : tq A b j r e = 0 :=
  Finset.sum_eq_zero fun c _ => by rw [ds_late A (by omega), zero_mul, zero_mul]
/-- the keys', -/
theorem tk_late {i j c e : ℕ} (h : i < j) : tk A b i j c e = 0 :=
  Finset.sum_eq_zero fun r _ => by rw [ds_late A (by omega), zero_mul, zero_mul]
/-- the values', -/
theorem tv_late {i j c e : ℕ} (h : i < j) : tv A b i j c e = 0 :=
  Finset.sum_eq_zero fun r _ => by rw [P_late A (by omega), zero_mul]
/-- or the decay's. -/
theorem tc_late {i j a c : ℕ} (h : i < j) : tc A b i j a c = 0 :=
  Finset.sum_eq_zero fun r _ => ds_late A (by omega)

variable {A b}

/-- The tile takes the gradients from before it to after it. -/
theorem up_before {I J : ℕ} {O : Outs Ideal} (hq : HeldQ O (up A b I J 4 (before A b I J))) (hc : HeldC O (up A b I J 4 (before A b I J))) :
    HeldQ O (done A b I J) ∧ HeldC O (done A b I J) := by
  refine ⟨fun r e => (hq r e).trans (congrArg _ ?_), fun r e => (hc.dk r e).trans (congrArg _ ?_),
    fun r e => (hc.dv r e).trans (congrArg _ ?_), fun a e => (hc.dc a e).trans (congrArg _ ?_)⟩
  · have he : e.val / 128 < 4 := by omega
    simp only [up, before, done, he, and_true]
    by_cases h : r.val / 512 = I
    · rw [if_pos h, if_neg (by omega), if_pos (by omega), add_zero]
    · rw [if_neg h]
      have : r.val / 512 < I ↔ r.val / 512 < I + 1 := by omega
      simp only [this]
  · have he : e.val / 128 < 4 := by omega
    simp only [up, before, done, he, if_true, Finset.sum_range_succ]
  · have he : e.val / 128 < 4 := by omega
    simp only [up, before, done, he, if_true, Finset.sum_range_succ]
  · have he : a.val < 4 := by omega
    simp only [up, before, done, he, if_true, Finset.sum_range_succ]
    ring

end

/-- How the tables go from a place to the next. -/
theorem lits_next : ∀ p : Fin 136, ∀ h : p.val + 1 < 136,
    ((lit0 ⟨p.val + 1, h⟩).toNat = (lit0 p).toNat + 1 ∧ (lit1 ⟨p.val + 1, h⟩).toNat = (lit1 p).toNat)
      ∨ ((lit0 p).toNat = 15 ∧ (lit0 ⟨p.val + 1, h⟩).toNat = (lit1 p).toNat + 1 ∧ (lit1 ⟨p.val + 1, h⟩).toNat = (lit1 p).toNat + 1) := by
  decide +kernel

theorem lits_first : (lit0 0).toNat = 0 ∧ (lit1 0).toNat = 0 := by decide
theorem lits_last : (lit0 135).toNat = 15 ∧ (lit1 135).toNat = 15 := by decide

/-- The point of a group of heads at a place of the tables. -/
def pt (b : Fin 4) (p : Fin 136) : Fin grid0.N := ⟨b.val * 136 + p.val, by
  have : grid0.N = 544 := N_0
  omega⟩

theorem pt_zero (b : Fin 4) (p : Fin 136) : (grid0.coords (pt b p) 0).val = b := by
  rw [coords_zero]; show (b.val * 136 + p.val) / 136 % 4 = _; omega
theorem pt_one (b : Fin 4) (p : Fin 136) : (grid0.coords (pt b p) 1).val = p := by
  rw [coords_one]; show (b.val * 136 + p.val) % 136 = _; omega
theorem pt_place (b : Fin 4) (p : Fin 136) : place (grid0.coords (pt b p)) = p := Fin.ext (pt_one b p)

/-- What the call has gathered after a point. -/
theorem st_at {V : Vals Ideal} {c : Dev nD} {A : Arg} (b : Fin 4)
    (hI : ∀ p : Fin 136, InsAt A b (lit0 p).toNat (lit1 p).toNat (ins V c (grid0.coords (pt b p)))) (n : ℕ) : ∀ hn : n < 136,
    HeldQ (st V c ((pt b ⟨n, hn⟩).val + 1)) (done A b (lit0 ⟨n, hn⟩).toNat (lit1 ⟨n, hn⟩).toNat)
      ∧ HeldC (st V c ((pt b ⟨n, hn⟩).val + 1)) (done A b (lit0 ⟨n, hn⟩).toNat (lit1 ⟨n, hn⟩).toNat) := by
  induction n with
  | zero =>
    intro hn
    have hp := pt_place b ⟨0, hn⟩
    have key := point_at (grid0.coords (pt b ⟨0, hn⟩)) (by rw [hp]; exact hI _) (O := st V c (pt b ⟨0, hn⟩).val)
      (X := before A b (lit0 (place (grid0.coords (pt b ⟨0, hn⟩)))).toNat (lit1 (place (grid0.coords (pt b ⟨0, hn⟩)))).toNat)
      (fun h => absurd (pt_one b ⟨0, hn⟩) h)
      (fun _ r e => by
        rw [hp]
        show ∑ j ∈ Finset.range (lit1 0).toNat, _ + (if _ < (lit0 0).toNat then _ else _) = _
        rw [lits_first.1, lits_first.2, if_neg (Nat.not_lt_zero _), Finset.sum_range_zero, add_zero])
      (fun h => absurd (by rw [hp]; exact lits_first.1.trans lits_first.2.symm) h)
      (fun _ r e => by
        rw [hp]
        simp only [before, show (lit0 ⟨0, hn⟩).toNat = 0 from lits_first.1, Finset.sum_range_zero, neg_zero, and_self])
    rw [← st_succ, hp] at key
    exact up_before key.1 key.2
  | succ n ih =>
    intro hn
    obtain ⟨ihq, ihc⟩ := ih (by omega)
    have hp := pt_place b ⟨n + 1, hn⟩
    have hnext := lits_next ⟨n, by omega⟩ hn
    have hle := lits_le ⟨n, by omega⟩
    have key := point_at (grid0.coords (pt b ⟨n + 1, hn⟩)) (by rw [hp]; exact hI _) (O := st V c (pt b ⟨n + 1, hn⟩).val)
      (X := before A b (lit0 (place (grid0.coords (pt b ⟨n + 1, hn⟩)))).toNat (lit1 (place (grid0.coords (pt b ⟨n + 1, hn⟩)))).toNat)
      (fun _ r e => by
        refine (ihq r e).trans (congrArg _ ?_)
        rw [hp]
        simp only [done, before]
        rcases hnext with ⟨h0, h1⟩ | ⟨h, h0, h1⟩
        · rw [h0, h1]
        · rw [h0, h1, h, Finset.sum_range_succ, if_pos (by have := r.isLt; omega)]
          rw [add_assoc]
          refine congrArg _ (left_eq_add.mpr ?_)
          split
          · exact tq_late A b (by assumption)
          · rfl)
      (fun h => absurd ((pt_one b ⟨n + 1, hn⟩).symm.trans h) (Nat.succ_ne_zero n))
      (fun h => by
        rw [hp] at h ⊢
        rcases hnext with ⟨h0, h1⟩ | ⟨_, h0, h1⟩
        · rw [h0, h1]; exact ⟨ihc.dk, ihc.dv, ihc.dc⟩
        · exact absurd (h0.trans h1.symm) h)
      (fun h r e => by
        rw [hp] at h ⊢
        simp only [before, h]
        exact ⟨Finset.sum_eq_zero fun i hi => tk_late A b (Finset.mem_range.mp hi), Finset.sum_eq_zero fun i hi => tv_late A b (Finset.mem_range.mp hi),
          neg_eq_zero.mpr (Finset.sum_eq_zero fun i hi => tc_late A b (Finset.mem_range.mp hi))⟩)
    rw [← st_succ, hp] at key
    exact up_before key.1 key.2

section

variable {V : Vals Ideal} {c : Dev nD} {A : Arg} (b : Fin 4)
    (hI : ∀ p : Fin 136, InsAt A b (lit0 p).toNat (lit1 p).toNat (ins V c (grid0.coords (pt b p))))

include hI

/-- The queries' gradient after a group's last point. -/
theorem dq_at (r : Fin 8192) (e : Fin 512) : (st V c ((pt b 135).val + 1)).dq (ix2 r e) = ((dq A r (b * 512 + e) : ℝ) : EReal) := by
  refine ((st_at b hI 135 (by omega)).1 r e).trans (congrArg _ ?_)
  show ∑ j ∈ Finset.range (lit1 135).toNat, _ + (if _ < (lit0 135).toNat + 1 then tq A b (lit1 135).toNat r e else _) = _
  rw [lits_last.1, lits_last.2, if_pos (by have := r.isLt; omega), ← Finset.sum_range_succ, Finset.sum_range, dq,
    Fin.sum_univ_tiles 16 512 rfl]
  refine Finset.sum_congr rfl fun j _ => Finset.sum_congr rfl fun t _ => ?_
  rw [show (b.val * 512 + e.val) / 128 = b * 4 + e / 128 by omega]

/-- The keys' gradient after a column's last tile, -/
theorem dk_at (p : Fin 136) (hp : (lit0 p).toNat = 15) (s e : Fin 512) :
    (st V c ((pt b p).val + 1)).dk (ix2 s e) = ((dk A ((lit1 p).toNat * 512 + s) (b * 512 + e) : ℝ) : EReal) := by
  refine ((st_at b hI p.val p.isLt).2.dk s e).trans (congrArg _ ?_)
  show ∑ i ∈ Finset.range ((lit0 p).toNat + 1), _ = _
  rw [hp, Finset.sum_range, dk, Fin.sum_univ_tiles 16 512 rfl]
  refine Finset.sum_congr rfl fun j _ => Finset.sum_congr rfl fun t _ => ?_
  rw [show (b.val * 512 + e.val) / 128 = b * 4 + e / 128 by omega]

/-- the values', -/
theorem dv_at (p : Fin 136) (hp : (lit0 p).toNat = 15) (s e : Fin 512) :
    (st V c ((pt b p).val + 1)).dv (ix2 s e) = ((dv A ((lit1 p).toNat * 512 + s) (b * 512 + e) : ℝ) : EReal) := by
  refine ((st_at b hI p.val p.isLt).2.dv s e).trans (congrArg _ ?_)
  show ∑ i ∈ Finset.range ((lit0 p).toNat + 1), _ = _
  rw [hp, Finset.sum_range, dv, Fin.sum_univ_tiles 16 512 rfl]
  refine Finset.sum_congr rfl fun j _ => Finset.sum_congr rfl fun t _ => ?_
  rw [show (b.val * 512 + e.val) / 128 = b * 4 + e / 128 by omega]

/-- and the decay's. -/
theorem dc_at (p : Fin 136) (hp : (lit0 p).toNat = 15) (a : Fin 4) (s : Fin 512) :
    (st V c ((pt b p).val + 1)).dc (ix3 a 0 s) = ((dc A (b * 4 + a) ((lit1 p).toNat * 512 + s) : ℝ) : EReal) := by
  refine ((st_at b hI p.val p.isLt).2.dc a s).trans (congrArg _ ?_)
  show -∑ i ∈ Finset.range ((lit0 p).toNat + 1), _ = _
  rw [hp, Finset.sum_range, dc, Fin.sum_univ_tiles 16 512 rfl]
  rfl

end

end Cert.KernelIdeal

end
-- ==== Proof.Arrays.lean ====
/- The arrays that the call writes, after the run: the gradients. -/
module

public import proofs.«01_k».proof.Proof.Gather
public import proofs.«01_k».proof.Proof.KI.Frame
public import Idealize.ShloMosaic.Lib.Pipeline.ValueKit
public import Idealize.ShloMosaic.Lib.Pipeline.Covers

@[expose] public section

set_option maxRecDepth 16384

noncomputable section

namespace Cert.KernelIdeal

open Idealize.ShloMosaic
open Idealize.ShloMosaic.Pipeline (RDat Dat)
open Cert.KernelIdeal.Gen Cert.Fox Cert.Attn

/-! ## The points at which a block is written back -/

/-- Every point is a place of the tables under a group of heads. -/
theorem exists_pt (t : Fin grid0.N) : ∃ (b : Fin 4) (p : Fin 136), t = pt b p := by
  have hN : t.val < 544 := N_0 ▸ t.isLt
  exact ⟨⟨t.val / 136, by omega⟩, ⟨t.val % 136, by omega⟩, Fin.ext (by show t.val = t.val / 136 * 136 + t.val % 136; omega)⟩

/-- The queries' gradient is written back at a group's last place. -/
theorem flush7 (b : Fin 4) (p : Fin 136) (hf : ((cfgA Ideal).win 7).flush (pt b p) = true) : p = 135 := by
  refine Fin.ext ?_
  show p.val = 135
  rcases (((cfgA Ideal).win 7).flush_out rfl _).mp hf with hl | ⟨hl, hne⟩
  · have : b.val * 136 + p.val + 1 = 544 := hl.trans N_0
    omega
  · by_contra h
    refine hne ?_
    show cc0_transform_7 (grid0.coords _) = cc0_transform_7 (grid0.coords _)
    rw [tr7, tr7, coords_zero, coords_zero]
    show (![0, (b.val * 136 + p.val + 1) / 136 % 4] : Fin 2 → ℕ) = ![0, (b.val * 136 + p.val) / 136 % 4]
    rw [show (b.val * 136 + p.val + 1) / 136 = (b.val * 136 + p.val) / 136 by omega]

/-- The place after one that is not the last of a column is of the same column. -/
theorem same_col (b : Fin 4) (p : Fin 136) (hp : (lit0 p).toNat ≠ 15) :
    ∃ h : p.val + 1 < 136, (lit1 ⟨p.val + 1, h⟩).toNat = (lit1 p).toNat := by
  have h : p.val + 1 < 136 := by
    by_contra h
    have : p = 135 := Fin.ext (show p.val = 135 by omega)
    exact hp (this ▸ lits_last.1)
  refine ⟨h, ?_⟩
  rcases lits_next p h with h' | h'
  · exact h'.2
  · exact absurd h'.1 hp

/-- The keys', the values' and the decay's gradients are written back at a column's last place. -/
theorem flush_col (b : Fin 4) (p : Fin 136)
    (hf : (pt b p).val + 1 = grid0.N ∨ ∃ h : (pt b p).val + 1 < grid0.N,
      ¬ ((lit1 (place (grid0.coords ⟨(pt b p).val + 1, h⟩))).toNat = (lit1 (place (grid0.coords (pt b p)))).toNat
        ∧ (grid0.coords ⟨(pt b p).val + 1, h⟩ 0).val = (grid0.coords (pt b p) 0).val)) : (lit0 p).toNat = 15 := by
  by_contra hp
  obtain ⟨h, e⟩ := same_col b p hp
  rcases hf with hl | ⟨hl, hne⟩
  · have : b.val * 136 + p.val + 1 = 544 := hl.trans N_0
    omega
  · have hq : (⟨(pt b p).val + 1, hl⟩ : Fin grid0.N) = pt b ⟨p.val + 1, h⟩ := Fin.ext (Nat.add_assoc _ _ _)
    rw [hq, pt_place, pt_place, pt_zero, pt_zero] at hne
    exact hne ⟨e, rfl⟩

theorem flush8 (b : Fin 4) (p : Fin 136) (hf : ((cfgA Ideal).win 8).flush (pt b p) = true) : (lit0 p).toNat = 15 := by
  refine flush_col b p ?_
  rcases (((cfgA Ideal).win 8).flush_out rfl _).mp hf with hl | ⟨hl, hne⟩
  · exact .inl hl
  · refine .inr ⟨hl, fun e => hne ?_⟩
    show cc0_transform_8 k0_off1_inb numel1_S1 (tabs (F := Ideal)) (grid0.coords _) = cc0_transform_8 k0_off1_inb numel1_S1 (tabs (F := Ideal)) (grid0.coords _)
    rw [tr8, tr8, e.1, e.2]

theorem flush9 (b : Fin 4) (p : Fin 136) (hf : ((cfgA Ideal).win 9).flush (pt b p) = true) : (lit0 p).toNat = 15 := by
  refine flush_col b p ?_
  rcases (((cfgA Ideal).win 9).flush_out rfl _).mp hf with hl | ⟨hl, hne⟩
  · exact .inl hl
  · refine .inr ⟨hl, fun e => hne ?_⟩
    show cc0_transform_9 k0_off1_inb numel1_S1 (tabs (F := Ideal)) (grid0.coords _) = cc0_transform_9 k0_off1_inb numel1_S1 (tabs (F := Ideal)) (grid0.coords _)
    rw [tr9, tr9, e.1, e.2]

theorem flush10 (b : Fin 4) (p : Fin 136) (hf : ((cfgA Ideal).win 10).flush (pt b p) = true) : (lit0 p).toNat = 15 := by
  refine flush_col b p ?_
  rcases (((cfgA Ideal).win 10).flush_out rfl _).mp hf with hl | ⟨hl, hne⟩
  · exact .inl hl
  · refine .inr ⟨hl, fun e => hne ?_⟩
    show cc0_transform_10 k0_off1_inb numel1_S1 (tabs (F := Ideal)) (grid0.coords _) = cc0_transform_10 k0_off1_inb numel1_S1 (tabs (F := Ideal)) (grid0.coords _)
    rw [tr10, tr10, e.1, e.2]

/-! ## The blocks written back fill their arrays -/

/-- Every column of the tables is visited. -/
theorem cols_all : ∀ j : Fin 16, ∃ p : Fin 136, (lit1 p).toNat = j.val := by decide +kernel

/-- The queries' gradient's blocks fill their array, -/
theorem covers7 : ((cfgA Ideal).win 7).Covers := by
  refine Pipeline.Window.covers_of_index_surj _ rfl (by decide) fun β => ?_
  obtain ⟨b, hb⟩ : ∃ b : Fin 4, b.val = (β 1).val := ⟨⟨(β 1).val, (β 1).isLt⟩, rfl⟩
  refine ⟨pt b 0, fun a => ?_⟩
  show cc0_transform_7 (grid0.coords (pt b 0)) a = _
  rw [tr7, pt_zero]
  match a with
  | 0 => have h := (β 0).isLt; exact (Nat.lt_one_iff.mp h).symm
  | 1 => exact hb

/-- the keys', -/
theorem covers8 : ((cfgA Ideal).win 8).Covers := by
  refine Pipeline.Window.covers_of_index_surj _ rfl (by decide) fun β => ?_
  obtain ⟨b, hb⟩ : ∃ b : Fin 4, b.val = (β 1).val := ⟨⟨(β 1).val, (β 1).isLt⟩, rfl⟩
  obtain ⟨p, hp⟩ := cols_all ⟨(β 0).val, (β 0).isLt⟩
  refine ⟨pt b p, fun a => ?_⟩
  show cc0_transform_8 k0_off1_inb numel1_S1 (tabs (F := Ideal)) (grid0.coords (pt b p)) a = _
  rw [tr8, pt_zero, pt_place]
  match a with
  | 0 => exact hp
  | 1 => exact hb

/-- the values', -/
theorem covers9 : ((cfgA Ideal).win 9).Covers := by
  refine Pipeline.Window.covers_of_index_surj _ rfl (by decide) fun β => ?_
  obtain ⟨b, hb⟩ : ∃ b : Fin 4, b.val = (β 1).val := ⟨⟨(β 1).val, (β 1).isLt⟩, rfl⟩
  obtain ⟨p, hp⟩ := cols_all ⟨(β 0).val, (β 0).isLt⟩
  refine ⟨pt b p, fun a => ?_⟩
  show cc0_transform_9 k0_off1_inb numel1_S1 (tabs (F := Ideal)) (grid0.coords (pt b p)) a = _
  rw [tr9, pt_zero, pt_place]
  match a with
  | 0 => exact hp
  | 1 => exact hb

/-- and the decay's. -/
theorem covers10 : ((cfgA Ideal).win 10).Covers := by
  refine Pipeline.Window.covers_of_index_surj _ rfl (by decide) fun β => ?_
  obtain ⟨b, hb⟩ : ∃ b : Fin 4, b.val = (β 0).val := ⟨⟨(β 0).val, (β 0).isLt⟩, rfl⟩
  obtain ⟨p, hp⟩ := cols_all ⟨(β 2).val, (β 2).isLt⟩
  refine ⟨pt b p, fun a => ?_⟩
  show cc0_transform_10 k0_off1_inb numel1_S1 (tabs (F := Ideal)) (grid0.coords (pt b p)) a = _
  rw [tr10, pt_zero, pt_place]
  match a with
  | 0 => exact hb
  | 1 => have h := (β 1).isLt; exact (Nat.lt_one_iff.mp h).symm
  | 2 => exact hp

/-! ## The arrays -/

section

variable {V : Vals Ideal} {c : Dev nD} {A : Arg}
  {after : (w : Fin (cfgA Ideal).W) → Fin (cfgA Ideal).N → (((cfgA Ideal).win w).block.Idx → Elt Ideal ((cfgA Ideal).win w).elt)}

/-- The queries' gradient, -/
theorem arr7
    (hI : ∀ (b : Fin 4) (p : Fin 136), InsAt A b (lit0 p).toNat (lit1 p).toNat (ins V c (grid0.coords (pt b p))))
    (hL : ∀ u, ((cfgA Ideal).win 7).flush u = true → (rdat V c).Leaves 7 u (after 7 u)) (i : S8192x2048.Idx) :
    ((rdat V c).withAfter after).arrAt 7 (cfgA Ideal).N i = ((dq A (i 0).val (i 1).val : ℝ) : EReal) := by
  refine ((rdat V c).withAfter after).arrAt_forall_of_covers 7
    (fun i v => v = ((dq A (i 0).val (i 1).val : ℝ) : EReal)) covers7 (fun t hf y => ?_) i
  obtain ⟨b, p, rfl⟩ := exists_pt t
  obtain rfl := flush7 b p hf
  obtain ⟨Y, -, hX⟩ := hL _ hf
  have hX : after 7 (pt b 135) = (st V c ((pt b 135).val + 1)).dq := hX
  have h0 : ((((cfgA Ideal).win 7).blk (pt b 135)).view.emb y 0).val = (y 0).val := by
    show cc0_transform_7 (grid0.coords (pt b 135)) 0 * 8192 + 1 * (y 0).val = _
    rw [tr7]; show 0 * 8192 + 1 * (y 0).val = _; omega
  have h1 : ((((cfgA Ideal).win 7).blk (pt b 135)).view.emb y 1).val = b.val * 512 + (y 1).val := by
    show cc0_transform_7 (grid0.coords (pt b 135)) 1 * 512 + 1 * (y 1).val = _
    rw [tr7]; show (grid0.coords (pt b 135) 0).val * 512 + 1 * (y 1).val = _; rw [pt_zero]; omega
  show after 7 (pt b 135) y = _
  rw [hX, h0, h1]
  obtain ⟨r, e, rfl⟩ : ∃ (r : Fin 8192) (e : Fin 512), y = ix2 r e :=
    ⟨y 0, y 1, funext fun a => match a with | 0 => rfl | 1 => rfl⟩
  exact dq_at b (hI b) r e

/-- the keys', -/
theorem arr8
    (hI : ∀ (b : Fin 4) (p : Fin 136), InsAt A b (lit0 p).toNat (lit1 p).toNat (ins V c (grid0.coords (pt b p))))
    (hL : ∀ u, ((cfgA Ideal).win 8).flush u = true → (rdat V c).Leaves 8 u (after 8 u)) (i : S8192x2048.Idx) :
    ((rdat V c).withAfter after).arrAt 8 (cfgA Ideal).N i = ((dk A (i 0).val (i 1).val : ℝ) : EReal) := by
  refine ((rdat V c).withAfter after).arrAt_forall_of_covers 8
    (fun i v => v = ((dk A (i 0).val (i 1).val : ℝ) : EReal)) covers8 (fun t hf y => ?_) i
  obtain ⟨b, p, rfl⟩ := exists_pt t
  have hp := flush8 b p hf
  obtain ⟨Y, -, hX⟩ := hL _ hf
  have hX : (lit0 (place (grid0.coords (pt b p)))).toNat = 15 → after 8 (pt b p) = (st V c ((pt b p).val + 1)).dk := hX
  have hX := hX (by rw [pt_place]; exact hp)
  have h0 : ((((cfgA Ideal).win 8).blk (pt b p)).view.emb y 0).val = (lit1 p).toNat * 512 + (y 0).val := by
    show cc0_transform_8 k0_off1_inb numel1_S1 (tabs (F := Ideal)) (grid0.coords (pt b p)) 0 * 512 + 1 * (y 0).val = _
    rw [tr8]; show (lit1 (place (grid0.coords (pt b p)))).toNat * 512 + 1 * (y 0).val = _; rw [pt_place]; omega
  have h1 : ((((cfgA Ideal).win 8).blk (pt b p)).view.emb y 1).val = b.val * 512 + (y 1).val := by
    show cc0_transform_8 k0_off1_inb numel1_S1 (tabs (F := Ideal)) (grid0.coords (pt b p)) 1 * 512 + 1 * (y 1).val = _
    rw [tr8]; show (grid0.coords (pt b p) 0).val * 512 + 1 * (y 1).val = _; rw [pt_zero]; omega
  show after 8 (pt b p) y = _
  rw [hX, h0, h1]
  obtain ⟨s, e, rfl⟩ : ∃ s e : Fin 512, y = ix2 s e :=
    ⟨y 0, y 1, funext fun a => match a with | 0 => rfl | 1 => rfl⟩
  exact dk_at b (hI b) p hp s e

/-- the values', -/
theorem arr9
    (hI : ∀ (b : Fin 4) (p : Fin 136), InsAt A b (lit0 p).toNat (lit1 p).toNat (ins V c (grid0.coords (pt b p))))
    (hL : ∀ u, ((cfgA Ideal).win 9).flush u = true → (rdat V c).Leaves 9 u (after 9 u)) (i : S8192x2048.Idx) :
    ((rdat V c).withAfter after).arrAt 9 (cfgA Ideal).N i = ((dv A (i 0).val (i 1).val : ℝ) : EReal) := by
  refine ((rdat V c).withAfter after).arrAt_forall_of_covers 9
    (fun i v => v = ((dv A (i 0).val (i 1).val : ℝ) : EReal)) covers9 (fun t hf y => ?_) i
  obtain ⟨b, p, rfl⟩ := exists_pt t
  have hp := flush9 b p hf
  obtain ⟨Y, -, hX⟩ := hL _ hf
  have hX : (lit0 (place (grid0.coords (pt b p)))).toNat = 15 → after 9 (pt b p) = (st V c ((pt b p).val + 1)).dv := hX
  have hX := hX (by rw [pt_place]; exact hp)
  have h0 : ((((cfgA Ideal).win 9).blk (pt b p)).view.emb y 0).val = (lit1 p).toNat * 512 + (y 0).val := by
    show cc0_transform_9 k0_off1_inb numel1_S1 (tabs (F := Ideal)) (grid0.coords (pt b p)) 0 * 512 + 1 * (y 0).val = _
    rw [tr9]; show (lit1 (place (grid0.coords (pt b p)))).toNat * 512 + 1 * (y 0).val = _; rw [pt_place]; omega
  have h1 : ((((cfgA Ideal).win 9).blk (pt b p)).view.emb y 1).val = b.val * 512 + (y 1).val := by
    show cc0_transform_9 k0_off1_inb numel1_S1 (tabs (F := Ideal)) (grid0.coords (pt b p)) 1 * 512 + 1 * (y 1).val = _
    rw [tr9]; show (grid0.coords (pt b p) 0).val * 512 + 1 * (y 1).val = _; rw [pt_zero]; omega
  show after 9 (pt b p) y = _
  rw [hX, h0, h1]
  obtain ⟨s, e, rfl⟩ : ∃ s e : Fin 512, y = ix2 s e :=
    ⟨y 0, y 1, funext fun a => match a with | 0 => rfl | 1 => rfl⟩
  exact dv_at b (hI b) p hp s e

/-- and the decay's, after the run. -/
theorem arr10
    (hI : ∀ (b : Fin 4) (p : Fin 136), InsAt A b (lit0 p).toNat (lit1 p).toNat (ins V c (grid0.coords (pt b p))))
    (hL : ∀ u, ((cfgA Ideal).win 10).flush u = true → (rdat V c).Leaves 10 u (after 10 u)) (i : S16x1x8192.Idx) :
    ((rdat V c).withAfter after).arrAt 10 (cfgA Ideal).N i = ((dc A (i 0).val (i 2).val : ℝ) : EReal) := by
  refine ((rdat V c).withAfter after).arrAt_forall_of_covers 10
    (fun i v => v = ((dc A (i 0).val (i 2).val : ℝ) : EReal)) covers10 (fun t hf y => ?_) i
  obtain ⟨b, p, rfl⟩ := exists_pt t
  have hp := flush10 b p hf
  obtain ⟨Y, -, hX⟩ := hL _ hf
  have hX : (lit0 (place (grid0.coords (pt b p)))).toNat = 15 → after 10 (pt b p) = (st V c ((pt b p).val + 1)).dc := hX
  have hX := hX (by rw [pt_place]; exact hp)
  have h0 : ((((cfgA Ideal).win 10).blk (pt b p)).view.emb y 0).val = b.val * 4 + (y 0).val := by
    show cc0_transform_10 k0_off1_inb numel1_S1 (tabs (F := Ideal)) (grid0.coords (pt b p)) 0 * 4 + 1 * (y 0).val = _
    rw [tr10]; show (grid0.coords (pt b p) 0).val * 4 + 1 * (y 0).val = _; rw [pt_zero]; omega
  have h2 : ((((cfgA Ideal).win 10).blk (pt b p)).view.emb y 2).val = (lit1 p).toNat * 512 + (y 2).val := by
    show cc0_transform_10 k0_off1_inb numel1_S1 (tabs (F := Ideal)) (grid0.coords (pt b p)) 2 * 512 + 1 * (y 2).val = _
    rw [tr10]; show (lit1 (place (grid0.coords (pt b p)))).toNat * 512 + 1 * (y 2).val = _; rw [pt_place]; omega
  show after 10 (pt b p) y = _
  rw [hX, h0, h2]
  obtain ⟨a, s, rfl⟩ : ∃ (a : Fin 4) (s : Fin 512), y = ix3 a 0 s :=
    ⟨y 0, y 2, funext fun x => match x with
      | 0 => rfl
      | 1 => Fin.ext (Nat.lt_one_iff.mp (y 1).isLt)
      | 2 => rfl⟩
  exact dc_at b (hI b) p hp a s

end

end Cert.KernelIdeal

end
-- ==== Proof.HostTerm.lean ====
/- What the host hands the call, its operations grouped: the rows' logarithms and corrections, and the decay's rows. -/
module

public import proofs.«01_k».proof.Proof.KI.Launch
public import Idealize.ShloMosaic.PureOps.Ideal
public import Idealize.ShloMosaic.Lib.StableHlo.RunRead

@[expose] public section

set_option maxRecDepth 16384

noncomputable section

namespace Cert.KernelIdeal

open Idealize.ShloMosaic Idealize.ShloMosaic.TcCoe
open Cert.KernelIdeal.Gen Cert.Fox

/-- The heads' view of an array of rows. -/
def kHead (x : FVec Ideal S8192x2048 .bf16) : FVec Ideal S8192x16x128 .f32 :=
  shapeCast S8192x16x128 (extf .f32 x bitsLt_bf16_f32) shapeCasts_S8192x2048_S8192x16x128

/-- The masked logits. -/
def kX (q k : FVec Ideal S8192x2048 .bf16) (c : FVec Ideal S16x8192 .f32) : FVec Ideal S16x8192x8192 .f32 :=
  select (cmpi .sle (iotaInDim S16x8192x8192 32 2) (iotaInDim S16x8192x8192 32 1))
    (subf (addf (mulf (Host.dotGeneral dot_S8192x16x128_S8192x16x128_S16x8192x8192_2_2_0_0_1_1 none (kHead q) (kHead k))
        (broadcastInDim S16x8192x8192 ![] bcast_S_S16x8192x8192 (constant S_ .f32 0x3DB504F3#32)))
      (broadcastInDim S16x8192x8192 ![0, 1, 2] bcast_S16x8192x1_S16x8192x8192_0_1_2
        (broadcastInDim S16x8192x1 ![0, 1] bcast_S16x8192_S16x8192x1_0_1 c)))
      (broadcastInDim S16x8192x8192 ![0, 1, 2] bcast_S16x1x8192_S16x8192x8192_0_1_2
        (broadcastInDim S16x1x8192 ![0, 2] bcast_S16x8192_S16x1x8192_0_2 c)))
    (broadcastInDim S16x8192x8192 ![] bcast_S_S16x8192x8192 (constant S_ .f32 0xFF800000#32))

/-- The rows' maxima. -/
def kM (x : FVec Ideal S16x8192x8192 .f32) : FVec Ideal S16x8192 .f32 :=
  Host.reduce FloatOps.maximumf x (constant S_ .f32 0xFF800000#32) reducesTo_S16x8192x8192_S16x8192_d2 h_S_

/-- A row's value at every key. -/
def kRow (l : FVec Ideal S16x8192 .f32) : FVec Ideal S16x8192x8192 .f32 :=
  broadcastInDim S16x8192x8192 ![0, 1, 2] bcast_S16x8192x1_S16x8192x8192_0_1_2
    (broadcastInDim S16x8192x1 ![0, 1] bcast_S16x8192_S16x8192x1_0_1 l)

/-- The exponentials of the logits less a row's maximum. -/
def kE (x : FVec Ideal S16x8192x8192 .f32) (m : FVec Ideal S16x8192 .f32) : FVec Ideal S16x8192x8192 .f32 :=
  Host.exp (subf x (kRow m))

/-- The rows' sums of exponentials. -/
def kL (e : FVec Ideal S16x8192x8192 .f32) : FVec Ideal S16x8192 .f32 :=
  Host.reduceAdd e (constant S_ .f32 0x00000000#32) reducesTo_S16x8192x8192_S16x8192_d2 h_S_

/-- The attention's output. -/
def kO (e : FVec Ideal S16x8192x8192 .f32) (l : FVec Ideal S16x8192 .f32) (v : FVec Ideal S8192x2048 .bf16) :
    FVec Ideal S8192x16x128 .f32 :=
  transpose S8192x16x128 [2, 0, 1] (Host.dotGeneral dot_S8192x16x128_S16x8192x8192_S16x128x8192_0_2_2_1_1_0 none (kHead v)
    (Host.divf e (kRow l))) transposes_S16x128x8192_S8192x16x128_2_0_1

/-- The rows' logarithms, less the decay, in the base of two. -/
def kLse (m l c : FVec Ideal S16x8192 .f32) : FVec Ideal S16x8192 .f32 :=
  Host.divf (subf (addf m (Host.log l)) c)
    (broadcastInDim S16x8192 ![] bcast_S_S16x8192 (Host.log (constant S_ .f32 0x40000000#32)))

/-- The rows' sums of the output's gradient times the output. -/
def kDel (g : FVec Ideal S8192x2048 .bf16) (o : FVec Ideal S8192x16x128 .f32) : FVec Ideal S8192x16 .f32 :=
  Host.reduceAdd (mulf (kHead g) o) (constant S_ .f32 0x00000000#32) reducesTo_S8192x16x128_S8192x16_d2 h_S_

/-- A number of each row and head, at each of the head's columns. -/
def kWide (x : FVec Ideal S8192x16 .f32) : FVec Ideal S8192x2048 .f32 :=
  shapeCast S8192x2048 (broadcastInDim S8192x16x128 ![0, 1, 2] bcast_S8192x16x1_S8192x16x128_0_1_2
    (broadcastInDim S8192x16x1 ![0, 1] bcast_S8192x16_S8192x16x1_0_1 x)) shapeCasts_S8192x16x128_S8192x2048

/-- The first, by row and then head. -/
def kTurn (x : FVec Ideal S16x8192 .f32) : FVec Ideal S8192x16 .f32 :=
  transpose S8192x16 [1, 0] x transposes_S16x8192_S8192x16_1_0

section

variable (m : (ℓ : Loc nD τ sig) → Buf (Elt Ideal) ℓ) (c : Dev nD)

/-- The masked logits as the arguments give them. -/
def kuX : FVec Ideal S16x8192x8192 .f32 :=
  kX (m ((c.tc : Thread nD τ).loc main_arg0)) (m ((c.tc : Thread nD τ).loc main_arg1)) (m ((c.tc : Thread nD τ).loc main_arg4))

/-- The exponentials as the arguments give them. -/
def kuE : FVec Ideal S16x8192x8192 .f32 := kE (kuX m c) (kM (kuX m c))

/-- What the host hands the call for the decay, -/
theorem host_c : V0 m c main_v48 = broadcastInDim S16x1x8192 ![0, 2] bcast_S16x8192_S16x1x8192_0_2 (m ((c.tc : Thread nD τ).loc main_arg4) : FVec Ideal S16x8192 .f32) := by
  unfold V0
  after_reads_simp

/-- for the rows' logarithms, -/
theorem host_lse : V0 m c main_v44 = kWide (kTurn (kLse (kM (kuX m c)) (kL (kuE m c)) (m ((c.tc : Thread nD τ).loc main_arg4)))) := by
  unfold V0
  after_reads_simp
  rfl

/-- and for the rows' corrections. -/
theorem host_del : V0 m c main_v47 = kWide (kDel (m ((c.tc : Thread nD τ).loc main_arg3)) (kO (kuE m c) (kL (kuE m c)) (m ((c.tc : Thread nD τ).loc main_arg2)))) := by
  unfold V0
  after_reads_simp
  rfl

end

end Cert.KernelIdeal

end
-- ==== Proof.Host.lean ====
/- What the host hands the call, read at an index over real arguments. -/
module

public import proofs.«01_k».proof.Proof.HostTerm
public import proofs.«01_k».proof.Proof.Gather

@[expose] public section

set_option maxRecDepth 16384

noncomputable section

namespace Cert.KernelIdeal

open Idealize.ShloMosaic Idealize.ShloMosaic.TcCoe
open Idealize.ShloMosaic.VecWindow (window put)
open Cert.KernelIdeal.Gen Cert.Fox Cert.Attn

variable {A : Arg} {q k v g : FVec Ideal S8192x2048 .bf16} {c : FVec Ideal S16x8192 .f32}

/-- The masked logits. -/
theorem kX_at (hq : ∀ (t : Fin 8192) (e : Fin 2048), q (ix2 t e) = ((A.q t e : ℝ) : EReal))
    (hk : ∀ (t : Fin 8192) (e : Fin 2048), k (ix2 t e) = ((A.k t e : ℝ) : EReal))
    (hc : ∀ (h : Fin 16) (t : Fin 8192), c (ix2 h t) = ((A.c h t : ℝ) : EReal)) (h : Fin 16) (t s : Fin 8192) :
    kX q k c (ix3 h t s) = if s.val ≤ t.val then ((lg A h t s : ℝ) : EReal) else ⊥ := by
  pointwise [kX, kHead, hq, hk, hc, ofBits_sg, ofBits_bot]
  rw [sle_word s.isLt t.isLt]
  simp only [lg, att, EReal.coe_add, EReal.coe_sub, EReal.coe_mul, coe_sum]

/-- A row's maximum. -/
theorem kM_at {x : FVec Ideal S16x8192x8192 .f32} (h : Fin 16) (t : Fin 8192) :
    kM x (ix2 h t) = Finset.univ.fold max ⊥ fun s => x (ix3 h t s) := by
  pointwise [kM, ofBits_bot]

/-- A row's maximum is real: its diagonal entry is. -/
theorem kM_real {x : FVec Ideal S16x8192x8192 .f32}
    (hx : ∀ (h : Fin 16) (t s : Fin 8192), x (ix3 h t s) = if s.val ≤ t.val then ((lg A h t s : ℝ) : EReal) else ⊥) :
    ∃ M : ℕ → ℕ → ℝ, ∀ (h : Fin 16) (t : Fin 8192), kM x (ix2 h t) = ((M h t : ℝ) : EReal) := by
  have : ∀ (h : Fin 16) (t : Fin 8192), ∃ M : ℝ, kM x (ix2 h t) = (M : EReal) := fun h t => by
    rw [kM_at]
    refine fold_max_real _ (fun s => ?_) t ?_
    · rw [hx]; split <;> simp
    · rw [hx, if_pos le_rfl]; simp
  choose M hM using this
  refine ⟨fun h t => if hh : h < 16 then if ht : t < 8192 then M ⟨h, hh⟩ ⟨t, ht⟩ else 0 else 0, fun h t => ?_⟩
  rw [hM]
  simp only [h.isLt, t.isLt, dif_pos]

/-- The exponentials: those of the logits, over that of the row's maximum. -/
theorem kE_at {x : FVec Ideal S16x8192x8192 .f32} {m : FVec Ideal S16x8192 .f32} {M : ℕ → ℕ → ℝ}
    (hx : ∀ (h : Fin 16) (t s : Fin 8192), x (ix3 h t s) = if s.val ≤ t.val then ((lg A h t s : ℝ) : EReal) else ⊥)
    (hm : ∀ (h : Fin 16) (t : Fin 8192), m (ix2 h t) = ((M h t : ℝ) : EReal)) (h : Fin 16) (t s : Fin 8192) :
    kE x m (ix3 h t s) = ((wt A h t s * Real.exp (-M h t) : ℝ) : EReal) := by
  pointwise [kE, kRow, hm]
  rw [hx, wt]
  by_cases hs : s.val ≤ t.val
  · rw [if_pos hs, if_pos hs, ← EReal.coe_sub, Ideal.exp_coe, ← Real.exp_add, sub_eq_add_neg]
  · rw [if_neg hs, if_neg hs, EReal.bot_sub, Ideal.exp_bot, zero_mul]; rfl

/-- The rows' sums. -/
theorem kL_at {x : FVec Ideal S16x8192x8192 .f32} {κ : ℕ → ℕ → ℝ}
    (hx : ∀ (h : Fin 16) (t s : Fin 8192), x (ix3 h t s) = ((wt A h t s * κ h t : ℝ) : EReal)) (h : Fin 16) (t : Fin 8192) :
    kL x (ix2 h t) = ((Z A h t * κ h t : ℝ) : EReal) := by
  pointwise [kL, hx]
  rw [← coe_sum, ← Finset.sum_mul, Z]

/-- The attention's output. -/
theorem kO_at {e : FVec Ideal S16x8192x8192 .f32} {l : FVec Ideal S16x8192 .f32} {κ : ℕ → ℕ → ℝ}
    (hκ : ∀ (h : Fin 16) (t : Fin 8192), 0 < κ h t)
    (he : ∀ (h : Fin 16) (t s : Fin 8192), e (ix3 h t s) = ((wt A h t s * κ h t : ℝ) : EReal))
    (hl : ∀ (h : Fin 16) (t : Fin 8192), l (ix2 h t) = ((Z A h t * κ h t : ℝ) : EReal))
    (hv : ∀ (t : Fin 8192) (e : Fin 2048), v (ix2 t e) = ((A.v t e : ℝ) : EReal)) (t : Fin 8192) (h : Fin 16) (d : Fin 128) :
    kO e l v (ix3 t h d) = ((∑ s : Fin 8192, A.v s (h * 128 + d) * P A h t s : ℝ) : EReal) := by
  have hz := (Z_pos A h t).ne'
  have hk := (hκ h t).ne'
  pointwise [kO, kHead, kRow, he, hl, hv]
  rw [coe_sum]
  refine Finset.sum_congr rfl fun s _ => ?_
  rw [Ideal.div_coe (by positivity)]
  simp only [← EReal.coe_mul]
  refine congrArg _ ?_
  rw [P]
  field_simp

/-- A row's logarithm. -/
theorem kLse_at {m l : FVec Ideal S16x8192 .f32} {M : ℕ → ℕ → ℝ}
    (hm : ∀ (h : Fin 16) (t : Fin 8192), m (ix2 h t) = ((M h t : ℝ) : EReal))
    (hl : ∀ (h : Fin 16) (t : Fin 8192), l (ix2 h t) = ((Z A h t * Real.exp (-M h t) : ℝ) : EReal))
    (hc : ∀ (h : Fin 16) (t : Fin 8192), c (ix2 h t) = ((A.c h t : ℝ) : EReal)) (h : Fin 16) (t : Fin 8192) :
    kLse m l c (ix2 h t) = ((lse A h t : ℝ) : EReal) := by
  have hz := Z_pos A h t
  have h2 : Real.log 2 ≠ 0 := (Real.log_pos one_lt_two).ne'
  have hp : ¬ Z A h t * Real.exp (-M h t) ≤ 0 := not_le.mpr (by positivity)
  pointwise [kLse, hm, hl, hc, ofBits_two]
  rw [Ideal.log_coe, Ideal.log_coe, if_neg hp, if_neg (by norm_num), Ideal.div_coe h2]
  simp only [← EReal.coe_mul, ← EReal.coe_add, ← EReal.coe_sub]
  refine congrArg _ ?_
  rw [lse, Real.log_mul hz.ne' (Real.exp_pos _).ne', Real.log_exp, one_div]
  ring

/-- A row's correction. -/
theorem kDel_at {o : FVec Ideal S8192x16x128 .f32}
    (hg : ∀ (t : Fin 8192) (e : Fin 2048), g (ix2 t e) = ((A.g t e : ℝ) : EReal))
    (ho : ∀ (t : Fin 8192) (h : Fin 16) (d : Fin 128), o (ix3 t h d) = ((∑ s : Fin 8192, A.v s (h * 128 + d) * P A h t s : ℝ) : EReal))
    (t : Fin 8192) (h : Fin 16) : kDel g o (ix2 t h) = ((del A h t : ℝ) : EReal) := by
  pointwise [kDel, kHead, hg, ho]
  simp only [← EReal.coe_mul, ← coe_sum]
  refine congrArg _ ?_
  simp only [del, dP, Finset.mul_sum]
  rw [Finset.sum_comm]
  refine Finset.sum_congr rfl fun s _ => Finset.sum_congr rfl fun d _ => ?_
  ring

/-- A number of each row and head at a head's column. -/
theorem kWide_at {x : FVec Ideal S8192x16 .f32} {f : ℕ → ℕ → ℝ} (hx : ∀ (t : Fin 8192) (h : Fin 16), x (ix2 t h) = ((f h t : ℝ) : EReal))
    (t : Fin 8192) (e : Fin 2048) : kWide x (ix2 t e) = ((f (e / 128) t : ℝ) : EReal) := by
  pointwise [kWide, hx]

/-- The same by row and then head. -/
theorem kTurn_at {x : FVec Ideal S16x8192 .f32} {f : ℕ → ℕ → ℝ} (hx : ∀ (h : Fin 16) (t : Fin 8192), x (ix2 h t) = ((f h t : ℝ) : EReal))
    (t : Fin 8192) (h : Fin 16) : kTurn x (ix2 t h) = ((f h t : ℝ) : EReal) := by
  pointwise [kTurn, hx]

/-- A core's arguments hold these reals. -/
structure ArgAt (A : Arg) (m : (ℓ : Loc nD τ sig) → Buf (Elt Ideal) ℓ) (c : Dev nD) : Prop where
  q : ∀ (t : Fin 8192) (e : Fin 2048), (m ((c.tc : Thread nD τ).loc main_arg0) : FVec Ideal S8192x2048 .bf16) (ix2 t e) = ((A.q t e : ℝ) : EReal)
  k : ∀ (t : Fin 8192) (e : Fin 2048), (m ((c.tc : Thread nD τ).loc main_arg1) : FVec Ideal S8192x2048 .bf16) (ix2 t e) = ((A.k t e : ℝ) : EReal)
  v : ∀ (t : Fin 8192) (e : Fin 2048), (m ((c.tc : Thread nD τ).loc main_arg2) : FVec Ideal S8192x2048 .bf16) (ix2 t e) = ((A.v t e : ℝ) : EReal)
  g : ∀ (t : Fin 8192) (e : Fin 2048), (m ((c.tc : Thread nD τ).loc main_arg3) : FVec Ideal S8192x2048 .bf16) (ix2 t e) = ((A.g t e : ℝ) : EReal)
  c : ∀ (h : Fin 16) (t : Fin 8192), (m ((c.tc : Thread nD τ).loc main_arg4) : FVec Ideal S16x8192 .f32) (ix2 h t) = ((A.c h t : ℝ) : EReal)

section

variable {m : (ℓ : Loc nD τ sig) → Buf (Elt Ideal) ℓ} {c : Dev nD} (hA : ArgAt A m c)

include hA

/-- The rows' logarithms. -/
theorem lse_at (t : Fin 8192) (e : Fin 2048) : (V0 m c main_v44 : FVec Ideal S8192x2048 .f32) (ix2 t e) = ((lse A (e / 128) t : ℝ) : EReal) := by
  have hx := kX_at hA.q hA.k hA.c
  obtain ⟨M, hM⟩ := kM_real hx
  rw [host_lse]
  exact kWide_at (f := lse A) (kTurn_at (kLse_at hM (kL_at (κ := fun h t => Real.exp (-M h t)) (kE_at hx hM)) hA.c)) t e

/-- The rows' corrections. -/
theorem del_at (t : Fin 8192) (e : Fin 2048) : (V0 m c main_v47 : FVec Ideal S8192x2048 .f32) (ix2 t e) = ((del A (e / 128) t : ℝ) : EReal) := by
  have hx := kX_at hA.q hA.k hA.c
  obtain ⟨M, hM⟩ := kM_real hx
  rw [host_del]
  have he := kE_at hx hM
  exact kWide_at (f := del A) (kDel_at hA.g (kO_at (κ := fun h t => Real.exp (-M h t)) (fun _ _ => Real.exp_pos _) he
    (kL_at (κ := fun h t => Real.exp (-M h t)) he) hA.v)) t e

/-- The decay. -/
theorem dec_at (h : Fin 16) (t : Fin 8192) : (V0 m c main_v48 : FVec Ideal S16x1x8192 .f32) (ix3 h 0 t) = ((A.c h t : ℝ) : EReal) := by
  have hc := hA.c
  rw [host_c]
  generalize (m ((c.tc : Thread nD τ).loc main_arg4) : FVec Ideal S16x8192 .f32) = x at hc ⊢
  pointwise [hc]

omit hA in
/-- A tile of a matrix. -/
theorem tile_at {x : S8192x2048.Idx → EReal} {f : ℕ → ℕ → ℝ} (hx : ∀ (t : Fin 8192) (e : Fin 2048), x (ix2 t e) = ((f t e : ℝ) : EReal))
    {a b : ℕ} (ha : a < 16) (hb : b < 4) (r e : Fin 512) : tile x a b ha hb (ix2 r e) = ((f (a * 512 + r) (b * 512 + e) : ℝ) : EReal) := by
  refine Eq.trans (congrArg x ?_) (hx ⟨a * 512 + r, by omega⟩ ⟨b * 512 + e, by omega⟩)
  funext i
  refine Fin.cases ?_ (fun i => ?_) i
  · exact Fin.ext (by show a * 512 + 1 * r.val = _; simp)
  · obtain rfl : i = 0 := Subsingleton.elim _ _
    exact Fin.ext (by show b * 512 + 1 * e.val = _; simp)

omit hA in
/-- A tile of the heads' rows. -/
theorem tileRow_at {x : S16x1x8192.Idx → EReal} {f : ℕ → ℕ → ℝ} (hx : ∀ (h : Fin 16) (t : Fin 8192), x (ix3 h 0 t) = ((f h t : ℝ) : EReal))
    {a b : ℕ} (ha : a < 16) (hb : b < 4) (h : Fin 4) (s : Fin 512) : tileRow x a b ha hb (ix3 h 0 s) = ((f (b * 4 + h) (a * 512 + s) : ℝ) : EReal) := by
  refine Eq.trans (congrArg x ?_) (hx ⟨b * 4 + h, by omega⟩ ⟨a * 512 + s, by omega⟩)
  funext i
  refine Fin.cases ?_ (fun i => Fin.cases ?_ (fun i => ?_) i) i
  · exact Fin.ext (by show b * 4 + 1 * h.val = _; simp)
  · exact Fin.ext (by show 0 * 1 + 1 * 0 = 0; simp)
  · obtain rfl : i = 0 := Subsingleton.elim _ _
    exact Fin.ext (by show a * 512 + 1 * s.val = _; simp)

/-- The queries as the call finds them. -/
theorem q_at (t : Fin 8192) (e : Fin 2048) : (V0 m c main_arg0 : FVec Ideal S8192x2048 .bf16) (ix2 t e) = ((A.q t e : ℝ) : EReal) := by
  obtain ⟨n0, n1, n2, n3, n4⟩ := not_written
  rw [V0_kept m c main_arg0 n0]
  exact hA.q t e

/-- The keys as the call finds them. -/
theorem k_at (t : Fin 8192) (e : Fin 2048) : (V0 m c main_arg1 : FVec Ideal S8192x2048 .bf16) (ix2 t e) = ((A.k t e : ℝ) : EReal) := by
  obtain ⟨n0, n1, n2, n3, n4⟩ := not_written
  rw [V0_kept m c main_arg1 n1]
  exact hA.k t e

/-- The values as the call finds them. -/
theorem v_at (t : Fin 8192) (e : Fin 2048) : (V0 m c main_arg2 : FVec Ideal S8192x2048 .bf16) (ix2 t e) = ((A.v t e : ℝ) : EReal) := by
  obtain ⟨n0, n1, n2, n3, n4⟩ := not_written
  rw [V0_kept m c main_arg2 n2]
  exact hA.v t e

/-- The output's gradient as the call finds them. -/
theorem g_at (t : Fin 8192) (e : Fin 2048) : (V0 m c main_arg3 : FVec Ideal S8192x2048 .bf16) (ix2 t e) = ((A.g t e : ℝ) : EReal) := by
  obtain ⟨n0, n1, n2, n3, n4⟩ := not_written
  rw [V0_kept m c main_arg3 n3]
  exact hA.g t e

omit hA in
/-- The blocks the call reads at a point hold the reals its arrays hold. -/
theorem ins_of {V : Vals Ideal}
    (hq : ∀ (t : Fin 8192) (e : Fin 2048), (V c main_arg0 : FVec Ideal S8192x2048 .bf16) (ix2 t e) = ((A.q t e : ℝ) : EReal))
    (hk : ∀ (t : Fin 8192) (e : Fin 2048), (V c main_arg1 : FVec Ideal S8192x2048 .bf16) (ix2 t e) = ((A.k t e : ℝ) : EReal))
    (hv : ∀ (t : Fin 8192) (e : Fin 2048), (V c main_arg2 : FVec Ideal S8192x2048 .bf16) (ix2 t e) = ((A.v t e : ℝ) : EReal))
    (hg : ∀ (t : Fin 8192) (e : Fin 2048), (V c main_arg3 : FVec Ideal S8192x2048 .bf16) (ix2 t e) = ((A.g t e : ℝ) : EReal))
    (hl : ∀ (t : Fin 8192) (e : Fin 2048), (V c main_v44 : FVec Ideal S8192x2048 .f32) (ix2 t e) = ((lse A (e / 128) t : ℝ) : EReal))
    (hd : ∀ (t : Fin 8192) (e : Fin 2048), (V c main_v47 : FVec Ideal S8192x2048 .f32) (ix2 t e) = ((del A (e / 128) t : ℝ) : EReal))
    (hc : ∀ (h : Fin 16) (t : Fin 8192), (V c main_v48 : FVec Ideal S16x1x8192 .f32) (ix3 h 0 t) = ((A.c h t : ℝ) : EReal))
    (i : grid0.Coords) : InsAt A (i 0).val (lit0 (place i)).toNat (lit1 (place i)).toNat (ins V c i) where
  q := tile_at (f := A.q) hq (ix_zero i) (i 0).isLt
  k := tile_at (f := A.k) hk (ix_one i) (i 0).isLt
  v := tile_at (f := A.v) hv (ix_one i) (i 0).isLt
  g := tile_at (f := A.g) hg (ix_zero i) (i 0).isLt
  lse := tile_at (f := fun t e => lse A (e / 128) t) hl (ix_zero i) (i 0).isLt
  dl := tile_at (f := fun t e => del A (e / 128) t) hd (ix_zero i) (i 0).isLt
  cr := tileRow_at (f := A.c) hc (ix_one i) (i 0).isLt

/-- The blocks the call reads at a point hold the arguments' reals. -/
theorem ins_at (i : grid0.Coords) : InsAt A (i 0).val (lit0 (place i)).toNat (lit1 (place i)).toNat (ins (V0 m) c i) :=
  ins_of (q_at hA) (k_at hA) (v_at hA) (g_at hA) (lse_at hA) (del_at hA) (dec_at hA) i

/-- So at every place of the tables in a group of heads. -/
theorem ins_pt (b : Fin 4) (p : Fin 136) : InsAt A b (lit0 p).toNat (lit1 p).toNat (ins (V0 m) c (grid0.coords (pt b p))) := by
  have h := ins_at hA (grid0.coords (pt b p))
  rwa [pt_zero, pt_place] at h

end

end Cert.KernelIdeal

end
-- ==== Proof.Value.lean ====
/- From real arguments the call's results and the reference's are the same gradients. -/
module

public import proofs.«01_k».proof.Defs
public import proofs.«01_k».proof.Proof.Arrays
public import proofs.«01_k».proof.Proof.Host
public import proofs.«01_k».proof.Proof.Ref
public import proofs.«01_k».proof.Proof.KI.Launch
public import proofs.«01_k».proof.Proof.Gen.ReferenceIdeal.Run
public import Idealize.ShloMosaic.Lib.Pointwise

@[expose] public section

set_option maxRecDepth 16384

noncomputable section

namespace Cert.Proof

open Idealize.ShloMosaic Idealize.SL.Sem
open Idealize.ShloMosaic.Pipeline (RDat Dat)
open Cert.Attn

/-! ## Real arguments -/

/-- The shapes of the precondition's broadcasts. -/
theorem pre_facts : Cert.Pre_finite.Facts where
  bitsLt_bf16_f32 := by decide
  bcast_S_S8192x2048 := by decide
  bcast_S_S16x8192 := by decide

/-- A number whose size is below infinity is real. -/
theorem real_of_lt {x : EReal} (h : BitVec.ofBool (decide (FloatOps.absf (F := Ideal) (φ := .f32) x < (⊤ : EReal))) = 1#1) :
    x = ((x.toReal : ℝ) : EReal) := by
  have h : max x (-x) < ⊤ := by
    by_contra hn
    have hn : ¬ (FloatOps.absf (F := Ideal) (φ := .f32) x < (⊤ : EReal)) := hn
    rw [decide_eq_false hn] at h
    exact absurd h (by decide)
  refine (EReal.coe_toReal ?_ ?_).symm
  · rintro rfl; simp at h
  · rintro rfl; simp at h

section

variable [Cert.Pre_finite.Facts]
  (q k v g : FVec Ideal Cert.Pre_finite.S8192x2048 .bf16) (c : FVec Ideal Cert.Pre_finite.S16x8192 .f32)

/-- Under the precondition the queries are real, -/
theorem pre_q (H : (Cert.Pre_finite.fn (F := Ideal) q k v g c).1 = fun _ => 1#1) (t : Fin 8192) (e : Fin 2048) :
    q (ix2 t e) = (((q (ix2 t e)).toReal : ℝ) : EReal) := by
  have := congrFun H (ix2 t e)
  revert this
  pointwise [Cert.Pre_finite.fn, ofBits_top]
  exact real_of_lt

/-- the keys, -/
theorem pre_k (H : (Cert.Pre_finite.fn (F := Ideal) q k v g c).2.1 = fun _ => 1#1) (t : Fin 8192) (e : Fin 2048) :
    k (ix2 t e) = (((k (ix2 t e)).toReal : ℝ) : EReal) := by
  have := congrFun H (ix2 t e)
  revert this
  pointwise [Cert.Pre_finite.fn, ofBits_top]
  exact real_of_lt

/-- the values, -/
theorem pre_v (H : (Cert.Pre_finite.fn (F := Ideal) q k v g c).2.2.1 = fun _ => 1#1) (t : Fin 8192) (e : Fin 2048) :
    v (ix2 t e) = (((v (ix2 t e)).toReal : ℝ) : EReal) := by
  have := congrFun H (ix2 t e)
  revert this
  pointwise [Cert.Pre_finite.fn, ofBits_top]
  exact real_of_lt

/-- the gradient of the result -/
theorem pre_g (H : (Cert.Pre_finite.fn (F := Ideal) q k v g c).2.2.2.1 = fun _ => 1#1) (t : Fin 8192) (e : Fin 2048) :
    g (ix2 t e) = (((g (ix2 t e)).toReal : ℝ) : EReal) := by
  have := congrFun H (ix2 t e)
  revert this
  pointwise [Cert.Pre_finite.fn, ofBits_top]
  exact real_of_lt

/-- and the decay's running sum. -/
theorem pre_c (H : (Cert.Pre_finite.fn (F := Ideal) q k v g c).2.2.2.2 = fun _ => 1#1) (h : Fin 16) (t : Fin 8192) :
    c (ix2 h t) = (((c (ix2 h t)).toReal : ℝ) : EReal) := by
  have := congrFun H (ix2 h t)
  revert this
  pointwise [Cert.Pre_finite.fn, ofBits_top]
  exact real_of_lt

end

/-- A matrix's reals, zero outside it. -/
def reals {n k : ℕ} (x : (⟨2, ![n, k]⟩ : Shape).Idx → EReal) (i j : ℕ) : ℝ :=
  if h : i < n ∧ j < k then (x (ix2 ⟨i, h.1⟩ ⟨j, h.2⟩)).toReal else 0

theorem reals_at {n k : ℕ} {x : (⟨2, ![n, k]⟩ : Shape).Idx → EReal}
    (h : ∀ (i : Fin n) (j : Fin k), x (ix2 i j) = (((x (ix2 i j)).toReal : ℝ) : EReal)) (i : Fin n) (j : Fin k) :
    x (ix2 i j) = ((reals x i j : ℝ) : EReal) := by
  rw [reals, dif_pos ⟨i.isLt, j.isLt⟩]; exact h i j

section

variable [Cert.Pre_finite.Facts] (m : (ℓ : Loc Cert.KernelIdeal.nD Cert.KernelIdeal.τ Cert.KernelIdeal.sig) → Buf (Elt Ideal) ℓ)

/-- The reals that a core's arguments hold. -/
def args (c : Dev Cert.KernelIdeal.nD) : Arg where
  q := reals (n := 8192) (k := 2048) (m ((c.tc : Thread Cert.KernelIdeal.nD Cert.KernelIdeal.τ).loc Cert.KernelIdeal.main_arg0))
  k := reals (n := 8192) (k := 2048) (m ((c.tc : Thread Cert.KernelIdeal.nD Cert.KernelIdeal.τ).loc Cert.KernelIdeal.main_arg1))
  v := reals (n := 8192) (k := 2048) (m ((c.tc : Thread Cert.KernelIdeal.nD Cert.KernelIdeal.τ).loc Cert.KernelIdeal.main_arg2))
  g := reals (n := 8192) (k := 2048) (m ((c.tc : Thread Cert.KernelIdeal.nD Cert.KernelIdeal.τ).loc Cert.KernelIdeal.main_arg3))
  c := reals (n := 16) (k := 8192) (m ((c.tc : Thread Cert.KernelIdeal.nD Cert.KernelIdeal.τ).loc Cert.KernelIdeal.main_arg4))

/-- Under the precondition the arguments hold these reals. -/
theorem args_at (H : Cert.Pre_KernelIdeal_finite m) (c : Dev Cert.KernelIdeal.nD) : Cert.KernelIdeal.ArgAt (args m c) m c where
  q := reals_at (pre_q _ _ _ _ _ (H c).1)
  k := reals_at (pre_k _ _ _ _ _ (H c).2.1)
  v := reals_at (pre_v _ _ _ _ _ (H c).2.2.1)
  g := reals_at (pre_g _ _ _ _ _ (H c).2.2.2.1)
  c := reals_at (pre_c _ _ _ _ _ (H c).2.2.2.2)

end

end Cert.Proof

/-! ## The call's results -/

namespace Cert.KernelIdeal

open Idealize.ShloMosaic Idealize.SL.Sem
open Idealize.ShloMosaic.Pipeline (RDat Dat)
open Cert.KernelIdeal.Gen Cert.Fox Cert.Attn

/-- After the run the four results are the gradients. -/
theorem results {A : Arg} {m : (ℓ : Loc nD τ sig) → Buf (Elt Ideal) ℓ} {c : Dev nD} (hA : ArgAt A m c)
    {r : PUnit × MemSt nD τ sig (Elt Ideal)} (h : RDat.FramePost (cfgA Ideal) (rdat (V0 m)) (V0 m) r) :
    (∀ i : S8192x2048.Idx, (r.2.mem ((c.tc : Thread nD τ).loc main_v49_0) : FVec Ideal S8192x2048 .f32) i = ((dq A (i 0).val (i 1).val : ℝ) : EReal))
      ∧ (∀ i : S8192x2048.Idx, (r.2.mem ((c.tc : Thread nD τ).loc main_v49_1) : FVec Ideal S8192x2048 .f32) i = ((dk A (i 0).val (i 1).val : ℝ) : EReal))
      ∧ (∀ i : S8192x2048.Idx, (r.2.mem ((c.tc : Thread nD τ).loc main_v49_2) : FVec Ideal S8192x2048 .f32) i = ((dv A (i 0).val (i 1).val : ℝ) : EReal))
      ∧ ∀ i : S16x1x8192.Idx, (r.2.mem ((c.tc : Thread nD τ).loc main_v49_3) : FVec Ideal S16x1x8192 .f32) i = ((dc A (i 0).val (i 2).val : ℝ) : EReal) := by
  obtain ⟨after, hL, hM⟩ := h.exists_exact c
  exact ⟨fun i => (congrFun (hM 7) i).trans (arr7 (ins_pt hA) (hL 7) i), fun i => (congrFun (hM 8) i).trans (arr8 (ins_pt hA) (hL 8) i),
    fun i => (congrFun (hM 9) i).trans (arr9 (ins_pt hA) (hL 9) i), fun i => (congrFun (hM 10) i).trans (arr10 (ins_pt hA) (hL 10) i)⟩

end Cert.KernelIdeal

/-! ## The reference's results -/

namespace Cert.ReferenceIdeal

open Idealize.ShloMosaic Idealize.SL.Sem
open Cert.Attn

/-- The reference's four results are the gradients. -/
theorem results {A : Arg} {m : (ℓ : Loc nD τ sig) → Buf (Elt Ideal) ℓ} {c : Dev nD}
    (hq : ∀ (t : Fin 8192) (e : Fin 2048), (m ((c.tc : Thread nD τ).loc main_arg0) : FVec Ideal S8192x2048 .bf16) (ix2 t e) = ((A.q t e : ℝ) : EReal))
    (hk : ∀ (t : Fin 8192) (e : Fin 2048), (m ((c.tc : Thread nD τ).loc main_arg1) : FVec Ideal S8192x2048 .bf16) (ix2 t e) = ((A.k t e : ℝ) : EReal))
    (hv : ∀ (t : Fin 8192) (e : Fin 2048), (m ((c.tc : Thread nD τ).loc main_arg2) : FVec Ideal S8192x2048 .bf16) (ix2 t e) = ((A.v t e : ℝ) : EReal))
    (hg : ∀ (t : Fin 8192) (e : Fin 2048), (m ((c.tc : Thread nD τ).loc main_arg3) : FVec Ideal S8192x2048 .bf16) (ix2 t e) = ((A.g t e : ℝ) : EReal))
    (hc : ∀ (h : Fin 16) (t : Fin 8192), (m ((c.tc : Thread nD τ).loc main_arg4) : FVec Ideal S16x8192 .f32) (ix2 h t) = ((A.c h t : ℝ) : EReal)) :
    (∀ i : S8192x2048.Idx, (Value.res_main_v93 m c : FVec Ideal S8192x2048 .f32) i = ((dq A (i 0).val (i 1).val : ℝ) : EReal))
      ∧ (∀ i : S8192x2048.Idx, (Value.res_main_v94 m c : FVec Ideal S8192x2048 .f32) i = ((dk A (i 0).val (i 1).val : ℝ) : EReal))
      ∧ (∀ i : S8192x2048.Idx, (Value.res_main_v95 m c : FVec Ideal S8192x2048 .f32) i = ((dv A (i 0).val (i 1).val : ℝ) : EReal))
      ∧ ∀ i : S16x1x8192.Idx, (Value.res_main_v96 m c : FVec Ideal S16x1x8192 .f32) i = ((dc A (i 0).val (i 2).val : ℝ) : EReal) := by
  have hd := uDs_at hq hk hv hg hc
  obtain ⟨κ, hκ, he⟩ := uE_at hq hk hc
  refine ⟨fun i => ?_, fun i => ?_, fun i => ?_, fun i => ?_⟩
  · rw [res0]; idx_vars i; exact tDq_at hd hk _ _
  · rw [res1]; idx_vars i; exact tDk_at hd hq _ _
  · rw [res2]; idx_vars i; exact tDv_at hκ he (tL_at he) hg _ _
  · rw [res3]
    obtain ⟨h, s, rfl⟩ : ∃ (h : Fin 16) (s : Fin 8192), i = ix3 h 0 s :=
      ⟨i 0, i 2, funext fun x => match x with
        | 0 => rfl
        | 1 => Fin.ext (Nat.lt_one_iff.mp (i 1).isLt)
        | 2 => rfl⟩
    exact tDc_at hd _ _

end Cert.ReferenceIdeal

/-! ## Both -/

namespace Cert.Proof

open Idealize.ShloMosaic Idealize.SL.Sem

/-- From real arguments the two programs end with the same results. -/
theorem same [Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hm hmm
  have hR := fun c => Cert.ReferenceIdeal.results (m := m') (c := c) (A := args m c)
    (fun t e => (congrFun (hmm c).1 _).trans ((args_at m hm c).q t e)) (fun t e => (congrFun (hmm c).2.1 _).trans ((args_at m hm c).k t e))
    (fun t e => (congrFun (hmm c).2.2.1 _).trans ((args_at m hm c).v t e)) (fun t e => (congrFun (hmm c).2.2.2.1 _).trans ((args_at m hm c).g t e))
    (fun h t => (congrFun (hmm c).2.2.2.2 _).trans ((args_at m hm c).c h t))
  refine ⟨fun c => Cert.ReferenceIdeal.Value.res_main_v93 m' c, fun c => Cert.ReferenceIdeal.Value.res_main_v94 m' c,
    fun c => Cert.ReferenceIdeal.Value.res_main_v95 m' c, fun c => Cert.ReferenceIdeal.Value.res_main_v96 m' c,
    (θ_run (Cert.KernelIdeal.defs (F := Ideal)) _ _).mono (fun r h c => ?_) (Cert.KernelIdeal.run_main m g),
    Cert.ReferenceIdeal.Value.run m' g'⟩
  have hK := Cert.KernelIdeal.results (args_at m hm c) h.1
  exact ⟨funext fun i => (hK.1 i).trans ((hR c).1 i).symm, funext fun i => (hK.2.1 i).trans ((hR c).2.1 i).symm,
    funext fun i => (hK.2.2.1 i).trans ((hR c).2.2.1 i).symm, funext fun i => (hK.2.2.2 i).trans ((hR c).2.2.2 i).symm,
    Cert.KernelIdeal.kept_args h.1 c⟩

end Cert.Proof

end
-- ==== Proof.Product.OutU.lean ====
/- The output projection's gradient in its left factor, dx @ w^T: one block a grid point. -/
module

public import proofs.«01_k».proof.Defs
public import proofs.«01_k».proof.Proof.Gen.OutU
public import proofs.«01_k».proof.Proof.Gen.OutU.Frame
public import proofs.«01_k».proof.Proof.Gen.OutUIdeal
public import proofs.«01_k».proof.Proof.Gen.OutUIdeal.Value
public import proofs.«01_k».proof.Proof.Gen.OutURefIdeal
public import proofs.«01_k».proof.Proof.Gen.OutURefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutUIdeal.Value

open Cert.OutUIdeal Cert.OutUIdeal.Gen

variable (m : (ℓ : Loc nD τ sig) → Buf (Elt Ideal) ℓ)

/-- The reference's result, over its two arguments. -/
abbrev ref (X : FVec Ideal S8192x1024 .f32) (W : FVec Ideal S2048x1024 .bf16) : FVec Ideal S8192x2048 .f32 :=
  Host.dotGeneral Cert.OutURefIdeal.dot_S8192x1024_S2048x1024_S8192x2048_1_1_0_0_n_n none X
    (extf .f32 W Cert.OutURefIdeal.Gen.bitsLt_bf16_f32)

/-- Where the windows stand at each grid point. -/
theorem idx : ∀ t : Fin cfg0.N, win0_0.index t = ![t.val, 0] ∧ win0_1.index t = ![0, 0] ∧ win0_2.index t = ![t.val, 0] :=
  (by decide +kernel : ∀ t : Fin grid0.N, _)

/-- One block of the result. -/
theorem point (c : Dev nD) (t : Fin cfg0.N) (y : S1024x2048.Idx) :
    k0_pay1 (F := Ideal) (iblk m c 0 t) (iblk m c 1 t) y
      = ref (m ((c : Thread nD τ).loc main_arg0)) (m ((c : Thread nD τ).loc main_arg1)) (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.OutUIdeal.Value

namespace Cert.Proof

/-- The call and the reference end with the same array. -/
theorem outU : Cert.algebraic_OutUIdeal_OutURefIdeal := by
  pair_intro
  · run_from Cert.OutUIdeal.Value.run_blocks m g
  · run_from Cert.OutURefIdeal.Value.run m' g'
    exact (Cert.OutUIdeal.Value.final m c).symm

end Cert.Proof

end
-- ==== Proof.Product.Sums.lean ====
/- A sum over the columns of a product, cut in steps and each step in a few parts. -/
module

public import Mathlib.Algebra.BigOperators.Fin
public import Idealize.ShloMosaic.Lib.Pipeline.ValueKit

@[expose] public section

namespace Cert.Product

/-- A sum over N = S * T in S steps of T. -/
theorem sum_steps {M : Type*} [AddCommMonoid M] (S T N : ℕ) (hN : S * T = N) (f : Fin N → M) :
    ∑ l, f l = ∑ s : Fin S, ∑ k : Fin T, f ⟨s.val * T + k.val, by have := s.isLt; have := k.isLt; nlinarith⟩ :=
  (Fin.sum_mul_add_fin S T f hN.symm).symm

/-- The factors of every product of a sum change places. -/
theorem sum_swap {n : ℕ} (f g : Fin n → EReal) : ∑ k, f k * g k = ∑ k, g k * f k :=
  Finset.sum_congr rfl fun _ _ => mul_comm _ _

/-- A sum over 2 * K in two halves. -/
theorem sum_two {M : Type*} [AddCommMonoid M] (K N : ℕ) (hN : 2 * K = N) (f : Fin N → M) :
    ∑ l, f l = ∑ k : Fin K, f ⟨k.val, by omega⟩ + ∑ k : Fin K, f ⟨K + k.val, by omega⟩ := by
  subst hN
  rw [sum_steps 2 K _ rfl, Fin.sum_univ_two]
  simp

/-- A sum over 4 * K in four quarters, added from the left. -/
theorem sum_four {M : Type*} [AddCommMonoid M] (K N : ℕ) (hN : 4 * K = N) (f : Fin N → M) :
    ∑ l, f l = ∑ k : Fin K, f ⟨k.val, by omega⟩ + ∑ k : Fin K, f ⟨K + k.val, by omega⟩
      + ∑ k : Fin K, f ⟨2 * K + k.val, by omega⟩ + ∑ k : Fin K, f ⟨3 * K + k.val, by omega⟩ := by
  subst hN
  rw [sum_steps 4 K _ rfl, Fin.sum_univ_four]
  simp

end Cert.Product

end
-- ==== Proof.Product.OutW.lean ====
/- The output projection's gradient in its weight, accumulated over eight steps of 1024 tokens. -/
module

public import proofs.«01_k».proof.Defs
public import proofs.«01_k».proof.Proof.Gen.OutW
public import proofs.«01_k».proof.Proof.Gen.OutW.Frame
public import proofs.«01_k».proof.Proof.Gen.OutWIdeal
public import proofs.«01_k».proof.Proof.Gen.OutWIdeal.Value
public import proofs.«01_k».proof.Proof.Gen.OutWRefIdeal
public import proofs.«01_k».proof.Proof.Gen.OutWRefIdeal.Run
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.OutWIdeal.Value

open Cert.OutWIdeal Cert.OutWIdeal.Gen

variable (m : (ℓ : Loc nD τ sig) → Buf (Elt Ideal) ℓ)

/-- The reference's result, over its two arguments. -/
abbrev ref (X : FVec Ideal S8192x2048 .bf16) (Y : FVec Ideal S8192x1024 .f32) : FVec Ideal S2048x1024 .bf16 :=
  truncf .bf16 (transpose Cert.OutWRefIdeal.S2048x1024 [1, 0] (Host.dotGeneral
    Cert.OutWRefIdeal.dot_S8192x1024_S8192x2048_S1024x2048_0_0_1_1_n_n none Y (extf .f32 X
    Cert.OutWRefIdeal.Gen.bitsLt_bf16_f32)) Cert.OutWRefIdeal.Gen.transposes_S1024x2048_S2048x1024_1_0)
    Cert.OutWRefIdeal.Gen.bitsLt_bf16_f32

/-- Where the windows stand at each grid point. -/
theorem idx : ∀ t : Fin cfg0.N, win0_0.index t = ![t.val, 0] ∧ win0_1.index t = ![t.val, 0] ∧ win0_2.index t = ![0, 0] :=
  (by decide +kernel : ∀ t : Fin grid0.N, _)

/-- The first step stores its product. -/
theorem first_at (x0 : Vec Ideal S1024x2048 .bf16) (x1 : Vec Ideal S1024x1024 .f32) (j : S2048x1024.Idx) :
    k0_pay2 (F := Ideal) x0 x1 j = (0 : EReal) + ∑ k : Fin 1024, x0 (ix2 k (j 0)) * x1 (ix2 k (j 1)) := by
  pointwise [k0_pay2, k0_pay1]

/-- A later step adds its product. -/
theorem later_at (x0 : Vec Ideal S1024x2048 .bf16) (x1 : Vec Ideal S1024x1024 .f32) (acc : Vec Ideal S2048x1024 .f32) (j : S2048x1024.Idx) :
    k0_pay3 (F := Ideal) x0 x1 acc j = acc j + ∑ k : Fin 1024, x0 (ix2 k (j 0)) * x1 (ix2 k (j 1)) := by
  pointwise [k0_pay3, k0_pay1]

/-- The last step writes the accumulator out. -/
theorem out_at (c : Dev nD) (t : Fin cfg0.N) (h : t.val % 8 = 7) (y : S2048x1024.Idx) :
    (outsAt0 m c t.val t.isLt).1 y = (outsAt0 m c t.val t.isLt).2 (y) := by
  have ht : t.val < _ := lt_of_lt_of_eq t.isLt N_0
  rw [outsAt0_C m c t (by omega) (by omega) h]
  frame_out
  pointwise [k0_pay4]

set_option maxHeartbeats 2000000 in
/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf),
    Pipeline.eq_sum_fin_of_reset_step_apply_of_flush (fun n h => (outsAt0 m c n h).2) 8 (fun _ => 0) _
    (fun t h j => by
      have ht : t.val < _ := lt_of_lt_of_eq t.isLt N_0
      rw [outsAt0_A m c t h (by omega) (by omega)]; frame_out; rw [first_at])
    (fun t h j => by
      have ht : t.val < _ := lt_of_lt_of_eq t.isLt N_0
      by_cases h2 : t.val % 8 = 7
      · rw [outsAt0_C m c t h (by omega) h2]; frame_out; rw [later_at, read_unread_whole]
      · rw [outsAt0_B m c t h (by omega) h2]; frame_out; rw [later_at, read_unread_whole])
    t ((flush0_2 t).mp hf) _, zero_add]
  pointwise [ref]
  rw [Cert.Product.sum_steps 8 1024 8192 (by norm_num)]
  refine Fin.sum_fin_congr fun s => (Cert.Product.sum_swap _ _).trans ?_
  blk_point [iblk, V, idx t, idx ⟨_, Pipeline.run_point_lt_of_flush t ((flush0_2 t).mp hf) s⟩]

end Cert.OutWIdeal.Value

namespace Cert.Proof

/-- The call and the reference end with the same array. -/
theorem outW : Cert.algebraic_OutWIdeal_OutWRefIdeal := by
  pair_intro
  · run_from Cert.OutWIdeal.Value.run_blocks m g
  · run_from Cert.OutWRefIdeal.Value.run m' g'
    exact (Cert.OutWIdeal.Value.final m c).symm

end Cert.Proof

end
-- ==== Proof.Product.AInH.lean ====
/- The conformer's input projection: the gradient in its left factor, accumulated over three steps of four products. -/
module

public import proofs.«01_k».proof.Defs
public import proofs.«01_k».proof.Proof.Gen.AInH
public import proofs.«01_k».proof.Proof.Gen.AInH.Frame
public import proofs.«01_k».proof.Proof.Gen.AInHIdeal
public import proofs.«01_k».proof.Proof.Gen.AInHIdeal.Value
public import proofs.«01_k».proof.Proof.Gen.AInHRefIdeal
public import proofs.«01_k».proof.Proof.Gen.AInHRefIdeal.Run
public import Idealize.ShloMosaic.Lib.Claim
public import Idealize.ShloMosaic.Lib.Pointwise
public import Idealize.ShloMosaic.Lib.Pipeline.ValueKit
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.AInHIdeal.Value

open Cert.AInHIdeal Cert.AInHIdeal.Gen

variable (m : (ℓ : Loc nD τ sig) → Buf (Elt Ideal) ℓ)

/-- The reference's result, over its two arguments. -/
abbrev ref (X : FVec Ideal S3x8192x2048 .bf16) (Y : FVec Ideal S4x1024x1536 .bf16) : FVec Ideal S8192x1024 .f32 :=
  Host.dotGeneral Cert.AInHRefIdeal.dot_S8192x6144_S1024x6144_S8192x1024_1_1_0_0_n_n none (shapeCast _ (transpose
    Cert.AInHRefIdeal.S8192x3x2048 [1, 0, 2] (extf .f32 X Cert.AInHRefIdeal.Gen.bitsLt_bf16_f32)
    Cert.AInHRefIdeal.Gen.transposes_S3x8192x2048_S8192x3x2048_1_0_2)
    Cert.AInHRefIdeal.Gen.shapeCasts_S8192x3x2048_S8192x6144) (shapeCast _ (transpose Cert.AInHRefIdeal.S1024x4x1536
    [1, 0, 2] (extf .f32 Y Cert.AInHRefIdeal.Gen.bitsLt_bf16_f32)
    Cert.AInHRefIdeal.Gen.transposes_S4x1024x1536_S1024x4x1536_1_0_2)
    Cert.AInHRefIdeal.Gen.shapeCasts_S1024x4x1536_S1024x6144)

/-- Where the windows stand at each grid point. -/
theorem idx : ∀ t : Fin cfg0.N, win0_0.index t = ![t.val % 3, t.val / 3, 0] ∧ win0_1.index t = ![t.val % 3, t.val / 3, 1] ∧ win0_2.index t = ![t.val % 3, t.val / 3, 2] ∧ win0_3.index t = ![t.val % 3, t.val / 3, 3] ∧ win0_4.index t = ![(4 * (t.val % 3) + 0) / 3, 0, (4 * (t.val % 3) + 0) % 3] ∧ win0_5.index t = ![(4 * (t.val % 3) + 1) / 3, 0, (4 * (t.val % 3) + 1) % 3] ∧ win0_6.index t = ![(4 * (t.val % 3) + 2) / 3, 0, (4 * (t.val % 3) + 2) % 3] ∧ win0_7.index t = ![(4 * (t.val % 3) + 3) / 3, 0, (4 * (t.val % 3) + 3) % 3] ∧ win0_8.index t = ![t.val / 3, 0] :=
  (by decide +kernel : ∀ t : Fin grid0.N, _)

/-- The first step stores its products. -/
theorem first_at (x0 y0 : Vec Ideal S1x1024x512 .bf16) (x1 y1 : Vec Ideal S1x1024x512 .bf16) (x2 y2 : Vec Ideal S1x1024x512 .bf16) (x3 y3 : Vec Ideal S1x1024x512 .bf16) (j : S1024x1024.Idx) :
    k0_pay2 (F := Ideal) x0 y0 x1 y1 x2 y2 x3 y3 j = (0 : EReal)
      + ((∑ k : Fin 512, x0 (ix3 0 (j 0) k) * y0 (ix3 0 (j 1) k)) + (∑ k : Fin 512, x1 (ix3 0 (j 0) k) * y1 (ix3 0 (j 1) k)) + (∑ k : Fin 512, x2 (ix3 0 (j 0) k) * y2 (ix3 0 (j 1) k)) + (∑ k : Fin 512, x3 (ix3 0 (j 0) k) * y3 (ix3 0 (j 1) k))) := by
  pointwise [k0_pay1, k0_pay2]

/-- A later step adds its products. -/
theorem later_at (x0 y0 : Vec Ideal S1x1024x512 .bf16) (x1 y1 : Vec Ideal S1x1024x512 .bf16) (x2 y2 : Vec Ideal S1x1024x512 .bf16) (x3 y3 : Vec Ideal S1x1024x512 .bf16) (acc : Vec Ideal S1024x1024 .f32) (j : S1024x1024.Idx) :
    k0_pay1 (F := Ideal) (k0_pay2 x0 y0 x1 y1 x2 y2 x3 y3) acc j = acc j
      + ((∑ k : Fin 512, x0 (ix3 0 (j 0) k) * y0 (ix3 0 (j 1) k)) + (∑ k : Fin 512, x1 (ix3 0 (j 0) k) * y1 (ix3 0 (j 1) k)) + (∑ k : Fin 512, x2 (ix3 0 (j 0) k) * y2 (ix3 0 (j 1) k)) + (∑ k : Fin 512, x3 (ix3 0 (j 0) k) * y3 (ix3 0 (j 1) k))) := by
  pointwise [k0_pay1, k0_pay2]

/-- The call's result is the reference's. -/
theorem final (c : Dev nD) : (dats m 0 c).arrAt 8 (cfgs 0).N
    = ref (m ((c : Thread nD τ).loc main_arg0)) (m ((c : Thread nD τ).loc main_arg1)) := by
  refine (dats m 0 c).arrAt_eq_of_covers 8 _ (by decide +kernel) fun t hf y => ?_
  blk_simp
  rw [after0_8, Pipeline.eq_sum_fin_of_reset_step_apply_of_flush (fun n h => outsAt0 m c n h) 3 (fun _ => 0) _
    (fun t h j => by rw [outsAt0_A m c t h (by omega)]; frame_out; rw [first_at])
    (fun t h j => by rw [outsAt0_B m c t h (by omega)]; frame_out; rw [later_at])
    t ((flush0_8 t).mp hf) _, zero_add]
  pointwise [ref]
  rw [Cert.Product.sum_steps 3 2048 6144 (by norm_num)]
  refine Fin.sum_fin_congr fun s => ?_
  rw [Cert.Product.sum_four 512 2048 (by norm_num)]
  blk_point [iblk, V, idx t, idx ⟨_, Pipeline.run_point_lt_of_flush t ((flush0_8 t).mp hf) s⟩]

end Cert.AInHIdeal.Value

namespace Cert.Proof

/-- The call and the reference end with the same array. -/
theorem aInH : Cert.algebraic_AInHIdeal_AInHRefIdeal := by
  pair_intro
  · run_from Cert.AInHIdeal.Value.run_blocks m g
  · run_from Cert.AInHRefIdeal.Value.run m' g'
    exact (Cert.AInHIdeal.Value.final m c).symm

end Cert.Proof

end
-- ==== Proof.Product.AInW.lean ====
/- The conformer's input projection: the gradient in its weight, accumulated over four steps of 2048 tokens. -/
module

public import proofs.«01_k».proof.Defs
public import proofs.«01_k».proof.Proof.Gen.AInW
public import proofs.«01_k».proof.Proof.Gen.AInW.Frame
public import proofs.«01_k».proof.Proof.Gen.AInWIdeal
public import proofs.«01_k».proof.Proof.Gen.AInWIdeal.Value
public import proofs.«01_k».proof.Proof.Gen.AInWRefIdeal
public import proofs.«01_k».proof.Proof.Gen.AInWRefIdeal.Run
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.AInWIdeal.Value

open Cert.AInWIdeal Cert.AInWIdeal.Gen

variable (m : (ℓ : Loc nD τ sig) → Buf (Elt Ideal) ℓ)

/-- The reference's result, over its two arguments. -/
abbrev ref (X : FVec Ideal S8192x1024 .bf16) (Y : FVec Ideal S3x8192x2048 .bf16) : FVec Ideal S4x1024x1536 .bf16 :=
  truncf .bf16 (transpose Cert.AInWRefIdeal.S4x1024x1536 [1, 0, 2] (shapeCast _ (transpose
    Cert.AInWRefIdeal.S1024x6144 [1, 0] (Host.dotGeneral
    Cert.AInWRefIdeal.dot_S8192x6144_S8192x1024_S6144x1024_0_0_1_1_n_n none (shapeCast _ (transpose
    Cert.AInWRefIdeal.S8192x3x2048 [1, 0, 2] (extf .f32 Y Cert.AInWRefIdeal.Gen.bitsLt_bf16_f32)
    Cert.AInWRefIdeal.Gen.transposes_S3x8192x2048_S8192x3x2048_1_0_2)
    Cert.AInWRefIdeal.Gen.shapeCasts_S8192x3x2048_S8192x6144) (extf .f32 X Cert.AInWRefIdeal.Gen.bitsLt_bf16_f32))
    Cert.AInWRefIdeal.Gen.transposes_S6144x1024_S1024x6144_1_0)
    Cert.AInWRefIdeal.Gen.shapeCasts_S1024x6144_S1024x4x1536)
    Cert.AInWRefIdeal.Gen.transposes_S1024x4x1536_S4x1024x1536_1_0_2) Cert.AInWRefIdeal.Gen.bitsLt_bf16_f32

/-- Where the windows stand at each grid point. -/
theorem idx : ∀ t : Fin cfg0.N, win0_0.index t = ![t.val % 4, 0] ∧ win0_1.index t = ![t.val / 16, t.val % 4, t.val / 4 % 4] ∧ win0_2.index t = ![t.val / 12, 0, t.val / 4 % 3] :=
  (by decide +kernel : ∀ t : Fin grid0.N, _)

/-- The first step stores its product. -/
theorem first_at (x0 : Vec Ideal S2048x1024 .bf16) (x1 : Vec Ideal S1x2048x512 .bf16) (j : S1024x512.Idx) :
    k0_pay2 (F := Ideal) x0 x1 j = (0 : EReal) + ∑ k : Fin 2048, x0 (ix2 k (j 0)) * x1 (ix3 0 k (j 1)) := by
  pointwise [k0_pay2, k0_pay1]

/-- A later step adds its product. -/
theorem later_at (x0 : Vec Ideal S2048x1024 .bf16) (x1 : Vec Ideal S1x2048x512 .bf16) (acc : Vec Ideal S1024x512 .f32) (j : S1024x512.Idx) :
    k0_pay3 (F := Ideal) x0 x1 acc j = acc j + ∑ k : Fin 2048, x0 (ix2 k (j 0)) * x1 (ix3 0 k (j 1)) := by
  pointwise [k0_pay3, k0_pay1]

/-- The last step writes the accumulator out. -/
theorem out_at (c : Dev nD) (t : Fin cfg0.N) (h : t.val % 4 = 3) (y : S1x1024x512.Idx) :
    (outsAt0 m c t.val t.isLt).1 y = (outsAt0 m c t.val t.isLt).2 (ix2 (y 1) (y 2)) := by
  have ht : t.val < _ := lt_of_lt_of_eq t.isLt N_0
  rw [outsAt0_C m c t (by omega) (by omega) h]
  frame_out
  pointwise [k0_pay4]

set_option maxHeartbeats 2000000 in
/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf),
    Pipeline.eq_sum_fin_of_reset_step_apply_of_flush (fun n h => (outsAt0 m c n h).2) 4 (fun _ => 0) _
    (fun t h j => by
      have ht : t.val < _ := lt_of_lt_of_eq t.isLt N_0
      rw [outsAt0_A m c t h (by omega) (by omega)]; frame_out; rw [first_at])
    (fun t h j => by
      have ht : t.val < _ := lt_of_lt_of_eq t.isLt N_0
      by_cases h2 : t.val % 4 = 3
      · rw [outsAt0_C m c t h (by omega) h2]; frame_out; rw [later_at, read_unread_whole]
      · rw [outsAt0_B m c t h (by omega) h2]; frame_out; rw [later_at, read_unread_whole])
    t ((flush0_2 t).mp hf) _, zero_add]
  pointwise [ref]
  rw [Cert.Product.sum_steps 4 2048 8192 (by norm_num)]
  refine Fin.sum_fin_congr fun s => (Cert.Product.sum_swap _ _).trans ?_
  blk_point [iblk, V, idx t, idx ⟨_, Pipeline.run_point_lt_of_flush t ((flush0_2 t).mp hf) s⟩]

end Cert.AInWIdeal.Value

namespace Cert.Proof

/-- The call and the reference end with the same array. -/
theorem aInW : Cert.algebraic_AInWIdeal_AInWRefIdeal := by
  pair_intro
  · run_from Cert.AInWIdeal.Value.run_blocks m g
  · run_from Cert.AInWRefIdeal.Value.run m' g'
    exact (Cert.AInWIdeal.Value.final m c).symm

end Cert.Proof

end
-- ==== Proof.Product.BInH.lean ====
/- The attention branch's input projection: the gradient in its left factor, accumulated over four steps of two products. -/
module

public import proofs.«01_k».proof.Defs
public import proofs.«01_k».proof.Proof.Gen.BInH
public import proofs.«01_k».proof.Proof.Gen.BInH.Frame
public import proofs.«01_k».proof.Proof.Gen.BInHIdeal
public import proofs.«01_k».proof.Proof.Gen.BInHIdeal.Value
public import proofs.«01_k».proof.Proof.Gen.BInHRefIdeal
public import proofs.«01_k».proof.Proof.Gen.BInHRefIdeal.Run
public import Idealize.ShloMosaic.Lib.Claim
public import Idealize.ShloMosaic.Lib.Pointwise
public import Idealize.ShloMosaic.Lib.Pipeline.ValueKit
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.BInHIdeal.Value

open Cert.BInHIdeal Cert.BInHIdeal.Gen

variable (m : (ℓ : Loc nD τ sig) → Buf (Elt Ideal) ℓ)

/-- The reference's result, over its two arguments. -/
abbrev ref (X : FVec Ideal S4x8192x2048 .bf16) (W : FVec Ideal S1024x8192 .bf16) : FVec Ideal S8192x1024 .f32 :=
  Host.dotGeneral Cert.BInHRefIdeal.dot_S8192x8192_S1024x8192_S8192x1024_1_1_0_0_n_n none
    (shapeCast _ (transpose Cert.BInHRefIdeal.S8192x4x2048 [1, 0, 2] (extf .f32 X Cert.BInHRefIdeal.Gen.bitsLt_bf16_f32)
      Cert.BInHRefIdeal.Gen.transposes_S4x8192x2048_S8192x4x2048_1_0_2) Cert.BInHRefIdeal.Gen.shapeCasts_S8192x4x2048_S8192x8192)
    (extf .f32 W Cert.BInHRefIdeal.Gen.bitsLt_bf16_f32)

/-- Where the windows stand at each grid point. -/
theorem idx : ∀ t : Fin cfg0.N, win0_0.index t = ![t.val % 4, t.val / 4, 0] ∧ win0_1.index t = ![t.val % 4, t.val / 4, 1]
    ∧ win0_2.index t = ![0, 2 * (t.val % 4)] ∧ win0_3.index t = ![0, 2 * (t.val % 4) + 1] ∧ win0_4.index t = ![t.val / 4, 0] :=
  (by decide +kernel : ∀ t : Fin grid0.N, _)

/-- The first step stores its two products. -/
theorem first_at (x0 : Vec Ideal S1x1024x1024 .bf16) (x1 : Vec Ideal S1024x1024 .bf16) (x2 : Vec Ideal S1x1024x1024 .bf16) (x3 : Vec Ideal S1024x1024 .bf16) (j : S1024x1024.Idx) :
    k0_pay1 (F := Ideal) x0 x1 x2 x3 j = (0 : EReal)
      + ((∑ k : Fin 1024, x0 (ix3 0 (j 0) k) * x1 (ix2 (j 1) k)) + ∑ k : Fin 1024, x2 (ix3 0 (j 0) k) * x3 (ix2 (j 1) k)) := by
  pointwise [k0_pay1]

/-- A later step adds its two products. -/
theorem later_at (x0 : Vec Ideal S1x1024x1024 .bf16) (x1 : Vec Ideal S1024x1024 .bf16) (x2 : Vec Ideal S1x1024x1024 .bf16) (x3 : Vec Ideal S1024x1024 .bf16) (acc : Vec Ideal S1024x1024 .f32) (j : S1024x1024.Idx) :
    k0_pay2 (F := Ideal) x0 x1 x2 x3 acc j = acc j
      + ((∑ k : Fin 1024, x0 (ix3 0 (j 0) k) * x1 (ix2 (j 1) k)) + ∑ k : Fin 1024, x2 (ix3 0 (j 0) k) * x3 (ix2 (j 1) k)) := by
  pointwise [k0_pay2, k0_pay1]

/-- The call's result is the reference's. -/
theorem final (c : Dev nD) : (dats m 0 c).arrAt 4 (cfgs 0).N
    = ref (m ((c : Thread nD τ).loc main_arg0)) (m ((c : Thread nD τ).loc main_arg1)) := by
  refine (dats m 0 c).arrAt_eq_of_covers 4 _ (by decide +kernel) fun t hf y => ?_
  blk_simp
  rw [after0_4, Pipeline.eq_sum_fin_of_reset_step_apply_of_flush (fun n h => outsAt0 m c n h) 4 (fun _ => 0) _
    (fun t h j => by rw [outsAt0_A m c t h (by omega)]; frame_out; rw [first_at])
    (fun t h j => by rw [outsAt0_B m c t h (by omega)]; frame_out; rw [later_at])
    t ((flush0_4 t).mp hf) _, zero_add]
  pointwise [ref]
  rw [Cert.Product.sum_steps 4 2048 8192 (by norm_num)]
  refine Fin.sum_fin_congr fun s => ?_
  rw [Cert.Product.sum_two 1024 2048 (by norm_num)]
  blk_point [iblk, V, idx t, idx ⟨_, Pipeline.run_point_lt_of_flush t ((flush0_4 t).mp hf) s⟩]

end Cert.BInHIdeal.Value

namespace Cert.Proof

/-- The call and the reference end with the same array. -/
theorem bInH : Cert.algebraic_BInHIdeal_BInHRefIdeal := by
  pair_intro
  · run_from Cert.BInHIdeal.Value.run_blocks m g
  · run_from Cert.BInHRefIdeal.Value.run m' g'
    exact (Cert.BInHIdeal.Value.final m c).symm

end Cert.Proof

end
-- ==== Proof.Product.BInW.lean ====
/- The attention branch's input projection: the gradient in its weight, accumulated over four steps of 2048 tokens. -/
module

public import proofs.«01_k».proof.Defs
public import proofs.«01_k».proof.Proof.Gen.BInW
public import proofs.«01_k».proof.Proof.Gen.BInW.Frame
public import proofs.«01_k».proof.Proof.Gen.BInWIdeal
public import proofs.«01_k».proof.Proof.Gen.BInWIdeal.Value
public import proofs.«01_k».proof.Proof.Gen.BInWRefIdeal
public import proofs.«01_k».proof.Proof.Gen.BInWRefIdeal.Run
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.BInWIdeal.Value

open Cert.BInWIdeal Cert.BInWIdeal.Gen

variable (m : (ℓ : Loc nD τ sig) → Buf (Elt Ideal) ℓ)

/-- The reference's result, over its two arguments. -/
abbrev ref (X : FVec Ideal S8192x1024 .bf16) (Y : FVec Ideal S4x8192x2048 .bf16) : FVec Ideal S1024x8192 .bf16 :=
  truncf .bf16 (transpose Cert.BInWRefIdeal.S1024x8192 [1, 0] (Host.dotGeneral
    Cert.BInWRefIdeal.dot_S8192x8192_S8192x1024_S8192x1024_0_0_1_1_n_n none (shapeCast _ (transpose
    Cert.BInWRefIdeal.S8192x4x2048 [1, 0, 2] (extf .f32 Y Cert.BInWRefIdeal.Gen.bitsLt_bf16_f32)
    Cert.BInWRefIdeal.Gen.transposes_S4x8192x2048_S8192x4x2048_1_0_2)
    Cert.BInWRefIdeal.Gen.shapeCasts_S8192x4x2048_S8192x8192) (extf .f32 X Cert.BInWRefIdeal.Gen.bitsLt_bf16_f32))
    Cert.BInWRefIdeal.Gen.transposes_S8192x1024_S1024x8192_1_0) Cert.BInWRefIdeal.Gen.bitsLt_bf16_f32

/-- Where the windows stand at each grid point. -/
theorem idx : ∀ t : Fin cfg0.N, win0_0.index t = ![t.val % 4, 0] ∧ win0_1.index t = ![t.val / 8, t.val % 4, t.val / 4 % 2] ∧ win0_2.index t = ![0, t.val / 4] :=
  (by decide +kernel : ∀ t : Fin grid0.N, _)

/-- The first step stores its product. -/
theorem first_at (x0 : Vec Ideal S2048x1024 .bf16) (x1 : Vec Ideal S1x2048x1024 .bf16) (j : S1024x1024.Idx) :
    k0_pay2 (F := Ideal) x0 x1 j = (0 : EReal) + ∑ k : Fin 2048, x0 (ix2 k (j 0)) * x1 (ix3 0 k (j 1)) := by
  pointwise [k0_pay2, k0_pay1]

/-- A later step adds its product. -/
theorem later_at (x0 : Vec Ideal S2048x1024 .bf16) (x1 : Vec Ideal S1x2048x1024 .bf16) (acc : Vec Ideal S1024x1024 .f32) (j : S1024x1024.Idx) :
    k0_pay3 (F := Ideal) x0 x1 acc j = acc j + ∑ k : Fin 2048, x0 (ix2 k (j 0)) * x1 (ix3 0 k (j 1)) := by
  pointwise [k0_pay3, k0_pay1]

/-- The last step writes the accumulator out. -/
theorem out_at (c : Dev nD) (t : Fin cfg0.N) (h : t.val % 4 = 3) (y : S1024x1024.Idx) :
    (outsAt0 m c t.val t.isLt).1 y = (outsAt0 m c t.val t.isLt).2 (y) := by
  have ht : t.val < _ := lt_of_lt_of_eq t.isLt N_0
  rw [outsAt0_C m c t (by omega) (by omega) h]
  frame_out
  pointwise [k0_pay4]

set_option maxHeartbeats 2000000 in
/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf),
    Pipeline.eq_sum_fin_of_reset_step_apply_of_flush (fun n h => (outsAt0 m c n h).2) 4 (fun _ => 0) _
    (fun t h j => by
      have ht : t.val < _ := lt_of_lt_of_eq t.isLt N_0
      rw [outsAt0_A m c t h (by omega) (by omega)]; frame_out; rw [first_at])
    (fun t h j => by
      have ht : t.val < _ := lt_of_lt_of_eq t.isLt N_0
      by_cases h2 : t.val % 4 = 3
      · rw [outsAt0_C m c t h (by omega) h2]; frame_out; rw [later_at, read_unread_whole]
      · rw [outsAt0_B m c t h (by omega) h2]; frame_out; rw [later_at, read_unread_whole])
    t ((flush0_2 t).mp hf) _, zero_add]
  pointwise [ref]
  rw [Cert.Product.sum_steps 4 2048 8192 (by norm_num)]
  refine Fin.sum_fin_congr fun s => (Cert.Product.sum_swap _ _).trans ?_
  blk_point [iblk, V, idx t, idx ⟨_, Pipeline.run_point_lt_of_flush t ((flush0_2 t).mp hf) s⟩]

end Cert.BInWIdeal.Value

namespace Cert.Proof

/-- The call and the reference end with the same array. -/
theorem bInW : Cert.algebraic_BInWIdeal_BInWRefIdeal := by
  pair_intro
  · run_from Cert.BInWIdeal.Value.run_blocks m g
  · run_from Cert.BInWRefIdeal.Value.run m' g'
    exact (Cert.BInWIdeal.Value.final m c).symm

end Cert.Proof

end
-- ==== Proof.Product.CInH.lean ====
/- The short convolution's input projection: the gradient in its left factor, accumulated over four steps of two products. -/
module

public import proofs.«01_k».proof.Defs
public import proofs.«01_k».proof.Proof.Gen.CInH
public import proofs.«01_k».proof.Proof.Gen.CInH.Frame
public import proofs.«01_k».proof.Proof.Gen.CInHIdeal
public import proofs.«01_k».proof.Proof.Gen.CInHIdeal.Value
public import proofs.«01_k».proof.Proof.Gen.CInHRefIdeal
public import proofs.«01_k».proof.Proof.Gen.CInHRefIdeal.Run
public import Idealize.ShloMosaic.Lib.Claim
public import Idealize.ShloMosaic.Lib.Pointwise
public import Idealize.ShloMosaic.Lib.Pipeline.ValueKit
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.CInHIdeal.Value

open Cert.CInHIdeal Cert.CInHIdeal.Gen

variable (m : (ℓ : Loc nD τ sig) → Buf (Elt Ideal) ℓ)

/-- The reference's result, over its two arguments. -/
abbrev ref (X : FVec Ideal S4x8192x2048 .bf16) (Y : FVec Ideal S4x1024x2048 .bf16) : FVec Ideal S8192x1024 .f32 :=
  Host.dotGeneral Cert.CInHRefIdeal.dot_S8192x8192_S1024x8192_S8192x1024_1_1_0_0_n_n none (shapeCast _ (transpose
    Cert.CInHRefIdeal.S8192x4x2048 [1, 0, 2] (extf .f32 X Cert.CInHRefIdeal.Gen.bitsLt_bf16_f32)
    Cert.CInHRefIdeal.Gen.transposes_S4x8192x2048_S8192x4x2048_1_0_2)
    Cert.CInHRefIdeal.Gen.shapeCasts_S8192x4x2048_S8192x8192) (shapeCast _ (transpose Cert.CInHRefIdeal.S1024x4x2048
    [1, 0, 2] (extf .f32 Y Cert.CInHRefIdeal.Gen.bitsLt_bf16_f32)
    Cert.CInHRefIdeal.Gen.transposes_S4x1024x2048_S1024x4x2048_1_0_2)
    Cert.CInHRefIdeal.Gen.shapeCasts_S1024x4x2048_S1024x8192)

/-- Where the windows stand at each grid point. -/
theorem idx : ∀ t : Fin cfg0.N, win0_0.index t = ![t.val % 4, t.val / 4, 0] ∧ win0_1.index t = ![t.val % 4, t.val / 4, 1] ∧ win0_2.index t = ![t.val % 4, 0, 0] ∧ win0_3.index t = ![t.val % 4, 0, 1] ∧ win0_4.index t = ![t.val / 4, 0] :=
  (by decide +kernel : ∀ t : Fin grid0.N, _)

/-- The first step stores its products. -/
theorem first_at (x0 y0 : Vec Ideal S1x1024x1024 .bf16) (x1 y1 : Vec Ideal S1x1024x1024 .bf16) (j : S1024x1024.Idx) :
    k0_pay1 (F := Ideal) x0 y0 x1 y1 j = (0 : EReal)
      + ((∑ k : Fin 1024, x0 (ix3 0 (j 0) k) * y0 (ix3 0 (j 1) k)) + (∑ k : Fin 1024, x1 (ix3 0 (j 0) k) * y1 (ix3 0 (j 1) k))) := by
  pointwise [k0_pay1, k0_pay2]

/-- A later step adds its products. -/
theorem later_at (x0 y0 : Vec Ideal S1x1024x1024 .bf16) (x1 y1 : Vec Ideal S1x1024x1024 .bf16) (acc : Vec Ideal S1024x1024 .f32) (j : S1024x1024.Idx) :
    k0_pay2 (F := Ideal) x0 y0 x1 y1 acc j = acc j
      + ((∑ k : Fin 1024, x0 (ix3 0 (j 0) k) * y0 (ix3 0 (j 1) k)) + (∑ k : Fin 1024, x1 (ix3 0 (j 0) k) * y1 (ix3 0 (j 1) k))) := by
  pointwise [k0_pay1, k0_pay2]

/-- The call's result is the reference's. -/
theorem final (c : Dev nD) : (dats m 0 c).arrAt 4 (cfgs 0).N
    = ref (m ((c : Thread nD τ).loc main_arg0)) (m ((c : Thread nD τ).loc main_arg1)) := by
  refine (dats m 0 c).arrAt_eq_of_covers 4 _ (by decide +kernel) fun t hf y => ?_
  blk_simp
  rw [after0_4, Pipeline.eq_sum_fin_of_reset_step_apply_of_flush (fun n h => outsAt0 m c n h) 4 (fun _ => 0) _
    (fun t h j => by rw [outsAt0_A m c t h (by omega)]; frame_out; rw [first_at])
    (fun t h j => by rw [outsAt0_B m c t h (by omega)]; frame_out; rw [later_at])
    t ((flush0_4 t).mp hf) _, zero_add]
  pointwise [ref]
  rw [Cert.Product.sum_steps 4 2048 8192 (by norm_num)]
  refine Fin.sum_fin_congr fun s => ?_
  rw [Cert.Product.sum_two 1024 2048 (by norm_num)]
  blk_point [iblk, V, idx t, idx ⟨_, Pipeline.run_point_lt_of_flush t ((flush0_4 t).mp hf) s⟩]

end Cert.CInHIdeal.Value

namespace Cert.Proof

/-- The call and the reference end with the same array. -/
theorem cInH : Cert.algebraic_CInHIdeal_CInHRefIdeal := by
  pair_intro
  · run_from Cert.CInHIdeal.Value.run_blocks m g
  · run_from Cert.CInHRefIdeal.Value.run m' g'
    exact (Cert.CInHIdeal.Value.final m c).symm

end Cert.Proof

end
-- ==== Proof.Product.CInW.lean ====
/- The short convolution's input projection: the gradient in its weight, accumulated over four steps of 2048 tokens. -/
module

public import proofs.«01_k».proof.Defs
public import proofs.«01_k».proof.Proof.Gen.CInW
public import proofs.«01_k».proof.Proof.Gen.CInW.Frame
public import proofs.«01_k».proof.Proof.Gen.CInWIdeal
public import proofs.«01_k».proof.Proof.Gen.CInWIdeal.Value
public import proofs.«01_k».proof.Proof.Gen.CInWRefIdeal
public import proofs.«01_k».proof.Proof.Gen.CInWRefIdeal.Run
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.CInWIdeal.Value

open Cert.CInWIdeal Cert.CInWIdeal.Gen

variable (m : (ℓ : Loc nD τ sig) → Buf (Elt Ideal) ℓ)

/-- The reference's result, over its two arguments. -/
abbrev ref (X : FVec Ideal S8192x1024 .bf16) (Y : FVec Ideal S4x8192x2048 .bf16) : FVec Ideal S4x1024x2048 .bf16 :=
  truncf .bf16 (transpose Cert.CInWRefIdeal.S4x1024x2048 [1, 0, 2] (shapeCast _ (transpose
    Cert.CInWRefIdeal.S1024x8192 [1, 0] (Host.dotGeneral
    Cert.CInWRefIdeal.dot_S8192x8192_S8192x1024_S8192x1024_0_0_1_1_n_n none (shapeCast _ (transpose
    Cert.CInWRefIdeal.S8192x4x2048 [1, 0, 2] (extf .f32 Y Cert.CInWRefIdeal.Gen.bitsLt_bf16_f32)
    Cert.CInWRefIdeal.Gen.transposes_S4x8192x2048_S8192x4x2048_1_0_2)
    Cert.CInWRefIdeal.Gen.shapeCasts_S8192x4x2048_S8192x8192) (extf .f32 X Cert.CInWRefIdeal.Gen.bitsLt_bf16_f32))
    Cert.CInWRefIdeal.Gen.transposes_S8192x1024_S1024x8192_1_0)
    Cert.CInWRefIdeal.Gen.shapeCasts_S1024x8192_S1024x4x2048)
    Cert.CInWRefIdeal.Gen.transposes_S1024x4x2048_S4x1024x2048_1_0_2) Cert.CInWRefIdeal.Gen.bitsLt_bf16_f32

/-- Where the windows stand at each grid point. -/
theorem idx : ∀ t : Fin cfg0.N, win0_0.index t = ![t.val % 4, 0] ∧ win0_1.index t = ![t.val / 8, t.val % 4, t.val / 4 % 2] ∧ win0_2.index t = ![t.val / 8, 0, t.val / 4 % 2] :=
  (by decide +kernel : ∀ t : Fin grid0.N, _)

/-- The first step stores its product. -/
theorem first_at (x0 : Vec Ideal S2048x1024 .bf16) (x1 : Vec Ideal S1x2048x1024 .bf16) (j : S1024x1024.Idx) :
    k0_pay2 (F := Ideal) x0 x1 j = (0 : EReal) + ∑ k : Fin 2048, x0 (ix2 k (j 0)) * x1 (ix3 0 k (j 1)) := by
  pointwise [k0_pay2, k0_pay1]

/-- A later step adds its product. -/
theorem later_at (x0 : Vec Ideal S2048x1024 .bf16) (x1 : Vec Ideal S1x2048x1024 .bf16) (acc : Vec Ideal S1024x1024 .f32) (j : S1024x1024.Idx) :
    k0_pay3 (F := Ideal) x0 x1 acc j = acc j + ∑ k : Fin 2048, x0 (ix2 k (j 0)) * x1 (ix3 0 k (j 1)) := by
  pointwise [k0_pay3, k0_pay1]

/-- The last step writes the accumulator out. -/
theorem out_at (c : Dev nD) (t : Fin cfg0.N) (h : t.val % 4 = 3) (y : S1x1024x1024.Idx) :
    (outsAt0 m c t.val t.isLt).1 y = (outsAt0 m c t.val t.isLt).2 (ix2 (y 1) (y 2)) := by
  have ht : t.val < _ := lt_of_lt_of_eq t.isLt N_0
  rw [outsAt0_C m c t (by omega) (by omega) h]
  frame_out
  pointwise [k0_pay4]

set_option maxHeartbeats 2000000 in
/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf),
    Pipeline.eq_sum_fin_of_reset_step_apply_of_flush (fun n h => (outsAt0 m c n h).2) 4 (fun _ => 0) _
    (fun t h j => by
      have ht : t.val < _ := lt_of_lt_of_eq t.isLt N_0
      rw [outsAt0_A m c t h (by omega) (by omega)]; frame_out; rw [first_at])
    (fun t h j => by
      have ht : t.val < _ := lt_of_lt_of_eq t.isLt N_0
      by_cases h2 : t.val % 4 = 3
      · rw [outsAt0_C m c t h (by omega) h2]; frame_out; rw [later_at, read_unread_whole]
      · rw [outsAt0_B m c t h (by omega) h2]; frame_out; rw [later_at, read_unread_whole])
    t ((flush0_2 t).mp hf) _, zero_add]
  pointwise [ref]
  rw [Cert.Product.sum_steps 4 2048 8192 (by norm_num)]
  refine Fin.sum_fin_congr fun s => (Cert.Product.sum_swap _ _).trans ?_
  blk_point [iblk, V, idx t, idx ⟨_, Pipeline.run_point_lt_of_flush t ((flush0_2 t).mp hf) s⟩]

end Cert.CInWIdeal.Value

namespace Cert.Proof

/-- The call and the reference end with the same array. -/
theorem cInW : Cert.algebraic_CInWIdeal_CInWRefIdeal := by
  pair_intro
  · run_from Cert.CInWIdeal.Value.run_blocks m g
  · run_from Cert.CInWRefIdeal.Value.run m' g'
    exact (Cert.CInWIdeal.Value.final m c).symm

end Cert.Proof

end
-- ==== Proof.Product.AIn.lean ====
/- The conformer's input projection, a block of 1024 tokens by a group of columns at a time. -/
module

public import proofs.«01_k».proof.Defs
public import proofs.«01_k».proof.Proof.Gen.AIn
public import proofs.«01_k».proof.Proof.Gen.AIn.Frame
public import proofs.«01_k».proof.Proof.Gen.AInIdeal
public import proofs.«01_k».proof.Proof.Gen.AInIdeal.Value
public import proofs.«01_k».proof.Proof.Gen.AInRefIdeal
public import proofs.«01_k».proof.Proof.Gen.AInRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AInIdeal.Value

open Cert.AInIdeal Cert.AInIdeal.Gen

variable (m : (ℓ : Loc nD τ sig) → Buf (Elt Ideal) ℓ)

/-- The reference's result, over its arguments. -/
abbrev ref (X : FVec Ideal S8192x1024 .bf16) (Y : FVec Ideal S4x1024x1536 .bf16) : FVec Ideal S8192x6144 .f32 :=
  Host.dotGeneral Cert.AInRefIdeal.dot_S8192x1024_S1024x6144_S8192x6144_1_0_0_1_n_n none (extf .f32 X
    Cert.AInRefIdeal.Gen.bitsLt_bf16_f32) (shapeCast _ (transpose Cert.AInRefIdeal.S1024x4x1536 [1, 0, 2] (extf .f32 Y
    Cert.AInRefIdeal.Gen.bitsLt_bf16_f32) Cert.AInRefIdeal.Gen.transposes_S4x1024x1536_S1024x4x1536_1_0_2)
    Cert.AInRefIdeal.Gen.shapeCasts_S1024x4x1536_S1024x6144)

/-- Where the windows stand at each grid point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- One block of the result. -/
theorem point (c : Dev nD) (t : Fin cfg0.N) (y : S1024x1536.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AInIdeal.Value

namespace Cert.Proof

/-- The call and the reference end with the same array. -/
theorem aIn : Cert.algebraic_AInIdeal_AInRefIdeal := by
  pair_intro
  · run_from Cert.AInIdeal.Value.run_blocks m g
  · run_from Cert.AInRefIdeal.Value.run m' g'
    exact (Cert.AInIdeal.Value.final m c).symm

end Cert.Proof

end
-- ==== Proof.Product.BIn.lean ====
/- The attention branch's input projection, a block of 1024 tokens by 1024 columns at a time. -/
module

public import proofs.«01_k».proof.Defs
public import proofs.«01_k».proof.Proof.Gen.BIn
public import proofs.«01_k».proof.Proof.Gen.BIn.Frame
public import proofs.«01_k».proof.Proof.Gen.BInIdeal
public import proofs.«01_k».proof.Proof.Gen.BInIdeal.Value
public import proofs.«01_k».proof.Proof.Gen.BInRefIdeal
public import proofs.«01_k».proof.Proof.Gen.BInRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BInIdeal.Value

open Cert.BInIdeal Cert.BInIdeal.Gen

variable (m : (ℓ : Loc nD τ sig) → Buf (Elt Ideal) ℓ)

/-- The reference's result, over its arguments. -/
abbrev ref (X : FVec Ideal S8192x1024 .bf16) (Y : FVec Ideal S1024x8192 .bf16) : FVec Ideal S8192x8192 .f32 :=
  Host.dotGeneral Cert.BInRefIdeal.dot_S8192x1024_S1024x8192_S8192x8192_1_0_0_1_n_n none (extf .f32 X
    Cert.BInRefIdeal.Gen.bitsLt_bf16_f32) (extf .f32 Y Cert.BInRefIdeal.Gen.bitsLt_bf16_f32)

/-- Where the windows stand at each grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- One block of the result. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.BInIdeal.Value

namespace Cert.Proof

/-- The call and the reference end with the same array. -/
theorem bIn : Cert.algebraic_BInIdeal_BInRefIdeal := by
  pair_intro
  · run_from Cert.BInIdeal.Value.run_blocks m g
  · run_from Cert.BInRefIdeal.Value.run m' g'
    exact (Cert.BInIdeal.Value.final m c).symm

end Cert.Proof

end
-- ==== Proof.Product.CIn.lean ====
/- The short convolution's input projection, a block of 1024 tokens by 1024 columns at a time. -/
module

public import proofs.«01_k».proof.Defs
public import proofs.«01_k».proof.Proof.Gen.CIn
public import proofs.«01_k».proof.Proof.Gen.CIn.Frame
public import proofs.«01_k».proof.Proof.Gen.CInIdeal
public import proofs.«01_k».proof.Proof.Gen.CInIdeal.Value
public import proofs.«01_k».proof.Proof.Gen.CInRefIdeal
public import proofs.«01_k».proof.Proof.Gen.CInRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CInIdeal.Value

open Cert.CInIdeal Cert.CInIdeal.Gen

variable (m : (ℓ : Loc nD τ sig) → Buf (Elt Ideal) ℓ)

/-- The reference's result, over its arguments. -/
abbrev ref (X : FVec Ideal S8192x1024 .bf16) (Y : FVec Ideal S4x1024x2048 .bf16) : FVec Ideal S8192x8192 .f32 :=
  Host.dotGeneral Cert.CInRefIdeal.dot_S8192x1024_S1024x8192_S8192x8192_1_0_0_1_n_n none (extf .f32 X
    Cert.CInRefIdeal.Gen.bitsLt_bf16_f32) (shapeCast _ (transpose Cert.CInRefIdeal.S1024x4x2048 [1, 0, 2] (extf .f32 Y
    Cert.CInRefIdeal.Gen.bitsLt_bf16_f32) Cert.CInRefIdeal.Gen.transposes_S4x1024x2048_S1024x4x2048_1_0_2)
    Cert.CInRefIdeal.Gen.shapeCasts_S1024x4x2048_S1024x8192)

/-- Where the windows stand at each grid point. -/
theorem idx : ∀ t : Fin cfg0.N, win0_0.index t = ![t.val / 8, 0] ∧ win0_1.index t = ![t.val % 8 / 2, 0, t.val % 8 % 2] ∧ win0_2.index t = ![t.val / 8, t.val % 8] :=
  (by decide +kernel : ∀ t : Fin grid0.N, _)

/-- One block of the result. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.CInIdeal.Value

namespace Cert.Proof

/-- The call and the reference end with the same array. -/
theorem cIn : Cert.algebraic_CInIdeal_CInRefIdeal := by
  pair_intro
  · run_from Cert.CInIdeal.Value.run_blocks m g
  · run_from Cert.CInRefIdeal.Value.run m' g'
    exact (Cert.CInIdeal.Value.final m c).symm

end Cert.Proof

end
-- ==== Proof.Product.Out.lean ====
/- The output projection and its residual, a block of 1024 tokens at a time. -/
module

public import proofs.«01_k».proof.Defs
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The reference's result, over its arguments. -/
abbrev ref (X : FVec Ideal S8192x2048 .bf16) (Y : FVec Ideal S2048x1024 .bf16) (Z : FVec Ideal S8192x1024 .f32) : FVec Ideal S8192x1024 .f32 :=
  addf Z (Host.dotGeneral
    Cert.OutRefIdeal.dot_S8192x2048_S2048x1024_S8192x1024_1_0_0_1_n_n none (extf .f32 X
    Cert.OutRefIdeal.Gen.bitsLt_bf16_f32) (extf .f32 Y Cert.OutRefIdeal.Gen.bitsLt_bf16_f32))

/-- Where the windows stand at each grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- One block of the result. -/
theorem point (c : Dev nD) (t : Fin cfg0.N) (y : S1024x1024.Idx) :
    k0_pay1 (F := Ideal) (iblk m c 0 t) (iblk m c 1 t) (iblk m c 2 t) y
      = ref (m ((c : Thread nD τ).loc main_arg0)) (m ((c : Thread nD τ).loc main_arg1)) (m ((c : Thread nD τ).loc main_arg2))
        (((cfg0.win 3).blk t).view.emb y) := by
  pointwise [k0_pay1, ref]
  blk_point [iblk, V, idx t]

/-- The call's result is the reference's. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Value

namespace Cert.Proof

/-- The call and the reference end with the same array. -/
theorem out : Cert.algebraic_OutIdeal_OutRefIdeal := by
  pair_intro
  · run_from Cert.OutIdeal.Value.run_blocks m g
  · run_from Cert.OutRefIdeal.Value.run m' g'
    exact (Cert.OutIdeal.Value.final m c).symm

end Cert.Proof

end
-- ==== Proof.Product.Forget.lean ====
/- The forget gates' projection, a block of 1024 tokens at a time. -/
module

public import proofs.«01_k».proof.Defs
public import proofs.«01_k».proof.Proof.Gen.Forget
public import proofs.«01_k».proof.Proof.Gen.Forget.Frame
public import proofs.«01_k».proof.Proof.Gen.ForgetIdeal
public import proofs.«01_k».proof.Proof.Gen.ForgetIdeal.Value
public import proofs.«01_k».proof.Proof.Gen.ForgetRefIdeal
public import proofs.«01_k».proof.Proof.Gen.ForgetRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ForgetIdeal.Value

open Cert.ForgetIdeal Cert.ForgetIdeal.Gen

variable (m : (ℓ : Loc nD τ sig) → Buf (Elt Ideal) ℓ)

/-- The reference's result, over its arguments. -/
abbrev ref (X : FVec Ideal S8192x1024 .bf16) (Y : FVec Ideal S1024x128 .bf16) : FVec Ideal S8192x128 .f32 :=
  Host.dotGeneral Cert.ForgetRefIdeal.dot_S8192x1024_S1024x128_S8192x128_1_0_0_1_n_n none (extf .f32 X
    Cert.ForgetRefIdeal.Gen.bitsLt_bf16_f32) (extf .f32 Y Cert.ForgetRefIdeal.Gen.bitsLt_bf16_f32)

/-- Where the windows stand at each grid point. -/
theorem idx : ∀ t : Fin cfg0.N, win0_0.index t = ![t.val, 0] ∧ win0_1.index t = ![0, 0] ∧ win0_2.index t = ![t.val, 0] :=
  (by decide +kernel : ∀ t : Fin grid0.N, _)

/-- One block of the result. -/
theorem point (c : Dev nD) (t : Fin cfg0.N) (y : S1024x128.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ForgetIdeal.Value

namespace Cert.Proof

/-- The call and the reference end with the same array. -/
theorem forget : Cert.algebraic_ForgetIdeal_ForgetRefIdeal := by
  pair_intro
  · run_from Cert.ForgetIdeal.Value.run_blocks m g
  · run_from Cert.ForgetRefIdeal.Value.run m' g'
    exact (Cert.ForgetIdeal.Value.final m c).symm

end Cert.Proof

end
-- ==== Proof.Product.ForgetH.lean ====
/- The forget gates' projection: the gradient in its left factor, a block of 1024 tokens at a time. -/
module

public import proofs.«01_k».proof.Defs
public import proofs.«01_k».proof.Proof.Gen.ForgetH
public import proofs.«01_k».proof.Proof.Gen.ForgetH.Frame
public import proofs.«01_k».proof.Proof.Gen.ForgetHIdeal
public import proofs.«01_k».proof.Proof.Gen.ForgetHIdeal.Value
public import proofs.«01_k».proof.Proof.Gen.ForgetHRefIdeal
public import proofs.«01_k».proof.Proof.Gen.ForgetHRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ForgetHIdeal.Value

open Cert.ForgetHIdeal Cert.ForgetHIdeal.Gen

variable (m : (ℓ : Loc nD τ sig) → Buf (Elt Ideal) ℓ)

/-- The reference's result, over its arguments. -/
abbrev ref (X : FVec Ideal S8192x128 .f32) (Y : FVec Ideal S1024x128 .bf16) : FVec Ideal S8192x1024 .f32 :=
  Host.dotGeneral Cert.ForgetHRefIdeal.dot_S8192x128_S1024x128_S8192x1024_1_1_0_0_n_n none X (extf .f32 Y
    Cert.ForgetHRefIdeal.Gen.bitsLt_bf16_f32)

/-- Where the windows stand at each grid point. -/
theorem idx : ∀ t : Fin cfg0.N, win0_0.index t = ![t.val, 0] ∧ win0_1.index t = ![0, 0] ∧ win0_2.index t = ![t.val, 0] :=
  (by decide +kernel : ∀ t : Fin grid0.N, _)

/-- One block of the result. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; unfold Gen.outsAt0; frame_out
  exact point m c t y

end Cert.ForgetHIdeal.Value

namespace Cert.Proof

/-- The call and the reference end with the same array. -/
theorem forgetH : Cert.algebraic_ForgetHIdeal_ForgetHRefIdeal := by
  pair_intro
  · run_from Cert.ForgetHIdeal.Value.run_blocks m g
  · run_from Cert.ForgetHRefIdeal.Value.run m' g'
    exact (Cert.ForgetHIdeal.Value.final m c).symm

end Cert.Proof

end
-- ==== Proof.Product.ForgetW.lean ====
/- The forget gates' projection: the gradient in its weight, accumulated over sixteen steps of 512 tokens. -/
module

public import proofs.«01_k».proof.Defs
public import proofs.«01_k».proof.Proof.Gen.ForgetW
public import proofs.«01_k».proof.Proof.Gen.ForgetW.Frame
public import proofs.«01_k».proof.Proof.Gen.ForgetWIdeal
public import proofs.«01_k».proof.Proof.Gen.ForgetWIdeal.Value
public import proofs.«01_k».proof.Proof.Gen.ForgetWRefIdeal
public import proofs.«01_k».proof.Proof.Gen.ForgetWRefIdeal.Run
public import Idealize.ShloMosaic.Lib.Claim
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.ForgetWIdeal.Value

open Cert.ForgetWIdeal Cert.ForgetWIdeal.Gen

variable (m : (ℓ : Loc nD τ sig) → Buf (Elt Ideal) ℓ)

/-- The reference's result, over its two arguments. -/
abbrev ref (X : FVec Ideal S8192x1024 .bf16) (Y : FVec Ideal S8192x128 .f32) : FVec Ideal S1024x128 .bf16 :=
  truncf .bf16 (transpose Cert.ForgetWRefIdeal.S1024x128 [1, 0] (Host.dotGeneral
    Cert.ForgetWRefIdeal.dot_S8192x128_S8192x1024_S128x1024_0_0_1_1_n_n none Y (extf .f32 X
    Cert.ForgetWRefIdeal.Gen.bitsLt_bf16_f32)) Cert.ForgetWRefIdeal.Gen.transposes_S128x1024_S1024x128_1_0)
    Cert.ForgetWRefIdeal.Gen.bitsLt_bf16_f32

/-- Where the windows stand at each grid point. -/
theorem idx : ∀ t : Fin cfg0.N, win0_0.index t = ![t.val, 0] ∧ win0_1.index t = ![t.val, 0] ∧ win0_2.index t = ![0, 0] :=
  (by decide +kernel : ∀ t : Fin grid0.N, _)

/-- The first step stores its product. -/
theorem first_at (x0 : Vec Ideal S512x1024 .bf16) (x1 : Vec Ideal S512x128 .f32) (j : S1024x128.Idx) :
    k0_pay2 (F := Ideal) x0 x1 j = (0 : EReal) + ∑ k : Fin 512, x0 (ix2 k (j 0)) * x1 (ix2 k (j 1)) := by
  pointwise [k0_pay2, k0_pay1]

/-- A later step adds its product. -/
theorem later_at (x0 : Vec Ideal S512x1024 .bf16) (x1 : Vec Ideal S512x128 .f32) (acc : Vec Ideal S1024x128 .f32) (j : S1024x128.Idx) :
    k0_pay3 (F := Ideal) x0 x1 acc j = acc j + ∑ k : Fin 512, x0 (ix2 k (j 0)) * x1 (ix2 k (j 1)) := by
  pointwise [k0_pay3, k0_pay1]

/-- The last step writes the accumulator out. -/
theorem out_at (c : Dev nD) (t : Fin cfg0.N) (h : t.val % 16 = 15) (y : S1024x128.Idx) :
    (outsAt0 m c t.val t.isLt).1 y = (outsAt0 m c t.val t.isLt).2 (y) := by
  have ht : t.val < _ := lt_of_lt_of_eq t.isLt N_0
  rw [outsAt0_C m c t (by omega) (by omega) h]
  frame_out
  pointwise [k0_pay4]

set_option maxHeartbeats 2000000 in
/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2, out_at m c t ((flush0_2 t).mp hf),
    Pipeline.eq_sum_fin_of_reset_step_apply_of_flush (fun n h => (outsAt0 m c n h).2) 16 (fun _ => 0) _
    (fun t h j => by
      have ht : t.val < _ := lt_of_lt_of_eq t.isLt N_0
      rw [outsAt0_A m c t h (by omega) (by omega)]; frame_out; rw [first_at])
    (fun t h j => by
      have ht : t.val < _ := lt_of_lt_of_eq t.isLt N_0
      by_cases h2 : t.val % 16 = 15
      · rw [outsAt0_C m c t h (by omega) h2]; frame_out; rw [later_at, read_unread_whole]
      · rw [outsAt0_B m c t h (by omega) h2]; frame_out; rw [later_at, read_unread_whole])
    t ((flush0_2 t).mp hf) _, zero_add]
  pointwise [ref]
  rw [Cert.Product.sum_steps 16 512 8192 (by norm_num)]
  refine Fin.sum_fin_congr fun s => (Cert.Product.sum_swap _ _).trans ?_
  blk_point [iblk, V, idx t, idx ⟨_, Pipeline.run_point_lt_of_flush t ((flush0_2 t).mp hf) s⟩]

end Cert.ForgetWIdeal.Value

namespace Cert.Proof

/-- The call and the reference end with the same array. -/
theorem forgetW : Cert.algebraic_ForgetWIdeal_ForgetWRefIdeal := by
  pair_intro
  · run_from Cert.ForgetWIdeal.Value.run_blocks m g
  · run_from Cert.ForgetWRefIdeal.Value.run m' g'
    exact (Cert.ForgetWIdeal.Value.final m c).symm

end Cert.Proof

end
-- ==== Proof.Local.Norm.lean ====
/- The norm of the residual stream, a block of 512 tokens at a time. -/
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.NormRefIdeal
public import proofs.«01_k».proof.Proof.Gen.NormRefIdeal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- The reference's result, over its arguments. -/
abbrev ref (X : FVec Ideal S8192x1024 .f32) (Y : FVec Ideal S1x1024 .f32) : FVec Ideal S8192x1024 .bf16 :=
  truncf .bf16 (mulf (mulf X (broadcastInDim Cert.NormRefIdeal.S8192x1024 ![0, 1]
    Cert.NormRefIdeal.Gen.bcast_S8192x1_S8192x1024_0_1 (Host.rsqrt (addf (Host.divf (broadcastInDim
    Cert.NormRefIdeal.S8192x1 ![0] Cert.NormRefIdeal.Gen.bcast_S8192_S8192x1_0 (Host.reduceAdd (mulf X X) (constant
    Cert.NormRefIdeal.S_ .f32 0x00000000#32) Cert.NormRefIdeal.Gen.reducesTo_S8192x1024_S8192_d1
    Cert.NormRefIdeal.Gen.h_S_)) (broadcastInDim Cert.NormRefIdeal.S8192x1 ![] Cert.NormRefIdeal.Gen.bcast_S_S8192x1
    (constant Cert.NormRefIdeal.S_ .f32 0x44800000#32))) (broadcastInDim Cert.NormRefIdeal.S8192x1 ![]
    Cert.NormRefIdeal.Gen.bcast_S_S8192x1 (constant Cert.NormRefIdeal.S_ .f32 0x358637BD#32)))))) (broadcastInDim
    Cert.NormRefIdeal.S8192x1024 ![0, 1] Cert.NormRefIdeal.Gen.bcast_S1x1024_S8192x1024_0_1 Y))
    Cert.NormRefIdeal.Gen.bitsLt_bf16_f32

/-- Where the windows stand at each grid point. -/
theorem idx : ∀ t : Fin cfg0.N, win0_0.index t = ![t.val, 0] ∧ win0_1.index t = ![0, 0] ∧ win0_2.index t = ![t.val, 0] :=
  (by decide +kernel : ∀ t : Fin grid0.N, _)

/-- One block of the result. -/
theorem point (c : Dev nD) (t : Fin cfg0.N) (y : S512x1024.Idx) :
    k0_pay1 (F := Ideal) (iblk m c 0 t) (iblk m c 1 t) y
      = ref (m ((c : Thread nD τ).loc main_arg0)) (m ((c : Thread nD τ).loc main_arg1))
        (((cfg0.win 2).blk t).view.emb y) := by
  pointwise [k0_pay1, ref]
  blk_point [iblk, V, idx t]

/-- The call's result is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

namespace Cert.Proof

/-- The call and the reference end with the same array. -/
theorem norm : Cert.algebraic_NormIdeal_NormRefIdeal := by
  pair_intro
  · run_from Cert.NormIdeal.Value.run_blocks m g
  · run_from Cert.NormRefIdeal.Value.run m' g'
    exact (Cert.NormIdeal.Value.final m c).symm

end Cert.Proof

end
-- ==== Proof.Local.Reals.lean ====
/- Real arguments, and numbers that words of the programs stand for. -/
module

public import Idealize.ShloMosaic.Lib.Claim
public import Idealize.ShloMosaic.Lib.Pointwise
public import proofs.«01_k».proof.Proof.Product.Sums

@[expose] public section

noncomputable section

namespace Cert.Local

open Idealize.ShloMosaic

/-- The array's entries are all real. -/
def AllReal {s : Shape} (x : s.Idx → EReal) : Prop := ∀ i, ∃ r : ℝ, x i = r

/-- A number whose size is below infinity is real. -/
theorem real_of_lt {x : EReal} (h : BitVec.ofBool (decide (FloatOps.absf (F := Ideal) (φ := .f32) x < (⊤ : EReal))) = 1#1) :
    ∃ r : ℝ, x = r := by
  have h : max x (-x) < ⊤ := by
    by_contra hn
    have hn : ¬ (FloatOps.absf (F := Ideal) (φ := .f32) x < (⊤ : EReal)) := hn
    rw [decide_eq_false hn] at h
    exact absurd h (by decide)
  refine ⟨x.toReal, (EReal.coe_toReal ?_ ?_).symm⟩
  · rintro rfl; simp at h
  · rintro rfl; simp at h

/-- The word of positive infinity. -/
theorem ofBits_top : Ideal.ofBits .f32 0x7F800000#32 = (⊤ : EReal) := by
  simp [Ideal.ofBits, Ideal.ieee]

theorem one_sub_one : (1 : EReal) - 1 = 0 := by
  rw [← EReal.coe_one, ← EReal.coe_sub, sub_self, EReal.coe_zero]

theorem div_one_top : Ideal.div 1 (1 + ⊤) = 0 := by
  rw [EReal.add_top_of_ne_bot (show (1 : EReal) ≠ ⊥ from EReal.coe_ne_bot 1), Ideal.div, if_neg EReal.top_ne_zero, EReal.inv_top, mul_zero]

theorem div_one_one : Ideal.div 1 1 = 1 := by
  rw [Ideal.div, if_neg one_ne_zero, one_mul, ← EReal.coe_one, ← EReal.coe_inv, inv_one]

/-- The gate's derivative, in the call's form and in the reference's. -/
theorem gate {g o : EReal} (hg : ∃ r : ℝ, g = r) (ho : ∃ r : ℝ, o = r) (z : EReal) :
    g * o * (Ideal.div 1 (1 + Ideal.exp (0 - z)) * (1 + z * (1 - Ideal.div 1 (1 + Ideal.exp (0 - z)))))
      = o * g * Ideal.div 1 (1 + Ideal.exp (-z))
        + z * (o * g) * (Ideal.div 1 (1 + Ideal.exp (-z)) * (1 - Ideal.div 1 (1 + Ideal.exp (-z)))) := by
  obtain ⟨g, rfl⟩ := hg
  obtain ⟨o, rfl⟩ := ho
  rw [zero_sub]
  induction z using EReal.rec with
  | bot => rw [EReal.neg_bot, Ideal.exp_top, div_one_top]; simp
  | top => rw [EReal.neg_top, Ideal.exp_bot, add_zero, div_one_one, one_sub_one]; simp [mul_comm]
  | coe z =>
    have hs : Ideal.div 1 (1 + Ideal.exp (-(z : EReal))) = (((1 + Real.exp (-z))⁻¹ : ℝ) : EReal) := by
      rw [← EReal.coe_neg, Ideal.exp_coe, ← EReal.coe_one, ← EReal.coe_add, Ideal.div_coe (by positivity), EReal.coe_one, one_mul, one_div]
    rw [hs]
    simp only [← EReal.coe_one, ← EReal.coe_sub, ← EReal.coe_mul, ← EReal.coe_add]
    congr 1
    ring

/-- The norm's derivative by its argument, in the call's form and in the reference's: `w` is the mean square
    (with the epsilon), `s` the row's sum. -/
theorem norm {w : EReal} (hw : 0 < w) (s u x d k : EReal) (a : ℝ) (ha : 0 < a) (hk : k = ((-(1 / 2) : ℝ) : EReal)) :
    d + Ideal.rsqrt w * u - x * (Ideal.rsqrt w * Ideal.rsqrt w * Ideal.rsqrt w * Ideal.div s (a : EReal))
      = d + (u * Ideal.rsqrt w + x * Ideal.div (s * (k * Ideal.div (Ideal.rsqrt w) w)) (a : EReal)
          + Ideal.div (s * (k * Ideal.div (Ideal.rsqrt w) w)) (a : EReal) * x) := by
  subst hk
  suffices h : -(x * (Ideal.rsqrt w * Ideal.rsqrt w * Ideal.rsqrt w * Ideal.div s (a : EReal)))
      = x * Ideal.div (s * (((-(1 / 2) : ℝ) : EReal) * Ideal.div (Ideal.rsqrt w) w)) (a : EReal)
          + Ideal.div (s * (((-(1 / 2) : ℝ) : EReal) * Ideal.div (Ideal.rsqrt w) w)) (a : EReal) * x by
    rw [sub_eq_add_neg, h, mul_comm u]; simp only [add_assoc]
  rw [Ideal.div_coe ha.ne', Ideal.div_coe ha.ne']
  induction w using EReal.rec with
  | bot => simp at hw
  | top => rw [Ideal.rsqrt_top, Ideal.div, if_neg EReal.top_ne_zero]; simp
  | coe w =>
    have hw : 0 < w := EReal.coe_pos.mp hw
    have hr : Ideal.rsqrt (w : EReal) = (((Real.sqrt w)⁻¹ : ℝ) : EReal) := by
      rw [Ideal.rsqrt_coe, if_neg hw.not_gt, if_neg hw.ne']
    have hq : (Real.sqrt w)⁻¹ * (1 / w) = (Real.sqrt w)⁻¹ * (Real.sqrt w)⁻¹ * (Real.sqrt w)⁻¹ := by
      rw [show 1 / w = (Real.sqrt w)⁻¹ * (Real.sqrt w)⁻¹ by rw [← mul_inv, Real.mul_self_sqrt hw.le, one_div], mul_assoc]
    rw [hr, Ideal.div_coe hw.ne']
    simp only [← EReal.coe_mul]
    rw [hq]
    generalize (Real.sqrt w)⁻¹ * (Real.sqrt w)⁻¹ * (Real.sqrt w)⁻¹ = c
    have key : ∀ y : EReal, -(x * y) = x * ((-(1 / 2) : ℝ) * y) + ((-(1 / 2) : ℝ) * y) * x := by
      intro y
      have half : ∀ z : EReal, -z = ((-(1 / 2) : ℝ) : EReal) * z + ((-(1 / 2) : ℝ) : EReal) * z := by
        intro z
        induction z using EReal.rec with
        | bot => rw [EReal.coe_mul_bot_of_neg (by norm_num)]; rfl
        | top => rw [EReal.coe_mul_top_of_neg (by norm_num)]; rfl
        | coe z => rw [← EReal.coe_mul, ← EReal.coe_add, ← EReal.coe_neg]; congr 1; ring
      rw [half]
      congr 1 <;> ac_rfl
    rw [key]
    have e : s * ((-(1 / 2) * c : ℝ) : EReal) * ((1 / a : ℝ) : EReal) = ((-(1 / 2) : ℝ) : EReal) * ((c : EReal) * (s * ((1 / a : ℝ) : EReal))) := by
      rw [EReal.coe_mul]
      ac_rfl
    rw [e]

/-- The word of minus a half. -/
theorem ofBits_half : Ideal.ofBits .f32 0xBF000000#32 = ((-(1 / 2) : ℝ) : EReal) := by
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The norm's epsilon is positive. -/
theorem eps_pos : 0 < Ideal.ofBits .f32 0x358637BD#32 := by
  have e : Ideal.ofBits .f32 0x358637BD#32 = ((8796093 / 8796093022208 : ℝ) : EReal) := by
    simp [Ideal.ofBits, Ideal.ieee, -EReal.coe_mul]; norm_num
  rw [e]; exact EReal.coe_pos.mpr (by norm_num)

/-- A mean square with the epsilon is positive. -/
theorem mean_pos {n : ℕ} (x : Fin n → EReal) {a : ℝ} (ha : 0 < a) :
    0 < Ideal.div (∑ k, x k * x k) (a : EReal) + Ideal.ofBits .f32 0x358637BD#32 := by
  refine eps_pos.trans_le (le_add_of_nonneg_left ?_)
  rw [Ideal.div_coe ha.ne']
  refine mul_nonneg (Finset.sum_nonneg fun k _ => ?_) (EReal.coe_nonneg.mpr (by positivity))
  rcases le_total 0 (x k) with h | h
  · exact mul_nonneg h h
  · have := mul_nonneg (EReal.neg_nonneg.mpr h) (EReal.neg_nonneg.mpr h)
    rwa [neg_mul_neg] at this

/-- A sum over the tokens, by steps of 512 and inside a step by rows eight apart. -/
theorem sum_rows (a : Fin 16 → Fin 64 → Fin 8 → EReal) (f : Fin 8192 → EReal)
    (h : ∀ s k r, a s k r = f ⟨s.val * 512 + (k.val * 8 + r.val), by omega⟩) :
    ∑ r, ∑ s, ∑ k, a s k r = ∑ l, f l := by
  rw [Cert.Product.sum_steps 16 512 8192 (by norm_num), Finset.sum_comm]
  refine Finset.sum_congr rfl fun s _ => ?_
  rw [Cert.Product.sum_steps 64 8 512 (by norm_num), Finset.sum_comm]
  exact Finset.sum_congr rfl fun k _ => Finset.sum_congr rfl fun r _ => h s k r

end Cert.Local

end
-- ==== Proof.Local.NormB.lean ====
/- The gradient of the root-mean-square norm by its argument and by its weights, one row block a step. -/
module

public import proofs.«01_k».proof.Defs
public import proofs.«01_k».proof.Proof.Gen.NormB
public import proofs.«01_k».proof.Proof.Gen.NormB.Frame
public import proofs.«01_k».proof.Proof.Gen.NormBIdeal
public import proofs.«01_k».proof.Proof.Gen.NormBIdeal.Value
public import proofs.«01_k».proof.Proof.Gen.NormBRefIdeal
public import proofs.«01_k».proof.Proof.Gen.NormBRefIdeal.Run
public import Idealize.ShloMosaic.Lib.Claim
public import proofs.«01_k».proof.Proof.Local.Reals
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.NormBIdeal.Value

open Cert.NormBIdeal Cert.NormBIdeal.Gen

variable (m : (ℓ : Loc nD τ sig) → Buf (Elt Ideal) ℓ)

/-- The reference's gradient by the norm's argument, -/
abbrev ref0 (X : FVec Ideal S8192x1024 .f32) (Y : FVec Ideal S1x1024 .f32) (Z U : FVec Ideal S8192x1024 .f32) : FVec Ideal S8192x1024 .f32 :=
  addf U (addf (addf (mulf (mulf Z (broadcastInDim Cert.NormBRefIdeal.S8192x1024 ![0, 1]
    Cert.NormBRefIdeal.Gen.bcast_S1x1024_S8192x1024_0_1 Y)) (broadcastInDim Cert.NormBRefIdeal.S8192x1024 ![0, 1]
    Cert.NormBRefIdeal.Gen.bcast_S8192x1_S8192x1024_0_1 (Host.rsqrt (addf (Host.divf (broadcastInDim
    Cert.NormBRefIdeal.S8192x1 ![0] Cert.NormBRefIdeal.Gen.bcast_S8192_S8192x1_0 (Host.reduceAdd (mulf X X) (constant
    Cert.NormBRefIdeal.S_ .f32 0x00000000#32) Cert.NormBRefIdeal.Gen.reducesTo_S8192x1024_S8192_d1
    Cert.NormBRefIdeal.Gen.h_S_)) (broadcastInDim Cert.NormBRefIdeal.S8192x1 ![]
    Cert.NormBRefIdeal.Gen.bcast_S_S8192x1 (constant Cert.NormBRefIdeal.S_ .f32 0x44800000#32))) (broadcastInDim
    Cert.NormBRefIdeal.S8192x1 ![] Cert.NormBRefIdeal.Gen.bcast_S_S8192x1 (constant Cert.NormBRefIdeal.S_ .f32
    0x358637BD#32)))))) (mulf X (broadcastInDim Cert.NormBRefIdeal.S8192x1024 ![0]
    Cert.NormBRefIdeal.Gen.bcast_S8192_S8192x1024_0 (Host.reduceAdd (Host.divf (mulf (shapeCast _ (Host.reduceAdd
    (mulf X (mulf Z (broadcastInDim Cert.NormBRefIdeal.S8192x1024 ![0, 1]
    Cert.NormBRefIdeal.Gen.bcast_S1x1024_S8192x1024_0_1 Y))) (constant Cert.NormBRefIdeal.S_ .f32 0x00000000#32)
    Cert.NormBRefIdeal.Gen.reducesTo_S8192x1024_S8192_d1 Cert.NormBRefIdeal.Gen.h_S_)
    Cert.NormBRefIdeal.Gen.shapeCasts_S8192_S8192x1) (mulf (broadcastInDim Cert.NormBRefIdeal.S8192x1 ![]
    Cert.NormBRefIdeal.Gen.bcast_S_S8192x1 (constant Cert.NormBRefIdeal.S_ .f32 0xBF000000#32)) (Host.divf (Host.rsqrt
    (addf (Host.divf (broadcastInDim Cert.NormBRefIdeal.S8192x1 ![0] Cert.NormBRefIdeal.Gen.bcast_S8192_S8192x1_0
    (Host.reduceAdd (mulf X X) (constant Cert.NormBRefIdeal.S_ .f32 0x00000000#32)
    Cert.NormBRefIdeal.Gen.reducesTo_S8192x1024_S8192_d1 Cert.NormBRefIdeal.Gen.h_S_)) (broadcastInDim
    Cert.NormBRefIdeal.S8192x1 ![] Cert.NormBRefIdeal.Gen.bcast_S_S8192x1 (constant Cert.NormBRefIdeal.S_ .f32
    0x44800000#32))) (broadcastInDim Cert.NormBRefIdeal.S8192x1 ![] Cert.NormBRefIdeal.Gen.bcast_S_S8192x1 (constant
    Cert.NormBRefIdeal.S_ .f32 0x358637BD#32)))) (addf (Host.divf (broadcastInDim Cert.NormBRefIdeal.S8192x1 ![0]
    Cert.NormBRefIdeal.Gen.bcast_S8192_S8192x1_0 (Host.reduceAdd (mulf X X) (constant Cert.NormBRefIdeal.S_ .f32
    0x00000000#32) Cert.NormBRefIdeal.Gen.reducesTo_S8192x1024_S8192_d1 Cert.NormBRefIdeal.Gen.h_S_)) (broadcastInDim
    Cert.NormBRefIdeal.S8192x1 ![] Cert.NormBRefIdeal.Gen.bcast_S_S8192x1 (constant Cert.NormBRefIdeal.S_ .f32
    0x44800000#32))) (broadcastInDim Cert.NormBRefIdeal.S8192x1 ![] Cert.NormBRefIdeal.Gen.bcast_S_S8192x1 (constant
    Cert.NormBRefIdeal.S_ .f32 0x358637BD#32)))))) (broadcastInDim Cert.NormBRefIdeal.S8192x1 ![]
    Cert.NormBRefIdeal.Gen.bcast_S_S8192x1 (constant Cert.NormBRefIdeal.S_ .f32 0x44800000#32))) (constant
    Cert.NormBRefIdeal.S_ .f32 0x00000000#32) Cert.NormBRefIdeal.Gen.reducesTo_S8192x1_S8192_d1
    Cert.NormBRefIdeal.Gen.h_S_)))) (mulf (broadcastInDim Cert.NormBRefIdeal.S8192x1024 ![0]
    Cert.NormBRefIdeal.Gen.bcast_S8192_S8192x1024_0 (Host.reduceAdd (Host.divf (mulf (shapeCast _ (Host.reduceAdd
    (mulf X (mulf Z (broadcastInDim Cert.NormBRefIdeal.S8192x1024 ![0, 1]
    Cert.NormBRefIdeal.Gen.bcast_S1x1024_S8192x1024_0_1 Y))) (constant Cert.NormBRefIdeal.S_ .f32 0x00000000#32)
    Cert.NormBRefIdeal.Gen.reducesTo_S8192x1024_S8192_d1 Cert.NormBRefIdeal.Gen.h_S_)
    Cert.NormBRefIdeal.Gen.shapeCasts_S8192_S8192x1) (mulf (broadcastInDim Cert.NormBRefIdeal.S8192x1 ![]
    Cert.NormBRefIdeal.Gen.bcast_S_S8192x1 (constant Cert.NormBRefIdeal.S_ .f32 0xBF000000#32)) (Host.divf (Host.rsqrt
    (addf (Host.divf (broadcastInDim Cert.NormBRefIdeal.S8192x1 ![0] Cert.NormBRefIdeal.Gen.bcast_S8192_S8192x1_0
    (Host.reduceAdd (mulf X X) (constant Cert.NormBRefIdeal.S_ .f32 0x00000000#32)
    Cert.NormBRefIdeal.Gen.reducesTo_S8192x1024_S8192_d1 Cert.NormBRefIdeal.Gen.h_S_)) (broadcastInDim
    Cert.NormBRefIdeal.S8192x1 ![] Cert.NormBRefIdeal.Gen.bcast_S_S8192x1 (constant Cert.NormBRefIdeal.S_ .f32
    0x44800000#32))) (broadcastInDim Cert.NormBRefIdeal.S8192x1 ![] Cert.NormBRefIdeal.Gen.bcast_S_S8192x1 (constant
    Cert.NormBRefIdeal.S_ .f32 0x358637BD#32)))) (addf (Host.divf (broadcastInDim Cert.NormBRefIdeal.S8192x1 ![0]
    Cert.NormBRefIdeal.Gen.bcast_S8192_S8192x1_0 (Host.reduceAdd (mulf X X) (constant Cert.NormBRefIdeal.S_ .f32
    0x00000000#32) Cert.NormBRefIdeal.Gen.reducesTo_S8192x1024_S8192_d1 Cert.NormBRefIdeal.Gen.h_S_)) (broadcastInDim
    Cert.NormBRefIdeal.S8192x1 ![] Cert.NormBRefIdeal.Gen.bcast_S_S8192x1 (constant Cert.NormBRefIdeal.S_ .f32
    0x44800000#32))) (broadcastInDim Cert.NormBRefIdeal.S8192x1 ![] Cert.NormBRefIdeal.Gen.bcast_S_S8192x1 (constant
    Cert.NormBRefIdeal.S_ .f32 0x358637BD#32)))))) (broadcastInDim Cert.NormBRefIdeal.S8192x1 ![]
    Cert.NormBRefIdeal.Gen.bcast_S_S8192x1 (constant Cert.NormBRefIdeal.S_ .f32 0x44800000#32))) (constant
    Cert.NormBRefIdeal.S_ .f32 0x00000000#32) Cert.NormBRefIdeal.Gen.reducesTo_S8192x1_S8192_d1
    Cert.NormBRefIdeal.Gen.h_S_)) X))

/-- and by its weights. -/
abbrev ref1 (X : FVec Ideal S8192x1024 .f32) (Y : FVec Ideal S1x1024 .f32) (Z U : FVec Ideal S8192x1024 .f32) : FVec Ideal S1x1024 .f32 :=
  shapeCast _ (Host.reduceAdd (mulf (mulf X (broadcastInDim Cert.NormBRefIdeal.S8192x1024 ![0, 1]
    Cert.NormBRefIdeal.Gen.bcast_S8192x1_S8192x1024_0_1 (Host.rsqrt (addf (Host.divf (broadcastInDim
    Cert.NormBRefIdeal.S8192x1 ![0] Cert.NormBRefIdeal.Gen.bcast_S8192_S8192x1_0 (Host.reduceAdd (mulf X X) (constant
    Cert.NormBRefIdeal.S_ .f32 0x00000000#32) Cert.NormBRefIdeal.Gen.reducesTo_S8192x1024_S8192_d1
    Cert.NormBRefIdeal.Gen.h_S_)) (broadcastInDim Cert.NormBRefIdeal.S8192x1 ![]
    Cert.NormBRefIdeal.Gen.bcast_S_S8192x1 (constant Cert.NormBRefIdeal.S_ .f32 0x44800000#32))) (broadcastInDim
    Cert.NormBRefIdeal.S8192x1 ![] Cert.NormBRefIdeal.Gen.bcast_S_S8192x1 (constant Cert.NormBRefIdeal.S_ .f32
    0x358637BD#32)))))) Z) (constant Cert.NormBRefIdeal.S_ .f32 0x00000000#32)
    Cert.NormBRefIdeal.Gen.reducesTo_S8192x1024_S1024_d0 Cert.NormBRefIdeal.Gen.h_S_)
    Cert.NormBRefIdeal.Gen.shapeCasts_S1024_S1x1024

/-- Where the windows stand at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

set_option maxHeartbeats 2000000 in
/-- One block of the gradient by the argument. -/
theorem point (c : Dev nD) (t : Fin cfg0.N) (y : S512x1024.Idx) :
    k0_pay5 (F := Ideal) (iblk m c 0 t) (iblk m c 2 t) (iblk m c 1 t) (iblk m c 3 t) y
      = ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay5, k0_pay4, ref0]
  simp only [Fin.sum_univ_one, Cert.Local.ofBits_1024]
  refine (Cert.Local.norm (Cert.Local.mean_pos _ (by norm_num)) _ _ _ _ _ 1024 (by norm_num) Cert.Local.ofBits_half).trans ?_
  blk_point [iblk, V, idx t]

set_option maxHeartbeats 2000000 in
theorem final0 (c : Dev nD) : (dats m 0 c).arrAt 4 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < _ := lt_of_lt_of_eq t.isLt N_0
  blk_simp
  rw [after0_4]
  by_cases h0 : t.val % 16 = 0
  · rw [outsAt0_A m c t h0 (by omega)]; frame_out; exact point m c t y
  by_cases h1 : t.val % 16 = 15
  · rw [outsAt0_C m c t h0 h1]; frame_out; exact point m c t y
  · rw [outsAt0_B m c t h0 h1]; frame_out; exact point m c t y

/-- The token of an eight-row group. -/
def row (k : Fin 64) (r : Fin 8) : Fin 512 := ⟨k.val * 8 + r.val, by omega⟩

/-- What a step adds to the accumulator: its rows, eight apart. -/
def adds (x0 x2 : Vec Ideal S512x1024 .f32) (r : Fin 8) (e : Fin 1024) : EReal :=
  ∑ k : Fin 64, x2 (ix2 (row k r) e) * (x0 (ix2 (row k r) e) * k0_pay4 (F := Ideal) x0 (ix2 (row k r) 0))

/-- A step adds its rows to the accumulator. -/
theorem step_at (x0 x2 : Vec Ideal S512x1024 .f32) (acc : Vec Ideal S8x1024 .f32) (j : S8x1024.Idx) :
    k0_pay1 (F := Ideal) acc (k0_pay6 x0 x2) j = acc j + adds x0 x2 (j 0) (j 1) := by
  unfold adds
  pointwise [k0_pay1, k0_pay6]
  rfl

/-- The first step starts from zero. -/
theorem zero_at (j : S8x1024.Idx) : k0_pay3 (F := Ideal) j = (0 : EReal) := by
  pointwise [k0_pay3]

/-- The last step sums the accumulator's eight rows. -/
theorem out_at (c : Dev nD) (t : Fin cfg0.N) (h : t.val % 16 = 15) (y : S1x1024.Idx) :
    (outsAt0 m c t.val t.isLt).2.1 y = ∑ r : Fin 8, (outsAt0 m c t.val t.isLt).2.2 (ix2 r (y 1)) := by
  have ht : t.val < _ := lt_of_lt_of_eq t.isLt N_0
  rw [outsAt0_C m c t (by omega) h]
  frame_out
  pointwise [k0_pay2]

set_option maxHeartbeats 2000000 in
theorem final1 (c : Dev nD) : (dats m 0 c).arrAt 5 (cfgs 0).N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out_at m c t ((flush0_5 t).mp hf)]
  have e : ∀ r : Fin 8, (outsAt0 m c t.val t.isLt).2.2 (ix2 r (y 1)) = _ := fun r => by
    rw [Pipeline.eq_sum_fin_of_reset_step_apply_of_flush (fun n h => (outsAt0 m c n h).2.2) 16 (fun _ => 0)
      (fun t j => adds (iblk m c 0 t) (iblk m c 2 t) (j 0) (j 1))
      (fun t h j => by
        have ht : t.val < _ := lt_of_lt_of_eq t.isLt N_0
        rw [outsAt0_A m c t h (by omega)]; frame_out; rw [step_at, zero_at])
      (fun t h j => by
        have ht : t.val < _ := lt_of_lt_of_eq t.isLt N_0
        by_cases h2 : t.val % 16 = 15
        · rw [outsAt0_C m c t h h2]; frame_out; rw [step_at, read_unread_whole]
        · rw [outsAt0_B m c t h h2]; frame_out; rw [step_at, read_unread_whole])
      t ((flush0_5 t).mp hf) _, zero_add]
  rw [Finset.sum_congr rfl fun r _ => e r]
  pointwise [ref1]
  unfold adds
  refine Cert.Local.sum_rows (fun s k r => _) (fun l => _) fun s k r => ?_
  pointwise [k0_pay4]
  blk_point [iblk, V, row, idx t, idx ⟨_, Pipeline.run_point_lt_of_flush t ((flush0_5 t).mp hf) s⟩]

end Cert.NormBIdeal.Value

namespace Cert.Proof

/-- The call and the reference end with the same arrays. -/
theorem normB : Cert.algebraic_NormBIdeal_NormBRefIdeal := by
  pair_intro
  · run_from Cert.NormBIdeal.Value.run_blocks m g
  · refine Idealize.ShloMosaic.θ_run_mono (Cert.NormBRefIdeal.Value.run m' g') fun r hr c => ?_
    obtain ⟨h0, h1, k0, k1, k2, k3⟩ := hr c
    obtain ⟨e0, e1, e2, e3⟩ := hagree c
    rw [e0, e1, e2, e3] at h0
    rw [e0, e2] at h1
    exact ⟨h0.trans (Cert.NormBIdeal.Value.final0 m c).symm, h1.trans (Cert.NormBIdeal.Value.final1 m c).symm, k0, k1, k2, k3⟩

end Cert.Proof

end
-- ==== Proof.Local.NormBTwo.lean ====
/- The gradient of the root-mean-square norm by its argument and by its weights, where two gradients of its result meet. -/
module

public import proofs.«01_k».proof.Defs
public import proofs.«01_k».proof.Proof.Gen.NormBTwo
public import proofs.«01_k».proof.Proof.Gen.NormBTwo.Frame
public import proofs.«01_k».proof.Proof.Gen.NormBTwoIdeal
public import proofs.«01_k».proof.Proof.Gen.NormBTwoIdeal.Value
public import proofs.«01_k».proof.Proof.Gen.NormBTwoRefIdeal
public import proofs.«01_k».proof.Proof.Gen.NormBTwoRefIdeal.Run
public import Idealize.ShloMosaic.Lib.Claim
public import proofs.«01_k».proof.Proof.Local.Reals
public import Idealize.ShloMosaic.Lib.Pointwise
public import Idealize.ShloMosaic.Lib.Pipeline.ValueKit
public import Idealize.ShloMosaic.Lib.Pipeline.ReadBack
public import proofs.«01_k».proof.Proof.Product.Sums

@[expose] public section

set_option maxRecDepth 16384

noncomputable section

open Idealize.ShloMosaic Idealize.ShloMosaic.TcCoe Idealize.SL.Sem
open Idealize.ShloMosaic.Pipeline (Dat)

namespace Cert.NormBTwoIdeal.Value

open Cert.NormBTwoIdeal Cert.NormBTwoIdeal.Gen

variable (m : (ℓ : Loc nD τ sig) → Buf (Elt Ideal) ℓ)

/-- The reference's gradient by the norm's argument, -/
abbrev ref0 (X : FVec Ideal S8192x1024 .f32) (Y : FVec Ideal S1x1024 .f32) (Z U V : FVec Ideal S8192x1024 .f32) : FVec Ideal S8192x1024 .f32 :=
  addf V (addf (addf (mulf (mulf (addf Z U) (broadcastInDim Cert.NormBTwoRefIdeal.S8192x1024 ![0, 1]
    Cert.NormBTwoRefIdeal.Gen.bcast_S1x1024_S8192x1024_0_1 Y)) (broadcastInDim Cert.NormBTwoRefIdeal.S8192x1024 ![0,
    1] Cert.NormBTwoRefIdeal.Gen.bcast_S8192x1_S8192x1024_0_1 (Host.rsqrt (addf (Host.divf (broadcastInDim
    Cert.NormBTwoRefIdeal.S8192x1 ![0] Cert.NormBTwoRefIdeal.Gen.bcast_S8192_S8192x1_0 (Host.reduceAdd (mulf X X)
    (constant Cert.NormBTwoRefIdeal.S_ .f32 0x00000000#32) Cert.NormBTwoRefIdeal.Gen.reducesTo_S8192x1024_S8192_d1
    Cert.NormBTwoRefIdeal.Gen.h_S_)) (broadcastInDim Cert.NormBTwoRefIdeal.S8192x1 ![]
    Cert.NormBTwoRefIdeal.Gen.bcast_S_S8192x1 (constant Cert.NormBTwoRefIdeal.S_ .f32 0x44800000#32))) (broadcastInDim
    Cert.NormBTwoRefIdeal.S8192x1 ![] Cert.NormBTwoRefIdeal.Gen.bcast_S_S8192x1 (constant Cert.NormBTwoRefIdeal.S_
    .f32 0x358637BD#32)))))) (mulf X (broadcastInDim Cert.NormBTwoRefIdeal.S8192x1024 ![0]
    Cert.NormBTwoRefIdeal.Gen.bcast_S8192_S8192x1024_0 (Host.reduceAdd (Host.divf (mulf (shapeCast _ (Host.reduceAdd
    (mulf X (mulf (addf Z U) (broadcastInDim Cert.NormBTwoRefIdeal.S8192x1024 ![0, 1]
    Cert.NormBTwoRefIdeal.Gen.bcast_S1x1024_S8192x1024_0_1 Y))) (constant Cert.NormBTwoRefIdeal.S_ .f32 0x00000000#32)
    Cert.NormBTwoRefIdeal.Gen.reducesTo_S8192x1024_S8192_d1 Cert.NormBTwoRefIdeal.Gen.h_S_)
    Cert.NormBTwoRefIdeal.Gen.shapeCasts_S8192_S8192x1) (mulf (broadcastInDim Cert.NormBTwoRefIdeal.S8192x1 ![]
    Cert.NormBTwoRefIdeal.Gen.bcast_S_S8192x1 (constant Cert.NormBTwoRefIdeal.S_ .f32 0xBF000000#32)) (Host.divf
    (Host.rsqrt (addf (Host.divf (broadcastInDim Cert.NormBTwoRefIdeal.S8192x1 ![0]
    Cert.NormBTwoRefIdeal.Gen.bcast_S8192_S8192x1_0 (Host.reduceAdd (mulf X X) (constant Cert.NormBTwoRefIdeal.S_ .f32
    0x00000000#32) Cert.NormBTwoRefIdeal.Gen.reducesTo_S8192x1024_S8192_d1 Cert.NormBTwoRefIdeal.Gen.h_S_))
    (broadcastInDim Cert.NormBTwoRefIdeal.S8192x1 ![] Cert.NormBTwoRefIdeal.Gen.bcast_S_S8192x1 (constant
    Cert.NormBTwoRefIdeal.S_ .f32 0x44800000#32))) (broadcastInDim Cert.NormBTwoRefIdeal.S8192x1 ![]
    Cert.NormBTwoRefIdeal.Gen.bcast_S_S8192x1 (constant Cert.NormBTwoRefIdeal.S_ .f32 0x358637BD#32)))) (addf
    (Host.divf (broadcastInDim Cert.NormBTwoRefIdeal.S8192x1 ![0] Cert.NormBTwoRefIdeal.Gen.bcast_S8192_S8192x1_0
    (Host.reduceAdd (mulf X X) (constant Cert.NormBTwoRefIdeal.S_ .f32 0x00000000#32)
    Cert.NormBTwoRefIdeal.Gen.reducesTo_S8192x1024_S8192_d1 Cert.NormBTwoRefIdeal.Gen.h_S_)) (broadcastInDim
    Cert.NormBTwoRefIdeal.S8192x1 ![] Cert.NormBTwoRefIdeal.Gen.bcast_S_S8192x1 (constant Cert.NormBTwoRefIdeal.S_
    .f32 0x44800000#32))) (broadcastInDim Cert.NormBTwoRefIdeal.S8192x1 ![] Cert.NormBTwoRefIdeal.Gen.bcast_S_S8192x1
    (constant Cert.NormBTwoRefIdeal.S_ .f32 0x358637BD#32)))))) (broadcastInDim Cert.NormBTwoRefIdeal.S8192x1 ![]
    Cert.NormBTwoRefIdeal.Gen.bcast_S_S8192x1 (constant Cert.NormBTwoRefIdeal.S_ .f32 0x44800000#32))) (constant
    Cert.NormBTwoRefIdeal.S_ .f32 0x00000000#32) Cert.NormBTwoRefIdeal.Gen.reducesTo_S8192x1_S8192_d1
    Cert.NormBTwoRefIdeal.Gen.h_S_)))) (mulf (broadcastInDim Cert.NormBTwoRefIdeal.S8192x1024 ![0]
    Cert.NormBTwoRefIdeal.Gen.bcast_S8192_S8192x1024_0 (Host.reduceAdd (Host.divf (mulf (shapeCast _ (Host.reduceAdd
    (mulf X (mulf (addf Z U) (broadcastInDim Cert.NormBTwoRefIdeal.S8192x1024 ![0, 1]
    Cert.NormBTwoRefIdeal.Gen.bcast_S1x1024_S8192x1024_0_1 Y))) (constant Cert.NormBTwoRefIdeal.S_ .f32 0x00000000#32)
    Cert.NormBTwoRefIdeal.Gen.reducesTo_S8192x1024_S8192_d1 Cert.NormBTwoRefIdeal.Gen.h_S_)
    Cert.NormBTwoRefIdeal.Gen.shapeCasts_S8192_S8192x1) (mulf (broadcastInDim Cert.NormBTwoRefIdeal.S8192x1 ![]
    Cert.NormBTwoRefIdeal.Gen.bcast_S_S8192x1 (constant Cert.NormBTwoRefIdeal.S_ .f32 0xBF000000#32)) (Host.divf
    (Host.rsqrt (addf (Host.divf (broadcastInDim Cert.NormBTwoRefIdeal.S8192x1 ![0]
    Cert.NormBTwoRefIdeal.Gen.bcast_S8192_S8192x1_0 (Host.reduceAdd (mulf X X) (constant Cert.NormBTwoRefIdeal.S_ .f32
    0x00000000#32) Cert.NormBTwoRefIdeal.Gen.reducesTo_S8192x1024_S8192_d1 Cert.NormBTwoRefIdeal.Gen.h_S_))
    (broadcastInDim Cert.NormBTwoRefIdeal.S8192x1 ![] Cert.NormBTwoRefIdeal.Gen.bcast_S_S8192x1 (constant
    Cert.NormBTwoRefIdeal.S_ .f32 0x44800000#32))) (broadcastInDim Cert.NormBTwoRefIdeal.S8192x1 ![]
    Cert.NormBTwoRefIdeal.Gen.bcast_S_S8192x1 (constant Cert.NormBTwoRefIdeal.S_ .f32 0x358637BD#32)))) (addf
    (Host.divf (broadcastInDim Cert.NormBTwoRefIdeal.S8192x1 ![0] Cert.NormBTwoRefIdeal.Gen.bcast_S8192_S8192x1_0
    (Host.reduceAdd (mulf X X) (constant Cert.NormBTwoRefIdeal.S_ .f32 0x00000000#32)
    Cert.NormBTwoRefIdeal.Gen.reducesTo_S8192x1024_S8192_d1 Cert.NormBTwoRefIdeal.Gen.h_S_)) (broadcastInDim
    Cert.NormBTwoRefIdeal.S8192x1 ![] Cert.NormBTwoRefIdeal.Gen.bcast_S_S8192x1 (constant Cert.NormBTwoRefIdeal.S_
    .f32 0x44800000#32))) (broadcastInDim Cert.NormBTwoRefIdeal.S8192x1 ![] Cert.NormBTwoRefIdeal.Gen.bcast_S_S8192x1
    (constant Cert.NormBTwoRefIdeal.S_ .f32 0x358637BD#32)))))) (broadcastInDim Cert.NormBTwoRefIdeal.S8192x1 ![]
    Cert.NormBTwoRefIdeal.Gen.bcast_S_S8192x1 (constant Cert.NormBTwoRefIdeal.S_ .f32 0x44800000#32))) (constant
    Cert.NormBTwoRefIdeal.S_ .f32 0x00000000#32) Cert.NormBTwoRefIdeal.Gen.reducesTo_S8192x1_S8192_d1
    Cert.NormBTwoRefIdeal.Gen.h_S_)) X))

/-- and by its weights. -/
abbrev ref1 (X : FVec Ideal S8192x1024 .f32) (Y : FVec Ideal S1x1024 .f32) (Z U V : FVec Ideal S8192x1024 .f32) : FVec Ideal S1x1024 .f32 :=
  shapeCast _ (Host.reduceAdd (mulf (mulf X (broadcastInDim Cert.NormBTwoRefIdeal.S8192x1024 ![0, 1]
    Cert.NormBTwoRefIdeal.Gen.bcast_S8192x1_S8192x1024_0_1 (Host.rsqrt (addf (Host.divf (broadcastInDim
    Cert.NormBTwoRefIdeal.S8192x1 ![0] Cert.NormBTwoRefIdeal.Gen.bcast_S8192_S8192x1_0 (Host.reduceAdd (mulf X X)
    (constant Cert.NormBTwoRefIdeal.S_ .f32 0x00000000#32) Cert.NormBTwoRefIdeal.Gen.reducesTo_S8192x1024_S8192_d1
    Cert.NormBTwoRefIdeal.Gen.h_S_)) (broadcastInDim Cert.NormBTwoRefIdeal.S8192x1 ![]
    Cert.NormBTwoRefIdeal.Gen.bcast_S_S8192x1 (constant Cert.NormBTwoRefIdeal.S_ .f32 0x44800000#32))) (broadcastInDim
    Cert.NormBTwoRefIdeal.S8192x1 ![] Cert.NormBTwoRefIdeal.Gen.bcast_S_S8192x1 (constant Cert.NormBTwoRefIdeal.S_
    .f32 0x358637BD#32)))))) (addf Z U)) (constant Cert.NormBTwoRefIdeal.S_ .f32 0x00000000#32)
    Cert.NormBTwoRefIdeal.Gen.reducesTo_S8192x1024_S1024_d0 Cert.NormBTwoRefIdeal.Gen.h_S_)
    Cert.NormBTwoRefIdeal.Gen.shapeCasts_S1024_S1x1024

/-- Where the windows stand at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0]
    ∧ win0_5.index t = ![t.val, 0] ∧ win0_6.index t = ![0, 0] :=
  (by decide +kernel : ∀ t : Fin grid0.N, _)

set_option maxHeartbeats 2000000 in
/-- One block of the gradient by the argument. -/
theorem point (c : Dev nD) (t : Fin cfg0.N) (y : S512x1024.Idx) :
    k0_pay6 (F := Ideal) (iblk m c 0 t) (iblk m c 2 t) (iblk m c 3 t) (iblk m c 1 t) (iblk m c 4 t) y
      = ref0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay6, k0_pay5, k0_pay4, ref0]
  simp only [Fin.sum_univ_one, Cert.Local.ofBits_1024]
  refine (Cert.Local.norm (Cert.Local.mean_pos _ (by norm_num)) _ _ _ _ _ 1024 (by norm_num) Cert.Local.ofBits_half).trans ?_
  blk_point [iblk, V, idx t]

set_option maxHeartbeats 2000000 in
theorem final0 (c : Dev nD) : (dats m 0 c).arrAt 5 (cfgs 0).N = ref0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht : t.val < _ := lt_of_lt_of_eq t.isLt N_0
  blk_simp
  rw [after0_5]
  by_cases h0 : t.val % 16 = 0
  · rw [outsAt0_A m c t h0 (by omega)]; frame_out; exact point m c t y
  by_cases h1 : t.val % 16 = 15
  · rw [outsAt0_C m c t h0 h1]; frame_out; exact point m c t y
  · rw [outsAt0_B m c t h0 h1]; frame_out; exact point m c t y

/-- The token of an eight-row group. -/
def row (k : Fin 64) (r : Fin 8) : Fin 512 := ⟨k.val * 8 + r.val, by omega⟩

/-- What a step adds to the accumulator: its rows, eight apart. -/
def adds (x0 x2 x3 : Vec Ideal S512x1024 .f32) (r : Fin 8) (e : Fin 1024) : EReal :=
  ∑ k : Fin 64, (x2 (ix2 (row k r) e) + x3 (ix2 (row k r) e)) * (x0 (ix2 (row k r) e) * k0_pay5 (F := Ideal) x0 (ix2 (row k r) 0))

/-- A step adds its rows to the accumulator. -/
theorem step_at (x0 x2 x3 : Vec Ideal S512x1024 .f32) (acc : Vec Ideal S8x1024 .f32) (j : S8x1024.Idx) :
    k0_pay1 (F := Ideal) x0 (k0_pay4 x2 x3) acc (k0_pay7 x0) j = acc j + adds x0 x2 x3 (j 0) (j 1) := by
  unfold adds
  pointwise [k0_pay1, k0_pay7, k0_pay4]
  rfl

/-- The first step starts from zero. -/
theorem zero_at (j : S8x1024.Idx) : k0_pay3 (F := Ideal) j = (0 : EReal) := by
  pointwise [k0_pay3]

/-- The last step sums the accumulator's eight rows. -/
theorem out_at (c : Dev nD) (t : Fin cfg0.N) (h : t.val % 16 = 15) (y : S1x1024.Idx) :
    (outsAt0 m c t.val t.isLt).2.1 y = ∑ r : Fin 8, (outsAt0 m c t.val t.isLt).2.2 (ix2 r (y 1)) := by
  have ht : t.val < _ := lt_of_lt_of_eq t.isLt N_0
  rw [outsAt0_C m c t (by omega) h]
  frame_out
  pointwise [k0_pay2]

set_option maxHeartbeats 2000000 in
theorem final1 (c : Dev nD) : (dats m 0 c).arrAt 6 (cfgs 0).N = ref1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out_at m c t ((flush0_6 t).mp hf)]
  have e : ∀ r : Fin 8, (outsAt0 m c t.val t.isLt).2.2 (ix2 r (y 1)) = _ := fun r => by
    rw [Pipeline.eq_sum_fin_of_reset_step_apply_of_flush (fun n h => (outsAt0 m c n h).2.2) 16 (fun _ => 0)
      (fun t j => adds (iblk m c 0 t) (iblk m c 2 t) (iblk m c 3 t) (j 0) (j 1))
      (fun t h j => by
        have ht : t.val < _ := lt_of_lt_of_eq t.isLt N_0
        rw [outsAt0_A m c t h (by omega)]; frame_out; rw [step_at, zero_at])
      (fun t h j => by
        have ht : t.val < _ := lt_of_lt_of_eq t.isLt N_0
        by_cases h2 : t.val % 16 = 15
        · rw [outsAt0_C m c t h h2]; frame_out; rw [step_at, read_unread_whole]
        · rw [outsAt0_B m c t h h2]; frame_out; rw [step_at, read_unread_whole])
      t ((flush0_6 t).mp hf) _, zero_add]
  rw [Finset.sum_congr rfl fun r _ => e r]
  pointwise [ref1]
  unfold adds
  refine Cert.Local.sum_rows (fun s k r => _) (fun l => _) fun s k r => ?_
  pointwise [k0_pay5]
  blk_point [iblk, V, row, idx t, idx ⟨_, Pipeline.run_point_lt_of_flush t ((flush0_6 t).mp hf) s⟩]

end Cert.NormBTwoIdeal.Value

namespace Cert.Proof

/-- The call and the reference end with the same arrays. -/
theorem normBTwo : Cert.algebraic_NormBTwoIdeal_NormBTwoRefIdeal := by
  pair_intro
  · run_from Cert.NormBTwoIdeal.Value.run_blocks m g
  · refine Idealize.ShloMosaic.θ_run_mono (Cert.NormBTwoRefIdeal.Value.run m' g') fun r hr c => ?_
    obtain ⟨h0, h1, k0, k1, k2, k3, k4⟩ := hr c
    obtain ⟨e0, e1, e2, e3, e4⟩ := hagree c
    rw [e0, e1, e2, e3, e4] at h0
    rw [e0, e2, e3] at h1
    exact ⟨h0.trans (Cert.NormBTwoIdeal.Value.final0 m c).symm, h1.trans (Cert.NormBTwoIdeal.Value.final1 m c).symm, k0, k1, k2, k3, k4⟩

end Cert.Proof

end
-- ==== Proof.Local.GateB.lean ====
/- The attention branch's gate going backward. -/
module

public import proofs.«01_k».proof.Defs
public import proofs.«01_k».proof.Proof.Gen.GateB
public import proofs.«01_k».proof.Proof.Gen.GateB.Frame
public import proofs.«01_k».proof.Proof.Gen.GateBIdeal
public import proofs.«01_k».proof.Proof.Gen.GateBIdeal.Value
public import proofs.«01_k».proof.Proof.Gen.GateBRefIdeal
public import proofs.«01_k».proof.Proof.Gen.GateBRefIdeal.Run
public import Idealize.ShloMosaic.Lib.Claim
public import Idealize.ShloMosaic.Lib.Pointwise
public import Idealize.ShloMosaic.Lib.Pipeline.ValueKit
public import proofs.«01_k».proof.Proof.Local.Reals

@[expose] public section

set_option maxRecDepth 16384

noncomputable section

open Idealize.ShloMosaic Idealize.ShloMosaic.TcCoe Idealize.SL.Sem
open Idealize.ShloMosaic.Pipeline (Dat)

namespace Cert.GateBIdeal.Value

open Cert.GateBIdeal Cert.GateBIdeal.Gen

variable (m : (ℓ : Loc nD τ sig) → Buf (Elt Ideal) ℓ)

/-- The reference's gradient of the attention's output, -/
abbrev ref0 (X Y Z : FVec Ideal S8192x2048 .f32) (U : FVec Ideal S8192x8192 .f32) : FVec Ideal S8192x2048 .bf16 :=
  truncf .bf16 (mulf X (mulf (extractStridedSlice Cert.GateBRefIdeal.S8192x2048 ![0, 6144] U
    Cert.GateBRefIdeal.Gen.slices_S8192x8192_S8192x2048_0_6144) (Host.divf (broadcastInDim
    Cert.GateBRefIdeal.S8192x2048 ![] Cert.GateBRefIdeal.Gen.bcast_S_S8192x2048 (constant Cert.GateBRefIdeal.S_ .f32
    0x3F800000#32)) (addf (broadcastInDim Cert.GateBRefIdeal.S8192x2048 ![] Cert.GateBRefIdeal.Gen.bcast_S_S8192x2048
    (constant Cert.GateBRefIdeal.S_ .f32 0x3F800000#32)) (Host.exp (Host.negf (extractStridedSlice
    Cert.GateBRefIdeal.S8192x2048 ![0, 6144] U Cert.GateBRefIdeal.Gen.slices_S8192x8192_S8192x2048_0_6144)))))))
    Cert.GateBRefIdeal.Gen.bitsLt_bf16_f32

/-- of the gate's path, -/
abbrev ref1 (X Y Z : FVec Ideal S8192x2048 .f32) (U : FVec Ideal S8192x8192 .f32) : FVec Ideal S8192x2048 .bf16 :=
  truncf .bf16 (addf (mulf (mulf Y X) (Host.divf (broadcastInDim Cert.GateBRefIdeal.S8192x2048 ![]
    Cert.GateBRefIdeal.Gen.bcast_S_S8192x2048 (constant Cert.GateBRefIdeal.S_ .f32 0x3F800000#32)) (addf
    (broadcastInDim Cert.GateBRefIdeal.S8192x2048 ![] Cert.GateBRefIdeal.Gen.bcast_S_S8192x2048 (constant
    Cert.GateBRefIdeal.S_ .f32 0x3F800000#32)) (Host.exp (Host.negf (extractStridedSlice Cert.GateBRefIdeal.S8192x2048
    ![0, 6144] U Cert.GateBRefIdeal.Gen.slices_S8192x8192_S8192x2048_0_6144)))))) (mulf (mulf (extractStridedSlice
    Cert.GateBRefIdeal.S8192x2048 ![0, 6144] U Cert.GateBRefIdeal.Gen.slices_S8192x8192_S8192x2048_0_6144) (mulf Y X))
    (mulf (Host.divf (broadcastInDim Cert.GateBRefIdeal.S8192x2048 ![] Cert.GateBRefIdeal.Gen.bcast_S_S8192x2048
    (constant Cert.GateBRefIdeal.S_ .f32 0x3F800000#32)) (addf (broadcastInDim Cert.GateBRefIdeal.S8192x2048 ![]
    Cert.GateBRefIdeal.Gen.bcast_S_S8192x2048 (constant Cert.GateBRefIdeal.S_ .f32 0x3F800000#32)) (Host.exp
    (Host.negf (extractStridedSlice Cert.GateBRefIdeal.S8192x2048 ![0, 6144] U
    Cert.GateBRefIdeal.Gen.slices_S8192x8192_S8192x2048_0_6144))))) (subf (broadcastInDim
    Cert.GateBRefIdeal.S8192x2048 ![] Cert.GateBRefIdeal.Gen.bcast_S_S8192x2048 (constant Cert.GateBRefIdeal.S_ .f32
    0x3F800000#32)) (Host.divf (broadcastInDim Cert.GateBRefIdeal.S8192x2048 ![]
    Cert.GateBRefIdeal.Gen.bcast_S_S8192x2048 (constant Cert.GateBRefIdeal.S_ .f32 0x3F800000#32)) (addf
    (broadcastInDim Cert.GateBRefIdeal.S8192x2048 ![] Cert.GateBRefIdeal.Gen.bcast_S_S8192x2048 (constant
    Cert.GateBRefIdeal.S_ .f32 0x3F800000#32)) (Host.exp (Host.negf (extractStridedSlice Cert.GateBRefIdeal.S8192x2048
    ![0, 6144] U Cert.GateBRefIdeal.Gen.slices_S8192x8192_S8192x2048_0_6144)))))))))
    Cert.GateBRefIdeal.Gen.bitsLt_bf16_f32

/-- and its row sums of gradient times output. -/
abbrev ref2 (X Y Z : FVec Ideal S8192x2048 .f32) (U : FVec Ideal S8192x8192 .f32) : FVec Ideal S8192x2048 .f32 :=
  shapeCast _ (broadcastInDim Cert.GateBRefIdeal.S8192x16x128 ![0, 1]
    Cert.GateBRefIdeal.Gen.bcast_S8192x16_S8192x16x128_0_1 (Host.reduceAdd (shapeCast _ (mulf (extf .f32 (truncf .bf16
    (mulf X (mulf (extractStridedSlice Cert.GateBRefIdeal.S8192x2048 ![0, 6144] U
    Cert.GateBRefIdeal.Gen.slices_S8192x8192_S8192x2048_0_6144) (Host.divf (broadcastInDim
    Cert.GateBRefIdeal.S8192x2048 ![] Cert.GateBRefIdeal.Gen.bcast_S_S8192x2048 (constant Cert.GateBRefIdeal.S_ .f32
    0x3F800000#32)) (addf (broadcastInDim Cert.GateBRefIdeal.S8192x2048 ![] Cert.GateBRefIdeal.Gen.bcast_S_S8192x2048
    (constant Cert.GateBRefIdeal.S_ .f32 0x3F800000#32)) (Host.exp (Host.negf (extractStridedSlice
    Cert.GateBRefIdeal.S8192x2048 ![0, 6144] U Cert.GateBRefIdeal.Gen.slices_S8192x8192_S8192x2048_0_6144)))))))
    Cert.GateBRefIdeal.Gen.bitsLt_bf16_f32) Cert.GateBRefIdeal.Gen.bitsLt_bf16_f32) (addf Y Z))
    Cert.GateBRefIdeal.Gen.shapeCasts_S8192x2048_S8192x16x128) (constant Cert.GateBRefIdeal.S_ .f32 0x00000000#32)
    Cert.GateBRefIdeal.Gen.reducesTo_S8192x16x128_S8192x16_d2 Cert.GateBRefIdeal.Gen.h_S_))
    Cert.GateBRefIdeal.Gen.shapeCasts_S8192x16x128_S8192x2048

/-- Where the windows stand at each grid point. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, 12 + t.val % 4]
    ∧ win0_4.index t = ![t.val / 4, t.val % 4] ∧ win0_5.index t = ![t.val / 4, t.val % 4]
    ∧ win0_6.index t = ![t.val / 4, t.val % 4] :=
  (by decide +kernel : ∀ t : Fin grid0.N, _)

/-- The block of real arguments is real. -/
theorem real_blk (c : Dev nD) (t : Fin cfg0.N) (h0 : Cert.Local.AllReal (s := S8192x2048) (m ((c : Thread nD τ).loc main_arg0)))
    (h1 : Cert.Local.AllReal (s := S8192x2048) (m ((c : Thread nD τ).loc main_arg1))) :
    Cert.Local.AllReal (s := S512x512) (iblk m c 0 t) ∧ Cert.Local.AllReal (s := S512x512) (iblk m c 1 t) :=
  ⟨fun y => h0 (((cfg0.win 0).blk t).view.emb y), fun y => h1 (((cfg0.win 1).blk t).view.emb y)⟩

/-- One block of the gradient of the attention's output. -/
theorem point0 (c : Dev nD) (t : Fin cfg0.N) (y : S512x512.Idx) :
    k0_pay5 (F := Ideal) (iblk m c 0 t) (iblk m c 3 t) y
      = ref0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay5, k0_pay4, ref0]
  rw [zero_sub]
  blk_point [iblk, V, idx t]

/-- One block of the gradient of the gate's path. -/
theorem point1 (c : Dev nD) (t : Fin cfg0.N) (h0 : Cert.Local.AllReal (s := S8192x2048) (m ((c : Thread nD τ).loc main_arg0)))
    (h1 : Cert.Local.AllReal (s := S8192x2048) (m ((c : Thread nD τ).loc main_arg1))) (y : S512x512.Idx) :
    k0_pay6 (F := Ideal) (iblk m c 0 t) (iblk m c 1 t) (iblk m c 3 t) y
      = ref1 (m ((c : Thread nD τ).loc main_arg0)) (m ((c : Thread nD τ).loc main_arg1)) (m ((c : Thread nD τ).loc main_arg2)) (m ((c : Thread nD τ).loc main_arg3)) (((cfg0.win 5).blk t).view.emb y) := by
  obtain ⟨r0, r1⟩ := real_blk m c t h0 h1
  pointwise [k0_pay6, k0_pay4, ref1]
  refine (Cert.Local.gate (r0 y) (r1 y) _).trans ?_
  blk_point [iblk, V, idx t]

/-- One head's row sum. -/
theorem head_at (P0 P1 P2 P3 : Vec Ideal S512x512 .f32) (q : Fin 4) (i : S512.Idx) :
    Fam6_0 P0 P1 P2 P3 q i = ∑ k : Fin 128,
      P0 (ix2 (i 0) ⟨q.val * 128 + k.val, by omega⟩) * (P1 (ix2 (i 0) ⟨q.val * 128 + k.val, by omega⟩)
        * Ideal.div 1 (1 + Ideal.exp (0 - P1 (ix2 (i 0) ⟨q.val * 128 + k.val, by omega⟩))))
      * (P2 (ix2 (i 0) ⟨q.val * 128 + k.val, by omega⟩) + P3 (ix2 (i 0) ⟨q.val * 128 + k.val, by omega⟩)) := by
  fin_cases q <;> pointwise [Fam6_0]

/-- One block of the row sums. -/
theorem point2 (c : Dev nD) (t : Fin cfg0.N) (y : S512x512.Idx) :
    E6 (F := Ideal) (iblk m c 0 t) (iblk m c 3 t) (iblk m c 1 t) (iblk m c 2 t) y
      = ref2 (m ((c : Thread nD τ).loc main_arg0)) (m ((c : Thread nD τ).loc main_arg1)) (m ((c : Thread nD τ).loc main_arg2)) (m ((c : Thread nD τ).loc main_arg3)) (((cfg0.win 6).blk t).view.emb y) := by
  show Fam6_0 _ _ _ _ _ _ = _
  rw [head_at]
  pointwise [ref2]
  simp only [zero_sub]
  blk_point [iblk, V, idx t]

/-- The call's three results are the reference's. -/
theorem final0 (c : Dev nD) : (dats m 0 c).arrAt 4 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point0 m c t y

theorem final1 (c : Dev nD) (h0 : Cert.Local.AllReal (s := S8192x2048) (m ((c : Thread nD τ).loc main_arg0)))
    (h1 : Cert.Local.AllReal (s := S8192x2048) (m ((c : Thread nD τ).loc main_arg1))) :
    (dats m 0 c).arrAt 5 (cfgs 0).N = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point1 m c t h0 h1 y

set_option maxHeartbeats 2000000 in
theorem final2 (c : Dev nD) : (dats m 0 c).arrAt 6 (cfgs 0).N = ref2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold_out out0_6
  frame_out
  rw [canon6_eq]
  exact point2 m c t y

end Cert.GateBIdeal.Value

namespace Cert.Proof

/-- The shapes of the precondition's broadcasts. -/
theorem gate_facts : Cert.Pre_finite_gate.Facts where
  bcast_S_S8192x2048 := by decide

section

variable [Cert.Pre_finite_gate.Facts] {g o l : FVec Ideal Cert.Pre_finite_gate.S8192x2048 .f32}
  {p : FVec Ideal Cert.Pre_finite_gate.S8192x8192 .f32}

/-- Under the precondition the gradient of the gated output is real -/
theorem gate_real_g (H : (Cert.Pre_finite_gate.fn (F := Ideal) g o l p).1 = fun _ => 1#1) (i) : ∃ r : ℝ, (g i : EReal) = r := by
  have := congrFun H i
  revert this
  pointwise [Cert.Pre_finite_gate.fn, Cert.Local.ofBits_top]
  exact Cert.Local.real_of_lt

/-- and so is the attention's output. -/
theorem gate_real_o (H : (Cert.Pre_finite_gate.fn (F := Ideal) g o l p).2 = fun _ => 1#1) (i) : ∃ r : ℝ, (o i : EReal) = r := by
  have := congrFun H i
  revert this
  pointwise [Cert.Pre_finite_gate.fn, Cert.Local.ofBits_top]
  exact Cert.Local.real_of_lt

end

/-- From real arguments the call and the reference end with the same arrays. -/
theorem gateB [Cert.Pre_finite_gate.Facts] :
    Cert.algebraic_GateBIdeal_GateBRefIdeal_pre_finite_gate (hGateBIdeal := Cert.GateBIdeal.Gen.facts) (hGateBRefIdeal := Cert.GateBRefIdeal.Gen.facts) := by
  pair_intro
  · run_from Cert.GateBIdeal.Value.run_blocks m g
  · run_from Cert.GateBRefIdeal.Value.run m' g'
    · exact (Cert.GateBIdeal.Value.final0 m c).symm
    · exact (Cert.GateBIdeal.Value.final1 m c (gate_real_g (hpre c).1) (gate_real_o (hpre c).2)).symm
    · exact (Cert.GateBIdeal.Value.final2 m c).symm

end Cert.Proof

end
-- ==== Proof.lean ====
/- The attention's gradient, the projections' products, the norms and the gate: the kernel's calls against plain mathematics. -/
module

public import proofs.«01_k».proof.Defs
public import proofs.«01_k».proof.Proof.Frames
public import proofs.«01_k».proof.Proof.Value
public import proofs.«01_k».proof.Proof.Product.OutU
public import proofs.«01_k».proof.Proof.Product.OutW
public import proofs.«01_k».proof.Proof.Product.AInH
public import proofs.«01_k».proof.Proof.Product.AInW
public import proofs.«01_k».proof.Proof.Product.BInH
public import proofs.«01_k».proof.Proof.Product.BInW
public import proofs.«01_k».proof.Proof.Product.CInH
public import proofs.«01_k».proof.Proof.Product.CInW
public import proofs.«01_k».proof.Proof.Product.AIn
public import proofs.«01_k».proof.Proof.Product.BIn
public import proofs.«01_k».proof.Proof.Product.CIn
public import proofs.«01_k».proof.Proof.Product.Out
public import proofs.«01_k».proof.Proof.Product.Forget
public import proofs.«01_k».proof.Proof.Product.ForgetH
public import proofs.«01_k».proof.Proof.Product.ForgetW
public import proofs.«01_k».proof.Proof.Local.Norm
public import proofs.«01_k».proof.Proof.Local.NormB
public import proofs.«01_k».proof.Proof.Local.NormBTwo
public import proofs.«01_k».proof.Proof.Local.GateB
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.OutU.Gen.facts, Cert.OutUIdeal.Gen.facts, Cert.OutURefIdeal.Gen.facts,
    Cert.OutW.Gen.facts, Cert.OutWIdeal.Gen.facts, Cert.OutWRefIdeal.Gen.facts,
    Cert.AInH.Gen.facts, Cert.AInHIdeal.Gen.facts, Cert.AInHRefIdeal.Gen.facts,
    Cert.AInW.Gen.facts, Cert.AInWIdeal.Gen.facts, Cert.AInWRefIdeal.Gen.facts,
    Cert.BInH.Gen.facts, Cert.BInHIdeal.Gen.facts, Cert.BInHRefIdeal.Gen.facts,
    Cert.BInW.Gen.facts, Cert.BInWIdeal.Gen.facts, Cert.BInWRefIdeal.Gen.facts,
    Cert.CInH.Gen.facts, Cert.CInHIdeal.Gen.facts, Cert.CInHRefIdeal.Gen.facts,
    Cert.CInW.Gen.facts, Cert.CInWIdeal.Gen.facts, Cert.CInWRefIdeal.Gen.facts,
    Cert.AIn.Gen.facts, Cert.AInIdeal.Gen.facts, Cert.AInRefIdeal.Gen.facts,
    Cert.BIn.Gen.facts, Cert.BInIdeal.Gen.facts, Cert.BInRefIdeal.Gen.facts,
    Cert.CIn.Gen.facts, Cert.CInIdeal.Gen.facts, Cert.CInRefIdeal.Gen.facts,
    Cert.Out.Gen.facts, Cert.OutIdeal.Gen.facts, Cert.OutRefIdeal.Gen.facts,
    Cert.Forget.Gen.facts, Cert.ForgetIdeal.Gen.facts, Cert.ForgetRefIdeal.Gen.facts,
    Cert.ForgetH.Gen.facts, Cert.ForgetHIdeal.Gen.facts, Cert.ForgetHRefIdeal.Gen.facts,
    Cert.ForgetW.Gen.facts, Cert.ForgetWIdeal.Gen.facts, Cert.ForgetWRefIdeal.Gen.facts,
    Cert.Norm.Gen.facts, Cert.NormIdeal.Gen.facts, Cert.NormRefIdeal.Gen.facts,
    Cert.NormB.Gen.facts, Cert.NormBIdeal.Gen.facts, Cert.NormBRefIdeal.Gen.facts,
    Cert.NormBTwo.Gen.facts, Cert.NormBTwoIdeal.Gen.facts, Cert.NormBTwoRefIdeal.Gen.facts,
    Cert.GateB.Gen.facts, Cert.GateBIdeal.Gen.facts, Cert.GateBRefIdeal.Gen.facts,
    pre_facts, gate_facts,
    fun m g _ => Cert.Kernel.run_kept m g,
    fun m g _ => Cert.KernelIdeal.run_kept m g, fun m g _ => Cert.KernelIdeal.run_kept m g,
    fun m g _ => run_reference m g, fun m g _ => run_reference m g,
    fun m g _ => Cert.OutU.Gen.frame m g, fun m g _ => Cert.OutUIdeal.Gen.frame m g,
    fun m g _ => (θ_run _ _ _).mono (fun _ h => ⟨fun c => (h c).2, sem_eq_zero_of_no_sems (by decide) _⟩)
      (Cert.OutURefIdeal.Value.run m g),
    fun m g _ => Cert.OutW.Gen.frame m g, fun m g _ => Cert.OutWIdeal.Gen.frame m g,
    fun m g _ => (θ_run _ _ _).mono (fun _ h => ⟨fun c => (h c).2, sem_eq_zero_of_no_sems (by decide) _⟩)
      (Cert.OutWRefIdeal.Value.run m g),
    fun m g _ => Cert.AInH.Gen.frame m g, fun m g _ => Cert.AInHIdeal.Gen.frame m g,
    fun m g _ => (θ_run _ _ _).mono (fun _ h => ⟨fun c => (h c).2, sem_eq_zero_of_no_sems (by decide) _⟩)
      (Cert.AInHRefIdeal.Value.run m g),
    fun m g _ => Cert.AInW.Gen.frame m g, fun m g _ => Cert.AInWIdeal.Gen.frame m g,
    fun m g _ => (θ_run _ _ _).mono (fun _ h => ⟨fun c => (h c).2, sem_eq_zero_of_no_sems (by decide) _⟩)
      (Cert.AInWRefIdeal.Value.run m g),
    fun m g _ => Cert.BInH.Gen.frame m g, fun m g _ => Cert.BInHIdeal.Gen.frame m g,
    fun m g _ => (θ_run _ _ _).mono (fun _ h => ⟨fun c => (h c).2, sem_eq_zero_of_no_sems (by decide) _⟩)
      (Cert.BInHRefIdeal.Value.run m g),
    fun m g _ => Cert.BInW.Gen.frame m g, fun m g _ => Cert.BInWIdeal.Gen.frame m g,
    fun m g _ => (θ_run _ _ _).mono (fun _ h => ⟨fun c => (h c).2, sem_eq_zero_of_no_sems (by decide) _⟩)
      (Cert.BInWRefIdeal.Value.run m g),
    fun m g _ => Cert.CInH.Gen.frame m g, fun m g _ => Cert.CInHIdeal.Gen.frame m g,
    fun m g _ => (θ_run _ _ _).mono (fun _ h => ⟨fun c => (h c).2, sem_eq_zero_of_no_sems (by decide) _⟩)
      (Cert.CInHRefIdeal.Value.run m g),
    fun m g _ => Cert.CInW.Gen.frame m g, fun m g _ => Cert.CInWIdeal.Gen.frame m g,
    fun m g _ => (θ_run _ _ _).mono (fun _ h => ⟨fun c => (h c).2, sem_eq_zero_of_no_sems (by decide) _⟩)
      (Cert.CInWRefIdeal.Value.run m g),
    fun m g _ => Cert.AIn.Gen.frame m g, fun m g _ => Cert.AInIdeal.Gen.frame m g,
    fun m g _ => (θ_run _ _ _).mono (fun _ h => ⟨fun c => (h c).2, sem_eq_zero_of_no_sems (by decide) _⟩)
      (Cert.AInRefIdeal.Value.run m g),
    fun m g _ => Cert.BIn.Gen.frame m g, fun m g _ => Cert.BInIdeal.Gen.frame m g,
    fun m g _ => (θ_run _ _ _).mono (fun _ h => ⟨fun c => (h c).2, sem_eq_zero_of_no_sems (by decide) _⟩)
      (Cert.BInRefIdeal.Value.run m g),
    fun m g _ => Cert.CIn.Gen.frame m g, fun m g _ => Cert.CInIdeal.Gen.frame m g,
    fun m g _ => (θ_run _ _ _).mono (fun _ h => ⟨fun c => (h c).2, sem_eq_zero_of_no_sems (by decide) _⟩)
      (Cert.CInRefIdeal.Value.run m g),
    fun m g _ => Cert.Out.Gen.frame m g, fun m g _ => Cert.OutIdeal.Gen.frame m g,
    fun m g _ => (θ_run _ _ _).mono (fun _ h => ⟨fun c => (h c).2, sem_eq_zero_of_no_sems (by decide) _⟩)
      (Cert.OutRefIdeal.Value.run m g),
    fun m g _ => Cert.Forget.Gen.frame m g, fun m g _ => Cert.ForgetIdeal.Gen.frame m g,
    fun m g _ => (θ_run _ _ _).mono (fun _ h => ⟨fun c => (h c).2, sem_eq_zero_of_no_sems (by decide) _⟩)
      (Cert.ForgetRefIdeal.Value.run m g),
    fun m g _ => Cert.ForgetH.Gen.frame m g, fun m g _ => Cert.ForgetHIdeal.Gen.frame m g,
    fun m g _ => (θ_run _ _ _).mono (fun _ h => ⟨fun c => (h c).2, sem_eq_zero_of_no_sems (by decide) _⟩)
      (Cert.ForgetHRefIdeal.Value.run m g),
    fun m g _ => Cert.ForgetW.Gen.frame m g, fun m g _ => Cert.ForgetWIdeal.Gen.frame m g,
    fun m g _ => (θ_run _ _ _).mono (fun _ h => ⟨fun c => (h c).2, sem_eq_zero_of_no_sems (by decide) _⟩)
      (Cert.ForgetWRefIdeal.Value.run m g),
    fun m g _ => Cert.Norm.Gen.frame m g, fun m g _ => Cert.NormIdeal.Gen.frame m g,
    fun m g _ => (θ_run _ _ _).mono (fun _ h => ⟨fun c => (h c).2, sem_eq_zero_of_no_sems (by decide) _⟩)
      (Cert.NormRefIdeal.Value.run m g),
    fun m g _ => Cert.NormB.Gen.frame m g, fun m g _ => Cert.NormBIdeal.Gen.frame m g,
    fun m g _ => (θ_run _ _ _).mono (fun _ h => ⟨fun c => (h c).2.2, sem_eq_zero_of_no_sems (by decide) _⟩)
      (Cert.NormBRefIdeal.Value.run m g),
    fun m g _ => Cert.NormBTwo.Gen.frame m g, fun m g _ => Cert.NormBTwoIdeal.Gen.frame m g,
    fun m g _ => (θ_run _ _ _).mono (fun _ h => ⟨fun c => (h c).2.2, sem_eq_zero_of_no_sems (by decide) _⟩)
      (Cert.NormBTwoRefIdeal.Value.run m g),
    fun m g _ => Cert.GateB.Gen.frame m g, fun m g _ => Cert.GateBIdeal.Gen.frame m g, fun m g _ => Cert.GateBIdeal.Gen.frame m g,
    fun m g _ => (θ_run _ _ _).mono (fun _ h => ⟨fun c => (h c).2.2.2, sem_eq_zero_of_no_sems (by decide) _⟩)
      (Cert.GateBRefIdeal.Value.run m g),
    fun m g _ => (θ_run _ _ _).mono (fun _ h => ⟨fun c => (h c).2.2.2, sem_eq_zero_of_no_sems (by decide) _⟩)
      (Cert.GateBRefIdeal.Value.run m g),
    names, @same pre_facts,
    trivial, outU, trivial, outW, trivial, aInH, trivial, aInW, trivial, bInH, trivial, bInW, trivial, cInH, trivial, cInW, trivial, aIn, trivial, bIn, trivial, cIn, trivial, out, trivial, forget, trivial, forgetH, trivial, forgetW, trivial, norm, trivial, normB, trivial, normBTwo, trivial, @gateB gate_facts⟩

end Cert.Proof

end
